-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_ColsDw (m : (ℓ : Loc Cert.ColsDw.nD Cert.ColsDw.τ Cert.ColsDw.sig) → Buf (Elt Bits) ℓ) : Prop :=
  True

def Pre_ColsDwIdeal (m : (ℓ : Loc Cert.ColsDwIdeal.nD Cert.ColsDwIdeal.τ Cert.ColsDwIdeal.sig) → Buf (Elt Ideal) ℓ) : Prop :=
  True

def Pre_ColsDwReferenceIdeal (m : (ℓ : Loc Cert.ColsDwReferenceIdeal.nD Cert.ColsDwReferenceIdeal.τ Cert.ColsDwReferenceIdeal.sig) → Buf (Elt Ideal) ℓ) : Prop :=
  True

def Pre_ColsDx (m : (ℓ : Loc Cert.ColsDx.nD Cert.ColsDx.τ Cert.ColsDx.sig) → Buf (Elt Bits) ℓ) : Prop :=
  True

def Pre_ColsDxIdeal (m : (ℓ : Loc Cert.ColsDxIdeal.nD Cert.ColsDxIdeal.τ Cert.ColsDxIdeal.sig) → Buf (Elt Ideal) ℓ) : Prop :=
  True

def Pre_ColsDxReferenceIdeal (m : (ℓ : Loc Cert.ColsDxReferenceIdeal.nD Cert.ColsDxReferenceIdeal.τ Cert.ColsDxReferenceIdeal.sig) → Buf (Elt Ideal) ℓ) : Prop :=
  True

def Pre_ColsDxAdd (m : (ℓ : Loc Cert.ColsDxAdd.nD Cert.ColsDxAdd.τ Cert.ColsDxAdd.sig) → Buf (Elt Bits) ℓ) : Prop :=
  True

def Pre_ColsDxAddIdeal (m : (ℓ : Loc Cert.ColsDxAddIdeal.nD Cert.ColsDxAddIdeal.τ Cert.ColsDxAddIdeal.sig) → Buf (Elt Ideal) ℓ) : Prop :=
  True

def Pre_ColsDxAddReferenceIdeal (m : (ℓ : Loc Cert.ColsDxAddReferenceIdeal.nD Cert.ColsDxAddReferenceIdeal.τ Cert.ColsDxAddReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxIdeal_finite_ffn [hPre_finite_ffn : Cert.Pre_finite_ffn.Facts] (m : (ℓ : Loc Cert.DownDxIdeal.nD Cert.DownDxIdeal.τ Cert.DownDxIdeal.sig) → Buf (Elt Ideal) ℓ) : Prop :=
  ∀ c : Dev Cert.DownDxIdeal.nD,
    (Cert.Pre_finite_ffn.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2)) (m ((c.tc : Thread Cert.DownDxIdeal.nD Cert.DownDxIdeal.τ).loc Cert.DownDxIdeal.main_arg3))) = (fun _ => 1#1)

def Pre_DownDxReferenceIdeal (m : (ℓ : Loc Cert.DownDxReferenceIdeal.nD Cert.DownDxReferenceIdeal.τ Cert.DownDxReferenceIdeal.sig) → Buf (Elt Ideal) ℓ) : Prop :=
  True

def Pre_DownDxReferenceIdeal_finite_ffn [hPre_finite_ffn : Cert.Pre_finite_ffn.Facts] (m : (ℓ : Loc Cert.DownDxReferenceIdeal.nD Cert.DownDxReferenceIdeal.τ Cert.DownDxReferenceIdeal.sig) → Buf (Elt Ideal) ℓ) : Prop :=
  ∀ c : Dev Cert.DownDxReferenceIdeal.nD,
    (Cert.Pre_finite_ffn.fn (F := Ideal) (m ((c.tc : Thread Cert.DownDxReferenceIdeal.nD Cert.DownDxReferenceIdeal.τ).loc Cert.DownDxReferenceIdeal.main_arg0)) (m ((c.tc : Thread Cert.DownDxReferenceIdeal.nD Cert.DownDxReferenceIdeal.τ).loc Cert.DownDxReferenceIdeal.main_arg1)) (m ((c.tc : Thread Cert.DownDxReferenceIdeal.nD Cert.DownDxReferenceIdeal.τ).loc Cert.DownDxReferenceIdeal.main_arg2)) (m ((c.tc : Thread Cert.DownDxReferenceIdeal.nD Cert.DownDxReferenceIdeal.τ).loc Cert.DownDxReferenceIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_SsmInDw (m : (ℓ : Loc Cert.SsmInDw.nD Cert.SsmInDw.τ Cert.SsmInDw.sig) → Buf (Elt Bits) ℓ) : Prop :=
  True

def Pre_SsmInDwIdeal (m : (ℓ : Loc Cert.SsmInDwIdeal.nD Cert.SsmInDwIdeal.τ Cert.SsmInDwIdeal.sig) → Buf (Elt Ideal) ℓ) : Prop :=
  True

def Pre_SsmInDwReferenceIdeal (m : (ℓ : Loc Cert.SsmInDwReferenceIdeal.nD Cert.SsmInDwReferenceIdeal.τ Cert.SsmInDwReferenceIdeal.sig) → Buf (Elt Ideal) ℓ) : Prop :=
  True

def Pre_SsmInDx (m : (ℓ : Loc Cert.SsmInDx.nD Cert.SsmInDx.τ Cert.SsmInDx.sig) → Buf (Elt Bits) ℓ) : Prop :=
  True

def Pre_SsmInDxIdeal (m : (ℓ : Loc Cert.SsmInDxIdeal.nD Cert.SsmInDxIdeal.τ Cert.SsmInDxIdeal.sig) → Buf (Elt Ideal) ℓ) : Prop :=
  True

def Pre_SsmInDxReferenceIdeal (m : (ℓ : Loc Cert.SsmInDxReferenceIdeal.nD Cert.SsmInDxReferenceIdeal.τ Cert.SsmInDxReferenceIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInReferenceIdeal (m : (ℓ : Loc Cert.SsmInReferenceIdeal.nD Cert.SsmInReferenceIdeal.τ Cert.SsmInReferenceIdeal.sig) → Buf (Elt Ideal) ℓ) : Prop :=
  True

def Pre_SsmOutDw (m : (ℓ : Loc Cert.SsmOutDw.nD Cert.SsmOutDw.τ Cert.SsmOutDw.sig) → Buf (Elt Bits) ℓ) : Prop :=
  True

def Pre_SsmOutDwIdeal (m : (ℓ : Loc Cert.SsmOutDwIdeal.nD Cert.SsmOutDwIdeal.τ Cert.SsmOutDwIdeal.sig) → Buf (Elt Ideal) ℓ) : Prop :=
  True

def Pre_SsmOutDwReferenceIdeal (m : (ℓ : Loc Cert.SsmOutDwReferenceIdeal.nD Cert.SsmOutDwReferenceIdeal.τ Cert.SsmOutDwReferenceIdeal.sig) → Buf (Elt Ideal) ℓ) : Prop :=
  True

def Pre_SsmOutDx (m : (ℓ : Loc Cert.SsmOutDx.nD Cert.SsmOutDx.τ Cert.SsmOutDx.sig) → Buf (Elt Bits) ℓ) : Prop :=
  True

def Pre_SsmOutDxIdeal (m : (ℓ : Loc Cert.SsmOutDxIdeal.nD Cert.SsmOutDxIdeal.τ Cert.SsmOutDxIdeal.sig) → Buf (Elt Ideal) ℓ) : Prop :=
  True

def Pre_SsmOutDxReferenceIdeal (m : (ℓ : Loc Cert.SsmOutDxReferenceIdeal.nD Cert.SsmOutDxReferenceIdeal.τ Cert.SsmOutDxReferenceIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutReferenceIdeal (m : (ℓ : Loc Cert.SsmOutReferenceIdeal.nD Cert.SsmOutReferenceIdeal.τ Cert.SsmOutReferenceIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwReferenceIdeal (m : (ℓ : Loc Cert.QkvDwReferenceIdeal.nD Cert.QkvDwReferenceIdeal.τ Cert.QkvDwReferenceIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxReferenceIdeal (m : (ℓ : Loc Cert.QkvDxReferenceIdeal.nD Cert.QkvDxReferenceIdeal.τ Cert.QkvDxReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwReferenceIdeal (m : (ℓ : Loc Cert.AttnOutDwReferenceIdeal.nD Cert.AttnOutDwReferenceIdeal.τ Cert.AttnOutDwReferenceIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxReferenceIdeal (m : (ℓ : Loc Cert.AttnOutDxReferenceIdeal.nD Cert.AttnOutDxReferenceIdeal.τ Cert.AttnOutDxReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ColsDw [hColsDw : Cert.ColsDw.Facts] : Prop :=
  ∀ (m : (ℓ : Loc Cert.ColsDw.nD Cert.ColsDw.τ Cert.ColsDw.sig) → Buf (Elt Bits) ℓ) (g : Dev Cert.ColsDw.nD → PrngReg), Pre_ColsDw m →
    θ_run (Cert.ColsDw.defs (F := Bits)) (onTc (τ := Cert.ColsDw.τ) (Cert.ColsDw.main (F := Bits))) ⟨m, fun _ => 0, g⟩ (fun r => (∀ c : Dev Cert.ColsDw.nD,
      r.2.mem ((c.tc : Thread Cert.ColsDw.nD Cert.ColsDw.τ).loc Cert.ColsDw.main_arg0) = m ((c.tc : Thread Cert.ColsDw.nD Cert.ColsDw.τ).loc Cert.ColsDw.main_arg0)
      ∧ r.2.mem ((c.tc : Thread Cert.ColsDw.nD Cert.ColsDw.τ).loc Cert.ColsDw.main_arg1) = m ((c.tc : Thread Cert.ColsDw.nD Cert.ColsDw.τ).loc Cert.ColsDw.main_arg1))
      ∧ r.2.sem = fun _ => 0)

def quiescent_ColsDwIdeal [hColsDwIdeal : Cert.ColsDwIdeal.Facts] : Prop :=
  ∀ (m : (ℓ : Loc Cert.ColsDwIdeal.nD Cert.ColsDwIdeal.τ Cert.ColsDwIdeal.sig) → Buf (Elt Ideal) ℓ) (g : Dev Cert.ColsDwIdeal.nD → PrngReg), Pre_ColsDwIdeal m →
    θ_run (Cert.ColsDwIdeal.defs (F := Ideal)) (onTc (τ := Cert.ColsDwIdeal.τ) (Cert.ColsDwIdeal.main (F := Ideal))) ⟨m, fun _ => 0, g⟩ (fun r => (∀ c : Dev Cert.ColsDwIdeal.nD,
      r.2.mem ((c.tc : Thread Cert.ColsDwIdeal.nD Cert.ColsDwIdeal.τ).loc Cert.ColsDwIdeal.main_arg0) = m ((c.tc : Thread Cert.ColsDwIdeal.nD Cert.ColsDwIdeal.τ).loc Cert.ColsDwIdeal.main_arg0)
      ∧ r.2.mem ((c.tc : Thread Cert.ColsDwIdeal.nD Cert.ColsDwIdeal.τ).loc Cert.ColsDwIdeal.main_arg1) = m ((c.tc : Thread Cert.ColsDwIdeal.nD Cert.ColsDwIdeal.τ).loc Cert.ColsDwIdeal.main_arg1))
      ∧ r.2.sem = fun _ => 0)

def quiescent_ColsDwReferenceIdeal [hColsDwReferenceIdeal : Cert.ColsDwReferenceIdeal.Facts] : Prop :=
  ∀ (m : (ℓ : Loc Cert.ColsDwReferenceIdeal.nD Cert.ColsDwReferenceIdeal.τ Cert.ColsDwReferenceIdeal.sig) → Buf (Elt Ideal) ℓ) (g : Dev Cert.ColsDwReferenceIdeal.nD → PrngReg), Pre_ColsDwReferenceIdeal m →
    θ_run (Cert.ColsDwReferenceIdeal.defs (F := Ideal)) (onTc (τ := Cert.ColsDwReferenceIdeal.τ) (Cert.ColsDwReferenceIdeal.main (F := Ideal))) ⟨m, fun _ => 0, g⟩ (fun r => (∀ c : Dev Cert.ColsDwReferenceIdeal.nD,
      r.2.mem ((c.tc : Thread Cert.ColsDwReferenceIdeal.nD Cert.ColsDwReferenceIdeal.τ).loc Cert.ColsDwReferenceIdeal.main_arg0) = m ((c.tc : Thread Cert.ColsDwReferenceIdeal.nD Cert.ColsDwReferenceIdeal.τ).loc Cert.ColsDwReferenceIdeal.main_arg0)
      ∧ r.2.mem ((c.tc : Thread Cert.ColsDwReferenceIdeal.nD Cert.ColsDwReferenceIdeal.τ).loc Cert.ColsDwReferenceIdeal.main_arg1) = m ((c.tc : Thread Cert.ColsDwReferenceIdeal.nD Cert.ColsDwReferenceIdeal.τ).loc Cert.ColsDwReferenceIdeal.main_arg1))
      ∧ r.2.sem = fun _ => 0)

def quiescent_ColsDx [hColsDx : Cert.ColsDx.Facts] : Prop :=
  ∀ (m : (ℓ : Loc Cert.ColsDx.nD Cert.ColsDx.τ Cert.ColsDx.sig) → Buf (Elt Bits) ℓ) (g : Dev Cert.ColsDx.nD → PrngReg), Pre_ColsDx m →
    θ_run (Cert.ColsDx.defs (F := Bits)) (onTc (τ := Cert.ColsDx.τ) (Cert.ColsDx.main (F := Bits))) ⟨m, fun _ => 0, g⟩ (fun r => (∀ c : Dev Cert.ColsDx.nD,
      r.2.mem ((c.tc : Thread Cert.ColsDx.nD Cert.ColsDx.τ).loc Cert.ColsDx.main_arg0) = m ((c.tc : Thread Cert.ColsDx.nD Cert.ColsDx.τ).loc Cert.ColsDx.main_arg0)
      ∧ r.2.mem ((c.tc : Thread Cert.ColsDx.nD Cert.ColsDx.τ).loc Cert.ColsDx.main_arg1) = m ((c.tc : Thread Cert.ColsDx.nD Cert.ColsDx.τ).loc Cert.ColsDx.main_arg1))
      ∧ r.2.sem = fun _ => 0)

def quiescent_ColsDxIdeal [hColsDxIdeal : Cert.ColsDxIdeal.Facts] : Prop :=
  ∀ (m : (ℓ : Loc Cert.ColsDxIdeal.nD Cert.ColsDxIdeal.τ Cert.ColsDxIdeal.sig) → Buf (Elt Ideal) ℓ) (g : Dev Cert.ColsDxIdeal.nD → PrngReg), Pre_ColsDxIdeal m →
    θ_run (Cert.ColsDxIdeal.defs (F := Ideal)) (onTc (τ := Cert.ColsDxIdeal.τ) (Cert.ColsDxIdeal.main (F := Ideal))) ⟨m, fun _ => 0, g⟩ (fun r => (∀ c : Dev Cert.ColsDxIdeal.nD,
      r.2.mem ((c.tc : Thread Cert.ColsDxIdeal.nD Cert.ColsDxIdeal.τ).loc Cert.ColsDxIdeal.main_arg0) = m ((c.tc : Thread Cert.ColsDxIdeal.nD Cert.ColsDxIdeal.τ).loc Cert.ColsDxIdeal.main_arg0)
      ∧ r.2.mem ((c.tc : Thread Cert.ColsDxIdeal.nD Cert.ColsDxIdeal.τ).loc Cert.ColsDxIdeal.main_arg1) = m ((c.tc : Thread Cert.ColsDxIdeal.nD Cert.ColsDxIdeal.τ).loc Cert.ColsDxIdeal.main_arg1))
      ∧ r.2.sem = fun _ => 0)

def quiescent_ColsDxReferenceIdeal [hColsDxReferenceIdeal : Cert.ColsDxReferenceIdeal.Facts] : Prop :=
  ∀ (m : (ℓ : Loc Cert.ColsDxReferenceIdeal.nD Cert.ColsDxReferenceIdeal.τ Cert.ColsDxReferenceIdeal.sig) → Buf (Elt Ideal) ℓ) (g : Dev Cert.ColsDxReferenceIdeal.nD → PrngReg), Pre_ColsDxReferenceIdeal m →
    θ_run (Cert.ColsDxReferenceIdeal.defs (F := Ideal)) (onTc (τ := Cert.ColsDxReferenceIdeal.τ) (Cert.ColsDxReferenceIdeal.main (F := Ideal))) ⟨m, fun _ => 0, g⟩ (fun r => (∀ c : Dev Cert.ColsDxReferenceIdeal.nD,
      r.2.mem ((c.tc : Thread Cert.ColsDxReferenceIdeal.nD Cert.ColsDxReferenceIdeal.τ).loc Cert.ColsDxReferenceIdeal.main_arg0) = m ((c.tc : Thread Cert.ColsDxReferenceIdeal.nD Cert.ColsDxReferenceIdeal.τ).loc Cert.ColsDxReferenceIdeal.main_arg0)
      ∧ r.2.mem ((c.tc : Thread Cert.ColsDxReferenceIdeal.nD Cert.ColsDxReferenceIdeal.τ).loc Cert.ColsDxReferenceIdeal.main_arg1) = m ((c.tc : Thread Cert.ColsDxReferenceIdeal.nD Cert.ColsDxReferenceIdeal.τ).loc Cert.ColsDxReferenceIdeal.main_arg1))
      ∧ r.2.sem = fun _ => 0)

def quiescent_ColsDxAdd [hColsDxAdd : Cert.ColsDxAdd.Facts] : Prop :=
  ∀ (m : (ℓ : Loc Cert.ColsDxAdd.nD Cert.ColsDxAdd.τ Cert.ColsDxAdd.sig) → Buf (Elt Bits) ℓ) (g : Dev Cert.ColsDxAdd.nD → PrngReg), Pre_ColsDxAdd m →
    θ_run (Cert.ColsDxAdd.defs (F := Bits)) (onTc (τ := Cert.ColsDxAdd.τ) (Cert.ColsDxAdd.main (F := Bits))) ⟨m, fun _ => 0, g⟩ (fun r => (∀ c : Dev Cert.ColsDxAdd.nD,
      r.2.mem ((c.tc : Thread Cert.ColsDxAdd.nD Cert.ColsDxAdd.τ).loc Cert.ColsDxAdd.main_arg0) = m ((c.tc : Thread Cert.ColsDxAdd.nD Cert.ColsDxAdd.τ).loc Cert.ColsDxAdd.main_arg0)
      ∧ r.2.mem ((c.tc : Thread Cert.ColsDxAdd.nD Cert.ColsDxAdd.τ).loc Cert.ColsDxAdd.main_arg1) = m ((c.tc : Thread Cert.ColsDxAdd.nD Cert.ColsDxAdd.τ).loc Cert.ColsDxAdd.main_arg1)
      ∧ r.2.mem ((c.tc : Thread Cert.ColsDxAdd.nD Cert.ColsDxAdd.τ).loc Cert.ColsDxAdd.main_arg2) = m ((c.tc : Thread Cert.ColsDxAdd.nD Cert.ColsDxAdd.τ).loc Cert.ColsDxAdd.main_arg2))
      ∧ r.2.sem = fun _ => 0)

def quiescent_ColsDxAddIdeal [hColsDxAddIdeal : Cert.ColsDxAddIdeal.Facts] : Prop :=
  ∀ (m : (ℓ : Loc Cert.ColsDxAddIdeal.nD Cert.ColsDxAddIdeal.τ Cert.ColsDxAddIdeal.sig) → Buf (Elt Ideal) ℓ) (g : Dev Cert.ColsDxAddIdeal.nD → PrngReg), Pre_ColsDxAddIdeal m →
    θ_run (Cert.ColsDxAddIdeal.defs (F := Ideal)) (onTc (τ := Cert.ColsDxAddIdeal.τ) (Cert.ColsDxAddIdeal.main (F := Ideal))) ⟨m, fun _ => 0, g⟩ (fun r => (∀ c : Dev Cert.ColsDxAddIdeal.nD,
      r.2.mem ((c.tc : Thread Cert.ColsDxAddIdeal.nD Cert.ColsDxAddIdeal.τ).loc Cert.ColsDxAddIdeal.main_arg0) = m ((c.tc : Thread Cert.ColsDxAddIdeal.nD Cert.ColsDxAddIdeal.τ).loc Cert.ColsDxAddIdeal.main_arg0)
      ∧ r.2.mem ((c.tc : Thread Cert.ColsDxAddIdeal.nD Cert.ColsDxAddIdeal.τ).loc Cert.ColsDxAddIdeal.main_arg1) = m ((c.tc : Thread Cert.ColsDxAddIdeal.nD Cert.ColsDxAddIdeal.τ).loc Cert.ColsDxAddIdeal.main_arg1)
      ∧ r.2.mem ((c.tc : Thread Cert.ColsDxAddIdeal.nD Cert.ColsDxAddIdeal.τ).loc Cert.ColsDxAddIdeal.main_arg2) = m ((c.tc : Thread Cert.ColsDxAddIdeal.nD Cert.ColsDxAddIdeal.τ).loc Cert.ColsDxAddIdeal.main_arg2))
      ∧ r.2.sem = fun _ => 0)

def quiescent_ColsDxAddReferenceIdeal [hColsDxAddReferenceIdeal : Cert.ColsDxAddReferenceIdeal.Facts] : Prop :=
  ∀ (m : (ℓ : Loc Cert.ColsDxAddReferenceIdeal.nD Cert.ColsDxAddReferenceIdeal.τ Cert.ColsDxAddReferenceIdeal.sig) → Buf (Elt Ideal) ℓ) (g : Dev Cert.ColsDxAddReferenceIdeal.nD → PrngReg), Pre_ColsDxAddReferenceIdeal m →
    θ_run (Cert.ColsDxAddReferenceIdeal.defs (F := Ideal)) (onTc (τ := Cert.ColsDxAddReferenceIdeal.τ) (Cert.ColsDxAddReferenceIdeal.main (F := Ideal))) ⟨m, fun _ => 0, g⟩ (fun r => (∀ c : Dev Cert.ColsDxAddReferenceIdeal.nD,
      r.2.mem ((c.tc : Thread Cert.ColsDxAddReferenceIdeal.nD Cert.ColsDxAddReferenceIdeal.τ).loc Cert.ColsDxAddReferenceIdeal.main_arg0) = m ((c.tc : Thread Cert.ColsDxAddReferenceIdeal.nD Cert.ColsDxAddReferenceIdeal.τ).loc Cert.ColsDxAddReferenceIdeal.main_arg0)
      ∧ r.2.mem ((c.tc : Thread Cert.ColsDxAddReferenceIdeal.nD Cert.ColsDxAddReferenceIdeal.τ).loc Cert.ColsDxAddReferenceIdeal.main_arg1) = m ((c.tc : Thread Cert.ColsDxAddReferenceIdeal.nD Cert.ColsDxAddReferenceIdeal.τ).loc Cert.ColsDxAddReferenceIdeal.main_arg1)
      ∧ r.2.mem ((c.tc : Thread Cert.ColsDxAddReferenceIdeal.nD Cert.ColsDxAddReferenceIdeal.τ).loc Cert.ColsDxAddReferenceIdeal.main_arg2) = m ((c.tc : Thread Cert.ColsDxAddReferenceIdeal.nD Cert.ColsDxAddReferenceIdeal.τ).loc Cert.ColsDxAddReferenceIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxIdeal_pre_finite_ffn [hDownDxIdeal : Cert.DownDxIdeal.Facts] [hPre_finite_ffn : Cert.Pre_finite_ffn.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal_finite_ffn m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxReferenceIdeal [hDownDxReferenceIdeal : Cert.DownDxReferenceIdeal.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2)
      ∧ r.2.mem ((c.tc : Thread Cert.DownDxReferenceIdeal.nD Cert.DownDxReferenceIdeal.τ).loc Cert.DownDxReferenceIdeal.main_arg3) = m ((c.tc : Thread Cert.DownDxReferenceIdeal.nD Cert.DownDxReferenceIdeal.τ).loc Cert.DownDxReferenceIdeal.main_arg3))
      ∧ r.2.sem = fun _ => 0)

def quiescent_DownDxReferenceIdeal_pre_finite_ffn [hDownDxReferenceIdeal : Cert.DownDxReferenceIdeal.Facts] [hPre_finite_ffn : Cert.Pre_finite_ffn.Facts] : Prop :=
  ∀ (m : (ℓ : Loc Cert.DownDxReferenceIdeal.nD Cert.DownDxReferenceIdeal.τ Cert.DownDxReferenceIdeal.sig) → Buf (Elt Ideal) ℓ) (g : Dev Cert.DownDxReferenceIdeal.nD → PrngReg), Pre_DownDxReferenceIdeal_finite_ffn m →
    θ_run (Cert.DownDxReferenceIdeal.defs (F := Ideal)) (onTc (τ := Cert.DownDxReferenceIdeal.τ) (Cert.DownDxReferenceIdeal.main (F := Ideal))) ⟨m, fun _ => 0, g⟩ (fun r => (∀ c : Dev Cert.DownDxReferenceIdeal.nD,
      r.2.mem ((c.tc : Thread Cert.DownDxReferenceIdeal.nD Cert.DownDxReferenceIdeal.τ).loc Cert.DownDxReferenceIdeal.main_arg0) = m ((c.tc : Thread Cert.DownDxReferenceIdeal.nD Cert.DownDxReferenceIdeal.τ).loc Cert.DownDxReferenceIdeal.main_arg0)
      ∧ r.2.mem ((c.tc : Thread Cert.DownDxReferenceIdeal.nD Cert.DownDxReferenceIdeal.τ).loc Cert.DownDxReferenceIdeal.main_arg1) = m ((c.tc : Thread Cert.DownDxReferenceIdeal.nD Cert.DownDxReferenceIdeal.τ).loc Cert.DownDxReferenceIdeal.main_arg1)
      ∧ r.2.mem ((c.tc : Thread Cert.DownDxReferenceIdeal.nD Cert.DownDxReferenceIdeal.τ).loc Cert.DownDxReferenceIdeal.main_arg2) = m ((c.tc : Thread Cert.DownDxReferenceIdeal.nD Cert.DownDxReferenceIdeal.τ).loc Cert.DownDxReferenceIdeal.main_arg2)
      ∧ r.2.mem ((c.tc : Thread Cert.DownDxReferenceIdeal.nD Cert.DownDxReferenceIdeal.τ).loc Cert.DownDxReferenceIdeal.main_arg3) = m ((c.tc : Thread Cert.DownDxReferenceIdeal.nD Cert.DownDxReferenceIdeal.τ).loc Cert.DownDxReferenceIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_SsmInDw [hSsmInDw : Cert.SsmInDw.Facts] : Prop :=
  ∀ (m : (ℓ : Loc Cert.SsmInDw.nD Cert.SsmInDw.τ Cert.SsmInDw.sig) → Buf (Elt Bits) ℓ) (g : Dev Cert.SsmInDw.nD → PrngReg), Pre_SsmInDw m →
    θ_run (Cert.SsmInDw.defs (F := Bits)) (onTc (τ := Cert.SsmInDw.τ) (Cert.SsmInDw.main (F := Bits))) ⟨m, fun _ => 0, g⟩ (fun r => (∀ c : Dev Cert.SsmInDw.nD,
      r.2.mem ((c.tc : Thread Cert.SsmInDw.nD Cert.SsmInDw.τ).loc Cert.SsmInDw.main_arg0) = m ((c.tc : Thread Cert.SsmInDw.nD Cert.SsmInDw.τ).loc Cert.SsmInDw.main_arg0)
      ∧ r.2.mem ((c.tc : Thread Cert.SsmInDw.nD Cert.SsmInDw.τ).loc Cert.SsmInDw.main_arg1) = m ((c.tc : Thread Cert.SsmInDw.nD Cert.SsmInDw.τ).loc Cert.SsmInDw.main_arg1))
      ∧ r.2.sem = fun _ => 0)

def quiescent_SsmInDwIdeal [hSsmInDwIdeal : Cert.SsmInDwIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg), Pre_SsmInDwIdeal m →
    θ_run (Cert.SsmInDwIdeal.defs (F := Ideal)) (onTc (τ := Cert.SsmInDwIdeal.τ) (Cert.SsmInDwIdeal.main (F := Ideal))) ⟨m, fun _ => 0, g⟩ (fun r => (∀ c : Dev Cert.SsmInDwIdeal.nD,
      r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
      ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ r.2.sem = fun _ => 0)

def quiescent_SsmInDwReferenceIdeal [hSsmInDwReferenceIdeal : Cert.SsmInDwReferenceIdeal.Facts] : Prop :=
  ∀ (m : (ℓ : Loc Cert.SsmInDwReferenceIdeal.nD Cert.SsmInDwReferenceIdeal.τ Cert.SsmInDwReferenceIdeal.sig) → Buf (Elt Ideal) ℓ) (g : Dev Cert.SsmInDwReferenceIdeal.nD → PrngReg), Pre_SsmInDwReferenceIdeal m →
    θ_run (Cert.SsmInDwReferenceIdeal.defs (F := Ideal)) (onTc (τ := Cert.SsmInDwReferenceIdeal.τ) (Cert.SsmInDwReferenceIdeal.main (F := Ideal))) ⟨m, fun _ => 0, g⟩ (fun r => (∀ c : Dev Cert.SsmInDwReferenceIdeal.nD,
      r.2.mem ((c.tc : Thread Cert.SsmInDwReferenceIdeal.nD Cert.SsmInDwReferenceIdeal.τ).loc Cert.SsmInDwReferenceIdeal.main_arg0) = m ((c.tc : Thread Cert.SsmInDwReferenceIdeal.nD Cert.SsmInDwReferenceIdeal.τ).loc Cert.SsmInDwReferenceIdeal.main_arg0)
      ∧ r.2.mem ((c.tc : Thread Cert.SsmInDwReferenceIdeal.nD Cert.SsmInDwReferenceIdeal.τ).loc Cert.SsmInDwReferenceIdeal.main_arg1) = m ((c.tc : Thread Cert.SsmInDwReferenceIdeal.nD Cert.SsmInDwReferenceIdeal.τ).loc Cert.SsmInDwReferenceIdeal.main_arg1))
      ∧ r.2.sem = fun _ => 0)

def quiescent_SsmInDx [hSsmInDx : Cert.SsmInDx.Facts] : Prop :=
  ∀ (m : (ℓ : Loc Cert.SsmInDx.nD Cert.SsmInDx.τ Cert.SsmInDx.sig) → Buf (Elt Bits) ℓ) (g : Dev Cert.SsmInDx.nD → PrngReg), Pre_SsmInDx m →
    θ_run (Cert.SsmInDx.defs (F := Bits)) (onTc (τ := Cert.SsmInDx.τ) (Cert.SsmInDx.main (F := Bits))) ⟨m, fun _ => 0, g⟩ (fun r => (∀ c : Dev Cert.SsmInDx.nD,
      r.2.mem ((c.tc : Thread Cert.SsmInDx.nD Cert.SsmInDx.τ).loc Cert.SsmInDx.main_arg0) = m ((c.tc : Thread Cert.SsmInDx.nD Cert.SsmInDx.τ).loc Cert.SsmInDx.main_arg0)
      ∧ r.2.mem ((c.tc : Thread Cert.SsmInDx.nD Cert.SsmInDx.τ).loc Cert.SsmInDx.main_arg1) = m ((c.tc : Thread Cert.SsmInDx.nD Cert.SsmInDx.τ).loc Cert.SsmInDx.main_arg1))
      ∧ r.2.sem = fun _ => 0)

def quiescent_SsmInDxIdeal [hSsmInDxIdeal : Cert.SsmInDxIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg), Pre_SsmInDxIdeal m →
    θ_run (Cert.SsmInDxIdeal.defs (F := Ideal)) (onTc (τ := Cert.SsmInDxIdeal.τ) (Cert.SsmInDxIdeal.main (F := Ideal))) ⟨m, fun _ => 0, g⟩ (fun r => (∀ c : Dev Cert.SsmInDxIdeal.nD,
      r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
      ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ r.2.sem = fun _ => 0)

def quiescent_SsmInDxReferenceIdeal [hSsmInDxReferenceIdeal : Cert.SsmInDxReferenceIdeal.Facts] : Prop :=
  ∀ (m : (ℓ : Loc Cert.SsmInDxReferenceIdeal.nD Cert.SsmInDxReferenceIdeal.τ Cert.SsmInDxReferenceIdeal.sig) → Buf (Elt Ideal) ℓ) (g : Dev Cert.SsmInDxReferenceIdeal.nD → PrngReg), Pre_SsmInDxReferenceIdeal m →
    θ_run (Cert.SsmInDxReferenceIdeal.defs (F := Ideal)) (onTc (τ := Cert.SsmInDxReferenceIdeal.τ) (Cert.SsmInDxReferenceIdeal.main (F := Ideal))) ⟨m, fun _ => 0, g⟩ (fun r => (∀ c : Dev Cert.SsmInDxReferenceIdeal.nD,
      r.2.mem ((c.tc : Thread Cert.SsmInDxReferenceIdeal.nD Cert.SsmInDxReferenceIdeal.τ).loc Cert.SsmInDxReferenceIdeal.main_arg0) = m ((c.tc : Thread Cert.SsmInDxReferenceIdeal.nD Cert.SsmInDxReferenceIdeal.τ).loc Cert.SsmInDxReferenceIdeal.main_arg0)
      ∧ r.2.mem ((c.tc : Thread Cert.SsmInDxReferenceIdeal.nD Cert.SsmInDxReferenceIdeal.τ).loc Cert.SsmInDxReferenceIdeal.main_arg1) = m ((c.tc : Thread Cert.SsmInDxReferenceIdeal.nD Cert.SsmInDxReferenceIdeal.τ).loc Cert.SsmInDxReferenceIdeal.main_arg1))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInReferenceIdeal [hSsmInReferenceIdeal : Cert.SsmInReferenceIdeal.Facts] : Prop :=
  ∀ (m : (ℓ : Loc Cert.SsmInReferenceIdeal.nD Cert.SsmInReferenceIdeal.τ Cert.SsmInReferenceIdeal.sig) → Buf (Elt Ideal) ℓ) (g : Dev Cert.SsmInReferenceIdeal.nD → PrngReg), Pre_SsmInReferenceIdeal m →
    θ_run (Cert.SsmInReferenceIdeal.defs (F := Ideal)) (onTc (τ := Cert.SsmInReferenceIdeal.τ) (Cert.SsmInReferenceIdeal.main (F := Ideal))) ⟨m, fun _ => 0, g⟩ (fun r => (∀ c : Dev Cert.SsmInReferenceIdeal.nD,
      r.2.mem ((c.tc : Thread Cert.SsmInReferenceIdeal.nD Cert.SsmInReferenceIdeal.τ).loc Cert.SsmInReferenceIdeal.main_arg0) = m ((c.tc : Thread Cert.SsmInReferenceIdeal.nD Cert.SsmInReferenceIdeal.τ).loc Cert.SsmInReferenceIdeal.main_arg0)
      ∧ r.2.mem ((c.tc : Thread Cert.SsmInReferenceIdeal.nD Cert.SsmInReferenceIdeal.τ).loc Cert.SsmInReferenceIdeal.main_arg1) = m ((c.tc : Thread Cert.SsmInReferenceIdeal.nD Cert.SsmInReferenceIdeal.τ).loc Cert.SsmInReferenceIdeal.main_arg1))
      ∧ r.2.sem = fun _ => 0)

def quiescent_SsmOutDw [hSsmOutDw : Cert.SsmOutDw.Facts] : Prop :=
  ∀ (m : (ℓ : Loc Cert.SsmOutDw.nD Cert.SsmOutDw.τ Cert.SsmOutDw.sig) → Buf (Elt Bits) ℓ) (g : Dev Cert.SsmOutDw.nD → PrngReg), Pre_SsmOutDw m →
    θ_run (Cert.SsmOutDw.defs (F := Bits)) (onTc (τ := Cert.SsmOutDw.τ) (Cert.SsmOutDw.main (F := Bits))) ⟨m, fun _ => 0, g⟩ (fun r => (∀ c : Dev Cert.SsmOutDw.nD,
      r.2.mem ((c.tc : Thread Cert.SsmOutDw.nD Cert.SsmOutDw.τ).loc Cert.SsmOutDw.main_arg0) = m ((c.tc : Thread Cert.SsmOutDw.nD Cert.SsmOutDw.τ).loc Cert.SsmOutDw.main_arg0)
      ∧ r.2.mem ((c.tc : Thread Cert.SsmOutDw.nD Cert.SsmOutDw.τ).loc Cert.SsmOutDw.main_arg1) = m ((c.tc : Thread Cert.SsmOutDw.nD Cert.SsmOutDw.τ).loc Cert.SsmOutDw.main_arg1))
      ∧ r.2.sem = fun _ => 0)

def quiescent_SsmOutDwIdeal [hSsmOutDwIdeal : Cert.SsmOutDwIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg), Pre_SsmOutDwIdeal m →
    θ_run (Cert.SsmOutDwIdeal.defs (F := Ideal)) (onTc (τ := Cert.SsmOutDwIdeal.τ) (Cert.SsmOutDwIdeal.main (F := Ideal))) ⟨m, fun _ => 0, g⟩ (fun r => (∀ c : Dev Cert.SsmOutDwIdeal.nD,
      r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
      ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ r.2.sem = fun _ => 0)

def quiescent_SsmOutDwReferenceIdeal [hSsmOutDwReferenceIdeal : Cert.SsmOutDwReferenceIdeal.Facts] : Prop :=
  ∀ (m : (ℓ : Loc Cert.SsmOutDwReferenceIdeal.nD Cert.SsmOutDwReferenceIdeal.τ Cert.SsmOutDwReferenceIdeal.sig) → Buf (Elt Ideal) ℓ) (g : Dev Cert.SsmOutDwReferenceIdeal.nD → PrngReg), Pre_SsmOutDwReferenceIdeal m →
    θ_run (Cert.SsmOutDwReferenceIdeal.defs (F := Ideal)) (onTc (τ := Cert.SsmOutDwReferenceIdeal.τ) (Cert.SsmOutDwReferenceIdeal.main (F := Ideal))) ⟨m, fun _ => 0, g⟩ (fun r => (∀ c : Dev Cert.SsmOutDwReferenceIdeal.nD,
      r.2.mem ((c.tc : Thread Cert.SsmOutDwReferenceIdeal.nD Cert.SsmOutDwReferenceIdeal.τ).loc Cert.SsmOutDwReferenceIdeal.main_arg0) = m ((c.tc : Thread Cert.SsmOutDwReferenceIdeal.nD Cert.SsmOutDwReferenceIdeal.τ).loc Cert.SsmOutDwReferenceIdeal.main_arg0)
      ∧ r.2.mem ((c.tc : Thread Cert.SsmOutDwReferenceIdeal.nD Cert.SsmOutDwReferenceIdeal.τ).loc Cert.SsmOutDwReferenceIdeal.main_arg1) = m ((c.tc : Thread Cert.SsmOutDwReferenceIdeal.nD Cert.SsmOutDwReferenceIdeal.τ).loc Cert.SsmOutDwReferenceIdeal.main_arg1))
      ∧ r.2.sem = fun _ => 0)

def quiescent_SsmOutDx [hSsmOutDx : Cert.SsmOutDx.Facts] : Prop :=
  ∀ (m : (ℓ : Loc Cert.SsmOutDx.nD Cert.SsmOutDx.τ Cert.SsmOutDx.sig) → Buf (Elt Bits) ℓ) (g : Dev Cert.SsmOutDx.nD → PrngReg), Pre_SsmOutDx m →
    θ_run (Cert.SsmOutDx.defs (F := Bits)) (onTc (τ := Cert.SsmOutDx.τ) (Cert.SsmOutDx.main (F := Bits))) ⟨m, fun _ => 0, g⟩ (fun r => (∀ c : Dev Cert.SsmOutDx.nD,
      r.2.mem ((c.tc : Thread Cert.SsmOutDx.nD Cert.SsmOutDx.τ).loc Cert.SsmOutDx.main_arg0) = m ((c.tc : Thread Cert.SsmOutDx.nD Cert.SsmOutDx.τ).loc Cert.SsmOutDx.main_arg0)
      ∧ r.2.mem ((c.tc : Thread Cert.SsmOutDx.nD Cert.SsmOutDx.τ).loc Cert.SsmOutDx.main_arg1) = m ((c.tc : Thread Cert.SsmOutDx.nD Cert.SsmOutDx.τ).loc Cert.SsmOutDx.main_arg1))
      ∧ r.2.sem = fun _ => 0)

def quiescent_SsmOutDxIdeal [hSsmOutDxIdeal : Cert.SsmOutDxIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg), Pre_SsmOutDxIdeal m →
    θ_run (Cert.SsmOutDxIdeal.defs (F := Ideal)) (onTc (τ := Cert.SsmOutDxIdeal.τ) (Cert.SsmOutDxIdeal.main (F := Ideal))) ⟨m, fun _ => 0, g⟩ (fun r => (∀ c : Dev Cert.SsmOutDxIdeal.nD,
      r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
      ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ r.2.sem = fun _ => 0)

def quiescent_SsmOutDxReferenceIdeal [hSsmOutDxReferenceIdeal : Cert.SsmOutDxReferenceIdeal.Facts] : Prop :=
  ∀ (m : (ℓ : Loc Cert.SsmOutDxReferenceIdeal.nD Cert.SsmOutDxReferenceIdeal.τ Cert.SsmOutDxReferenceIdeal.sig) → Buf (Elt Ideal) ℓ) (g : Dev Cert.SsmOutDxReferenceIdeal.nD → PrngReg), Pre_SsmOutDxReferenceIdeal m →
    θ_run (Cert.SsmOutDxReferenceIdeal.defs (F := Ideal)) (onTc (τ := Cert.SsmOutDxReferenceIdeal.τ) (Cert.SsmOutDxReferenceIdeal.main (F := Ideal))) ⟨m, fun _ => 0, g⟩ (fun r => (∀ c : Dev Cert.SsmOutDxReferenceIdeal.nD,
      r.2.mem ((c.tc : Thread Cert.SsmOutDxReferenceIdeal.nD Cert.SsmOutDxReferenceIdeal.τ).loc Cert.SsmOutDxReferenceIdeal.main_arg0) = m ((c.tc : Thread Cert.SsmOutDxReferenceIdeal.nD Cert.SsmOutDxReferenceIdeal.τ).loc Cert.SsmOutDxReferenceIdeal.main_arg0)
      ∧ r.2.mem ((c.tc : Thread Cert.SsmOutDxReferenceIdeal.nD Cert.SsmOutDxReferenceIdeal.τ).loc Cert.SsmOutDxReferenceIdeal.main_arg1) = m ((c.tc : Thread Cert.SsmOutDxReferenceIdeal.nD Cert.SsmOutDxReferenceIdeal.τ).loc Cert.SsmOutDxReferenceIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ r.2.sem = fun _ => 0)

def quiescent_SsmOutReferenceIdeal [hSsmOutReferenceIdeal : Cert.SsmOutReferenceIdeal.Facts] : Prop :=
  ∀ (m : (ℓ : Loc Cert.SsmOutReferenceIdeal.nD Cert.SsmOutReferenceIdeal.τ Cert.SsmOutReferenceIdeal.sig) → Buf (Elt Ideal) ℓ) (g : Dev Cert.SsmOutReferenceIdeal.nD → PrngReg), Pre_SsmOutReferenceIdeal m →
    θ_run (Cert.SsmOutReferenceIdeal.defs (F := Ideal)) (onTc (τ := Cert.SsmOutReferenceIdeal.τ) (Cert.SsmOutReferenceIdeal.main (F := Ideal))) ⟨m, fun _ => 0, g⟩ (fun r => (∀ c : Dev Cert.SsmOutReferenceIdeal.nD,
      r.2.mem ((c.tc : Thread Cert.SsmOutReferenceIdeal.nD Cert.SsmOutReferenceIdeal.τ).loc Cert.SsmOutReferenceIdeal.main_arg0) = m ((c.tc : Thread Cert.SsmOutReferenceIdeal.nD Cert.SsmOutReferenceIdeal.τ).loc Cert.SsmOutReferenceIdeal.main_arg0)
      ∧ r.2.mem ((c.tc : Thread Cert.SsmOutReferenceIdeal.nD Cert.SsmOutReferenceIdeal.τ).loc Cert.SsmOutReferenceIdeal.main_arg1) = m ((c.tc : Thread Cert.SsmOutReferenceIdeal.nD Cert.SsmOutReferenceIdeal.τ).loc Cert.SsmOutReferenceIdeal.main_arg1)
      ∧ r.2.mem ((c.tc : Thread Cert.SsmOutReferenceIdeal.nD Cert.SsmOutReferenceIdeal.τ).loc Cert.SsmOutReferenceIdeal.main_arg2) = m ((c.tc : Thread Cert.SsmOutReferenceIdeal.nD Cert.SsmOutReferenceIdeal.τ).loc Cert.SsmOutReferenceIdeal.main_arg2))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwReferenceIdeal [hQkvDwReferenceIdeal : Cert.QkvDwReferenceIdeal.Facts] : Prop :=
  ∀ (m : (ℓ : Loc Cert.QkvDwReferenceIdeal.nD Cert.QkvDwReferenceIdeal.τ Cert.QkvDwReferenceIdeal.sig) → Buf (Elt Ideal) ℓ) (g : Dev Cert.QkvDwReferenceIdeal.nD → PrngReg), Pre_QkvDwReferenceIdeal m →
    θ_run (Cert.QkvDwReferenceIdeal.defs (F := Ideal)) (onTc (τ := Cert.QkvDwReferenceIdeal.τ) (Cert.QkvDwReferenceIdeal.main (F := Ideal))) ⟨m, fun _ => 0, g⟩ (fun r => (∀ c : Dev Cert.QkvDwReferenceIdeal.nD,
      r.2.mem ((c.tc : Thread Cert.QkvDwReferenceIdeal.nD Cert.QkvDwReferenceIdeal.τ).loc Cert.QkvDwReferenceIdeal.main_arg0) = m ((c.tc : Thread Cert.QkvDwReferenceIdeal.nD Cert.QkvDwReferenceIdeal.τ).loc Cert.QkvDwReferenceIdeal.main_arg0)
      ∧ r.2.mem ((c.tc : Thread Cert.QkvDwReferenceIdeal.nD Cert.QkvDwReferenceIdeal.τ).loc Cert.QkvDwReferenceIdeal.main_arg1) = m ((c.tc : Thread Cert.QkvDwReferenceIdeal.nD Cert.QkvDwReferenceIdeal.τ).loc Cert.QkvDwReferenceIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxReferenceIdeal [hQkvDxReferenceIdeal : Cert.QkvDxReferenceIdeal.Facts] : Prop :=
  ∀ (m : (ℓ : Loc Cert.QkvDxReferenceIdeal.nD Cert.QkvDxReferenceIdeal.τ Cert.QkvDxReferenceIdeal.sig) → Buf (Elt Ideal) ℓ) (g : Dev Cert.QkvDxReferenceIdeal.nD → PrngReg), Pre_QkvDxReferenceIdeal m →
    θ_run (Cert.QkvDxReferenceIdeal.defs (F := Ideal)) (onTc (τ := Cert.QkvDxReferenceIdeal.τ) (Cert.QkvDxReferenceIdeal.main (F := Ideal))) ⟨m, fun _ => 0, g⟩ (fun r => (∀ c : Dev Cert.QkvDxReferenceIdeal.nD,
      r.2.mem ((c.tc : Thread Cert.QkvDxReferenceIdeal.nD Cert.QkvDxReferenceIdeal.τ).loc Cert.QkvDxReferenceIdeal.main_arg0) = m ((c.tc : Thread Cert.QkvDxReferenceIdeal.nD Cert.QkvDxReferenceIdeal.τ).loc Cert.QkvDxReferenceIdeal.main_arg0)
      ∧ r.2.mem ((c.tc : Thread Cert.QkvDxReferenceIdeal.nD Cert.QkvDxReferenceIdeal.τ).loc Cert.QkvDxReferenceIdeal.main_arg1) = m ((c.tc : Thread Cert.QkvDxReferenceIdeal.nD Cert.QkvDxReferenceIdeal.τ).loc Cert.QkvDxReferenceIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ r.2.sem = fun _ => 0)

def quiescent_AttnOutDwReferenceIdeal [hAttnOutDwReferenceIdeal : Cert.AttnOutDwReferenceIdeal.Facts] : Prop :=
  ∀ (m : (ℓ : Loc Cert.AttnOutDwReferenceIdeal.nD Cert.AttnOutDwReferenceIdeal.τ Cert.AttnOutDwReferenceIdeal.sig) → Buf (Elt Ideal) ℓ) (g : Dev Cert.AttnOutDwReferenceIdeal.nD → PrngReg), Pre_AttnOutDwReferenceIdeal m →
    θ_run (Cert.AttnOutDwReferenceIdeal.defs (F := Ideal)) (onTc (τ := Cert.AttnOutDwReferenceIdeal.τ) (Cert.AttnOutDwReferenceIdeal.main (F := Ideal))) ⟨m, fun _ => 0, g⟩ (fun r => (∀ c : Dev Cert.AttnOutDwReferenceIdeal.nD,
      r.2.mem ((c.tc : Thread Cert.AttnOutDwReferenceIdeal.nD Cert.AttnOutDwReferenceIdeal.τ).loc Cert.AttnOutDwReferenceIdeal.main_arg0) = m ((c.tc : Thread Cert.AttnOutDwReferenceIdeal.nD Cert.AttnOutDwReferenceIdeal.τ).loc Cert.AttnOutDwReferenceIdeal.main_arg0)
      ∧ r.2.mem ((c.tc : Thread Cert.AttnOutDwReferenceIdeal.nD Cert.AttnOutDwReferenceIdeal.τ).loc Cert.AttnOutDwReferenceIdeal.main_arg1) = m ((c.tc : Thread Cert.AttnOutDwReferenceIdeal.nD Cert.AttnOutDwReferenceIdeal.τ).loc Cert.AttnOutDwReferenceIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxReferenceIdeal [hAttnOutDxReferenceIdeal : Cert.AttnOutDxReferenceIdeal.Facts] : Prop :=
  ∀ (m : (ℓ : Loc Cert.AttnOutDxReferenceIdeal.nD Cert.AttnOutDxReferenceIdeal.τ Cert.AttnOutDxReferenceIdeal.sig) → Buf (Elt Ideal) ℓ) (g : Dev Cert.AttnOutDxReferenceIdeal.nD → PrngReg), Pre_AttnOutDxReferenceIdeal m →
    θ_run (Cert.AttnOutDxReferenceIdeal.defs (F := Ideal)) (onTc (τ := Cert.AttnOutDxReferenceIdeal.τ) (Cert.AttnOutDxReferenceIdeal.main (F := Ideal))) ⟨m, fun _ => 0, g⟩ (fun r => (∀ c : Dev Cert.AttnOutDxReferenceIdeal.nD,
      r.2.mem ((c.tc : Thread Cert.AttnOutDxReferenceIdeal.nD Cert.AttnOutDxReferenceIdeal.τ).loc Cert.AttnOutDxReferenceIdeal.main_arg0) = m ((c.tc : Thread Cert.AttnOutDxReferenceIdeal.nD Cert.AttnOutDxReferenceIdeal.τ).loc Cert.AttnOutDxReferenceIdeal.main_arg0)
      ∧ r.2.mem ((c.tc : Thread Cert.AttnOutDxReferenceIdeal.nD Cert.AttnOutDxReferenceIdeal.τ).loc Cert.AttnOutDxReferenceIdeal.main_arg1) = m ((c.tc : Thread Cert.AttnOutDxReferenceIdeal.nD Cert.AttnOutDxReferenceIdeal.τ).loc Cert.AttnOutDxReferenceIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2))
      ∧ r.2.sem = fun _ => 0)

def preserves_Kernel_KernelIdeal : Prop :=
  True

def algebraic_KernelIdeal_ReferenceIdeal_on_meaningful_pre_finite [hKernelIdeal : Cert.KernelIdeal.Facts] [hReferenceIdeal : Cert.ReferenceIdeal.Facts] [hPre_finite : Cert.Pre_finite.Facts] [hOn_meaningful : Cert.On_meaningful.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 2048]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v8_0) i = v0 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v8_1) i = v1 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v8_2) i = v2 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v8_3) i = v3 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.KernelIdeal.nD Cert.KernelIdeal.τ).loc Cert.KernelIdeal.main_v8_4) i = v4 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 i = 1#1 → r.2.mem ((c.tc : Thread Cert.KernelIdeal.nD Cert.KernelIdeal.τ).loc Cert.KernelIdeal.main_v8_5) i = v5 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 i = 1#1 → r.2.mem ((c.tc : Thread Cert.KernelIdeal.nD Cert.KernelIdeal.τ).loc Cert.KernelIdeal.main_v8_6) i = v6 c i)
          ∧ (∀ i : (⟨3, ![4, 8, 128]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2 i = 1#1 → r.2.mem ((c.tc : Thread Cert.KernelIdeal.nD Cert.KernelIdeal.τ).loc Cert.KernelIdeal.main_v8_7) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 2048]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v148) i = v0 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v149) i = v1 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v150) i = v2 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v157) i = v3 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.ReferenceIdeal.nD Cert.ReferenceIdeal.τ).loc Cert.ReferenceIdeal.main_v164) i = v4 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 i = 1#1 → r.2.mem ((c.tc : Thread Cert.ReferenceIdeal.nD Cert.ReferenceIdeal.τ).loc Cert.ReferenceIdeal.main_v171) i = v5 c i)
          ∧ (∀ i : (⟨2, ![8192, 512]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 i = 1#1 → r.2.mem ((c.tc : Thread Cert.ReferenceIdeal.nD Cert.ReferenceIdeal.τ).loc Cert.ReferenceIdeal.main_v178) i = v6 c i)
          ∧ (∀ i : (⟨3, ![4, 8, 128]⟩ : Shape).Idx, (Cert.On_meaningful.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2 i = 1#1 → r.2.mem ((c.tc : Thread Cert.ReferenceIdeal.nD Cert.ReferenceIdeal.τ).loc Cert.ReferenceIdeal.main_v180) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ColsDw_ColsDwIdeal : Prop :=
  True

def algebraic_ColsDwIdeal_ColsDwReferenceIdeal [hColsDwIdeal : Cert.ColsDwIdeal.Facts] [hColsDwReferenceIdeal : Cert.ColsDwReferenceIdeal.Facts] : Prop :=
  ∀ (m : (ℓ : Loc Cert.ColsDwIdeal.nD Cert.ColsDwIdeal.τ Cert.ColsDwIdeal.sig) → Buf (Elt Ideal) ℓ) (g : Dev Cert.ColsDwIdeal.nD → PrngReg)
    (m' : (ℓ : Loc Cert.ColsDwReferenceIdeal.nD Cert.ColsDwReferenceIdeal.τ Cert.ColsDwReferenceIdeal.sig) → Buf (Elt Ideal) ℓ) (g' : Dev Cert.ColsDwReferenceIdeal.nD → PrngReg), Pre_ColsDwIdeal m →
    (∀ c : Dev Cert.ColsDwIdeal.nD,
      m' ((c.tc : Thread Cert.ColsDwReferenceIdeal.nD Cert.ColsDwReferenceIdeal.τ).loc Cert.ColsDwReferenceIdeal.main_arg0) = m ((c.tc : Thread Cert.ColsDwIdeal.nD Cert.ColsDwIdeal.τ).loc Cert.ColsDwIdeal.main_arg0)
      ∧ m' ((c.tc : Thread Cert.ColsDwReferenceIdeal.nD Cert.ColsDwReferenceIdeal.τ).loc Cert.ColsDwReferenceIdeal.main_arg1) = m ((c.tc : Thread Cert.ColsDwIdeal.nD Cert.ColsDwIdeal.τ).loc Cert.ColsDwIdeal.main_arg1)) →
    ∃ (v0 : (c : Dev Cert.ColsDwIdeal.nD) → Buf (Elt Ideal) ((c.tc : Thread Cert.ColsDwIdeal.nD Cert.ColsDwIdeal.τ).loc Cert.ColsDwIdeal.main_v0)),
      θ_run (Cert.ColsDwIdeal.defs (F := Ideal)) (onTc (τ := Cert.ColsDwIdeal.τ) (Cert.ColsDwIdeal.main (F := Ideal))) ⟨m, fun _ => 0, g⟩ (fun r => ∀ c : Dev Cert.ColsDwIdeal.nD,
          r.2.mem ((c.tc : Thread Cert.ColsDwIdeal.nD Cert.ColsDwIdeal.τ).loc Cert.ColsDwIdeal.main_v0) = v0 c
          ∧ r.2.mem ((c.tc : Thread Cert.ColsDwIdeal.nD Cert.ColsDwIdeal.τ).loc Cert.ColsDwIdeal.main_arg0) = m ((c.tc : Thread Cert.ColsDwIdeal.nD Cert.ColsDwIdeal.τ).loc Cert.ColsDwIdeal.main_arg0)
          ∧ r.2.mem ((c.tc : Thread Cert.ColsDwIdeal.nD Cert.ColsDwIdeal.τ).loc Cert.ColsDwIdeal.main_arg1) = m ((c.tc : Thread Cert.ColsDwIdeal.nD Cert.ColsDwIdeal.τ).loc Cert.ColsDwIdeal.main_arg1))
      ∧ θ_run (Cert.ColsDwReferenceIdeal.defs (F := Ideal)) (onTc (τ := Cert.ColsDwReferenceIdeal.τ) (Cert.ColsDwReferenceIdeal.main (F := Ideal))) ⟨m', fun _ => 0, g'⟩ (fun r => ∀ c : Dev Cert.ColsDwReferenceIdeal.nD,
          r.2.mem ((c.tc : Thread Cert.ColsDwReferenceIdeal.nD Cert.ColsDwReferenceIdeal.τ).loc Cert.ColsDwReferenceIdeal.main_v8) = v0 c
          ∧ r.2.mem ((c.tc : Thread Cert.ColsDwReferenceIdeal.nD Cert.ColsDwReferenceIdeal.τ).loc Cert.ColsDwReferenceIdeal.main_arg0) = m' ((c.tc : Thread Cert.ColsDwReferenceIdeal.nD Cert.ColsDwReferenceIdeal.τ).loc Cert.ColsDwReferenceIdeal.main_arg0)
          ∧ r.2.mem ((c.tc : Thread Cert.ColsDwReferenceIdeal.nD Cert.ColsDwReferenceIdeal.τ).loc Cert.ColsDwReferenceIdeal.main_arg1) = m' ((c.tc : Thread Cert.ColsDwReferenceIdeal.nD Cert.ColsDwReferenceIdeal.τ).loc Cert.ColsDwReferenceIdeal.main_arg1))

def preserves_ColsDx_ColsDxIdeal : Prop :=
  True

def algebraic_ColsDxIdeal_ColsDxReferenceIdeal [hColsDxIdeal : Cert.ColsDxIdeal.Facts] [hColsDxReferenceIdeal : Cert.ColsDxReferenceIdeal.Facts] : Prop :=
  ∀ (m : (ℓ : Loc Cert.ColsDxIdeal.nD Cert.ColsDxIdeal.τ Cert.ColsDxIdeal.sig) → Buf (Elt Ideal) ℓ) (g : Dev Cert.ColsDxIdeal.nD → PrngReg)
    (m' : (ℓ : Loc Cert.ColsDxReferenceIdeal.nD Cert.ColsDxReferenceIdeal.τ Cert.ColsDxReferenceIdeal.sig) → Buf (Elt Ideal) ℓ) (g' : Dev Cert.ColsDxReferenceIdeal.nD → PrngReg), Pre_ColsDxIdeal m →
    (∀ c : Dev Cert.ColsDxIdeal.nD,
      m' ((c.tc : Thread Cert.ColsDxReferenceIdeal.nD Cert.ColsDxReferenceIdeal.τ).loc Cert.ColsDxReferenceIdeal.main_arg0) = m ((c.tc : Thread Cert.ColsDxIdeal.nD Cert.ColsDxIdeal.τ).loc Cert.ColsDxIdeal.main_arg0)
      ∧ m' ((c.tc : Thread Cert.ColsDxReferenceIdeal.nD Cert.ColsDxReferenceIdeal.τ).loc Cert.ColsDxReferenceIdeal.main_arg1) = m ((c.tc : Thread Cert.ColsDxIdeal.nD Cert.ColsDxIdeal.τ).loc Cert.ColsDxIdeal.main_arg1)) →
    ∃ (v0 : (c : Dev Cert.ColsDxIdeal.nD) → Buf (Elt Ideal) ((c.tc : Thread Cert.ColsDxIdeal.nD Cert.ColsDxIdeal.τ).loc Cert.ColsDxIdeal.main_v0)),
      θ_run (Cert.ColsDxIdeal.defs (F := Ideal)) (onTc (τ := Cert.ColsDxIdeal.τ) (Cert.ColsDxIdeal.main (F := Ideal))) ⟨m, fun _ => 0, g⟩ (fun r => ∀ c : Dev Cert.ColsDxIdeal.nD,
          r.2.mem ((c.tc : Thread Cert.ColsDxIdeal.nD Cert.ColsDxIdeal.τ).loc Cert.ColsDxIdeal.main_v0) = v0 c
          ∧ r.2.mem ((c.tc : Thread Cert.ColsDxIdeal.nD Cert.ColsDxIdeal.τ).loc Cert.ColsDxIdeal.main_arg0) = m ((c.tc : Thread Cert.ColsDxIdeal.nD Cert.ColsDxIdeal.τ).loc Cert.ColsDxIdeal.main_arg0)
          ∧ r.2.mem ((c.tc : Thread Cert.ColsDxIdeal.nD Cert.ColsDxIdeal.τ).loc Cert.ColsDxIdeal.main_arg1) = m ((c.tc : Thread Cert.ColsDxIdeal.nD Cert.ColsDxIdeal.τ).loc Cert.ColsDxIdeal.main_arg1))
      ∧ θ_run (Cert.ColsDxReferenceIdeal.defs (F := Ideal)) (onTc (τ := Cert.ColsDxReferenceIdeal.τ) (Cert.ColsDxReferenceIdeal.main (F := Ideal))) ⟨m', fun _ => 0, g'⟩ (fun r => ∀ c : Dev Cert.ColsDxReferenceIdeal.nD,
          r.2.mem ((c.tc : Thread Cert.ColsDxReferenceIdeal.nD Cert.ColsDxReferenceIdeal.τ).loc Cert.ColsDxReferenceIdeal.main_v6) = v0 c
          ∧ r.2.mem ((c.tc : Thread Cert.ColsDxReferenceIdeal.nD Cert.ColsDxReferenceIdeal.τ).loc Cert.ColsDxReferenceIdeal.main_arg0) = m' ((c.tc : Thread Cert.ColsDxReferenceIdeal.nD Cert.ColsDxReferenceIdeal.τ).loc Cert.ColsDxReferenceIdeal.main_arg0)
          ∧ r.2.mem ((c.tc : Thread Cert.ColsDxReferenceIdeal.nD Cert.ColsDxReferenceIdeal.τ).loc Cert.ColsDxReferenceIdeal.main_arg1) = m' ((c.tc : Thread Cert.ColsDxReferenceIdeal.nD Cert.ColsDxReferenceIdeal.τ).loc Cert.ColsDxReferenceIdeal.main_arg1))

def preserves_ColsDxAdd_ColsDxAddIdeal : Prop :=
  True

def algebraic_ColsDxAddIdeal_ColsDxAddReferenceIdeal [hColsDxAddIdeal : Cert.ColsDxAddIdeal.Facts] [hColsDxAddReferenceIdeal : Cert.ColsDxAddReferenceIdeal.Facts] : Prop :=
  ∀ (m : (ℓ : Loc Cert.ColsDxAddIdeal.nD Cert.ColsDxAddIdeal.τ Cert.ColsDxAddIdeal.sig) → Buf (Elt Ideal) ℓ) (g : Dev Cert.ColsDxAddIdeal.nD → PrngReg)
    (m' : (ℓ : Loc Cert.ColsDxAddReferenceIdeal.nD Cert.ColsDxAddReferenceIdeal.τ Cert.ColsDxAddReferenceIdeal.sig) → Buf (Elt Ideal) ℓ) (g' : Dev Cert.ColsDxAddReferenceIdeal.nD → PrngReg), Pre_ColsDxAddIdeal m →
    (∀ c : Dev Cert.ColsDxAddIdeal.nD,
      m' ((c.tc : Thread Cert.ColsDxAddReferenceIdeal.nD Cert.ColsDxAddReferenceIdeal.τ).loc Cert.ColsDxAddReferenceIdeal.main_arg0) = m ((c.tc : Thread Cert.ColsDxAddIdeal.nD Cert.ColsDxAddIdeal.τ).loc Cert.ColsDxAddIdeal.main_arg0)
      ∧ m' ((c.tc : Thread Cert.ColsDxAddReferenceIdeal.nD Cert.ColsDxAddReferenceIdeal.τ).loc Cert.ColsDxAddReferenceIdeal.main_arg1) = m ((c.tc : Thread Cert.ColsDxAddIdeal.nD Cert.ColsDxAddIdeal.τ).loc Cert.ColsDxAddIdeal.main_arg1)
      ∧ m' ((c.tc : Thread Cert.ColsDxAddReferenceIdeal.nD Cert.ColsDxAddReferenceIdeal.τ).loc Cert.ColsDxAddReferenceIdeal.main_arg2) = m ((c.tc : Thread Cert.ColsDxAddIdeal.nD Cert.ColsDxAddIdeal.τ).loc Cert.ColsDxAddIdeal.main_arg2)) →
    ∃ (v0 : (c : Dev Cert.ColsDxAddIdeal.nD) → Buf (Elt Ideal) ((c.tc : Thread Cert.ColsDxAddIdeal.nD Cert.ColsDxAddIdeal.τ).loc Cert.ColsDxAddIdeal.main_v0)),
      θ_run (Cert.ColsDxAddIdeal.defs (F := Ideal)) (onTc (τ := Cert.ColsDxAddIdeal.τ) (Cert.ColsDxAddIdeal.main (F := Ideal))) ⟨m, fun _ => 0, g⟩ (fun r => ∀ c : Dev Cert.ColsDxAddIdeal.nD,
          r.2.mem ((c.tc : Thread Cert.ColsDxAddIdeal.nD Cert.ColsDxAddIdeal.τ).loc Cert.ColsDxAddIdeal.main_v0) = v0 c
          ∧ r.2.mem ((c.tc : Thread Cert.ColsDxAddIdeal.nD Cert.ColsDxAddIdeal.τ).loc Cert.ColsDxAddIdeal.main_arg0) = m ((c.tc : Thread Cert.ColsDxAddIdeal.nD Cert.ColsDxAddIdeal.τ).loc Cert.ColsDxAddIdeal.main_arg0)
          ∧ r.2.mem ((c.tc : Thread Cert.ColsDxAddIdeal.nD Cert.ColsDxAddIdeal.τ).loc Cert.ColsDxAddIdeal.main_arg1) = m ((c.tc : Thread Cert.ColsDxAddIdeal.nD Cert.ColsDxAddIdeal.τ).loc Cert.ColsDxAddIdeal.main_arg1)
          ∧ r.2.mem ((c.tc : Thread Cert.ColsDxAddIdeal.nD Cert.ColsDxAddIdeal.τ).loc Cert.ColsDxAddIdeal.main_arg2) = m ((c.tc : Thread Cert.ColsDxAddIdeal.nD Cert.ColsDxAddIdeal.τ).loc Cert.ColsDxAddIdeal.main_arg2))
      ∧ θ_run (Cert.ColsDxAddReferenceIdeal.defs (F := Ideal)) (onTc (τ := Cert.ColsDxAddReferenceIdeal.τ) (Cert.ColsDxAddReferenceIdeal.main (F := Ideal))) ⟨m', fun _ => 0, g'⟩ (fun r => ∀ c : Dev Cert.ColsDxAddReferenceIdeal.nD,
          r.2.mem ((c.tc : Thread Cert.ColsDxAddReferenceIdeal.nD Cert.ColsDxAddReferenceIdeal.τ).loc Cert.ColsDxAddReferenceIdeal.main_v7) = v0 c
          ∧ r.2.mem ((c.tc : Thread Cert.ColsDxAddReferenceIdeal.nD Cert.ColsDxAddReferenceIdeal.τ).loc Cert.ColsDxAddReferenceIdeal.main_arg0) = m' ((c.tc : Thread Cert.ColsDxAddReferenceIdeal.nD Cert.ColsDxAddReferenceIdeal.τ).loc Cert.ColsDxAddReferenceIdeal.main_arg0)
          ∧ r.2.mem ((c.tc : Thread Cert.ColsDxAddReferenceIdeal.nD Cert.ColsDxAddReferenceIdeal.τ).loc Cert.ColsDxAddReferenceIdeal.main_arg1) = m' ((c.tc : Thread Cert.ColsDxAddReferenceIdeal.nD Cert.ColsDxAddReferenceIdeal.τ).loc Cert.ColsDxAddReferenceIdeal.main_arg1)
          ∧ r.2.mem ((c.tc : Thread Cert.ColsDxAddReferenceIdeal.nD Cert.ColsDxAddReferenceIdeal.τ).loc Cert.ColsDxAddReferenceIdeal.main_arg2) = m' ((c.tc : Thread Cert.ColsDxAddReferenceIdeal.nD Cert.ColsDxAddReferenceIdeal.τ).loc Cert.ColsDxAddReferenceIdeal.main_arg2))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v6) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_DownDx_DownDxIdeal : Prop :=
  True

def algebraic_DownDxIdeal_DownDxReferenceIdeal_pre_finite_ffn [hDownDxIdeal : Cert.DownDxIdeal.Facts] [hDownDxReferenceIdeal : Cert.DownDxReferenceIdeal.Facts] [hPre_finite_ffn : Cert.Pre_finite_ffn.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxReferenceIdeal.nD Cert.DownDxReferenceIdeal.τ Cert.DownDxReferenceIdeal.sig) → Buf (Elt Ideal) ℓ) (g' : Dev Cert.DownDxReferenceIdeal.nD → PrngReg), Pre_DownDxIdeal_finite_ffn m →
    (∀ c : Dev Cert.DownDxIdeal.nD,
      m' ((c.tc : Thread Cert.DownDxReferenceIdeal.nD Cert.DownDxReferenceIdeal.τ).loc Cert.DownDxReferenceIdeal.main_arg0) = m ((c.tc : Thread Cert.DownDxIdeal.nD Cert.DownDxIdeal.τ).loc Cert.DownDxIdeal.main_arg0)
      ∧ m' ((c.tc : Thread Cert.DownDxReferenceIdeal.nD Cert.DownDxReferenceIdeal.τ).loc Cert.DownDxReferenceIdeal.main_arg1) = m ((c.tc : Thread Cert.DownDxIdeal.nD Cert.DownDxIdeal.τ).loc Cert.DownDxIdeal.main_arg1)
      ∧ m' ((c.tc : Thread Cert.DownDxReferenceIdeal.nD Cert.DownDxReferenceIdeal.τ).loc Cert.DownDxReferenceIdeal.main_arg2) = m ((c.tc : Thread Cert.DownDxIdeal.nD Cert.DownDxIdeal.τ).loc Cert.DownDxIdeal.main_arg2)
      ∧ m' ((c.tc : Thread Cert.DownDxReferenceIdeal.nD Cert.DownDxReferenceIdeal.τ).loc Cert.DownDxReferenceIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v0_0)) (v1 : (c : Dev Cert.DownDxIdeal.nD) → Buf (Elt Ideal) ((c.tc : Thread Cert.DownDxIdeal.nD Cert.DownDxIdeal.τ).loc Cert.DownDxIdeal.main_v0_1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0_0) = v0 c
          ∧ r.2.mem ((c.tc : Thread Cert.DownDxIdeal.nD Cert.DownDxIdeal.τ).loc Cert.DownDxIdeal.main_v0_1) = v1 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxReferenceIdeal.defs (F := Ideal)) (onTc (τ := Cert.DownDxReferenceIdeal.τ) (Cert.DownDxReferenceIdeal.main (F := Ideal))) ⟨m', fun _ => 0, g'⟩ (fun r => ∀ c : Dev Cert.DownDxReferenceIdeal.nD,
          r.2.mem ((c.tc : Thread Cert.DownDxReferenceIdeal.nD Cert.DownDxReferenceIdeal.τ).loc Cert.DownDxReferenceIdeal.main_v11) = v0 c
          ∧ r.2.mem ((c.tc : Thread Cert.DownDxReferenceIdeal.nD Cert.DownDxReferenceIdeal.τ).loc Cert.DownDxReferenceIdeal.main_v12) = v1 c
          ∧ r.2.mem ((c.tc : Thread Cert.DownDxReferenceIdeal.nD Cert.DownDxReferenceIdeal.τ).loc Cert.DownDxReferenceIdeal.main_arg0) = m' ((c.tc : Thread Cert.DownDxReferenceIdeal.nD Cert.DownDxReferenceIdeal.τ).loc Cert.DownDxReferenceIdeal.main_arg0)
          ∧ r.2.mem ((c.tc : Thread Cert.DownDxReferenceIdeal.nD Cert.DownDxReferenceIdeal.τ).loc Cert.DownDxReferenceIdeal.main_arg1) = m' ((c.tc : Thread Cert.DownDxReferenceIdeal.nD Cert.DownDxReferenceIdeal.τ).loc Cert.DownDxReferenceIdeal.main_arg1)
          ∧ r.2.mem ((c.tc : Thread Cert.DownDxReferenceIdeal.nD Cert.DownDxReferenceIdeal.τ).loc Cert.DownDxReferenceIdeal.main_arg2) = m' ((c.tc : Thread Cert.DownDxReferenceIdeal.nD Cert.DownDxReferenceIdeal.τ).loc Cert.DownDxReferenceIdeal.main_arg2)
          ∧ r.2.mem ((c.tc : Thread Cert.DownDxReferenceIdeal.nD Cert.DownDxReferenceIdeal.τ).loc Cert.DownDxReferenceIdeal.main_arg3) = m' ((c.tc : Thread Cert.DownDxReferenceIdeal.nD Cert.DownDxReferenceIdeal.τ).loc Cert.DownDxReferenceIdeal.main_arg3))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v5) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_v9) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v3) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_SsmInDw_SsmInDwIdeal : Prop :=
  True

def algebraic_SsmInDwIdeal_SsmInDwReferenceIdeal [hSsmInDwIdeal : Cert.SsmInDwIdeal.Facts] [hSsmInDwReferenceIdeal : Cert.SsmInDwReferenceIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg)
    (m' : (ℓ : Loc Cert.SsmInDwReferenceIdeal.nD Cert.SsmInDwReferenceIdeal.τ Cert.SsmInDwReferenceIdeal.sig) → Buf (Elt Ideal) ℓ) (g' : Dev Cert.SsmInDwReferenceIdeal.nD → PrngReg), Pre_SsmInDwIdeal m →
    (∀ c : Dev Cert.SsmInDwIdeal.nD,
      m' ((c.tc : Thread Cert.SsmInDwReferenceIdeal.nD Cert.SsmInDwReferenceIdeal.τ).loc Cert.SsmInDwReferenceIdeal.main_arg0) = m ((c.tc : Thread Cert.SsmInDwIdeal.nD Cert.SsmInDwIdeal.τ).loc Cert.SsmInDwIdeal.main_arg0)
      ∧ m' ((c.tc : Thread Cert.SsmInDwReferenceIdeal.nD Cert.SsmInDwReferenceIdeal.τ).loc Cert.SsmInDwReferenceIdeal.main_arg1) = m ((c.tc : Thread Cert.SsmInDwIdeal.nD Cert.SsmInDwIdeal.τ).loc Cert.SsmInDwIdeal.main_arg1)) →
    ∃ (v0 : (c : Dev Cert.SsmInDwIdeal.nD) → Buf (Elt Ideal) ((c.tc : Thread Cert.SsmInDwIdeal.nD Cert.SsmInDwIdeal.τ).loc Cert.SsmInDwIdeal.main_v0)),
      θ_run (Cert.SsmInDwIdeal.defs (F := Ideal)) (onTc (τ := Cert.SsmInDwIdeal.τ) (Cert.SsmInDwIdeal.main (F := Ideal))) ⟨m, fun _ => 0, g⟩ (fun r => ∀ c : Dev Cert.SsmInDwIdeal.nD,
          r.2.mem ((c.tc : Thread Cert.SsmInDwIdeal.nD Cert.SsmInDwIdeal.τ).loc Cert.SsmInDwIdeal.main_v0) = v0 c
          ∧ r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
          ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ θ_run (Cert.SsmInDwReferenceIdeal.defs (F := Ideal)) (onTc (τ := Cert.SsmInDwReferenceIdeal.τ) (Cert.SsmInDwReferenceIdeal.main (F := Ideal))) ⟨m', fun _ => 0, g'⟩ (fun r => ∀ c : Dev Cert.SsmInDwReferenceIdeal.nD,
          r.2.mem ((c.tc : Thread Cert.SsmInDwReferenceIdeal.nD Cert.SsmInDwReferenceIdeal.τ).loc Cert.SsmInDwReferenceIdeal.main_v6) = v0 c
          ∧ r.2.mem ((c.tc : Thread Cert.SsmInDwReferenceIdeal.nD Cert.SsmInDwReferenceIdeal.τ).loc Cert.SsmInDwReferenceIdeal.main_arg0) = m' ((c.tc : Thread Cert.SsmInDwReferenceIdeal.nD Cert.SsmInDwReferenceIdeal.τ).loc Cert.SsmInDwReferenceIdeal.main_arg0)
          ∧ r.2.mem ((c.tc : Thread Cert.SsmInDwReferenceIdeal.nD Cert.SsmInDwReferenceIdeal.τ).loc Cert.SsmInDwReferenceIdeal.main_arg1) = m' ((c.tc : Thread Cert.SsmInDwReferenceIdeal.nD Cert.SsmInDwReferenceIdeal.τ).loc Cert.SsmInDwReferenceIdeal.main_arg1))

def preserves_SsmInDx_SsmInDxIdeal : Prop :=
  True

def algebraic_SsmInDxIdeal_SsmInDxReferenceIdeal [hSsmInDxIdeal : Cert.SsmInDxIdeal.Facts] [hSsmInDxReferenceIdeal : Cert.SsmInDxReferenceIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg)
    (m' : (ℓ : Loc Cert.SsmInDxReferenceIdeal.nD Cert.SsmInDxReferenceIdeal.τ Cert.SsmInDxReferenceIdeal.sig) → Buf (Elt Ideal) ℓ) (g' : Dev Cert.SsmInDxReferenceIdeal.nD → PrngReg), Pre_SsmInDxIdeal m →
    (∀ c : Dev Cert.SsmInDxIdeal.nD,
      m' ((c.tc : Thread Cert.SsmInDxReferenceIdeal.nD Cert.SsmInDxReferenceIdeal.τ).loc Cert.SsmInDxReferenceIdeal.main_arg0) = m ((c.tc : Thread Cert.SsmInDxIdeal.nD Cert.SsmInDxIdeal.τ).loc Cert.SsmInDxIdeal.main_arg0)
      ∧ m' ((c.tc : Thread Cert.SsmInDxReferenceIdeal.nD Cert.SsmInDxReferenceIdeal.τ).loc Cert.SsmInDxReferenceIdeal.main_arg1) = m ((c.tc : Thread Cert.SsmInDxIdeal.nD Cert.SsmInDxIdeal.τ).loc Cert.SsmInDxIdeal.main_arg1)) →
    ∃ (v0 : (c : Dev Cert.SsmInDxIdeal.nD) → Buf (Elt Ideal) ((c.tc : Thread Cert.SsmInDxIdeal.nD Cert.SsmInDxIdeal.τ).loc Cert.SsmInDxIdeal.main_v0)),
      θ_run (Cert.SsmInDxIdeal.defs (F := Ideal)) (onTc (τ := Cert.SsmInDxIdeal.τ) (Cert.SsmInDxIdeal.main (F := Ideal))) ⟨m, fun _ => 0, g⟩ (fun r => ∀ c : Dev Cert.SsmInDxIdeal.nD,
          r.2.mem ((c.tc : Thread Cert.SsmInDxIdeal.nD Cert.SsmInDxIdeal.τ).loc Cert.SsmInDxIdeal.main_v0) = v0 c
          ∧ r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
          ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ θ_run (Cert.SsmInDxReferenceIdeal.defs (F := Ideal)) (onTc (τ := Cert.SsmInDxReferenceIdeal.τ) (Cert.SsmInDxReferenceIdeal.main (F := Ideal))) ⟨m', fun _ => 0, g'⟩ (fun r => ∀ c : Dev Cert.SsmInDxReferenceIdeal.nD,
          r.2.mem ((c.tc : Thread Cert.SsmInDxReferenceIdeal.nD Cert.SsmInDxReferenceIdeal.τ).loc Cert.SsmInDxReferenceIdeal.main_v4) = v0 c
          ∧ r.2.mem ((c.tc : Thread Cert.SsmInDxReferenceIdeal.nD Cert.SsmInDxReferenceIdeal.τ).loc Cert.SsmInDxReferenceIdeal.main_arg0) = m' ((c.tc : Thread Cert.SsmInDxReferenceIdeal.nD Cert.SsmInDxReferenceIdeal.τ).loc Cert.SsmInDxReferenceIdeal.main_arg0)
          ∧ r.2.mem ((c.tc : Thread Cert.SsmInDxReferenceIdeal.nD Cert.SsmInDxReferenceIdeal.τ).loc Cert.SsmInDxReferenceIdeal.main_arg1) = m' ((c.tc : Thread Cert.SsmInDxReferenceIdeal.nD Cert.SsmInDxReferenceIdeal.τ).loc Cert.SsmInDxReferenceIdeal.main_arg1))

def preserves_SsmIn_SsmInIdeal : Prop :=
  True

def algebraic_SsmInIdeal_SsmInReferenceIdeal [hSsmInIdeal : Cert.SsmInIdeal.Facts] [hSsmInReferenceIdeal : Cert.SsmInReferenceIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInReferenceIdeal.nD Cert.SsmInReferenceIdeal.τ Cert.SsmInReferenceIdeal.sig) → Buf (Elt Ideal) ℓ) (g' : Dev Cert.SsmInReferenceIdeal.nD → PrngReg), Pre_SsmInIdeal m →
    (∀ c : Dev Cert.SsmInIdeal.nD,
      m' ((c.tc : Thread Cert.SsmInReferenceIdeal.nD Cert.SsmInReferenceIdeal.τ).loc Cert.SsmInReferenceIdeal.main_arg0) = m ((c.tc : Thread Cert.SsmInIdeal.nD Cert.SsmInIdeal.τ).loc Cert.SsmInIdeal.main_arg0)
      ∧ m' ((c.tc : Thread Cert.SsmInReferenceIdeal.nD Cert.SsmInReferenceIdeal.τ).loc Cert.SsmInReferenceIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v0)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v0) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInReferenceIdeal.defs (F := Ideal)) (onTc (τ := Cert.SsmInReferenceIdeal.τ) (Cert.SsmInReferenceIdeal.main (F := Ideal))) ⟨m', fun _ => 0, g'⟩ (fun r => ∀ c : Dev Cert.SsmInReferenceIdeal.nD,
          r.2.mem ((c.tc : Thread Cert.SsmInReferenceIdeal.nD Cert.SsmInReferenceIdeal.τ).loc Cert.SsmInReferenceIdeal.main_v2) = v0 c
          ∧ r.2.mem ((c.tc : Thread Cert.SsmInReferenceIdeal.nD Cert.SsmInReferenceIdeal.τ).loc Cert.SsmInReferenceIdeal.main_arg0) = m' ((c.tc : Thread Cert.SsmInReferenceIdeal.nD Cert.SsmInReferenceIdeal.τ).loc Cert.SsmInReferenceIdeal.main_arg0)
          ∧ r.2.mem ((c.tc : Thread Cert.SsmInReferenceIdeal.nD Cert.SsmInReferenceIdeal.τ).loc Cert.SsmInReferenceIdeal.main_arg1) = m' ((c.tc : Thread Cert.SsmInReferenceIdeal.nD Cert.SsmInReferenceIdeal.τ).loc Cert.SsmInReferenceIdeal.main_arg1))

def preserves_SsmOutDw_SsmOutDwIdeal : Prop :=
  True

def algebraic_SsmOutDwIdeal_SsmOutDwReferenceIdeal [hSsmOutDwIdeal : Cert.SsmOutDwIdeal.Facts] [hSsmOutDwReferenceIdeal : Cert.SsmOutDwReferenceIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg)
    (m' : (ℓ : Loc Cert.SsmOutDwReferenceIdeal.nD Cert.SsmOutDwReferenceIdeal.τ Cert.SsmOutDwReferenceIdeal.sig) → Buf (Elt Ideal) ℓ) (g' : Dev Cert.SsmOutDwReferenceIdeal.nD → PrngReg), Pre_SsmOutDwIdeal m →
    (∀ c : Dev Cert.SsmOutDwIdeal.nD,
      m' ((c.tc : Thread Cert.SsmOutDwReferenceIdeal.nD Cert.SsmOutDwReferenceIdeal.τ).loc Cert.SsmOutDwReferenceIdeal.main_arg0) = m ((c.tc : Thread Cert.SsmOutDwIdeal.nD Cert.SsmOutDwIdeal.τ).loc Cert.SsmOutDwIdeal.main_arg0)
      ∧ m' ((c.tc : Thread Cert.SsmOutDwReferenceIdeal.nD Cert.SsmOutDwReferenceIdeal.τ).loc Cert.SsmOutDwReferenceIdeal.main_arg1) = m ((c.tc : Thread Cert.SsmOutDwIdeal.nD Cert.SsmOutDwIdeal.τ).loc Cert.SsmOutDwIdeal.main_arg1)) →
    ∃ (v0 : (c : Dev Cert.SsmOutDwIdeal.nD) → Buf (Elt Ideal) ((c.tc : Thread Cert.SsmOutDwIdeal.nD Cert.SsmOutDwIdeal.τ).loc Cert.SsmOutDwIdeal.main_v0)),
      θ_run (Cert.SsmOutDwIdeal.defs (F := Ideal)) (onTc (τ := Cert.SsmOutDwIdeal.τ) (Cert.SsmOutDwIdeal.main (F := Ideal))) ⟨m, fun _ => 0, g⟩ (fun r => ∀ c : Dev Cert.SsmOutDwIdeal.nD,
          r.2.mem ((c.tc : Thread Cert.SsmOutDwIdeal.nD Cert.SsmOutDwIdeal.τ).loc Cert.SsmOutDwIdeal.main_v0) = v0 c
          ∧ r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
          ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ θ_run (Cert.SsmOutDwReferenceIdeal.defs (F := Ideal)) (onTc (τ := Cert.SsmOutDwReferenceIdeal.τ) (Cert.SsmOutDwReferenceIdeal.main (F := Ideal))) ⟨m', fun _ => 0, g'⟩ (fun r => ∀ c : Dev Cert.SsmOutDwReferenceIdeal.nD,
          r.2.mem ((c.tc : Thread Cert.SsmOutDwReferenceIdeal.nD Cert.SsmOutDwReferenceIdeal.τ).loc Cert.SsmOutDwReferenceIdeal.main_v6) = v0 c
          ∧ r.2.mem ((c.tc : Thread Cert.SsmOutDwReferenceIdeal.nD Cert.SsmOutDwReferenceIdeal.τ).loc Cert.SsmOutDwReferenceIdeal.main_arg0) = m' ((c.tc : Thread Cert.SsmOutDwReferenceIdeal.nD Cert.SsmOutDwReferenceIdeal.τ).loc Cert.SsmOutDwReferenceIdeal.main_arg0)
          ∧ r.2.mem ((c.tc : Thread Cert.SsmOutDwReferenceIdeal.nD Cert.SsmOutDwReferenceIdeal.τ).loc Cert.SsmOutDwReferenceIdeal.main_arg1) = m' ((c.tc : Thread Cert.SsmOutDwReferenceIdeal.nD Cert.SsmOutDwReferenceIdeal.τ).loc Cert.SsmOutDwReferenceIdeal.main_arg1))

def preserves_SsmOutDx_SsmOutDxIdeal : Prop :=
  True

def algebraic_SsmOutDxIdeal_SsmOutDxReferenceIdeal [hSsmOutDxIdeal : Cert.SsmOutDxIdeal.Facts] [hSsmOutDxReferenceIdeal : Cert.SsmOutDxReferenceIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg)
    (m' : (ℓ : Loc Cert.SsmOutDxReferenceIdeal.nD Cert.SsmOutDxReferenceIdeal.τ Cert.SsmOutDxReferenceIdeal.sig) → Buf (Elt Ideal) ℓ) (g' : Dev Cert.SsmOutDxReferenceIdeal.nD → PrngReg), Pre_SsmOutDxIdeal m →
    (∀ c : Dev Cert.SsmOutDxIdeal.nD,
      m' ((c.tc : Thread Cert.SsmOutDxReferenceIdeal.nD Cert.SsmOutDxReferenceIdeal.τ).loc Cert.SsmOutDxReferenceIdeal.main_arg0) = m ((c.tc : Thread Cert.SsmOutDxIdeal.nD Cert.SsmOutDxIdeal.τ).loc Cert.SsmOutDxIdeal.main_arg0)
      ∧ m' ((c.tc : Thread Cert.SsmOutDxReferenceIdeal.nD Cert.SsmOutDxReferenceIdeal.τ).loc Cert.SsmOutDxReferenceIdeal.main_arg1) = m ((c.tc : Thread Cert.SsmOutDxIdeal.nD Cert.SsmOutDxIdeal.τ).loc Cert.SsmOutDxIdeal.main_arg1)) →
    ∃ (v0 : (c : Dev Cert.SsmOutDxIdeal.nD) → Buf (Elt Ideal) ((c.tc : Thread Cert.SsmOutDxIdeal.nD Cert.SsmOutDxIdeal.τ).loc Cert.SsmOutDxIdeal.main_v0)),
      θ_run (Cert.SsmOutDxIdeal.defs (F := Ideal)) (onTc (τ := Cert.SsmOutDxIdeal.τ) (Cert.SsmOutDxIdeal.main (F := Ideal))) ⟨m, fun _ => 0, g⟩ (fun r => ∀ c : Dev Cert.SsmOutDxIdeal.nD,
          r.2.mem ((c.tc : Thread Cert.SsmOutDxIdeal.nD Cert.SsmOutDxIdeal.τ).loc Cert.SsmOutDxIdeal.main_v0) = v0 c
          ∧ r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
          ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ θ_run (Cert.SsmOutDxReferenceIdeal.defs (F := Ideal)) (onTc (τ := Cert.SsmOutDxReferenceIdeal.τ) (Cert.SsmOutDxReferenceIdeal.main (F := Ideal))) ⟨m', fun _ => 0, g'⟩ (fun r => ∀ c : Dev Cert.SsmOutDxReferenceIdeal.nD,
          r.2.mem ((c.tc : Thread Cert.SsmOutDxReferenceIdeal.nD Cert.SsmOutDxReferenceIdeal.τ).loc Cert.SsmOutDxReferenceIdeal.main_v4) = v0 c
          ∧ r.2.mem ((c.tc : Thread Cert.SsmOutDxReferenceIdeal.nD Cert.SsmOutDxReferenceIdeal.τ).loc Cert.SsmOutDxReferenceIdeal.main_arg0) = m' ((c.tc : Thread Cert.SsmOutDxReferenceIdeal.nD Cert.SsmOutDxReferenceIdeal.τ).loc Cert.SsmOutDxReferenceIdeal.main_arg0)
          ∧ r.2.mem ((c.tc : Thread Cert.SsmOutDxReferenceIdeal.nD Cert.SsmOutDxReferenceIdeal.τ).loc Cert.SsmOutDxReferenceIdeal.main_arg1) = m' ((c.tc : Thread Cert.SsmOutDxReferenceIdeal.nD Cert.SsmOutDxReferenceIdeal.τ).loc Cert.SsmOutDxReferenceIdeal.main_arg1))

def preserves_SsmOut_SsmOutIdeal : Prop :=
  True

def algebraic_SsmOutIdeal_SsmOutReferenceIdeal [hSsmOutIdeal : Cert.SsmOutIdeal.Facts] [hSsmOutReferenceIdeal : Cert.SsmOutReferenceIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutReferenceIdeal.nD Cert.SsmOutReferenceIdeal.τ Cert.SsmOutReferenceIdeal.sig) → Buf (Elt Ideal) ℓ) (g' : Dev Cert.SsmOutReferenceIdeal.nD → PrngReg), Pre_SsmOutIdeal m →
    (∀ c : Dev Cert.SsmOutIdeal.nD,
      m' ((c.tc : Thread Cert.SsmOutReferenceIdeal.nD Cert.SsmOutReferenceIdeal.τ).loc Cert.SsmOutReferenceIdeal.main_arg0) = m ((c.tc : Thread Cert.SsmOutIdeal.nD Cert.SsmOutIdeal.τ).loc Cert.SsmOutIdeal.main_arg0)
      ∧ m' ((c.tc : Thread Cert.SsmOutReferenceIdeal.nD Cert.SsmOutReferenceIdeal.τ).loc Cert.SsmOutReferenceIdeal.main_arg1) = m ((c.tc : Thread Cert.SsmOutIdeal.nD Cert.SsmOutIdeal.τ).loc Cert.SsmOutIdeal.main_arg1)
      ∧ m' ((c.tc : Thread Cert.SsmOutReferenceIdeal.nD Cert.SsmOutReferenceIdeal.τ).loc Cert.SsmOutReferenceIdeal.main_arg2) = m ((c.tc : Thread Cert.SsmOutIdeal.nD Cert.SsmOutIdeal.τ).loc Cert.SsmOutIdeal.main_arg2)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ θ_run (Cert.SsmOutReferenceIdeal.defs (F := Ideal)) (onTc (τ := Cert.SsmOutReferenceIdeal.τ) (Cert.SsmOutReferenceIdeal.main (F := Ideal))) ⟨m', fun _ => 0, g'⟩ (fun r => ∀ c : Dev Cert.SsmOutReferenceIdeal.nD,
          r.2.mem ((c.tc : Thread Cert.SsmOutReferenceIdeal.nD Cert.SsmOutReferenceIdeal.τ).loc Cert.SsmOutReferenceIdeal.main_v3) = v0 c
          ∧ r.2.mem ((c.tc : Thread Cert.SsmOutReferenceIdeal.nD Cert.SsmOutReferenceIdeal.τ).loc Cert.SsmOutReferenceIdeal.main_arg0) = m' ((c.tc : Thread Cert.SsmOutReferenceIdeal.nD Cert.SsmOutReferenceIdeal.τ).loc Cert.SsmOutReferenceIdeal.main_arg0)
          ∧ r.2.mem ((c.tc : Thread Cert.SsmOutReferenceIdeal.nD Cert.SsmOutReferenceIdeal.τ).loc Cert.SsmOutReferenceIdeal.main_arg1) = m' ((c.tc : Thread Cert.SsmOutReferenceIdeal.nD Cert.SsmOutReferenceIdeal.τ).loc Cert.SsmOutReferenceIdeal.main_arg1)
          ∧ r.2.mem ((c.tc : Thread Cert.SsmOutReferenceIdeal.nD Cert.SsmOutReferenceIdeal.τ).loc Cert.SsmOutReferenceIdeal.main_arg2) = m' ((c.tc : Thread Cert.SsmOutReferenceIdeal.nD Cert.SsmOutReferenceIdeal.τ).loc Cert.SsmOutReferenceIdeal.main_arg2))

def preserves_QkvDw_QkvDwIdeal : Prop :=
  True

def algebraic_QkvDwIdeal_QkvDwReferenceIdeal [hQkvDwIdeal : Cert.QkvDwIdeal.Facts] [hQkvDwReferenceIdeal : Cert.QkvDwReferenceIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwReferenceIdeal.nD Cert.QkvDwReferenceIdeal.τ Cert.QkvDwReferenceIdeal.sig) → Buf (Elt Ideal) ℓ) (g' : Dev Cert.QkvDwReferenceIdeal.nD → PrngReg), Pre_QkvDwIdeal m →
    (∀ c : Dev Cert.QkvDwIdeal.nD,
      m' ((c.tc : Thread Cert.QkvDwReferenceIdeal.nD Cert.QkvDwReferenceIdeal.τ).loc Cert.QkvDwReferenceIdeal.main_arg0) = m ((c.tc : Thread Cert.QkvDwIdeal.nD Cert.QkvDwIdeal.τ).loc Cert.QkvDwIdeal.main_arg0)
      ∧ m' ((c.tc : Thread Cert.QkvDwReferenceIdeal.nD Cert.QkvDwReferenceIdeal.τ).loc Cert.QkvDwReferenceIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwReferenceIdeal.defs (F := Ideal)) (onTc (τ := Cert.QkvDwReferenceIdeal.τ) (Cert.QkvDwReferenceIdeal.main (F := Ideal))) ⟨m', fun _ => 0, g'⟩ (fun r => ∀ c : Dev Cert.QkvDwReferenceIdeal.nD,
          r.2.mem ((c.tc : Thread Cert.QkvDwReferenceIdeal.nD Cert.QkvDwReferenceIdeal.τ).loc Cert.QkvDwReferenceIdeal.main_v8) = v0 c
          ∧ r.2.mem ((c.tc : Thread Cert.QkvDwReferenceIdeal.nD Cert.QkvDwReferenceIdeal.τ).loc Cert.QkvDwReferenceIdeal.main_arg0) = m' ((c.tc : Thread Cert.QkvDwReferenceIdeal.nD Cert.QkvDwReferenceIdeal.τ).loc Cert.QkvDwReferenceIdeal.main_arg0)
          ∧ r.2.mem ((c.tc : Thread Cert.QkvDwReferenceIdeal.nD Cert.QkvDwReferenceIdeal.τ).loc Cert.QkvDwReferenceIdeal.main_arg1) = m' ((c.tc : Thread Cert.QkvDwReferenceIdeal.nD Cert.QkvDwReferenceIdeal.τ).loc Cert.QkvDwReferenceIdeal.main_arg1))

def preserves_QkvDx_QkvDxIdeal : Prop :=
  True

def algebraic_QkvDxIdeal_QkvDxReferenceIdeal [hQkvDxIdeal : Cert.QkvDxIdeal.Facts] [hQkvDxReferenceIdeal : Cert.QkvDxReferenceIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxReferenceIdeal.nD Cert.QkvDxReferenceIdeal.τ Cert.QkvDxReferenceIdeal.sig) → Buf (Elt Ideal) ℓ) (g' : Dev Cert.QkvDxReferenceIdeal.nD → PrngReg), Pre_QkvDxIdeal m →
    (∀ c : Dev Cert.QkvDxIdeal.nD,
      m' ((c.tc : Thread Cert.QkvDxReferenceIdeal.nD Cert.QkvDxReferenceIdeal.τ).loc Cert.QkvDxReferenceIdeal.main_arg0) = m ((c.tc : Thread Cert.QkvDxIdeal.nD Cert.QkvDxIdeal.τ).loc Cert.QkvDxIdeal.main_arg0)
      ∧ m' ((c.tc : Thread Cert.QkvDxReferenceIdeal.nD Cert.QkvDxReferenceIdeal.τ).loc Cert.QkvDxReferenceIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxReferenceIdeal.defs (F := Ideal)) (onTc (τ := Cert.QkvDxReferenceIdeal.τ) (Cert.QkvDxReferenceIdeal.main (F := Ideal))) ⟨m', fun _ => 0, g'⟩ (fun r => ∀ c : Dev Cert.QkvDxReferenceIdeal.nD,
          r.2.mem ((c.tc : Thread Cert.QkvDxReferenceIdeal.nD Cert.QkvDxReferenceIdeal.τ).loc Cert.QkvDxReferenceIdeal.main_v6) = v0 c
          ∧ r.2.mem ((c.tc : Thread Cert.QkvDxReferenceIdeal.nD Cert.QkvDxReferenceIdeal.τ).loc Cert.QkvDxReferenceIdeal.main_arg0) = m' ((c.tc : Thread Cert.QkvDxReferenceIdeal.nD Cert.QkvDxReferenceIdeal.τ).loc Cert.QkvDxReferenceIdeal.main_arg0)
          ∧ r.2.mem ((c.tc : Thread Cert.QkvDxReferenceIdeal.nD Cert.QkvDxReferenceIdeal.τ).loc Cert.QkvDxReferenceIdeal.main_arg1) = m' ((c.tc : Thread Cert.QkvDxReferenceIdeal.nD Cert.QkvDxReferenceIdeal.τ).loc Cert.QkvDxReferenceIdeal.main_arg1))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v4) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_AttnOutDw_AttnOutDwIdeal : Prop :=
  True

def algebraic_AttnOutDwIdeal_AttnOutDwReferenceIdeal [hAttnOutDwIdeal : Cert.AttnOutDwIdeal.Facts] [hAttnOutDwReferenceIdeal : Cert.AttnOutDwReferenceIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwReferenceIdeal.nD Cert.AttnOutDwReferenceIdeal.τ Cert.AttnOutDwReferenceIdeal.sig) → Buf (Elt Ideal) ℓ) (g' : Dev Cert.AttnOutDwReferenceIdeal.nD → PrngReg), Pre_AttnOutDwIdeal m →
    (∀ c : Dev Cert.AttnOutDwIdeal.nD,
      m' ((c.tc : Thread Cert.AttnOutDwReferenceIdeal.nD Cert.AttnOutDwReferenceIdeal.τ).loc Cert.AttnOutDwReferenceIdeal.main_arg0) = m ((c.tc : Thread Cert.AttnOutDwIdeal.nD Cert.AttnOutDwIdeal.τ).loc Cert.AttnOutDwIdeal.main_arg0)
      ∧ m' ((c.tc : Thread Cert.AttnOutDwReferenceIdeal.nD Cert.AttnOutDwReferenceIdeal.τ).loc Cert.AttnOutDwReferenceIdeal.main_arg1) = m ((c.tc : Thread Cert.AttnOutDwIdeal.nD Cert.AttnOutDwIdeal.τ).loc Cert.AttnOutDwIdeal.main_arg1)) →
    ∃ (v0 : (c : Dev Cert.AttnOutDwIdeal.nD) → Buf (Elt Ideal) ((c.tc : Thread Cert.AttnOutDwIdeal.nD Cert.AttnOutDwIdeal.τ).loc Cert.AttnOutDwIdeal.main_v0)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v0) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ θ_run (Cert.AttnOutDwReferenceIdeal.defs (F := Ideal)) (onTc (τ := Cert.AttnOutDwReferenceIdeal.τ) (Cert.AttnOutDwReferenceIdeal.main (F := Ideal))) ⟨m', fun _ => 0, g'⟩ (fun r => ∀ c : Dev Cert.AttnOutDwReferenceIdeal.nD,
          r.2.mem ((c.tc : Thread Cert.AttnOutDwReferenceIdeal.nD Cert.AttnOutDwReferenceIdeal.τ).loc Cert.AttnOutDwReferenceIdeal.main_v6) = v0 c
          ∧ r.2.mem ((c.tc : Thread Cert.AttnOutDwReferenceIdeal.nD Cert.AttnOutDwReferenceIdeal.τ).loc Cert.AttnOutDwReferenceIdeal.main_arg0) = m' ((c.tc : Thread Cert.AttnOutDwReferenceIdeal.nD Cert.AttnOutDwReferenceIdeal.τ).loc Cert.AttnOutDwReferenceIdeal.main_arg0)
          ∧ r.2.mem ((c.tc : Thread Cert.AttnOutDwReferenceIdeal.nD Cert.AttnOutDwReferenceIdeal.τ).loc Cert.AttnOutDwReferenceIdeal.main_arg1) = m' ((c.tc : Thread Cert.AttnOutDwReferenceIdeal.nD Cert.AttnOutDwReferenceIdeal.τ).loc Cert.AttnOutDwReferenceIdeal.main_arg1))

def preserves_AttnOutDx_AttnOutDxIdeal : Prop :=
  True

def algebraic_AttnOutDxIdeal_AttnOutDxReferenceIdeal [hAttnOutDxIdeal : Cert.AttnOutDxIdeal.Facts] [hAttnOutDxReferenceIdeal : Cert.AttnOutDxReferenceIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxReferenceIdeal.nD Cert.AttnOutDxReferenceIdeal.τ Cert.AttnOutDxReferenceIdeal.sig) → Buf (Elt Ideal) ℓ) (g' : Dev Cert.AttnOutDxReferenceIdeal.nD → PrngReg), Pre_AttnOutDxIdeal m →
    (∀ c : Dev Cert.AttnOutDxIdeal.nD,
      m' ((c.tc : Thread Cert.AttnOutDxReferenceIdeal.nD Cert.AttnOutDxReferenceIdeal.τ).loc Cert.AttnOutDxReferenceIdeal.main_arg0) = m ((c.tc : Thread Cert.AttnOutDxIdeal.nD Cert.AttnOutDxIdeal.τ).loc Cert.AttnOutDxIdeal.main_arg0)
      ∧ m' ((c.tc : Thread Cert.AttnOutDxReferenceIdeal.nD Cert.AttnOutDxReferenceIdeal.τ).loc Cert.AttnOutDxReferenceIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v0)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v0) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxReferenceIdeal.defs (F := Ideal)) (onTc (τ := Cert.AttnOutDxReferenceIdeal.τ) (Cert.AttnOutDxReferenceIdeal.main (F := Ideal))) ⟨m', fun _ => 0, g'⟩ (fun r => ∀ c : Dev Cert.AttnOutDxReferenceIdeal.nD,
          r.2.mem ((c.tc : Thread Cert.AttnOutDxReferenceIdeal.nD Cert.AttnOutDxReferenceIdeal.τ).loc Cert.AttnOutDxReferenceIdeal.main_v5) = v0 c
          ∧ r.2.mem ((c.tc : Thread Cert.AttnOutDxReferenceIdeal.nD Cert.AttnOutDxReferenceIdeal.τ).loc Cert.AttnOutDxReferenceIdeal.main_arg0) = m' ((c.tc : Thread Cert.AttnOutDxReferenceIdeal.nD Cert.AttnOutDxReferenceIdeal.τ).loc Cert.AttnOutDxReferenceIdeal.main_arg0)
          ∧ r.2.mem ((c.tc : Thread Cert.AttnOutDxReferenceIdeal.nD Cert.AttnOutDxReferenceIdeal.τ).loc Cert.AttnOutDxReferenceIdeal.main_arg1) = m' ((c.tc : Thread Cert.AttnOutDxReferenceIdeal.nD Cert.AttnOutDxReferenceIdeal.τ).loc Cert.AttnOutDxReferenceIdeal.main_arg1))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v3) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2))

def Claim : Prop :=
  ∃ (hKernel : Cert.Kernel.Facts) (hKernelIdeal : Cert.KernelIdeal.Facts) (hReferenceIdeal : Cert.ReferenceIdeal.Facts) (hColsDw : Cert.ColsDw.Facts) (hColsDwIdeal : Cert.ColsDwIdeal.Facts) (hColsDwReferenceIdeal : Cert.ColsDwReferenceIdeal.Facts) (hColsDx : Cert.ColsDx.Facts) (hColsDxIdeal : Cert.ColsDxIdeal.Facts) (hColsDxReferenceIdeal : Cert.ColsDxReferenceIdeal.Facts) (hColsDxAdd : Cert.ColsDxAdd.Facts) (hColsDxAddIdeal : Cert.ColsDxAddIdeal.Facts) (hColsDxAddReferenceIdeal : Cert.ColsDxAddReferenceIdeal.Facts) (hDownDw : Cert.DownDw.Facts) (hDownDwIdeal : Cert.DownDwIdeal.Facts) (hDownDwReferenceIdeal : Cert.DownDwReferenceIdeal.Facts) (hDownDx : Cert.DownDx.Facts) (hDownDxIdeal : Cert.DownDxIdeal.Facts) (hDownDxReferenceIdeal : Cert.DownDxReferenceIdeal.Facts) (hGate : Cert.Gate.Facts) (hGateIdeal : Cert.GateIdeal.Facts) (hGateReferenceIdeal : Cert.GateReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hSsmInDw : Cert.SsmInDw.Facts) (hSsmInDwIdeal : Cert.SsmInDwIdeal.Facts) (hSsmInDwReferenceIdeal : Cert.SsmInDwReferenceIdeal.Facts) (hSsmInDx : Cert.SsmInDx.Facts) (hSsmInDxIdeal : Cert.SsmInDxIdeal.Facts) (hSsmInDxReferenceIdeal : Cert.SsmInDxReferenceIdeal.Facts) (hSsmIn : Cert.SsmIn.Facts) (hSsmInIdeal : Cert.SsmInIdeal.Facts) (hSsmInReferenceIdeal : Cert.SsmInReferenceIdeal.Facts) (hSsmOutDw : Cert.SsmOutDw.Facts) (hSsmOutDwIdeal : Cert.SsmOutDwIdeal.Facts) (hSsmOutDwReferenceIdeal : Cert.SsmOutDwReferenceIdeal.Facts) (hSsmOutDx : Cert.SsmOutDx.Facts) (hSsmOutDxIdeal : Cert.SsmOutDxIdeal.Facts) (hSsmOutDxReferenceIdeal : Cert.SsmOutDxReferenceIdeal.Facts) (hSsmOut : Cert.SsmOut.Facts) (hSsmOutIdeal : Cert.SsmOutIdeal.Facts) (hSsmOutReferenceIdeal : Cert.SsmOutReferenceIdeal.Facts) (hQkvDw : Cert.QkvDw.Facts) (hQkvDwIdeal : Cert.QkvDwIdeal.Facts) (hQkvDwReferenceIdeal : Cert.QkvDwReferenceIdeal.Facts) (hQkvDx : Cert.QkvDx.Facts) (hQkvDxIdeal : Cert.QkvDxIdeal.Facts) (hQkvDxReferenceIdeal : Cert.QkvDxReferenceIdeal.Facts) (hQkv : Cert.Qkv.Facts) (hQkvIdeal : Cert.QkvIdeal.Facts) (hQkvReferenceIdeal : Cert.QkvReferenceIdeal.Facts) (hAttnOutDw : Cert.AttnOutDw.Facts) (hAttnOutDwIdeal : Cert.AttnOutDwIdeal.Facts) (hAttnOutDwReferenceIdeal : Cert.AttnOutDwReferenceIdeal.Facts) (hAttnOutDx : Cert.AttnOutDx.Facts) (hAttnOutDxIdeal : Cert.AttnOutDxIdeal.Facts) (hAttnOutDxReferenceIdeal : Cert.AttnOutDxReferenceIdeal.Facts) (hAttnOut : Cert.AttnOut.Facts) (hAttnOutIdeal : Cert.AttnOutIdeal.Facts) (hAttnOutReferenceIdeal : Cert.AttnOutReferenceIdeal.Facts) (hPre_finite : Cert.Pre_finite.Facts) (hPre_finite_ffn : Cert.Pre_finite_ffn.Facts) (hOn_meaningful : Cert.On_meaningful.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ColsDw (hColsDw := hColsDw)
    ∧ quiescent_ColsDwIdeal (hColsDwIdeal := hColsDwIdeal)
    ∧ quiescent_ColsDwReferenceIdeal (hColsDwReferenceIdeal := hColsDwReferenceIdeal)
    ∧ quiescent_ColsDx (hColsDx := hColsDx)
    ∧ quiescent_ColsDxIdeal (hColsDxIdeal := hColsDxIdeal)
    ∧ quiescent_ColsDxReferenceIdeal (hColsDxReferenceIdeal := hColsDxReferenceIdeal)
    ∧ quiescent_ColsDxAdd (hColsDxAdd := hColsDxAdd)
    ∧ quiescent_ColsDxAddIdeal (hColsDxAddIdeal := hColsDxAddIdeal)
    ∧ quiescent_ColsDxAddReferenceIdeal (hColsDxAddReferenceIdeal := hColsDxAddReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_DownDx (hDownDx := hDownDx)
    ∧ quiescent_DownDxIdeal (hDownDxIdeal := hDownDxIdeal)
    ∧ quiescent_DownDxIdeal_pre_finite_ffn (hDownDxIdeal := hDownDxIdeal) (hPre_finite_ffn := hPre_finite_ffn)
    ∧ quiescent_DownDxReferenceIdeal (hDownDxReferenceIdeal := hDownDxReferenceIdeal)
    ∧ quiescent_DownDxReferenceIdeal_pre_finite_ffn (hDownDxReferenceIdeal := hDownDxReferenceIdeal) (hPre_finite_ffn := hPre_finite_ffn)
    ∧ quiescent_Gate (hGate := hGate)
    ∧ quiescent_GateIdeal (hGateIdeal := hGateIdeal)
    ∧ quiescent_GateReferenceIdeal (hGateReferenceIdeal := hGateReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_SsmInDw (hSsmInDw := hSsmInDw)
    ∧ quiescent_SsmInDwIdeal (hSsmInDwIdeal := hSsmInDwIdeal)
    ∧ quiescent_SsmInDwReferenceIdeal (hSsmInDwReferenceIdeal := hSsmInDwReferenceIdeal)
    ∧ quiescent_SsmInDx (hSsmInDx := hSsmInDx)
    ∧ quiescent_SsmInDxIdeal (hSsmInDxIdeal := hSsmInDxIdeal)
    ∧ quiescent_SsmInDxReferenceIdeal (hSsmInDxReferenceIdeal := hSsmInDxReferenceIdeal)
    ∧ quiescent_SsmIn (hSsmIn := hSsmIn)
    ∧ quiescent_SsmInIdeal (hSsmInIdeal := hSsmInIdeal)
    ∧ quiescent_SsmInReferenceIdeal (hSsmInReferenceIdeal := hSsmInReferenceIdeal)
    ∧ quiescent_SsmOutDw (hSsmOutDw := hSsmOutDw)
    ∧ quiescent_SsmOutDwIdeal (hSsmOutDwIdeal := hSsmOutDwIdeal)
    ∧ quiescent_SsmOutDwReferenceIdeal (hSsmOutDwReferenceIdeal := hSsmOutDwReferenceIdeal)
    ∧ quiescent_SsmOutDx (hSsmOutDx := hSsmOutDx)
    ∧ quiescent_SsmOutDxIdeal (hSsmOutDxIdeal := hSsmOutDxIdeal)
    ∧ quiescent_SsmOutDxReferenceIdeal (hSsmOutDxReferenceIdeal := hSsmOutDxReferenceIdeal)
    ∧ quiescent_SsmOut (hSsmOut := hSsmOut)
    ∧ quiescent_SsmOutIdeal (hSsmOutIdeal := hSsmOutIdeal)
    ∧ quiescent_SsmOutReferenceIdeal (hSsmOutReferenceIdeal := hSsmOutReferenceIdeal)
    ∧ quiescent_QkvDw (hQkvDw := hQkvDw)
    ∧ quiescent_QkvDwIdeal (hQkvDwIdeal := hQkvDwIdeal)
    ∧ quiescent_QkvDwReferenceIdeal (hQkvDwReferenceIdeal := hQkvDwReferenceIdeal)
    ∧ quiescent_QkvDx (hQkvDx := hQkvDx)
    ∧ quiescent_QkvDxIdeal (hQkvDxIdeal := hQkvDxIdeal)
    ∧ quiescent_QkvDxReferenceIdeal (hQkvDxReferenceIdeal := hQkvDxReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_AttnOutDw (hAttnOutDw := hAttnOutDw)
    ∧ quiescent_AttnOutDwIdeal (hAttnOutDwIdeal := hAttnOutDwIdeal)
    ∧ quiescent_AttnOutDwReferenceIdeal (hAttnOutDwReferenceIdeal := hAttnOutDwReferenceIdeal)
    ∧ quiescent_AttnOutDx (hAttnOutDx := hAttnOutDx)
    ∧ quiescent_AttnOutDxIdeal (hAttnOutDxIdeal := hAttnOutDxIdeal)
    ∧ quiescent_AttnOutDxReferenceIdeal (hAttnOutDxReferenceIdeal := hAttnOutDxReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ preserves_Kernel_KernelIdeal
    ∧ algebraic_KernelIdeal_ReferenceIdeal_on_meaningful_pre_finite (hKernelIdeal := hKernelIdeal) (hReferenceIdeal := hReferenceIdeal) (hPre_finite := hPre_finite) (hOn_meaningful := hOn_meaningful)
    ∧ preserves_ColsDw_ColsDwIdeal
    ∧ algebraic_ColsDwIdeal_ColsDwReferenceIdeal (hColsDwIdeal := hColsDwIdeal) (hColsDwReferenceIdeal := hColsDwReferenceIdeal)
    ∧ preserves_ColsDx_ColsDxIdeal
    ∧ algebraic_ColsDxIdeal_ColsDxReferenceIdeal (hColsDxIdeal := hColsDxIdeal) (hColsDxReferenceIdeal := hColsDxReferenceIdeal)
    ∧ preserves_ColsDxAdd_ColsDxAddIdeal
    ∧ algebraic_ColsDxAddIdeal_ColsDxAddReferenceIdeal (hColsDxAddIdeal := hColsDxAddIdeal) (hColsDxAddReferenceIdeal := hColsDxAddReferenceIdeal)
    ∧ preserves_DownDw_DownDwIdeal
    ∧ algebraic_DownDwIdeal_DownDwReferenceIdeal (hDownDwIdeal := hDownDwIdeal) (hDownDwReferenceIdeal := hDownDwReferenceIdeal)
    ∧ preserves_DownDx_DownDxIdeal
    ∧ algebraic_DownDxIdeal_DownDxReferenceIdeal_pre_finite_ffn (hDownDxIdeal := hDownDxIdeal) (hDownDxReferenceIdeal := hDownDxReferenceIdeal) (hPre_finite_ffn := hPre_finite_ffn)
    ∧ preserves_Gate_GateIdeal
    ∧ algebraic_GateIdeal_GateReferenceIdeal (hGateIdeal := hGateIdeal) (hGateReferenceIdeal := hGateReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_SsmInDw_SsmInDwIdeal
    ∧ algebraic_SsmInDwIdeal_SsmInDwReferenceIdeal (hSsmInDwIdeal := hSsmInDwIdeal) (hSsmInDwReferenceIdeal := hSsmInDwReferenceIdeal)
    ∧ preserves_SsmInDx_SsmInDxIdeal
    ∧ algebraic_SsmInDxIdeal_SsmInDxReferenceIdeal (hSsmInDxIdeal := hSsmInDxIdeal) (hSsmInDxReferenceIdeal := hSsmInDxReferenceIdeal)
    ∧ preserves_SsmIn_SsmInIdeal
    ∧ algebraic_SsmInIdeal_SsmInReferenceIdeal (hSsmInIdeal := hSsmInIdeal) (hSsmInReferenceIdeal := hSsmInReferenceIdeal)
    ∧ preserves_SsmOutDw_SsmOutDwIdeal
    ∧ algebraic_SsmOutDwIdeal_SsmOutDwReferenceIdeal (hSsmOutDwIdeal := hSsmOutDwIdeal) (hSsmOutDwReferenceIdeal := hSsmOutDwReferenceIdeal)
    ∧ preserves_SsmOutDx_SsmOutDxIdeal
    ∧ algebraic_SsmOutDxIdeal_SsmOutDxReferenceIdeal (hSsmOutDxIdeal := hSsmOutDxIdeal) (hSsmOutDxReferenceIdeal := hSsmOutDxReferenceIdeal)
    ∧ preserves_SsmOut_SsmOutIdeal
    ∧ algebraic_SsmOutIdeal_SsmOutReferenceIdeal (hSsmOutIdeal := hSsmOutIdeal) (hSsmOutReferenceIdeal := hSsmOutReferenceIdeal)
    ∧ preserves_QkvDw_QkvDwIdeal
    ∧ algebraic_QkvDwIdeal_QkvDwReferenceIdeal (hQkvDwIdeal := hQkvDwIdeal) (hQkvDwReferenceIdeal := hQkvDwReferenceIdeal)
    ∧ preserves_QkvDx_QkvDxIdeal
    ∧ algebraic_QkvDxIdeal_QkvDxReferenceIdeal (hQkvDxIdeal := hQkvDxIdeal) (hQkvDxReferenceIdeal := hQkvDxReferenceIdeal)
    ∧ preserves_Qkv_QkvIdeal
    ∧ algebraic_QkvIdeal_QkvReferenceIdeal (hQkvIdeal := hQkvIdeal) (hQkvReferenceIdeal := hQkvReferenceIdeal)
    ∧ preserves_AttnOutDw_AttnOutDwIdeal
    ∧ algebraic_AttnOutDwIdeal_AttnOutDwReferenceIdeal (hAttnOutDwIdeal := hAttnOutDwIdeal) (hAttnOutDwReferenceIdeal := hAttnOutDwReferenceIdeal)
    ∧ preserves_AttnOutDx_AttnOutDxIdeal
    ∧ algebraic_AttnOutDxIdeal_AttnOutDxReferenceIdeal (hAttnOutDxIdeal := hAttnOutDxIdeal) (hAttnOutDxReferenceIdeal := hAttnOutDxReferenceIdeal)
    ∧ preserves_AttnOut_AttnOutIdeal
    ∧ algebraic_AttnOutIdeal_AttnOutReferenceIdeal (hAttnOutIdeal := hAttnOutIdeal) (hAttnOutReferenceIdeal := hAttnOutReferenceIdeal)
-- ==== On_meaningful.lean ====
abbrev S8192x2048 : Shape := ⟨2, ![8192, 2048]⟩
abbrev S8192x256 : Shape := ⟨2, ![8192, 256]⟩
abbrev S32 : Shape := ⟨1, ![32]⟩
abbrev S8192x512 : Shape := ⟨2, ![8192, 512]⟩
abbrev S_ : Shape := ⟨0, ![]⟩
abbrev S4x8x128 : Shape := ⟨3, ![4, 8, 128]⟩

class Facts : Prop where
  bcast_S_S8192x512 : S_.BroadcastsInDim S8192x512 (![] : Fin 0 → Fin S8192x512.rank)
  bcast_S_S8192x2048 : S_.BroadcastsInDim S8192x2048 (![] : Fin 0 → Fin S8192x2048.rank)
  bcast_S_S4x8x128 : S_.BroadcastsInDim S4x8x128 (![] : Fin 0 → Fin S4x8x128.rank)

variable [Facts]

def fn {F : FTy → Type} [FloatOps F] (main_arg0 : FVec F S8192x2048 .bf16) (main_arg1 : FVec F S8192x256 .bf16) (main_arg2 : FVec F S8192x256 .bf16) (main_arg3 : FVec F S32 .f32) (main_arg4 : FVec F S8192x2048 .bf16) : IVec S8192x2048 1 × IVec S8192x512 1 × IVec S8192x512 1 × IVec S8192x512 1 × IVec S8192x512 1 × IVec S8192x512 1 × IVec S8192x512 1 × IVec S4x8x128 1 :=
  let main_v0 : IVec S8192x512 32 := iotaInDim S8192x512 32 1
  let main_c : IVec S_ 32 := constantI S_ 32 127#32
  let main_v1 : IVec S8192x512 32 := broadcastInDim S8192x512 ![] bcast_S_S8192x512 main_c
  let main_v2 : IVec S8192x512 32 := andi main_v0 main_v1
  let main_c_0 : IVec S_ 1 := constantI S_ 1 1#1
  let main_v3 : IVec S8192x2048 1 := broadcastInDim S8192x2048 ![] bcast_S_S8192x2048 main_c_0
  let main_c_1 : IVec S_ 1 := constantI S_ 1 1#1
  let main_v4 : IVec S8192x512 1 := broadcastInDim S8192x512 ![] bcast_S_S8192x512 main_c_1
  let main_c_2 : IVec S_ 1 := constantI S_ 1 1#1
  let main_v5 : IVec S8192x512 1 := broadcastInDim S8192x512 ![] bcast_S_S8192x512 main_c_2
  let main_c_3 : IVec S_ 32 := constantI S_ 32 64#32
  let main_v6 : IVec S8192x512 32 := broadcastInDim S8192x512 ![] bcast_S_S8192x512 main_c_3
  let main_v7 : IVec S8192x512 1 := cmpi .slt main_v2 main_v6
  let main_c_4 : IVec S_ 32 := constantI S_ 32 64#32
  let main_v8 : IVec S8192x512 32 := broadcastInDim S8192x512 ![] bcast_S_S8192x512 main_c_4
  let main_v9 : IVec S8192x512 1 := cmpi .slt main_v2 main_v8
  let main_c_5 : IVec S_ 32 := constantI S_ 32 64#32
  let main_v10 : IVec S8192x512 32 := broadcastInDim S8192x512 ![] bcast_S_S8192x512 main_c_5
  let main_v11 : IVec S8192x512 1 := cmpi .sge main_v2 main_v10
  let main_c_6 : IVec S_ 32 := constantI S_ 32 64#32
  let main_v12 : IVec S8192x512 32 := broadcastInDim S8192x512 ![] bcast_S_S8192x512 main_c_6
  let main_v13 : IVec S8192x512 1 := cmpi .sge main_v2 main_v12
  let main_c_7 : IVec S_ 1 := constantI S_ 1 1#1
  let main_v14 : IVec S4x8x128 1 := broadcastInDim S4x8x128 ![] bcast_S_S4x8x128 main_c_7
  (main_v3, main_v4, main_v5, main_v7, main_v9, main_v11, main_v13, main_v14)
-- ==== Pre_finite.lean ====
abbrev S8192x2048 : Shape := ⟨2, ![8192, 2048]⟩
abbrev S8192x256 : Shape := ⟨2, ![8192, 256]⟩
abbrev S32 : Shape := ⟨1, ![32]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S8192x2048 .bf16) (main_v16 : IVec S_ 1) (main_v17 : FVec F S32 .f32) : IVec S_ 1 :=
  let main_cst_4 : FVec F S_ .f32 := constant S_ .f32 0x7F800000#32
  let main_v18 : FVec F S32 .f32 := broadcastInDim S32 ![] bcast_S_S32 main_cst_4
  let main_v19 : IVec S32 1 := cmpf .olt main_v17 main_v18
  let main_c_5 : IVec S_ 1 := constantI S_ 1 1#1
  let main_v20 : IVec S_ 1 := (fun x v => Host.reduce IntOp.andi x v reducesTo_S32_S_d0 h_S_) main_v19 main_c_5
  let main_v21 : IVec S_ 1 := andi main_v16 main_v20
  let main_v22 : FVec F S8192x2048 .f32 := (extf .f32 · bitsLt_bf16_f32) main_arg4
  let main_v23 : FVec F S8192x2048 .f32 := Host.absf main_v22
  let main_cst_6 : FVec F S_ .f32 := constant S_ .f32 0x7F800000#32
  let main_v24 : FVec F S8192x2048 .f32 := broadcastInDim S8192x2048 ![] bcast_S_S8192x2048 main_cst_6
  let main_v25 : IVec S8192x2048 1 := cmpf .olt main_v23 main_v24
  let main_c_7 : IVec S_ 1 := constantI S_ 1 1#1
  let main_v26 : IVec S_ 1 := (fun x v => Host.reduce IntOp.andi x v reducesTo_S8192x2048_S_d0_1 h_S_) main_v25 main_c_7
  let main_v27 : IVec S_ 1 := andi main_v21 main_v26
  main_v27

def fn {F : FTy → Type} [FloatOps F] (main_arg0 : FVec F S8192x2048 .bf16) (main_arg1 : FVec F S8192x256 .bf16) (main_arg2 : FVec F S8192x256 .bf16) (main_arg3 : FVec F S32 .f32) (main_arg4 : FVec F S8192x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x256 .f32 := (extf .f32 · bitsLt_bf16_f32) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v4 main_v9
  let main_v11 : FVec F S8192x256 .f32 := (extf .f32 · bitsLt_bf16_f32) main_arg2
  let main_v12 : FVec F S8192x256 .f32 := Host.absf main_v11
  let main_cst_2 : FVec F S_ .f32 := constant S_ .f32 0x7F800000#32
  let main_v13 : FVec F S8192x256 .f32 := broadcastInDim S8192x256 ![] bcast_S_S8192x256 main_cst_2
  let main_v14 : IVec S8192x256 1 := cmpf .olt main_v12 main_v13
  let main_c_3 : IVec S_ 1 := constantI S_ 1 1#1
  let main_v15 : IVec S_ 1 := (fun x v => Host.reduce IntOp.andi x v reducesTo_S8192x256_S_d0_1 h_S_) main_v14 main_c_3
  let main_v16 : IVec S_ 1 := andi main_v10 main_v15
  let main_v17 : FVec F S32 .f32 := Host.absf main_arg3
  fn_part1 (F := F) main_arg4 main_v16 main_v17
-- ==== Pre_finite_ffn.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_v16 : IVec S_ 1) (main_v17 : FVec F S8192x5632 .f32) : IVec S_ 1 :=
  let main_v18 : FVec F S8192x5632 .f32 := Host.absf main_v17
  let main_cst_4 : FVec F S_ .f32 := constant S_ .f32 0x7F800000#32
  let main_v19 : FVec F S8192x5632 .f32 := broadcastInDim S8192x5632 ![] bcast_S_S8192x5632 main_cst_4
  let main_v20 : IVec S8192x5632 1 := cmpf .olt main_v18 main_v19
  let main_c_5 : IVec S_ 1 := constantI S_ 1 1#1
  let main_v21 : IVec S_ 1 := (fun x v => Host.reduce IntOp.andi x v reducesTo_S8192x5632_S_d0_1 h_S_) main_v20 main_c_5
  let main_v22 : IVec S_ 1 := andi main_v16 main_v21
  main_v22

def fn {F : FTy → Type} [FloatOps F] (main_arg0 : FVec F S8192x2048 .bf16) (main_arg1 : FVec F S5632x2048 .bf16) (main_arg2 : FVec F S8192x5632 .bf16) (main_arg3 : FVec F S8192x5632 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S8192x5632 .f32 := (extf .f32 · bitsLt_bf16_f32) main_arg2
  let main_v12 : FVec F S8192x5632 .f32 := Host.absf main_v11
  let main_cst_2 : FVec F S_ .f32 := constant S_ .f32 0x7F800000#32
  let main_v13 : FVec F S8192x5632 .f32 := broadcastInDim S8192x5632 ![] bcast_S_S8192x5632 main_cst_2
  let main_v14 : IVec S8192x5632 1 := cmpf .olt main_v12 main_v13
  let main_c_3 : IVec S_ 1 := constantI S_ 1 1#1
  let main_v15 : IVec S_ 1 := (fun x v => Host.reduce IntOp.andi x v reducesTo_S8192x5632_S_d0_1 h_S_) main_v14 main_c_3
  let main_v16 : IVec S_ 1 := andi main_v10 main_v15
  let main_v17 : FVec F S8192x5632 .f32 := (extf .f32 · bitsLt_bf16_f32) main_arg3
  fn_part1 (F := F) main_v16 main_v17
-- ==== Kernel.lean ====
abbrev S8192x2048 : Shape := ⟨2, ![8192, 2048]⟩
abbrev S8192x256 : Shape := ⟨2, ![8192, 256]⟩
abbrev S32 : Shape := ⟨1, ![32]⟩
abbrev S8192x4x64 : Shape := ⟨3, ![8192, 4, 64]⟩
abbrev S8192x4x128 : Shape := ⟨3, ![8192, 4, 128]⟩
abbrev S8192x512 : Shape := ⟨2, ![8192, 512]⟩
abbrev S_ : Shape := ⟨0, ![]⟩
abbrev S4x8x128 : Shape := ⟨3, ![4, 8, 128]⟩
abbrev S128x512 : Shape := ⟨2, ![128, 512]⟩
abbrev S128x128 : Shape := ⟨2, ![128, 128]⟩
abbrev S1x8x128 : Shape := ⟨3, ![1, 8, 128]⟩
abbrev S256x128 : Shape := ⟨2, ![256, 128]⟩
abbrev S512x128 : Shape := ⟨2, ![512, 128]⟩
abbrev S256x256 : Shape := ⟨2, ![256, 256]⟩
abbrev S256x1 : Shape := ⟨2, ![256, 1]⟩
abbrev S8x128 : Shape := ⟨2, ![8, 128]⟩
abbrev S1 : Shape := ⟨1, ![1]⟩
abbrev S256 : Shape := ⟨1, ![256]⟩
abbrev S128x256 : Shape := ⟨2, ![128, 256]⟩
abbrev S128x1 : Shape := ⟨2, ![128, 1]⟩
abbrev S1x128x1 : Shape := ⟨3, ![1, 128, 1]⟩
abbrev S1x1x1 : Shape := ⟨3, ![1, 1, 1]⟩

abbrev nBuf : Space → Nat
  | .hbm => 25
  | .vmem => 34
  | .smem => 1
  | _ => 0

abbrev bufTy : (tb : Table) → Fin (tcTables nBuf tb) → BufTy
  | .hbm, ⟨0, _⟩ => ⟨S8192x2048, .bf16⟩
  | .hbm, ⟨1, _⟩ => ⟨S8192x256, .bf16⟩
  | .hbm, ⟨2, _⟩ => ⟨S8192x256, .bf16⟩
  | .hbm, ⟨3, _⟩ => ⟨S32, .f32⟩
  | .hbm, ⟨4, _⟩ => ⟨S8192x2048, .bf16⟩
  | .hbm, ⟨5, _⟩ => ⟨S8192x4x64, .bf16⟩
  | .hbm, ⟨6, _⟩ => ⟨S8192x4x128, .bf16⟩
  | .hbm, ⟨7, _⟩ => ⟨S8192x512, .bf16⟩
  | .hbm, ⟨8, _⟩ => ⟨S8192x4x64, .bf16⟩
  | .hbm, ⟨9, _⟩ => ⟨S_, .i32⟩
  | .hbm, ⟨10, _⟩ => ⟨S_, .bf16⟩
  | .hbm, ⟨11, _⟩ => ⟨S8192x4x128, .bf16⟩
  | .hbm, ⟨12, _⟩ => ⟨S8192x512, .bf16⟩
  | .hbm, ⟨13, _⟩ => ⟨S_, .i32⟩
  | .hbm, ⟨14, _⟩ => ⟨S_, .bf16⟩
  | .hbm, ⟨15, _⟩ => ⟨S8192x4x128, .bf16⟩
  | .hbm, ⟨16, _⟩ => ⟨S8192x512, .bf16⟩
  | .hbm, ⟨17, _⟩ => ⟨S8192x2048, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S4x8x128, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x512, .bf16⟩
  | .local _ .vmem, ⟨15, _⟩ => ⟨S128x512, .bf16⟩
  | .local _ .vmem, ⟨16, _⟩ => ⟨S128x512, .f32⟩
  | .local _ .vmem, ⟨17, _⟩ => ⟨S128x512, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S1x8x128, .f32⟩
  | .local _ .vmem, ⟨31, _⟩ => ⟨S1x8x128, .f32⟩
  | .local _ .vmem, ⟨32, _⟩ => ⟨S256x128, .f32⟩
  | .local _ .vmem, ⟨33, _⟩ => ⟨S512x128, .f32⟩
  | .local _ .smem, ⟨0, _⟩ => ⟨S32, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev main_v8_7 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![4, 64], ![false, false]⟩

def k0_off1 (i : grid0.Coords) (c0_i32_19 : BitVec 32) : Fin 1 → Nat :=
  let arg0 : BitVec 32 := BitVec.ofNat 32 (i 0).val
  let c8_i32 : BitVec 32 := 8#32
  let v46 : BitVec 32 := Scalar.muli arg0 c8_i32
  let v47 : BitVec 32 := Scalar.addi v46 c0_i32_19
  let c1_i32 : BitVec 32 := 1#32
  let v48 : BitVec 32 := Scalar.addi v47 c1_i32
  let v49 : Index := Scalar.indexCast v48
  ![v49.toNat]
def k0_off2 (i : grid0.Coords) (c0_i32_21 : BitVec 32) : Fin 1 → Nat :=
  let arg0 : BitVec 32 := BitVec.ofNat 32 (i 0).val
  let c8_i32_20 : BitVec 32 := 8#32
  let v51 : BitVec 32 := Scalar.muli arg0 c8_i32_20
  let v52 : BitVec 32 := Scalar.addi v51 c0_i32_21
  let v53 : Index := Scalar.indexCast v52
  ![v53.toNat]
def k0_cond1 (i : grid0.Coords) : BitVec 1 :=
  let arg1 : BitVec 32 := BitVec.ofNat 32 (i 1).val
  let c0_i32_193 : BitVec 32 := 0#32
  let v463 : BitVec 1 := Scalar.cmpi .eq arg1 c0_i32_193
  let v464 : BitVec 32 := Scalar.extui v463
  let c0_i32_194 : BitVec 32 := 0#32
  let v465 : BitVec 1 := Scalar.cmpi .ne v464 c0_i32_194
  v465

def k0_cond2 (i : grid0.Coords) : BitVec 1 :=
  let arg1 : BitVec 32 := BitVec.ofNat 32 (i 1).val
  let c0_i32_195 : BitVec 32 := 0#32
  let v466 : BitVec 1 := Scalar.cmpi .sgt arg1 c0_i32_195
  let v467 : BitVec 32 := Scalar.extui v466
  let c0_i32_196 : BitVec 32 := 0#32
  let v468 : BitVec 1 := Scalar.cmpi .ne v467 c0_i32_196
  v468

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S8192x2048 : Shape := ⟨2, ![8192, 2048]⟩
abbrev S8192x256 : Shape := ⟨2, ![8192, 256]⟩
abbrev S32 : Shape := ⟨1, ![32]⟩
abbrev S64x128x4x1x64 : Shape := ⟨5, ![64, 128, 4, 1, 64]⟩
abbrev S64x128x4x2x64 : Shape := ⟨5, ![64, 128, 4, 2, 64]⟩
abbrev S1x128x4x2x64 : Shape := ⟨5, ![1, 128, 4, 2, 64]⟩
abbrev S_ : Shape := ⟨0, ![]⟩
abbrev S63x128x4x2x64 : Shape := ⟨5, ![63, 128, 4, 2, 64]⟩
abbrev S64x128x4x4x2x64 : Shape := ⟨6, ![64, 128, 4, 4, 2, 64]⟩
abbrev S64x256x4x2x64 : Shape := ⟨5, ![64, 256, 4, 2, 64]⟩
abbrev S64x4x2x256x128x4 : Shape := ⟨6, ![64, 4, 2, 256, 128, 4]⟩
abbrev S64x4x4x2x128x256 : Shape := ⟨6, ![64, 4, 4, 2, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x1x128x256 : Shape := ⟨6, ![64, 1, 1, 1, 128, 256]⟩
abbrev S4x4x2 : Shape := ⟨3, ![4, 4, 2]⟩
abbrev S1x4x4x2x1x1 : Shape := ⟨6, ![1, 4, 4, 2, 1, 1]⟩
abbrev S64x4x4x2x128 : Shape := ⟨5, ![64, 4, 4, 2, 128]⟩
abbrev S64x4x4x2x128x1 : Shape := ⟨6, ![64, 4, 4, 2, 128, 1]⟩
abbrev S64x4x2x64x4x128 : Shape := ⟨6, ![64, 4, 2, 64, 4, 128]⟩
abbrev S64x4x2x4x128x256 : Shape := ⟨6, ![64, 4, 2, 4, 128, 256]⟩
abbrev S64x4x2x64x256 : Shape := ⟨5, ![64, 4, 2, 64, 256]⟩
abbrev S4x4x2x1 : Shape := ⟨4, ![4, 4, 2, 1]⟩
abbrev S64x4x2x128x4x64 : Shape := ⟨6, ![64, 4, 2, 128, 4, 64]⟩
abbrev S64x4x2x256x64 : Shape := ⟨5, ![64, 4, 2, 256, 64]⟩
abbrev S8192x512 : Shape := ⟨2, ![8192, 512]⟩
abbrev S64x128x4x64 : Shape := ⟨4, ![64, 128, 4, 64]⟩
abbrev S64x128x4x128 : Shape := ⟨4, ![64, 128, 4, 128]⟩
abbrev S4x8x1 : Shape := ⟨3, ![4, 8, 1]⟩
abbrev S4x8x128 : Shape := ⟨3, ![4, 8, 128]⟩

abbrev nBuf : Space → Nat
  | .hbm => 222
  | .vmem => 0
  | .smem => 0
  | _ => 0

abbrev hbmTy0_0 (i : Nat) : BufTy := match i % 128 with
  | 0 => ⟨S8192x2048, .bf16⟩
  | 1 => ⟨S8192x256, .bf16⟩
  | 2 => ⟨S8192x256, .bf16⟩
  | 3 => ⟨S32, .f32⟩
  | 4 => ⟨S8192x2048, .bf16⟩
  | 5 => ⟨S8192x2048, .f32⟩
  | 6 => ⟨S8192x256, .f32⟩
  | 7 => ⟨S64x128x4x1x64, .f32⟩
  | 8 => ⟨S64x128x4x2x64, .f32⟩
  | 9 => ⟨S1x128x4x2x64, .f32⟩
  | 10 => ⟨S_, .f32⟩
  | 11 => ⟨S1x128x4x2x64, .f32⟩
  | 12 => ⟨S63x128x4x2x64, .f32⟩
  | 13 => ⟨S64x128x4x2x64, .f32⟩
  | 14 => ⟨S8192x256, .f32⟩
  | 15 => ⟨S64x128x4x1x64, .f32⟩
  | 16 => ⟨S64x128x4x2x64, .f32⟩
  | 17 => ⟨S1x128x4x2x64, .f32⟩
  | 18 => ⟨S_, .f32⟩
  | 19 => ⟨S1x128x4x2x64, .f32⟩
  | 20 => ⟨S63x128x4x2x64, .f32⟩
  | 21 => ⟨S64x128x4x2x64, .f32⟩
  | 22 => ⟨S64x128x4x4x2x64, .f32⟩
  | 23 => ⟨S64x256x4x2x64, .f32⟩
  | 24 => ⟨S64x256x4x2x64, .f32⟩
  | 25 => ⟨S64x4x2x256x128x4, .f32⟩
  | 26 => ⟨S64x4x4x2x128x256, .f32⟩
  | 27 => ⟨S_, .f32⟩
  | 28 => ⟨S64x4x4x2x128x256, .f32⟩
  | 29 => ⟨S64x4x4x2x128x256, .f32⟩
  | 30 => ⟨S128, .i32⟩
  | 31 => ⟨S128x1, .i32⟩
  | 32 => ⟨S256, .i32⟩
  | 33 => ⟨S1x256, .i32⟩
  | 34 => ⟨S128x256, .i32⟩
  | 35 => ⟨S128x256, .i32⟩
  | 36 => ⟨S128x256, .i1⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i1⟩
  | 43 => ⟨S128x256, .i1⟩
  | 44 => ⟨S64, .i32⟩
  | 45 => ⟨S_, .i32⟩
  | 46 => ⟨S64, .i32⟩
  | 47 => ⟨S64, .i1⟩
  | 48 => ⟨S64x1x1, .i1⟩
  | 49 => ⟨S_, .i32⟩
  | 50 => ⟨S1x256, .i32⟩
  | 51 => ⟨S1x256, .i1⟩
  | 52 => ⟨S1x1x256, .i1⟩
  | 53 => ⟨S64x1x256, .i1⟩
  | 54 => ⟨S64x1x256, .i1⟩
  | 55 => ⟨S64x1x256, .i1⟩
  | 56 => ⟨S1x128x256, .i1⟩
  | 57 => ⟨S64x128x256, .i1⟩
  | 58 => ⟨S64x128x256, .i1⟩
  | 59 => ⟨S64x128x256, .i1⟩
  | 60 => ⟨S64x1x1x1x128x256, .i1⟩
  | 61 => ⟨S_, .f32⟩
  | 62 => ⟨S_, .f32⟩
  | 63 => ⟨S64x4x4x2x128x256, .i1⟩
  | 64 => ⟨S64x4x4x2x128x256, .f32⟩
  | 65 => ⟨S64x4x4x2x128x256, .f32⟩
  | 66 => ⟨S_, .f32⟩
  | 67 => ⟨S64x4x4x2x128x256, .f32⟩
  | 68 => ⟨S4x4x2, .f32⟩
  | 69 => ⟨S1x4x4x2x1x1, .f32⟩
  | 70 => ⟨S_, .f32⟩
  | 71 => ⟨S64x4x4x2x128, .f32⟩
  | 72 => ⟨S64x4x4x2x128x1, .f32⟩
  | 73 => ⟨S64x4x4x2x128x256, .f32⟩
  | 74 => ⟨S64x4x4x2x128x256, .i1⟩
  | 75 => ⟨S64x4x4x2x128x256, .f32⟩
  | 76 => ⟨S_, .f32⟩
  | 77 => ⟨S64x4x4x2x128, .f32⟩
  | 78 => ⟨S64x4x4x2x128x1, .f32⟩
  | 79 => ⟨S64x4x4x2x128x1, .f32⟩
  | 80 => ⟨S64x4x4x2x128x1, .f32⟩
  | 81 => ⟨S64x4x4x2x128x1, .f32⟩
  | 82 => ⟨S64x4x4x2x128x1, .i1⟩
  | 83 => ⟨S64x4x4x2x128x1, .f32⟩
  | 84 => ⟨S64x4x4x2x128x1, .i1⟩
  | 85 => ⟨S_, .f32⟩
  | 86 => ⟨S64x4x4x2x128x1, .f32⟩
  | 87 => ⟨S_, .f32⟩
  | 88 => ⟨S64x4x4x2x128x1, .f32⟩
  | 89 => ⟨S_, .f32⟩
  | 90 => ⟨S64x4x4x2x128x1, .f32⟩
  | 91 => ⟨S64x4x4x2x128x1, .f32⟩
  | 92 => ⟨S64x4x4x2x128x1, .f32⟩
  | 93 => ⟨S64x4x4x2x128x1, .f32⟩
  | 94 => ⟨S64x4x4x2x128x1, .i1⟩
  | 95 => ⟨S64x4x4x2x128x1, .f32⟩
  | 96 => ⟨S64x4x4x2x128x1, .i1⟩
  | 97 => ⟨S_, .f32⟩
  | 98 => ⟨S64x4x4x2x128x1, .f32⟩
  | 99 => ⟨S_, .f32⟩
  | 100 => ⟨S64x4x4x2x128x1, .f32⟩
  | 101 => ⟨S_, .f32⟩
  | 102 => ⟨S64x4x4x2x128x1, .f32⟩
  | 103 => ⟨S64x4x4x2x128x1, .f32⟩
  | 104 => ⟨S64x4x4x2x128x1, .f32⟩
  | 105 => ⟨S64x4x4x2x128x256, .f32⟩
  | 106 => ⟨S64x4x4x2x128x256, .f32⟩
  | 107 => ⟨S64x4x4x2x128x256, .f32⟩
  | 108 => ⟨S_, .f32⟩
  | 109 => ⟨S64x4x4x2x128, .f32⟩
  | 110 => ⟨S64x4x4x2x128x1, .f32⟩
  | 111 => ⟨S64x4x4x2x128x1, .f32⟩
  | 112 => ⟨S64x4x4x2x128x1, .f32⟩
  | 113 => ⟨S64x4x4x2x128x1, .f32⟩
  | 114 => ⟨S64x4x4x2x128x1, .f32⟩
  | 115 => ⟨S64x4x4x2x128x256, .f32⟩
  | 116 => ⟨S64x4x4x2x128x256, .f32⟩
  | 117 => ⟨S64x4x4x2x128x1, .f32⟩
  | 118 => ⟨S_, .f32⟩
  | 119 => ⟨S64x4x4x2x128x1, .f32⟩
  | 120 => ⟨S64x4x4x2x128x1, .f32⟩
  | 121 => ⟨S64x4x2x64x4x128, .f32⟩
  | 122 => ⟨S64x128x4x4x2x64, .f32⟩
  | 123 => ⟨S8192x2048, .f32⟩
  | 124 => ⟨S8192x2048, .f32⟩
  | 125 => ⟨S64x128x4x4x2x64, .f32⟩
  | 126 => ⟨S64x4x2x64x4x128, .f32⟩
  | 127 => ⟨S64x4x2x4x128x256, .f32⟩
  | _ => ⟨S8192x2048, .bf16⟩

abbrev hbmTy0_1 (i : Nat) : BufTy := match i % 128 with
  | 0 => ⟨S64x4x4x2x128x256, .f32⟩
  | 1 => ⟨S64x4x2x64x256, .f32⟩
  | 2 => ⟨S64x256x4x2x64, .f32⟩
  | 3 => ⟨S64x4x4x2x128x256, .f32⟩
  | 4 => ⟨S64x4x4x2x128x256, .f32⟩
  | 5 => ⟨S64x4x4x2x128x256, .f32⟩
  | 6 => ⟨S_, .f32⟩
  | 7 => ⟨S64x4x4x2x128, .f32⟩
  | 8 => ⟨S64x4x4x2x128x1, .f32⟩
  | 9 => ⟨S64x4x4x2x128x1, .f32⟩
  | 10 => ⟨S64x4x4x2x128x256, .f32⟩
  | 11 => ⟨S64x4x4x2x128x256, .f32⟩
  | 12 => ⟨S64x4x4x2x128x1, .f32⟩
  | 13 => ⟨S_, .f32⟩
  | 14 => ⟨S4x4x2x1, .f32⟩
  | 15 => ⟨S1x4x4x2x1x1, .f32⟩
  | 16 => ⟨S64x4x4x2x128x1, .f32⟩
  | 17 => ⟨S_, .f32⟩
  | 18 => ⟨S64x4x4x2x128, .f32⟩
  | 19 => ⟨S64x4x4x2x128x256, .f32⟩
  | 20 => ⟨S64x4x4x2x128x256, .f32⟩
  | 21 => ⟨S64x4x4x2x128x256, .f32⟩
  | 22 => ⟨S64x4x4x2x128x256, .f32⟩
  | 23 => ⟨S_, .f32⟩
  | 24 => ⟨S64x4x4x2x128, .f32⟩
  | 25 => ⟨S64x4x4x2x128x1, .f32⟩
  | 26 => ⟨S64x4x4x2x128x1, .f32⟩
  | 27 => ⟨S64x4x4x2x128x1, .f32⟩
  | 28 => ⟨S_, .f32⟩
  | 29 => ⟨S4x4x2x1, .f32⟩
  | 30 => ⟨S1x4x4x2x1x1, .f32⟩
  | 31 => ⟨S1x4x4x2x1x1, .f32⟩
  | 32 => ⟨S64x4x4x2x128x1, .f32⟩
  | 33 => ⟨S_, .f32⟩
  | 34 => ⟨S64x4x4x2x128, .f32⟩
  | 35 => ⟨S64x4x4x2x128, .f32⟩
  | 36 => ⟨S64x4x4x2x128x256, .f32⟩
  | 37 => ⟨S64x4x4x2x128x256, .f32⟩
  | 38 => ⟨S64x4x4x2x128x256, .f32⟩
  | 39 => ⟨S_, .f32⟩
  | 40 => ⟨S4x4x2, .f32⟩
  | 41 => ⟨S32, .f32⟩
  | 42 => ⟨S_, .f32⟩
  | 43 => ⟨S64x4x4x2x128x256, .f32⟩
  | 44 => ⟨S64x4x4x2x128x256, .f32⟩
  | 45 => ⟨S_, .f32⟩
  | 46 => ⟨S64x4x4x2x128x256, .f32⟩
  | 47 => ⟨S64x4x4x2x128x256, .f32⟩
  | 48 => ⟨S64x4x2x256x128x4, .f32⟩
  | 49 => ⟨S64x4x2x128x4x64, .f32⟩
  | 50 => ⟨S64x128x4x4x2x64, .f32⟩
  | 51 => ⟨S64x4x2x256x64, .f32⟩
  | 52 => ⟨S64x256x4x2x64, .f32⟩
  | 53 => ⟨S64x128x4x2x64, .f32⟩
  | 54 => ⟨S64x128x4x2x64, .f32⟩
  | 55 => ⟨S64x128x4x2x64, .f32⟩
  | 56 => ⟨S64x128x4x2x64, .f32⟩
  | 57 => ⟨S8192x2048, .f32⟩
  | 58 => ⟨S8192x512, .f32⟩
  | 59 => ⟨S8192x512, .f32⟩
  | 60 => ⟨S64x128x4x1x64, .f32⟩
  | 61 => ⟨S64x128x4x64, .f32⟩
  | 62 => ⟨S_, .f32⟩
  | 63 => ⟨S64x128x4x64, .f32⟩
  | 64 => ⟨S64x128x4x1x64, .f32⟩
  | 65 => ⟨S64x128x4x64, .f32⟩
  | 66 => ⟨S64x128x4x128, .f32⟩
  | 67 => ⟨S8192x512, .f32⟩
  | 68 => ⟨S64x128x4x1x64, .f32⟩
  | 69 => ⟨S64x128x4x64, .f32⟩
  | 70 => ⟨S_, .f32⟩
  | 71 => ⟨S64x128x4x64, .f32⟩
  | 72 => ⟨S64x128x4x1x64, .f32⟩
  | 73 => ⟨S64x128x4x64, .f32⟩
  | 74 => ⟨S64x128x4x128, .f32⟩
  | 75 => ⟨S8192x512, .f32⟩
  | 76 => ⟨S64x128x4x1x64, .f32⟩
  | 77 => ⟨S64x128x4x64, .f32⟩
  | 78 => ⟨S_, .f32⟩
  | 79 => ⟨S64x128x4x64, .f32⟩
  | 80 => ⟨S64x128x4x1x64, .f32⟩
  | 81 => ⟨S64x128x4x64, .f32⟩
  | 82 => ⟨S64x128x4x128, .f32⟩
  | 83 => ⟨S8192x512, .f32⟩
  | 84 => ⟨S64x128x4x1x64, .f32⟩
  | 85 => ⟨S64x128x4x64, .f32⟩
  | 86 => ⟨S_, .f32⟩
  | 87 => ⟨S64x128x4x64, .f32⟩
  | 88 => ⟨S64x128x4x1x64, .f32⟩
  | 89 => ⟨S64x128x4x64, .f32⟩
  | 90 => ⟨S64x128x4x128, .f32⟩
  | 91 => ⟨S8192x512, .f32⟩
  | 92 => ⟨S4x8x1, .f32⟩
  | 93 => ⟨S4x8x128, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_4 : Ref sig .tc := ⟨.hbm, 61, rfl⟩
abbrev main_call0_v0 : Ref sig .tc := ⟨.hbm, 62, rfl⟩
abbrev main_v50_1 : Ref sig .tc := ⟨.hbm, 63, rfl⟩
abbrev main_call0_v2 : Ref sig .tc := ⟨.hbm, 64, rfl⟩
abbrev main_v50_0 : Ref sig .tc := ⟨.hbm, 65, rfl⟩
abbrev main_call0_cst : Ref sig .tc := ⟨.hbm, 66, rfl⟩
abbrev main_v50_2 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_6 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_7 : Ref sig .tc := ⟨.hbm, 85, rfl⟩
abbrev main_v66 : Ref sig .tc := ⟨.hbm, 86, rfl⟩
abbrev main_cst_8 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_10 : Ref sig .tc := ⟨.hbm, 97, rfl⟩
abbrev main_v75 : Ref sig .tc := ⟨.hbm, 98, rfl⟩
abbrev main_cst_11 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_14 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_15 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_16 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_17 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_18 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_19 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_20 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_21 : Ref sig .tc := ⟨.hbm, 167, rfl⟩
abbrev main_v134 : Ref sig .tc := ⟨.hbm, 168, rfl⟩
abbrev main_v135 : Ref sig .tc := ⟨.hbm, 169, rfl⟩
abbrev main_call1_cst : Ref sig .tc := ⟨.hbm, 170, rfl⟩
abbrev main_call1_v0 : Ref sig .tc := ⟨.hbm, 171, rfl⟩
abbrev main_v136 : Ref sig .tc := ⟨.hbm, 172, rfl⟩
abbrev main_cst_22 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_23 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_cst_24 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_cst_25 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_cst_26 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩

abbrev nD : Nat := 1
abbrev τ : Topo := Topo.v7x

variable {F : FTy → Type} [FloatOps F]
-- ==== ColsDw.lean ====
abbrev S8192x2048 : Shape := ⟨2, ![8192, 2048]⟩
abbrev S8192x5632 : Shape := ⟨2, ![8192, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ColsDwReferenceIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x2048, .f32⟩
  | .hbm, ⟨3, _⟩ => ⟨S8192x5632, .f32⟩
  | .hbm, ⟨4, _⟩ => ⟨S_, .f32⟩
  | .hbm, ⟨5, _⟩ => ⟨S2048x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S4x2048x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ColsDx.lean ====
abbrev S8192x5632 : Shape := ⟨2, ![8192, 5632]⟩
abbrev S4x2048x1408 : Shape := ⟨3, ![4, 2048, 1408]⟩
abbrev S8192x2048 : Shape := ⟨2, ![8192, 2048]⟩
abbrev S1024x2816 : Shape := ⟨2, ![1024, 2816]⟩
abbrev S2x1024x1408 : Shape := ⟨3, ![2, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_11 : BitVec 32 := 1#32
  let v17 : BitVec 1 := Scalar.cmpi .eq arg2 c1_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ColsDxReferenceIdeal.lean ====
abbrev S8192x5632 : Shape := ⟨2, ![8192, 5632]⟩
abbrev S4x2048x1408 : Shape := ⟨3, ![4, 2048, 1408]⟩
abbrev S_ : Shape := ⟨0, ![]⟩
abbrev S8192x2048 : Shape := ⟨2, ![8192, 2048]⟩
abbrev S2048x4x1408 : Shape := ⟨3, ![2048, 4, 1408]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S_, .f32⟩
  | .hbm, ⟨3, _⟩ => ⟨S8192x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ColsDxAdd.lean ====
abbrev S8192x5632 : Shape := ⟨2, ![8192, 5632]⟩
abbrev S4x2048x1408 : Shape := ⟨3, ![4, 2048, 1408]⟩
abbrev S8192x2048 : Shape := ⟨2, ![8192, 2048]⟩
abbrev S1024x2816 : Shape := ⟨2, ![1024, 2816]⟩
abbrev S2x1024x1408 : Shape := ⟨3, ![2, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_11 : BitVec 32 := 1#32
  let v17 : BitVec 1 := Scalar.cmpi .eq arg2 c1_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ColsDxAddReferenceIdeal.lean ====
abbrev S8192x5632 : Shape := ⟨2, ![8192, 5632]⟩
abbrev S4x2048x1408 : Shape := ⟨3, ![4, 2048, 1408]⟩
abbrev S8192x2048 : Shape := ⟨2, ![8192, 2048]⟩
abbrev S_ : Shape := ⟨0, ![]⟩
abbrev S2048x4x1408 : Shape := ⟨3, ![2048, 4, 1408]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2048x1408, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S8192x5632, .f32⟩
  | .hbm, ⟨9, _⟩ => ⟨S8192x5632, .f32⟩
  | .hbm, ⟨10, _⟩ => ⟨S8192x2048, .f32⟩
  | .hbm, ⟨11, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownDw.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩
abbrev S8x128 : Shape := ⟨2, ![8, 128]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownDxReferenceIdeal.lean ====
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .hbm, ⟨3, _⟩ => ⟨S8192x5632, .bf16⟩
  | .hbm, ⟨4, _⟩ => ⟨S8192x2048, .f32⟩
  | .hbm, ⟨5, _⟩ => ⟨S5632x2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .bf16⟩
  | .hbm, ⟨31, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Gate.lean ====
abbrev S8192x2048 : Shape := ⟨2, ![8192, 2048]⟩
abbrev S4x2048x1408 : Shape := ⟨3, ![4, 2048, 1408]⟩
abbrev S8192x5632 : Shape := ⟨2, ![8192, 5632]⟩
abbrev S1024x2048 : Shape := ⟨2, ![1024, 2048]⟩
abbrev S1x2048x1408 : Shape := ⟨3, ![1, 2048, 1408]⟩
abbrev S1024x1408 : Shape := ⟨2, ![1024, 1408]⟩
abbrev S8x128 : Shape := ⟨2, ![8, 128]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateReferenceIdeal.lean ====
abbrev S8192x2048 : Shape := ⟨2, ![8192, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x2048, .f32⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S8192x5632, .f32⟩
  | .hbm, ⟨7, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Up.lean ====
abbrev S8192x2048 : Shape := ⟨2, ![8192, 2048]⟩
abbrev S4x2048x1408 : Shape := ⟨3, ![4, 2048, 1408]⟩
abbrev S8192x5632 : Shape := ⟨2, ![8192, 5632]⟩
abbrev S1024x2048 : Shape := ⟨2, ![1024, 2048]⟩
abbrev S1x2048x1408 : Shape := ⟨3, ![1, 2048, 1408]⟩
abbrev S1024x1408 : Shape := ⟨2, ![1024, 1408]⟩
abbrev S8x128 : Shape := ⟨2, ![8, 128]⟩
abbrev S2048x1408 : Shape := ⟨2, ![2048, 1408]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpReferenceIdeal.lean ====
abbrev S8192x2048 : Shape := ⟨2, ![8192, 2048]⟩
abbrev S4x2048x1408 : Shape := ⟨3, ![4, 2048, 1408]⟩
abbrev S8192x5632 : Shape := ⟨2, ![8192, 5632]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S8192x5632, .bf16⟩
  | .hbm, ⟨3, _⟩ => ⟨S8192x2048, .f32⟩
  | .hbm, ⟨4, _⟩ => ⟨S8192x5632, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S8192x5632, .f32⟩
  | .hbm, ⟨9, _⟩ => ⟨S8192x5632, .bf16⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownReferenceIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsmInDw.lean ====
abbrev S8192x2048 : Shape := ⟨2, ![8192, 2048]⟩
abbrev S8192x10368 : Shape := ⟨2, ![8192, 10368]⟩
abbrev S2048x10368 : Shape := ⟨2, ![2048, 10368]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x10368, .bf16⟩
  | .hbm, ⟨2, _⟩ => ⟨S2048x10368, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDwReferenceIdeal.lean ====
abbrev S8192x2048 : Shape := ⟨2, ![8192, 2048]⟩
abbrev S8192x10368 : Shape := ⟨2, ![8192, 10368]⟩
abbrev S_ : Shape := ⟨0, ![]⟩
abbrev S2048x10368 : Shape := ⟨2, ![2048, 10368]⟩
abbrev S10368x2048 : Shape := ⟨2, ![10368, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x10368, .bf16⟩
  | .hbm, ⟨2, _⟩ => ⟨S8192x2048, .f32⟩
  | .hbm, ⟨3, _⟩ => ⟨S8192x10368, .f32⟩
  | .hbm, ⟨4, _⟩ => ⟨S_, .f32⟩
  | .hbm, ⟨5, _⟩ => ⟨S2048x10368, .f32⟩
  | .hbm, ⟨6, _⟩ => ⟨S8192x10368, .f32⟩
  | .hbm, ⟨7, _⟩ => ⟨S10368x2048, .f32⟩
  | .hbm, ⟨8, _⟩ => ⟨S2048x10368, .f32⟩
  | .hbm, ⟨9, _⟩ => ⟨S2048x10368, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmInDx.lean ====
abbrev S8192x10368 : Shape := ⟨2, ![8192, 10368]⟩
abbrev S2048x10368 : Shape := ⟨2, ![2048, 10368]⟩
abbrev S8192x2048 : Shape := ⟨2, ![8192, 2048]⟩
abbrev S1024x3456 : Shape := ⟨2, ![1024, 3456]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x10368, .bf16⟩
  | .hbm, ⟨1, _⟩ => ⟨S2048x10368, .bf16⟩
  | .hbm, ⟨2, _⟩ => ⟨S8192x2048, .f32⟩
  | .local _ .vmem, ⟨0, _⟩ => ⟨S1024x3456, .bf16⟩
  | .local _ .vmem, ⟨1, _⟩ => ⟨S1024x3456, .bf16⟩
  | .local _ .vmem, ⟨2, _⟩ => ⟨S1024x3456, .bf16⟩
  | .local _ .vmem, ⟨3, _⟩ => ⟨S1024x3456, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInDxReferenceIdeal.lean ====
abbrev S8192x10368 : Shape := ⟨2, ![8192, 10368]⟩
abbrev S2048x10368 : Shape := ⟨2, ![2048, 10368]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x10368, .bf16⟩
  | .hbm, ⟨1, _⟩ => ⟨S2048x10368, .bf16⟩
  | .hbm, ⟨2, _⟩ => ⟨S8192x10368, .f32⟩
  | .hbm, ⟨3, _⟩ => ⟨S2048x10368, .f32⟩
  | .hbm, ⟨4, _⟩ => ⟨S_, .f32⟩
  | .hbm, ⟨5, _⟩ => ⟨S8192x2048, .f32⟩
  | .hbm, ⟨6, _⟩ => ⟨S8192x10368, .f32⟩
  | .hbm, ⟨7, _⟩ => ⟨S8192x2048, .f32⟩
  | _, _ => ⟨S8192x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmIn.lean ====
abbrev S8192x2048 : Shape := ⟨2, ![8192, 2048]⟩
abbrev S2048x10368 : Shape := ⟨2, ![2048, 10368]⟩
abbrev S8192x10368 : Shape := ⟨2, ![8192, 10368]⟩
abbrev S1024x2048 : Shape := ⟨2, ![1024, 2048]⟩
abbrev S2048x1152 : Shape := ⟨2, ![2048, 1152]⟩
abbrev S1024x1152 : Shape := ⟨2, ![1024, 1152]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x10368, .bf16⟩
  | .hbm, ⟨2, _⟩ => ⟨S8192x10368, .f32⟩
  | .local _ .vmem, ⟨0, _⟩ => ⟨S1024x2048, .bf16⟩
  | .local _ .vmem, ⟨1, _⟩ => ⟨S1024x2048, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .f32⟩
  | .local _ .vmem, ⟨5, _⟩ => ⟨S1024x1152, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmInReferenceIdeal.lean ====
abbrev S8192x2048 : Shape := ⟨2, ![8192, 2048]⟩
abbrev S2048x10368 : Shape := ⟨2, ![2048, 10368]⟩
abbrev S8192x10368 : Shape := ⟨2, ![8192, 10368]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x10368, .bf16⟩
  | .hbm, ⟨2, _⟩ => ⟨S8192x2048, .f32⟩
  | .hbm, ⟨3, _⟩ => ⟨S2048x10368, .f32⟩
  | .hbm, ⟨4, _⟩ => ⟨S8192x10368, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsmOutDw.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDwReferenceIdeal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S8192x4096, .f32⟩
  | .hbm, ⟨3, _⟩ => ⟨S8192x2048, .f32⟩
  | .hbm, ⟨4, _⟩ => ⟨S_, .f32⟩
  | .hbm, ⟨5, _⟩ => ⟨S4096x2048, .f32⟩
  | .hbm, ⟨6, _⟩ => ⟨S8192x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmOutDx.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsmOutDxReferenceIdeal.lean ====
abbrev S8192x2048 : Shape := ⟨2, ![8192, 2048]⟩
abbrev S4096x2048 : Shape := ⟨2, ![4096, 2048]⟩
abbrev S_ : Shape := ⟨0, ![]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x2048, .f32⟩
  | .hbm, ⟨3, _⟩ => ⟨S4096x2048, .f32⟩
  | .hbm, ⟨4, _⟩ => ⟨S_, .f32⟩
  | .hbm, ⟨5, _⟩ => ⟨S8192x4096, .f32⟩
  | .hbm, ⟨6, _⟩ => ⟨S8192x2048, .f32⟩
  | .hbm, ⟨7, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmOut.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsmOutReferenceIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QkvDw.lean ====
abbrev S8192x2048 : Shape := ⟨2, ![8192, 2048]⟩
abbrev S8192x2560 : Shape := ⟨2, ![8192, 2560]⟩
abbrev S4x2048x640 : Shape := ⟨3, ![4, 2048, 640]⟩
abbrev S2048x1024 : Shape := ⟨2, ![2048, 1024]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2560, .bf16⟩
  | .hbm, ⟨2, _⟩ => ⟨S4x2048x640, .bf16⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S1024x640, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwReferenceIdeal.lean ====
abbrev S8192x2048 : Shape := ⟨2, ![8192, 2048]⟩
abbrev S8192x2560 : Shape := ⟨2, ![8192, 2560]⟩
abbrev S_ : Shape := ⟨0, ![]⟩
abbrev S2048x2560 : Shape := ⟨2, ![2048, 2560]⟩
abbrev S2560x2048 : Shape := ⟨2, ![2560, 2048]⟩
abbrev S2048x4x640 : Shape := ⟨3, ![2048, 4, 640]⟩
abbrev S4x2048x640 : Shape := ⟨3, ![4, 2048, 640]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2560, .bf16⟩
  | .hbm, ⟨2, _⟩ => ⟨S8192x2048, .f32⟩
  | .hbm, ⟨3, _⟩ => ⟨S8192x2560, .f32⟩
  | .hbm, ⟨4, _⟩ => ⟨S_, .f32⟩
  | .hbm, ⟨5, _⟩ => ⟨S2048x2560, .f32⟩
  | .hbm, ⟨6, _⟩ => ⟨S8192x2560, .f32⟩
  | .hbm, ⟨7, _⟩ => ⟨S2560x2048, .f32⟩
  | .hbm, ⟨8, _⟩ => ⟨S2048x2560, .f32⟩
  | .hbm, ⟨9, _⟩ => ⟨S2048x4x640, .f32⟩
  | .hbm, ⟨10, _⟩ => ⟨S4x2048x640, .f32⟩
  | .hbm, ⟨11, _⟩ => ⟨S4x2048x640, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== QkvDx.lean ====
abbrev S8192x2560 : Shape := ⟨2, ![8192, 2560]⟩
abbrev S4x2048x640 : Shape := ⟨3, ![4, 2048, 640]⟩
abbrev S8192x2048 : Shape := ⟨2, ![8192, 2048]⟩
abbrev S1024x1280 : Shape := ⟨2, ![1024, 1280]⟩
abbrev S2x1024x640 : Shape := ⟨3, ![2, 1024, 640]⟩
abbrev S1024x1024 : Shape := ⟨2, ![1024, 1024]⟩
abbrev S1024x640 : Shape := ⟨2, ![1024, 640]⟩
abbrev S1x1024x640 : Shape := ⟨3, ![1, 1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x2560, .bf16⟩
  | .hbm, ⟨1, _⟩ => ⟨S4x2048x640, .bf16⟩
  | .hbm, ⟨2, _⟩ => ⟨S8192x2048, .f32⟩
  | .local _ .vmem, ⟨0, _⟩ => ⟨S1024x1280, .bf16⟩
  | .local _ .vmem, ⟨1, _⟩ => ⟨S1024x1280, .bf16⟩
  | .local _ .vmem, ⟨2, _⟩ => ⟨S2x1024x640, .bf16⟩
  | .local _ .vmem, ⟨3, _⟩ => ⟨S2x1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_11 : BitVec 32 := 1#32
  let v17 : BitVec 1 := Scalar.cmpi .eq arg2 c1_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxReferenceIdeal.lean ====
abbrev S8192x2560 : Shape := ⟨2, ![8192, 2560]⟩
abbrev S4x2048x640 : Shape := ⟨3, ![4, 2048, 640]⟩
abbrev S_ : Shape := ⟨0, ![]⟩
abbrev S8192x2048 : Shape := ⟨2, ![8192, 2048]⟩
abbrev S2048x4x640 : Shape := ⟨3, ![2048, 4, 640]⟩
abbrev S2048x2560 : Shape := ⟨2, ![2048, 2560]⟩

abbrev nBuf : Space → Nat
  | .hbm => 10
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S4x2048x640, .bf16⟩
  | .hbm, ⟨2, _⟩ => ⟨S_, .f32⟩
  | .hbm, ⟨3, _⟩ => ⟨S8192x2048, .f32⟩
  | .hbm, ⟨4, _⟩ => ⟨S4x2048x640, .f32⟩
  | .hbm, ⟨5, _⟩ => ⟨S2048x4x640, .f32⟩
  | .hbm, ⟨6, _⟩ => ⟨S2048x2560, .f32⟩
  | .hbm, ⟨7, _⟩ => ⟨S8192x2560, .f32⟩
  | .hbm, ⟨8, _⟩ => ⟨S8192x2560, .f32⟩
  | .hbm, ⟨9, _⟩ => ⟨S8192x2048, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Qkv.lean ====
abbrev S8192x2048 : Shape := ⟨2, ![8192, 2048]⟩
abbrev S4x2048x640 : Shape := ⟨3, ![4, 2048, 640]⟩
abbrev S8192x2560 : Shape := ⟨2, ![8192, 2560]⟩
abbrev S1024x2048 : Shape := ⟨2, ![1024, 2048]⟩
abbrev S1x2048x640 : Shape := ⟨3, ![1, 2048, 640]⟩
abbrev S1024x640 : Shape := ⟨2, ![1024, 640]⟩
abbrev S8x128 : Shape := ⟨2, ![8, 128]⟩
abbrev S2048x640 : Shape := ⟨2, ![2048, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x640, .bf16⟩
  | .hbm, ⟨2, _⟩ => ⟨S8192x2560, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S1024x640, .f32⟩
  | .local _ .vmem, ⟨5, _⟩ => ⟨S1024x640, .f32⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvReferenceIdeal.lean ====
abbrev S8192x2048 : Shape := ⟨2, ![8192, 2048]⟩
abbrev S4x2048x640 : Shape := ⟨3, ![4, 2048, 640]⟩
abbrev S2048x4x640 : Shape := ⟨3, ![2048, 4, 640]⟩
abbrev S2048x2560 : Shape := ⟨2, ![2048, 2560]⟩
abbrev S8192x2560 : Shape := ⟨2, ![8192, 2560]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x640, .bf16⟩
  | .hbm, ⟨2, _⟩ => ⟨S8192x2048, .f32⟩
  | .hbm, ⟨3, _⟩ => ⟨S4x2048x640, .f32⟩
  | .hbm, ⟨4, _⟩ => ⟨S2048x4x640, .f32⟩
  | .hbm, ⟨5, _⟩ => ⟨S2048x2560, .f32⟩
  | .hbm, ⟨6, _⟩ => ⟨S8192x2560, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AttnOutDw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDwReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnOutDx.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDxReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnOut.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttnOutReferenceIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.KIn.lean ====
/-
  What the backward attention kernel's grid points read: each input block at an index is the argument array at
  the block's place, through the host's copies of the keys and of the values.
-/
module

public import proofs.«01_k».proof.Proof.Gen.KernelIdeal.Value
public import Idealize.ShloMosaic.Lib.Pipeline.ValueKit
public import Idealize.ShloMosaic.Lib.Pointwise.Tactic
public import Idealize.ShloMosaic.Lib.Pointwise.Reshape

@[expose] public section

set_option maxRecDepth 16384

noncomputable section

namespace Cert.Proof

open Idealize.ShloMosaic Idealize.ShloMosaic.TcCoe Idealize.SL.Sem Cert.KernelIdeal Cert.KernelIdeal.Facts Cert.KernelIdeal.Gen

/-- The place of a token: block and row. -/
def tok (n : Fin 64) (i : Fin 128) : Fin 8192 := ⟨128 * n.val + i.val, by omega⟩
/-- The block before, the first one's being itself. -/
def prev (n : Fin 64) : Fin 64 := ⟨n.val - 1, by omega⟩
/-- A key head's column. -/
def kcol (h : Fin 4) (d : Fin 64) : Fin 256 := ⟨64 * h.val + d.val, by omega⟩
/-- A key head's column in the arrays of 128 lanes per head. -/
def lcol (h : Fin 4) (l : Fin 128) : Fin 512 := ⟨128 * h.val + l.val, by omega⟩
/-- A pair of query heads' column. -/
def qcol (h jp : Fin 4) (l : Fin 128) : Fin 2048 := ⟨512 * h.val + (128 * jp.val + l.val), by omega⟩
/-- The key head of a grid point. -/
def hd (t : Fin cfg0.N) : Fin 4 := ⟨t.val / 64, by have : t.val < 256 := t.isLt; omega⟩
/-- The block of a grid point. -/
def bk (t : Fin cfg0.N) : Fin 64 := ⟨t.val % 64, by omega⟩

theorem widx : ∀ t : Fin cfg0.N,
    win0_1.index t = ![t.val % 64, t.val / 64] ∧ win0_2.index t = ![t.val % 64, t.val / 64] ∧ win0_3.index t = ![t.val % 64 - 1, t.val / 64]
    ∧ win0_4.index t = ![t.val % 64, t.val / 64] ∧ win0_5.index t = ![t.val % 64 - 1, t.val / 64]
    ∧ win0_6.index t = ![t.val % 64, t.val / 64] ∧ win0_7.index t = ![t.val % 64 - 1, t.val / 64]
    ∧ win0_8.index t = ![t.val % 64, t.val / 64] ∧ win0_0.index t = ![0] :=
  (by decide +kernel : ∀ t : Fin grid0.N, _)
theorem widxO : ∀ t : Fin cfg0.N,
    win0_9.index t = ![t.val % 64, t.val / 64] ∧ win0_10.index t = ![t.val % 64, t.val / 64] ∧ win0_11.index t = ![t.val % 64, t.val / 64]
    ∧ win0_12.index t = ![t.val % 64, t.val / 64] ∧ win0_13.index t = ![t.val % 64, t.val / 64]
    ∧ win0_14.index t = ![t.val % 64, t.val / 64] ∧ win0_15.index t = ![t.val % 64, t.val / 64]
    ∧ win0_16.index t = ![t.val / 64, 0, 0] :=
  (by decide +kernel : ∀ t : Fin grid0.N, _)
theorem gcoord : ∀ t : Fin cfg0.N, (grid0.coords t 0).val = t.val / 64 ∧ (grid0.coords t 1).val = t.val % 64 :=
  (by decide +kernel : ∀ t : Fin grid0.N, _)

variable (m : (ℓ : Loc nD τ sig) → Buf (Elt Ideal) ℓ) (c : Dev nD)

theorem in1 (t : Fin cfg0.N) (i : Fin 128) (l : Fin 512) :
    (iblk m c 1 t : Vec Ideal S128x512 .bf16) (ix2 i l) = (m ((c : Thread nD τ).loc main_arg0) : Vec Ideal S8192x2048 .bf16) (ix2 (tok (bk t) i) ⟨512 * (hd t).val + l.val, by omega⟩) := by
  blk_ext [iblk, V, widx t, tok, bk, hd]
theorem in8 (t : Fin cfg0.N) (i : Fin 128) (l : Fin 512) :
    (iblk m c 8 t : Vec Ideal S128x512 .bf16) (ix2 i l) = (m ((c : Thread nD τ).loc main_arg4) : Vec Ideal S8192x2048 .bf16) (ix2 (tok (bk t) i) ⟨512 * (hd t).val + l.val, by omega⟩) := by
  blk_ext [iblk, V, widx t, tok, bk, hd]
theorem in0 (t : Fin cfg0.N) (i : Fin 32) :
    (iblk m c 0 t : Vec Ideal S32 .f32) (ix1 i) = (m ((c : Thread nD τ).loc main_arg3) : Vec Ideal S32 .f32) (ix1 i) := by
  blk_ext [iblk, V, widx t, tok, bk, hd]
theorem V_v2 : (V m c main_v2 : Vec Ideal S8192x512 .bf16) = shapeCast S8192x512 (concatenate S8192x4x128 2 [⟨S8192x4x64, shapeCast S8192x4x64 (m ((c : Thread nD τ).loc main_arg1) : Vec Ideal S8192x256 .bf16) shapeCasts_S8192x256_S8192x4x64⟩, ⟨S8192x4x64, shapeCast S8192x4x64 (m ((c : Thread nD τ).loc main_arg1) : Vec Ideal S8192x256 .bf16) shapeCasts_S8192x256_S8192x4x64⟩] concatenates_S8192x4x64_S8192x4x64_S8192x4x128_d2) shapeCasts_S8192x4x128_S8192x512 := by
  unfold V
  simp only [hostOps0, hostOps0_1, hostOps0_2, hostOps0_3, hostOps0_4, List.flatten_cons, List.flatten_nil, List.append_nil, List.cons_append, List.nil_append]
  entry_read
  rfl
theorem V_v5 : (V m c main_v5 : Vec Ideal S8192x512 .bf16) = shapeCast S8192x512 (pad S8192x4x128 ![0, 0, 0] ![0, 0, 64] ![0, 0, 0] (shapeCast S8192x4x64 (m ((c : Thread nD τ).loc main_arg2) : Vec Ideal S8192x256 .bf16) shapeCasts_S8192x256_S8192x4x64) (sitofp (F := Ideal) .bf16 (constantI S_ 32 0#32)) pads_S8192x4x64_S8192x4x128_000_000_0640 h_S_) shapeCasts_S8192x4x128_S8192x512 := by
  unfold V
  simp only [hostOps0, hostOps0_1, hostOps0_2, hostOps0_3, hostOps0_4, List.flatten_cons, List.flatten_nil, List.append_nil, List.cons_append, List.nil_append]
  entry_read
  rfl
theorem V_v7 : (V m c main_v7 : Vec Ideal S8192x512 .bf16) = shapeCast S8192x512 (pad S8192x4x128 ![0, 0, 64] ![0, 0, 0] ![0, 0, 0] (shapeCast S8192x4x64 (m ((c : Thread nD τ).loc main_arg2) : Vec Ideal S8192x256 .bf16) shapeCasts_S8192x256_S8192x4x64) (sitofp (F := Ideal) .bf16 (constantI S_ 32 0#32)) pads_S8192x4x64_S8192x4x128_000_000_6400 h_S_) shapeCasts_S8192x4x128_S8192x512 := by
  unfold V
  simp only [hostOps0, hostOps0_1, hostOps0_2, hostOps0_3, hostOps0_4, List.flatten_cons, List.flatten_nil, List.append_nil, List.cons_append, List.nil_append]
  entry_read
  rfl

theorem zero_cast : (FloatOps.sitofp (F := Ideal) .bf16 (0#32) : EReal) = 0 := by
  show ((((0#32 : BitVec 32).toInt : ℝ)) : EReal) = 0
  simp

theorem kk_val (r : Fin 8192) (h : Fin 4) (l : Fin 128) :
    (V m c main_v2 : Vec Ideal S8192x512 .bf16) (ix2 r (lcol h l)) = (m ((c : Thread nD τ).loc main_arg1) : Vec Ideal S8192x256 .bf16) (ix2 r (kcol h ⟨l.val % 64, by omega⟩)) := by
  rw [V_v2]
  unfold lcol kcol
  pointwise
  split
  · refine congrArg (fun z : Fin 256 => (m ((c : Thread nD τ).loc main_arg1) : Vec Ideal S8192x256 .bf16) (ix2 r z)) (Fin.ext ?_)
    simp only
    omega
  · refine congrArg (fun z : Fin 256 => (m ((c : Thread nD τ).loc main_arg1) : Vec Ideal S8192x256 .bf16) (ix2 r z)) (Fin.ext ?_)
    simp only
    omega
theorem vlo_val (r : Fin 8192) (h : Fin 4) (l : Fin 128) :
    (V m c main_v5 : Vec Ideal S8192x512 .bf16) (ix2 r (lcol h l)) = if hl : l.val < 64 then (m ((c : Thread nD τ).loc main_arg2) : Vec Ideal S8192x256 .bf16) (ix2 r (kcol h ⟨l.val, hl⟩)) else (0 : EReal) := by
  rw [V_v5]
  unfold lcol kcol
  pointwise
  split
  · refine congrArg (fun z : Fin 256 => (m ((c : Thread nD τ).loc main_arg2) : Vec Ideal S8192x256 .bf16) (ix2 r z)) (Fin.ext ?_)
    simp only
    omega
  · exact zero_cast
theorem vhi_val (r : Fin 8192) (h : Fin 4) (l : Fin 128) :
    (V m c main_v7 : Vec Ideal S8192x512 .bf16) (ix2 r (lcol h l)) = if hl : 64 ≤ l.val then (m ((c : Thread nD τ).loc main_arg2) : Vec Ideal S8192x256 .bf16) (ix2 r (kcol h ⟨l.val - 64, by omega⟩)) else (0 : EReal) := by
  rw [V_v7]
  unfold lcol kcol
  pointwise
  by_cases h1 : 64 ≤ l.val
  · have h2 : 64 ≤ l.val ∧ l.val - 64 < 64 := ⟨h1, by omega⟩
    rw [dif_pos h1, dif_pos h2]
    refine congrArg (fun z : Fin 256 => (m ((c : Thread nD τ).loc main_arg2) : Vec Ideal S8192x256 .bf16) (ix2 r z)) (Fin.ext ?_)
    simp only
    omega
  · have h2 : ¬(64 ≤ l.val ∧ l.val - 64 < 64) := fun h => h1 h.1
    rw [dif_neg h1, dif_neg h2]
    exact zero_cast
theorem in2 (t : Fin cfg0.N) (i : Fin 128) (l : Fin 128) :
    (iblk m c 2 t : Vec Ideal S128x128 .bf16) (ix2 i l) = (V m c main_v2 : Vec Ideal S8192x512 .bf16) (ix2 (tok (bk t) i) (lcol (hd t) l)) := by
  blk_ext [iblk, widx t, tok, bk, hd, lcol, prev]
theorem in3 (t : Fin cfg0.N) (i : Fin 128) (l : Fin 128) :
    (iblk m c 3 t : Vec Ideal S128x128 .bf16) (ix2 i l) = (V m c main_v2 : Vec Ideal S8192x512 .bf16) (ix2 (tok (prev (bk t)) i) (lcol (hd t) l)) := by
  blk_ext [iblk, widx t, tok, bk, hd, lcol, prev]
theorem in4 (t : Fin cfg0.N) (i : Fin 128) (l : Fin 128) :
    (iblk m c 4 t : Vec Ideal S128x128 .bf16) (ix2 i l) = (V m c main_v5 : Vec Ideal S8192x512 .bf16) (ix2 (tok (bk t) i) (lcol (hd t) l)) := by
  blk_ext [iblk, widx t, tok, bk, hd, lcol, prev]
theorem in5 (t : Fin cfg0.N) (i : Fin 128) (l : Fin 128) :
    (iblk m c 5 t : Vec Ideal S128x128 .bf16) (ix2 i l) = (V m c main_v5 : Vec Ideal S8192x512 .bf16) (ix2 (tok (prev (bk t)) i) (lcol (hd t) l)) := by
  blk_ext [iblk, widx t, tok, bk, hd, lcol, prev]
theorem in6 (t : Fin cfg0.N) (i : Fin 128) (l : Fin 128) :
    (iblk m c 6 t : Vec Ideal S128x128 .bf16) (ix2 i l) = (V m c main_v7 : Vec Ideal S8192x512 .bf16) (ix2 (tok (bk t) i) (lcol (hd t) l)) := by
  blk_ext [iblk, widx t, tok, bk, hd, lcol, prev]
theorem in7 (t : Fin cfg0.N) (i : Fin 128) (l : Fin 128) :
    (iblk m c 7 t : Vec Ideal S128x128 .bf16) (ix2 i l) = (V m c main_v7 : Vec Ideal S8192x512 .bf16) (ix2 (tok (prev (bk t)) i) (lcol (hd t) l)) := by
  blk_ext [iblk, widx t, tok, bk, hd, lcol, prev]

end Cert.Proof
end
-- ==== Proof.Tile.lean ====
/-
  One pair of query heads of the backward attention kernel, as functions of the tiles it reads: a block of 128
  queries for two heads, laid out as 256 rows, against a window of 256 keys. The kernel runs the same steps for
  each of the four pairs of a key head's group; here they stand once.
-/
module

public import proofs.«01_k».proof.Proof.Gen.KernelIdeal.Skeleton

@[expose] public section

noncomputable section

namespace Cert.KernelIdeal.Gen.Tile

open Idealize.ShloMosaic Idealize.SL.Sem Cert.KernelIdeal Cert.KernelIdeal.Facts

variable {F : FTy → Type} [FloatOps F]

/-- The lane of each place of a tile. -/
def lane : IVec S128x128 32 := iota .tc S128x128 32 [1] iota_S128x128_d1_w32
/-- The sublane of each place of the sinks' gradient. -/
def sub : IVec S8x128 32 := iota .tc S8x128 32 [0] iota_S8x128_d0_w32

/-- The two heads' queries one above the other, each in its own half of the lanes. -/
def rows (x : Vec F S128x128 .bf16) : FVec F S256x128 .bf16 :=
  concatenate S256x128 0
    [⟨S128x128, select (cmpi .slt lane (broadcast S128x128 64#32)) x (broadcast S128x128 (Scalar.ofBits .bf16 0x0000#16))⟩,
     ⟨S128x128, select (cmpi .sge lane (broadcast S128x128 64#32)) x (broadcast S128x128 (Scalar.ofBits .bf16 0x0000#16))⟩]
    concatenates_S128x128_S128x128_S256x128_d0

/-- The sink of each row. -/
def sinks (up : IVec S256x1 1) (hi lo : Elt F .f32) : FVec F S256x1 .f32 :=
  select up (broadcast S256x1 hi) (broadcast S256x1 lo)

/-- The masked scores. -/
def scores (val : IVec S256x256 1) (kw q2 : FVec F S256x128 .bf16) : FVec F S256x256 .f32 :=
  select val
    (mulf (matmul dot_S256x128_S256x128_S256x256_1_1_0_0_n_n none q2 kw (constant S256x256 .f32 0x00000000#32))
      (broadcast S256x256 (Scalar.ofBits .f32 0x3E000000#32)))
    (broadcast S256x256 (Scalar.ofBits .f32 0xFF800000#32))

/-- Each row's largest score or its sink. -/
def peak (sc : FVec F S256x256 .f32) (sk : FVec F S256x1 .f32) : FVec F S256x1 .f32 :=
  maximumf (shapeCast S256x1 (multiReduction .maximumf [1] S256 sc 0xFF800000#32 reduces_S256x256_S256 (.inl rfl) rfl) shapeCasts_S256_S256x1) sk

/-- The exponentials of the scores. -/
def nums (sc : FVec F S256x256 .f32) (pk : FVec F S256x1 .f32) : FVec F S256x256 .f32 :=
  exp (subf sc (broadcastTo S256x256 pk broadcasts_S256x1_S256x256))

/-- The exponentials of the sinks. -/
def snums (sk pk : FVec F S256x1 .f32) : FVec F S256x1 .f32 := exp (subf sk pk)

/-- The reciprocals of the rows' sums. -/
def inv (nm : FVec F S256x256 .f32) (sn : FVec F S256x1 .f32) : FVec F S256x1 .f32 :=
  divf (broadcast S256x1 (Scalar.ofBits .f32 0x3F800000#32))
    (addf (shapeCast S256x1 (multiReduction .add [1] S256 nm 0x00000000#32 reduces_S256x256_S256 (.inl rfl) rfl) shapeCasts_S256_S256x1) sn)

/-- The probabilities. -/
def probs (nm : FVec F S256x256 .f32) (iv : FVec F S256x1 .f32) : FVec F S256x256 .f32 :=
  mulf nm (broadcastTo S256x256 iv broadcasts_S256x1_S256x256)

/-- The two heads' probabilities side by side. -/
def wide (pr : FVec F S256x256 .f32) : FVec F S128x512 .f32 :=
  concatenate S128x512 1
    [⟨S128x256, extractStridedSlice S128x256 ![0, 0] pr slices_S256x256_o0_0_S128x256⟩,
     ⟨S128x256, extractStridedSlice S128x256 ![128, 0] pr slices_S256x256_o128_0_S128x256⟩]
    concatenates_S128x256_S128x256_S128x512_d1

/-- The probabilities' gradient. -/
def dprobs (vc : FVec F S512x128 .bf16) (x : Vec F S128x128 .bf16) : FVec F S256x256 .f32 :=
  concatenate S256x256 0
    [⟨S128x256, extractStridedSlice S128x256 ![0, 0]
      (matmul dot_S128x128_S512x128_S128x512_1_1_0_0_n_n none x vc (constant S128x512 .f32 0x00000000#32)) slices_S128x512_o0_0_S128x256⟩,
     ⟨S128x256, extractStridedSlice S128x256 ![0, 256]
      (matmul dot_S128x128_S512x128_S128x512_1_1_0_0_n_n none x vc (constant S128x512 .f32 0x00000000#32)) slices_S128x512_o0_256_S128x256⟩]
    concatenates_S128x256_S128x256_S256x256_d0

/-- The values' gradient. -/
def dv (pr : FVec F S256x256 .f32) (x : Vec F S128x128 .bf16) : FVec F S512x128 .f32 :=
  matmul dot_S128x512_S128x128_S512x128_0_0_1_1_n_n none (truncf .bf16 (wide pr) bitsLt_bf16_f32) x (constant S512x128 .f32 0x00000000#32)

/-- The mean of the probabilities' gradient in each row. -/
def delta (pr dp : FVec F S256x256 .f32) : FVec F S256x1 .f32 :=
  shapeCast S256x1 (multiReduction .add [1] S256 (mulf pr dp) 0x00000000#32 reduces_S256x256_S256 (.inl rfl) rfl) shapeCasts_S256_S256x1

/-- The scores' gradient before the scale's product with the queries and keys. -/
def dscores (pr dp : FVec F S256x256 .f32) : FVec F S256x256 .bf16 :=
  truncf .bf16
    (mulf (mulf pr (subf dp (broadcastTo S256x256 (delta pr dp) broadcasts_S256x1_S256x256)))
      (broadcast S256x256 (Scalar.ofBits .f32 0x3E000000#32))) bitsLt_bf16_f32

/-- The sum of 128 rows' values, with its sign turned. -/
def negSum (x : FVec F S128x1 .f32) : F .f32 :=
  Scalar.subf (Scalar.ofBits .f32 0x00000000#32)
    (extractAt ![0, 0, 0]
      (shapeCast S1x1x1 (multiReduction .add [1, 2] S1 (shapeCast S1x128x1 x shapeCasts_S128x1_S1x128x1) 0x00000000#32 reduces_S1x128x1_S1 (.inl rfl) rfl)
        shapeCasts_S1_S1x1x1) inpos_S1x1x1_p0_0_0)

/-- A value in one sublane, zero in the others. -/
def inSub (a : BitVec 32) (x : F .f32) : FVec F S8x128 .f32 :=
  select (cmpi .eq sub (broadcast S8x128 a)) (broadcast S8x128 x) (broadcast S8x128 (Scalar.ofBits .f32 0x00000000#32))

/-- The sinks' gradient after one more pair. -/
def dsink (a b : BitVec 32) (acc : FVec F S8x128 .f32) (sp dl : FVec F S256x1 .f32) : FVec F S8x128 .f32 :=
  addf (addf acc (inSub a (negSum (extractStridedSlice S128x1 ![0, 0] (mulf sp dl) slices_S256x1_o0_0_S128x1))))
    (inSub b (negSum (extractStridedSlice S128x1 ![128, 0] (mulf sp dl) slices_S256x1_o128_0_S128x1)))

/-- The queries' gradient: each head's in its own half of the lanes. -/
def dq (kw : FVec F S256x128 .bf16) (ds : FVec F S256x256 .bf16) : FVec F S128x128 .f32 :=
  select (cmpi .slt lane (broadcast S128x128 64#32))
    (extractStridedSlice S128x128 ![0, 0]
      (matmul dot_S256x256_S256x128_S256x128_1_0_0_1_n_n none ds kw (constant S256x128 .f32 0x00000000#32)) slices_S256x128_o0_0_S128x128)
    (extractStridedSlice S128x128 ![128, 0]
      (matmul dot_S256x256_S256x128_S256x128_1_0_0_1_n_n none ds kw (constant S256x128 .f32 0x00000000#32)) slices_S256x128_o128_0_S128x128)

/-- The keys' gradient. -/
def dk (q2 : FVec F S256x128 .bf16) (ds : FVec F S256x256 .bf16) : FVec F S256x128 .f32 :=
  matmul dot_S256x256_S256x128_S256x128_0_0_1_1_n_n none ds q2 (constant S256x128 .f32 0x00000000#32)

/-! The whole pair, from the mask, the rows' sinks, the window of keys, the window of values and the two heads' tiles. -/

variable (val : IVec S256x256 1) (sk : FVec F S256x1 .f32) (kw : FVec F S256x128 .bf16) (vc : FVec F S512x128 .bf16)
  (x y : Vec F S128x128 .bf16)

/-- The pair's peaks. -/
def pPeak : FVec F S256x1 .f32 := peak (scores val kw (rows x)) sk
/-- The pair's exponentials. -/
def pNums : FVec F S256x256 .f32 := nums (scores val kw (rows x)) (pPeak val sk kw x)
/-- The pair's sinks' exponentials. -/
def pSnums : FVec F S256x1 .f32 := snums sk (pPeak val sk kw x)
/-- The pair's reciprocals. -/
def pInv : FVec F S256x1 .f32 := inv (pNums val sk kw x) (pSnums val sk kw x)
/-- The pair's probabilities. -/
def pProbs : FVec F S256x256 .f32 := probs (pNums val sk kw x) (pInv val sk kw x)
/-- The pair's sinks' probabilities. -/
def pSprobs : FVec F S256x1 .f32 := mulf (pSnums val sk kw x) (pInv val sk kw x)
/-- The pair's part of the values' gradient. -/
def pDv : FVec F S512x128 .f32 := dv (pProbs val sk kw x) y
/-- The pair's scores' gradient. -/
def pDs : FVec F S256x256 .bf16 := dscores (pProbs val sk kw x) (dprobs vc y)
/-- The pair's queries' gradient. -/
def pDq : FVec F S128x128 .f32 := dq kw (pDs val sk kw vc x y)
/-- The pair's part of the keys' gradient. -/
def pDk : FVec F S256x128 .f32 := dk (rows x) (pDs val sk kw vc x y)
/-- The sinks' gradient after the pair. -/
def pDsink (a b : BitVec 32) (acc : FVec F S8x128 .f32) : FVec F S8x128 .f32 :=
  dsink a b acc (pSprobs val sk kw x) (delta (pProbs val sk kw x) (dprobs vc y))

end Cert.KernelIdeal.Gen.Tile

end
-- ==== Proof.Row.lean ====
/-
  One row of the attention's backward pass over the reals: 256 scores with a mask, a sink, and the
  gradient of the row's probabilities. The definitions are the textbook ones; the lemmas carry the
  extended-real spelling of a masked softmax to them.
-/
module

public import Idealize.ShloMosaic.Lib.IdealHost
public import Idealize.ShloMosaic.PureOps.Ideal.Laws

@[expose] public section

noncomputable section

namespace Cert.Proof

open Idealize.ShloMosaic

/-- A finite sum of reals, read in the extended reals. -/
theorem coe_sum {ι : Type*} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The quotient of two reals, the divisor not zero. -/
theorem div_real (x : ℝ) {y : ℝ} (h : y ≠ 0) : Ideal.div (x : EReal) (y : EReal) = ((x / y : ℝ) : EReal) := by
  rw [Ideal.div_coe h, ← EReal.coe_mul, mul_one_div]

namespace Row

variable (s dp : Fin 256 → ℝ) (v : Fin 256 → Bool) (sink : ℝ)

/-- The masked scores: minus infinity where the mask is off. -/
def masked (k : Fin 256) : EReal := if v k then ((s k : ℝ) : EReal) else ⊥
/-- The largest masked score or the sink, as an extended real. -/
def peak : EReal := max (Finset.univ.fold max ⊥ (masked s v)) ((sink : ℝ) : EReal)
/-- The same as a real. -/
def mx : ℝ := (peak s v sink).toReal
/-- The exponential of a score less the peak, zero off the mask. -/
def num (k : Fin 256) : ℝ := if v k then Real.exp (s k - mx s v sink) else 0
/-- The exponential of the sink less the peak. -/
def snum : ℝ := Real.exp (sink - mx s v sink)
/-- The softmax's denominator. -/
def den : ℝ := (∑ k, num s v sink k) + snum s v sink
/-- A key's probability. -/
def prob (k : Fin 256) : ℝ := num s v sink k / den s v sink
/-- The sink's probability. -/
def sprob : ℝ := snum s v sink / den s v sink
/-- The mean of the probabilities' gradient. -/
def delta : ℝ := ∑ k, prob s v sink k * dp k
/-- The gradient of a score. -/
def dscore (k : Fin 256) : ℝ := prob s v sink k * (dp k - delta s dp v sink)

theorem peak_ne_bot : peak s v sink ≠ ⊥ := by
  intro h
  have : ((sink : ℝ) : EReal) ≤ ⊥ := h ▸ le_max_right _ _
  exact absurd (le_bot_iff.1 this) (EReal.coe_ne_bot _)

theorem peak_ne_top : peak s v sink ≠ ⊤ := by
  have h : peak s v sink < ⊤ := by
    unfold peak
    refine max_lt ?_ (EReal.coe_lt_top _)
    rw [Finset.fold_max_lt]
    refine ⟨bot_lt_top, fun k _ => ?_⟩
    unfold masked
    split
    · exact EReal.coe_lt_top _
    · exact bot_lt_top
  exact h.ne

/-- The peak is a real. -/
theorem peak_eq : peak s v sink = ((mx s v sink : ℝ) : EReal) :=
  (EReal.coe_toReal (peak_ne_top s v sink) (peak_ne_bot s v sink)).symm

theorem den_pos : 0 < den s v sink := by
  unfold den
  have h1 : 0 ≤ ∑ k, num s v sink k := Finset.sum_nonneg fun k _ => by
    unfold num; split
    · exact (Real.exp_pos _).le
    · exact le_refl _
  have h2 : 0 < snum s v sink := Real.exp_pos _
  linarith

theorem den_ne : den s v sink ≠ 0 := (den_pos s v sink).ne'

/-- The exponential of a masked score less the peak. -/
theorem exp_masked (k : Fin 256) : Ideal.exp (masked s v k - ((mx s v sink : ℝ) : EReal)) = ((num s v sink k : ℝ) : EReal) := by
  unfold masked num
  cases v k
  · simp [EReal.bot_sub]
  · simp [← EReal.coe_sub]

/-- The exponential of the sink less the peak. -/
theorem exp_sink : Ideal.exp (((sink : ℝ) : EReal) - ((mx s v sink : ℝ) : EReal)) = ((snum s v sink : ℝ) : EReal) := by
  simp [snum, ← EReal.coe_sub]

theorem prob_off {k : Fin 256} (h : v k = false) : prob s v sink k = 0 := by simp [prob, num, h]
theorem dscore_off {k : Fin 256} (h : v k = false) : dscore s dp v sink k = 0 := by simp [dscore, prob_off s v sink h]

/-- All probabilities and the sink's sum to one. -/
theorem sum_prob : (∑ k, prob s v sink k) + sprob s v sink = 1 := by
  unfold prob sprob
  rw [← Finset.sum_div, ← add_div]
  exact div_self (den_ne s v sink)

/-- The gradient of the scores and the sink's sum to zero. -/
theorem sum_dscore : (∑ k, dscore s dp v sink k) - sprob s v sink * delta s dp v sink = 0 := by
  have h : ∑ k, dscore s dp v sink k = delta s dp v sink - (∑ k, prob s v sink k) * delta s dp v sink := by
    unfold dscore
    simp only [mul_sub, Finset.sum_sub_distrib, ← Finset.sum_mul]
    rfl
  have h1 := sum_prob s v sink
  have h2 : ∑ k, prob s v sink k = 1 - sprob s v sink := by linarith
  rw [h, h2]; ring

/-! The row's values depend on the scores and the gradients where the mask is on. -/

variable {s dp v sink} {s' dp' : Fin 256 → ℝ}

theorem masked_congr (h : ∀ k, v k = true → s k = s' k) : masked s v = masked s' v := by
  funext k; unfold masked
  cases hv : v k
  · rfl
  · simp [h k hv]

theorem mx_congr (h : ∀ k, v k = true → s k = s' k) : mx s v sink = mx s' v sink := by
  unfold mx peak; rw [masked_congr h]

theorem num_congr (h : ∀ k, v k = true → s k = s' k) : num s v sink = num s' v sink := by
  funext k; unfold num
  cases hv : v k
  · rfl
  · simp [h k hv, mx_congr h]

theorem snum_congr (h : ∀ k, v k = true → s k = s' k) : snum s v sink = snum s' v sink := by
  unfold snum; rw [mx_congr h]

theorem den_congr (h : ∀ k, v k = true → s k = s' k) : den s v sink = den s' v sink := by
  unfold den; rw [num_congr h, snum_congr h]

theorem prob_congr (h : ∀ k, v k = true → s k = s' k) : prob s v sink = prob s' v sink := by
  funext k; unfold prob; rw [num_congr h, den_congr h]

theorem sprob_congr (h : ∀ k, v k = true → s k = s' k) : sprob s v sink = sprob s' v sink := by
  unfold sprob; rw [snum_congr h, den_congr h]

theorem delta_congr (h : ∀ k, v k = true → s k = s' k) (h' : ∀ k, v k = true → dp k = dp' k) : delta s dp v sink = delta s' dp' v sink := by
  unfold delta
  refine Finset.sum_congr rfl fun k _ => ?_
  cases hv : v k
  · simp [prob_off _ _ _ hv]
  · rw [prob_congr h, h' k hv]

theorem dscore_congr (h : ∀ k, v k = true → s k = s' k) (h' : ∀ k, v k = true → dp k = dp' k) : dscore s dp v sink = dscore s' dp' v sink := by
  funext k
  cases hv : v k
  · rw [dscore_off _ _ _ _ hv, dscore_off _ _ _ _ hv]
  · unfold dscore; rw [prob_congr h, delta_congr h h', h' k hv]

end Row

end Cert.Proof

end
-- ==== Proof.PairVal.lean ====
/-
  One pair of query heads of the backward attention kernel, over the reals: what each step of the pair is
  when the tiles it reads hold real numbers.
-/
module

public import proofs.«01_k».proof.Proof.Tile
public import proofs.«01_k».proof.Proof.Row
public import Idealize.ShloMosaic.Lib.Pointwise.Tactic
public import Idealize.ShloMosaic.Lib.Pointwise.Reduce
public import Idealize.ShloMosaic.Lib.Pointwise.Reshape
public import Idealize.ShloMosaic.Lib.Pointwise.Contract
public import Idealize.ShloMosaic.Lib.Pointwise.Select
public import Idealize.ShloMosaic.Lib.Pointwise.Sums

@[expose] public section

noncomputable section

namespace Cert.Proof

open Idealize.ShloMosaic Idealize.ShloMosaic.TcCoe Idealize.SL.Sem Cert.KernelIdeal Cert.KernelIdeal.Facts Cert.KernelIdeal.Gen

/-- A comparison's bit. -/
def bit (b : Bool) : BitVec 1 := if b then 1#1 else 0#1

theorem select_bit {α : Type} (b : Bool) (x y : α) : Scalar.select (bit b) x y = if b then x else y := by
  cases b <;> rfl

theorem lane_slt (l : Fin 128) : IntOp.cmpi .slt (BitVec.ofNat 32 l.val) 64#32 = bit (decide (l.val < 64)) := by
  revert l; decide
theorem lane_sge (l : Fin 128) : IntOp.cmpi .sge (BitVec.ofNat 32 l.val) 64#32 = bit (decide (64 ≤ l.val)) := by
  revert l; decide

theorem ofBits_eighth : Ideal.ofBits .f32 0x3E000000#32 = ((1 / 8 : ℝ) : EReal) := by
  simp [Ideal.ofBits, Ideal.ieee]
  rw [← EReal.coe_mul]
  norm_num
theorem ofBits_negInf : Ideal.ofBits .f32 0xFF800000#32 = ⊥ := by
  simp [Ideal.ofBits, Ideal.ieee]

/-- A finite sum whose terms are reals. -/
theorem sum_real {ι : Type*} (t : Finset ι) {f : ι → EReal} {g : ι → ℝ} (h : ∀ i, f i = ((g i : ℝ) : EReal)) :
    ∑ i ∈ t, f i = ((∑ i ∈ t, g i : ℝ) : EReal) := by
  rw [← coe_sum]; exact Finset.sum_congr rfl fun i _ => h i

namespace Pair

variable (xr yr : Fin 128 → Fin 128 → ℝ) (kwr : Fin 256 → Fin 128 → ℝ) (vcr : Fin 512 → Fin 128 → ℝ)
  (vb : Fin 256 → Fin 256 → Bool) (skr : Fin 256 → ℝ)

/-- The two heads' queries one above the other. -/
def q2 (r : Fin 256) (l : Fin 128) : ℝ :=
  if h : r.val < 128 then (if l.val < 64 then xr ⟨r.val, h⟩ l else 0)
  else (if 64 ≤ l.val then xr ⟨r.val - 128, by omega⟩ l else 0)
/-- The scores. -/
def s (r k : Fin 256) : ℝ := (∑ l, q2 xr r l * kwr k l) * (1 / 8)
/-- The probabilities' gradient. -/
def dp (r k : Fin 256) : ℝ :=
  if h : r.val < 128 then ∑ l, yr ⟨r.val, h⟩ l * vcr ⟨k.val, by omega⟩ l
  else ∑ l, yr ⟨r.val - 128, by omega⟩ l * vcr ⟨256 + k.val, by omega⟩ l
/-- The probabilities. -/
def prob (r k : Fin 256) : ℝ := Row.prob (s xr kwr r) (vb r) (skr r) k
/-- The scores' gradient with the scale. -/
def ds (r k : Fin 256) : ℝ := Row.dscore (s xr kwr r) (dp yr vcr r) (vb r) (skr r) k * (1 / 8)
/-- The product whose sum over the queries is a sink's gradient with its sign turned. -/
def sd (r : Fin 256) : ℝ := Row.sprob (s xr kwr r) (vb r) (skr r) * Row.delta (s xr kwr r) (dp yr vcr r) (vb r) (skr r)
/-- The two heads' probabilities side by side. -/
def wide (i : Fin 128) (c : Fin 512) : ℝ :=
  if h : c.val < 256 then prob xr kwr vb skr ⟨i.val, by omega⟩ ⟨c.val, h⟩
  else prob xr kwr vb skr ⟨128 + i.val, by omega⟩ ⟨c.val - 256, by omega⟩

variable {xr yr kwr vcr vb skr}
variable {x y : Vec Ideal S128x128 .bf16} {kw : FVec Ideal S256x128 .bf16} {vc : FVec Ideal S512x128 .bf16}
  {val : IVec S256x256 1} {sk : FVec Ideal S256x1 .f32}

theorem rows_val (hx : ∀ i l, x (ix2 i l) = ((xr i l : ℝ) : EReal)) (r : Fin 256) (l : Fin 128) :
    Tile.rows (F := Ideal) x (ix2 r l) = ((q2 xr r l : ℝ) : EReal) := by
  unfold Tile.rows Tile.lane q2
  pointwise
  simp only [lane_slt, lane_sge, select_bit, hx, decide_eq_true_eq]
  split <;> split <;> simp

variable (hx : ∀ i l, x (ix2 i l) = ((xr i l : ℝ) : EReal)) (hy : ∀ i l, y (ix2 i l) = ((yr i l : ℝ) : EReal))
  (hkw : ∀ k l, kw (ix2 k l) = ((kwr k l : ℝ) : EReal)) (hvc : ∀ k l, vc (ix2 k l) = ((vcr k l : ℝ) : EReal))
  (hval : ∀ r k, val (ix2 r k) = bit (vb r k)) (hsk : ∀ r (j : Fin 1), sk (ix2 r j) = ((skr r : ℝ) : EReal))
include hx hkw hval

theorem scores_val (r k : Fin 256) :
    Tile.scores (F := Ideal) val kw (Tile.rows (F := Ideal) x) (ix2 r k) = Row.masked (s xr kwr r) (vb r) k := by
  unfold Tile.scores
  pointwise
  simp only [rows_val hx, hkw, hval, select_bit, ofBits_eighth, ofBits_negInf, ← EReal.coe_mul, coe_sum]
  rfl

include hsk

theorem peak_val (r : Fin 256) (j : Fin 1) :
    Tile.pPeak (F := Ideal) val sk kw x (ix2 r j) = ((Row.mx (s xr kwr r) (vb r) (skr r) : ℝ) : EReal) := by
  unfold Tile.pPeak Tile.peak
  pointwise
  rw [hsk, ← Row.peak_eq]
  simp only [scores_val hx hkw hval, ofBits_negInf]
  rfl

theorem nums_val (r k : Fin 256) :
    Tile.pNums (F := Ideal) val sk kw x (ix2 r k) = ((Row.num (s xr kwr r) (vb r) (skr r) k : ℝ) : EReal) := by
  unfold Tile.pNums Tile.nums
  pointwise
  rw [peak_val hx hkw hval hsk, scores_val hx hkw hval, Row.exp_masked]

theorem snums_val (r : Fin 256) (j : Fin 1) :
    Tile.pSnums (F := Ideal) val sk kw x (ix2 r j) = ((Row.snum (s xr kwr r) (vb r) (skr r) : ℝ) : EReal) := by
  unfold Tile.pSnums Tile.snums
  pointwise
  rw [peak_val hx hkw hval hsk, hsk, Row.exp_sink]

theorem inv_val (r : Fin 256) (j : Fin 1) :
    Tile.pInv (F := Ideal) val sk kw x (ix2 r j) = ((1 / Row.den (s xr kwr r) (vb r) (skr r) : ℝ) : EReal) := by
  unfold Tile.pInv Tile.inv
  pointwise
  simp only [nums_val hx hkw hval hsk, snums_val hx hkw hval hsk, coe_sum, ← EReal.coe_add]
  exact div_real 1 (Row.den_ne _ _ _)

theorem probs_val (r k : Fin 256) :
    Tile.pProbs (F := Ideal) val sk kw x (ix2 r k) = ((prob xr kwr vb skr r k : ℝ) : EReal) := by
  unfold Tile.pProbs Tile.probs
  pointwise
  rw [nums_val hx hkw hval hsk, inv_val hx hkw hval hsk, ← EReal.coe_mul, mul_one_div]
  rfl

theorem sprobs_val (r : Fin 256) (j : Fin 1) :
    Tile.pSprobs (F := Ideal) val sk kw x (ix2 r j) = ((Row.sprob (s xr kwr r) (vb r) (skr r) : ℝ) : EReal) := by
  unfold Tile.pSprobs
  pointwise
  rw [snums_val hx hkw hval hsk, inv_val hx hkw hval hsk, ← EReal.coe_mul, mul_one_div]
  rfl

omit hx hkw hval hsk in
include hy hvc in
theorem dprobs_val (r k : Fin 256) :
    Tile.dprobs (F := Ideal) vc y (ix2 r k) = ((dp yr vcr r k : ℝ) : EReal) := by
  unfold Tile.dprobs dp
  pointwise
  split
  · simp only [hy, hvc, ← EReal.coe_mul, coe_sum]
  · simp only [hy, hvc, ← EReal.coe_mul, coe_sum]

include hy in
theorem dv_val (c : Fin 512) (l : Fin 128) :
    Tile.pDv (F := Ideal) val sk kw x y (ix2 c l) = ((∑ i, wide xr kwr vb skr i c * yr i l : ℝ) : EReal) := by
  unfold Tile.pDv Tile.dv
  pointwise
  refine sum_real _ fun i => ?_
  rw [hy, EReal.coe_mul]
  congr 1
  unfold Tile.wide wide
  pointwise
  simp only [probs_val hx hkw hval hsk]
  split <;> rfl

include hy hvc

theorem delta_val (r : Fin 256) (j : Fin 1) :
    Tile.delta (F := Ideal) (Tile.pProbs (F := Ideal) val sk kw x) (Tile.dprobs (F := Ideal) vc y) (ix2 r j)
      = ((Row.delta (s xr kwr r) (dp yr vcr r) (vb r) (skr r) : ℝ) : EReal) := by
  unfold Tile.delta
  pointwise
  simp only [probs_val hx hkw hval hsk, dprobs_val hy hvc, ← EReal.coe_mul, coe_sum]
  rfl

theorem ds_val (r k : Fin 256) :
    Tile.pDs (F := Ideal) val sk kw vc x y (ix2 r k) = ((ds xr yr kwr vcr vb skr r k : ℝ) : EReal) := by
  have hd := delta_val hx hy hkw hvc hval hsk r 0
  unfold Tile.pDs Tile.dscores
  unfold Tile.delta at hd ⊢
  pointwise
  pointwise at hd
  rw [hd, probs_val hx hkw hval hsk, dprobs_val hy hvc, ofBits_eighth, ← EReal.coe_sub, ← EReal.coe_mul, ← EReal.coe_mul]
  rfl

theorem dq_val (i l : Fin 128) :
    Tile.pDq (F := Ideal) val sk kw vc x y (ix2 i l)
      = ((∑ k, ds xr yr kwr vcr vb skr (if l.val < 64 then ⟨i.val, by omega⟩ else ⟨128 + i.val, by omega⟩) k * kwr k l : ℝ) : EReal) := by
  unfold Tile.pDq Tile.dq Tile.lane
  pointwise
  simp only [lane_slt, select_bit, ds_val hx hy hkw hvc hval hsk, hkw, decide_eq_true_eq, ← EReal.coe_mul, coe_sum]
  split <;> rfl

theorem dk_val (k : Fin 256) (l : Fin 128) :
    Tile.pDk (F := Ideal) val sk kw vc x y (ix2 k l)
      = ((∑ r, ds xr yr kwr vcr vb skr r k * q2 xr r l : ℝ) : EReal) := by
  unfold Tile.pDk Tile.dk
  pointwise
  simp only [ds_val hx hy hkw hvc hval hsk, rows_val hx, ← EReal.coe_mul, coe_sum]

theorem dsink_val (a b : BitVec 32) (acc : FVec Ideal S8x128 .f32) (r : Fin 8) (l : Fin 128) (z : ℝ) (hz : acc (ix2 r l) = ((z : ℝ) : EReal)) :
    Tile.pDsink (F := Ideal) val sk kw vc x y a b acc (ix2 r l)
      = ((z + (if BitVec.ofNat 32 r.val = a then -∑ i : Fin 128, sd xr yr kwr vcr vb skr ⟨i.val, by omega⟩ else 0)
          + (if BitVec.ofNat 32 r.val = b then -∑ i : Fin 128, sd xr yr kwr vcr vb skr ⟨128 + i.val, by omega⟩ else 0) : ℝ) : EReal) := by
  have hd := fun r => delta_val hx hy hkw hvc hval hsk r 0
  have hs := fun r => sprobs_val hx hkw hval hsk r 0
  unfold Tile.pDsink Tile.dsink Tile.inSub Tile.negSum Tile.sub
  generalize Tile.delta (F := Ideal) (Tile.pProbs (F := Ideal) val sk kw x) (Tile.dprobs (F := Ideal) vc y) = dl at hd ⊢
  generalize Tile.pSprobs (F := Ideal) val sk kw x = sp at hs ⊢
  pointwise
  simp only [hd, hs, hz, ← EReal.coe_mul, Finset.univ_unique, Finset.sum_singleton, coe_sum]
  have hc : ∀ c : BitVec 32, IntOp.cmpi .eq (BitVec.ofNat 32 r.val) c = bit (decide (BitVec.ofNat 32 r.val = c)) := by
    intro c
    show BitVec.ofBool (BitVec.ofNat 32 r.val == c) = _
    by_cases h : BitVec.ofNat 32 r.val = c
    · rw [beq_iff_eq.2 h, decide_eq_true h]; rfl
    · rw [beq_eq_false_iff_ne.2 h, decide_eq_false h]; rfl
  simp only [hc, select_bit, decide_eq_true_eq, EReal.coe_add]
  congr 1
  · congr 1
    split <;> simp [sd]
  · split <;> simp [sd]

end Pair

end Cert.Proof

end
-- ==== Proof.Att.lean ====
/-
  One row of the attention's backward pass from its query, its output's gradient and its window of keys and values;
  and the kernel's pairs of heads read as such rows.
-/
module

public import proofs.«01_k».proof.Proof.PairVal

@[expose] public section

noncomputable section

namespace Cert.Proof

open Idealize.ShloMosaic

/-- A row of two heads' queries one above the other. -/
def rowE (e : Fin 2) (i : Fin 128) : Fin 256 := ⟨128 * e.val + i.val, by omega⟩
/-- A lane of two heads side by side. -/
def lane (e : Fin 2) (d : Fin 64) : Fin 128 := ⟨64 * e.val + d.val, by omega⟩
/-- A row of two heads' values one above the other. -/
def wrow (e : Fin 2) (k : Fin 256) : Fin 512 := ⟨256 * e.val + k.val, by omega⟩

theorem sum_rowE (f : Fin 256 → ℝ) : ∑ r, f r = ∑ e, ∑ i, f (rowE e i) := by
  rw [Fin.sum_univ_two, Fin.sum_univ_two_halves 128 128 rfl]
  refine congrArg₂ (· + ·) (Finset.sum_congr rfl fun i _ => congrArg f (Fin.ext ?_)) (Finset.sum_congr rfl fun i _ => congrArg f (Fin.ext ?_)) <;> simp [rowE]

theorem sum_lane (f : Fin 128 → ℝ) : ∑ l, f l = ∑ e, ∑ d, f (lane e d) := by
  rw [Fin.sum_univ_two, Fin.sum_univ_two_halves 64 64 rfl]
  refine congrArg₂ (· + ·) (Finset.sum_congr rfl fun i _ => congrArg f (Fin.ext ?_)) (Finset.sum_congr rfl fun i _ => congrArg f (Fin.ext ?_)) <;> simp [lane]

namespace Att

variable (x y : Fin 64 → ℝ) (kw vw : Fin 256 → Fin 64 → ℝ) (v : Fin 256 → Bool) (sk : ℝ)

/-- The scores of a query against the window's keys. -/
def score (k : Fin 256) : ℝ := (∑ d, x d * kw k d) * (1 / 8)
/-- The gradient of the probabilities. -/
def dprob (k : Fin 256) : ℝ := ∑ d, y d * vw k d
/-- The probabilities. -/
def prob (k : Fin 256) : ℝ := Row.prob (score x kw) v sk k
/-- The gradient of the scores. -/
def ds (k : Fin 256) : ℝ := Row.dscore (score x kw) (dprob y vw) v sk k
/-- The gradient of the sink, with its sign turned. -/
def sd : ℝ := Row.sprob (score x kw) v sk * Row.delta (score x kw) (dprob y vw) v sk

variable {kw vw v}

theorem score_congr {kw' : Fin 256 → Fin 64 → ℝ} (h : ∀ k, v k = true → kw k = kw' k) :
    ∀ k, v k = true → score x kw k = score x kw' k := fun k hk => by unfold score; rw [h k hk]
theorem dprob_congr {vw' : Fin 256 → Fin 64 → ℝ} (h : ∀ k, v k = true → vw k = vw' k) :
    ∀ k, v k = true → dprob y vw k = dprob y vw' k := fun k hk => by unfold dprob; rw [h k hk]
theorem prob_congr {kw' : Fin 256 → Fin 64 → ℝ} (h : ∀ k, v k = true → kw k = kw' k) : prob x kw v sk = prob x kw' v sk := by
  unfold prob; funext k; rw [Row.prob_congr (score_congr x h)]
theorem ds_congr {kw' vw' : Fin 256 → Fin 64 → ℝ} (h : ∀ k, v k = true → kw k = kw' k) (h' : ∀ k, v k = true → vw k = vw' k) :
    ds x y kw vw v sk = ds x y kw' vw' v sk := by
  unfold ds; funext k; rw [Row.dscore_congr (score_congr x h) (dprob_congr y h')]
theorem sd_congr {kw' vw' : Fin 256 → Fin 64 → ℝ} (h : ∀ k, v k = true → kw k = kw' k) (h' : ∀ k, v k = true → vw k = vw' k) :
    sd x y kw vw v sk = sd x y kw' vw' v sk := by
  unfold sd; rw [Row.sprob_congr (score_congr x h), Row.delta_congr (score_congr x h) (dprob_congr y h')]
theorem ds_off {k : Fin 256} (h : v k = false) : ds x y kw vw v sk k = 0 := Row.dscore_off _ _ _ _ h

end Att

namespace Pair

variable (xr yr : Fin 128 → Fin 128 → ℝ) (kw vw : Fin 256 → Fin 64 → ℝ) (kwr : Fin 256 → Fin 128 → ℝ) (vcr : Fin 512 → Fin 128 → ℝ)
  (v : Fin 128 → Fin 256 → Bool) (vb : Fin 256 → Fin 256 → Bool) (sk : Fin 2 → ℝ) (skr : Fin 256 → ℝ)

theorem q2_row (e e' : Fin 2) (i : Fin 128) (d : Fin 64) : q2 xr (rowE e i) (lane e' d) = if e = e' then xr i (lane e d) else 0 := by
  fin_cases e <;> fin_cases e' <;> simp [q2, rowE, lane]

variable {kw vw kwr vcr v vb sk skr}
variable (hk : ∀ k e d, kwr k (lane e d) = kw k d) (hv : ∀ e k e' d, vcr (wrow e k) (lane e' d) = if e = e' then vw k d else 0)
  (hb : ∀ e i, vb (rowE e i) = v i) (hs : ∀ e i, skr (rowE e i) = sk e)

include hk in
theorem s_row (e : Fin 2) (i : Fin 128) : s xr kwr (rowE e i) = Att.score (fun d => xr i (lane e d)) kw := by
  funext k
  unfold s Att.score
  rw [sum_lane]
  simp only [q2_row, hk]
  congr 1
  rw [Finset.sum_eq_single e]
  · simp
  · intro b _ hb; simp [hb.symm]
  · simp

include hv in
theorem dp_row (e : Fin 2) (i : Fin 128) : dp yr vcr (rowE e i) = Att.dprob (fun d => yr i (lane e d)) vw := by
  funext k
  have h : dp yr vcr (rowE e i) k = ∑ l, yr i l * vcr (wrow e k) l := by
    fin_cases e <;> simp [dp, rowE, wrow]
  rw [h, sum_lane]
  unfold Att.dprob
  simp only [hv]
  rw [Finset.sum_eq_single e]
  · simp
  · intro b _ hb; simp [hb.symm]
  · simp

include hk hb hs in
theorem prob_row (e : Fin 2) (i : Fin 128) : prob xr kwr vb skr (rowE e i) = Att.prob (fun d => xr i (lane e d)) kw (v i) (sk e) := by
  funext k
  unfold prob Att.prob
  rw [s_row xr hk, hb, hs]

include hk hv hb hs in
theorem ds_row (e : Fin 2) (i : Fin 128) (k : Fin 256) : ds xr yr kwr vcr vb skr (rowE e i) k
    = Att.ds (fun d => xr i (lane e d)) (fun d => yr i (lane e d)) kw vw (v i) (sk e) k * (1 / 8) := by
  unfold ds Att.ds
  rw [s_row xr hk, dp_row yr hv, hb, hs]

include hk hv hb hs in
theorem sd_row (e : Fin 2) (i : Fin 128) : sd xr yr kwr vcr vb skr (rowE e i)
    = Att.sd (fun d => xr i (lane e d)) (fun d => yr i (lane e d)) kw vw (v i) (sk e) := by
  unfold sd Att.sd
  rw [s_row xr hk, dp_row yr hv, hb, hs]

include hk hv hb hs in
theorem dq_row (e : Fin 2) (i : Fin 128) (d : Fin 64) :
    ∑ k, ds xr yr kwr vcr vb skr (if (lane e d).val < 64 then ⟨i.val, by omega⟩ else ⟨128 + i.val, by omega⟩) k * kwr k (lane e d)
      = ∑ k, Att.ds (fun d => xr i (lane e d)) (fun d => yr i (lane e d)) kw vw (v i) (sk e) k * (1 / 8) * kw k d := by
  refine Finset.sum_congr rfl fun k _ => ?_
  rw [hk, ← ds_row xr yr hk hv hb hs]
  congr 2
  fin_cases e <;> simp [lane, rowE]

include hk hv hb hs in
theorem dk_row (e : Fin 2) (d : Fin 64) (k : Fin 256) :
    ∑ r, ds xr yr kwr vcr vb skr r k * q2 xr r (lane e d)
      = ∑ i, Att.ds (fun d => xr i (lane e d)) (fun d => yr i (lane e d)) kw vw (v i) (sk e) k * (1 / 8) * xr i (lane e d) := by
  rw [sum_rowE, Finset.sum_eq_single e]
  · refine Finset.sum_congr rfl fun i _ => ?_
    rw [ds_row xr yr hk hv hb hs, q2_row, if_pos rfl]
  · intro b _ hb'
    refine Finset.sum_eq_zero fun i _ => ?_
    rw [q2_row, if_neg hb', mul_zero]
  · simp

include hk hb hs in
theorem dv_row (e : Fin 2) (d : Fin 64) (k : Fin 256) :
    ∑ i, wide xr kwr vb skr i (wrow e k) * yr i (lane e d)
      = ∑ i, Att.prob (fun d => xr i (lane e d)) kw (v i) (sk e) k * yr i (lane e d) := by
  refine Finset.sum_congr rfl fun i _ => ?_
  rw [← prob_row xr hk hb hs]
  congr 1
  fin_cases e <;> simp [wide, wrow, rowE]

end Pair

end Cert.Proof

end
-- ==== Proof.Payload.lean ====
/-
  The values the kernel's body computes for each of the four pairs of heads are the pair's functions of `Tile.lean`.
-/
module

public import proofs.«01_k».proof.Proof.Tile
public import Idealize.ShloMosaic.Lib.Pipeline.Value

@[expose] public section

noncomputable section

namespace Cert.KernelIdeal.Gen.Tile

open Idealize.ShloMosaic Idealize.SL.Sem Cert.KernelIdeal Cert.KernelIdeal.Facts

variable {F : FTy → Type} [FloatOps F]
variable (val : IVec S256x256 1) (up : IVec S256x1 1) (hi lo : Elt F .f32) (sk sp : FVec F S256x1 .f32) (kw : FVec F S256x128 .bf16)
  (vc : FVec F S512x128 .bf16) (x y : Vec F S128x128 .bf16) (q2 : FVec F S256x128 .bf16) (pr dp : FVec F S256x256 .f32)
  (ds : FVec F S256x256 .bf16) (acc : FVec F S8x128 .f32) (a d : FVec F S256x128 .f32) (a' d' : FVec F S512x128 .f32)

theorem pay8_eq : k0_pay8 x (iota Kind.tc S128x128 32 [1] iota_S128x128_d1_w32) (FloatOps.ofBits .bf16 0#16) = rows x := rfl
theorem pay15_eq : k0_pay15 val up kw x (iota Kind.tc S128x128 32 [1] iota_S128x128_d1_w32) (FloatOps.ofBits .bf16 0#16) hi lo
    = pProbs val (sinks up hi lo) kw x := rfl
theorem pay16_eq : k0_pay16 val up kw x (iota Kind.tc S128x128 32 [1] iota_S128x128_d1_w32) (FloatOps.ofBits .bf16 0#16) hi lo
    = pSprobs val (sinks up hi lo) kw x := rfl
theorem pay17_eq : k0_pay17 val up kw x (iota Kind.tc S128x128 32 [1] iota_S128x128_d1_w32) (FloatOps.ofBits .bf16 0#16) hi lo
    = wide (pProbs val (sinks up hi lo) kw x) := rfl
theorem pay19_eq : k0_pay19 y (wide pr) = dv pr y := rfl
theorem pay21_eq : k0_pay21 vc y pr = dscores pr (dprobs vc y) := rfl
theorem pay22_eq : k0_pay22 vc (iota .tc S8x128 32 [0] iota_S8x128_d0_w32) acc y pr sp = dsink 0#32 1#32 acc sp (delta pr (dprobs vc y)) := rfl
theorem pay23_eq : k0_pay23 kw vc (iota Kind.tc S128x128 32 [1] iota_S128x128_d1_w32) y pr = dq kw (dscores pr (dprobs vc y)) := rfl
theorem pay24_eq : k0_pay24 q2 ds = dk q2 ds := by unfold k0_pay24; dsimp only; rw [shapeCast_self]; rfl
theorem pay25_eq : k0_pay25 d' = d' := by unfold k0_pay25; dsimp only; rw [shapeCast_self]
theorem pay26_eq : k0_pay26 x = rows x := rfl
theorem pay27_eq : k0_pay27 up hi lo = sinks up hi lo := rfl
theorem pay37_eq : k0_pay37 val y sk (k0_pay28 kw x) k0_pay29 = pDv val sk kw x y := rfl
theorem pay39_eq : k0_pay39 val vc y sk (k0_pay28 kw x) k0_pay29 = pDs val sk kw vc x y := rfl
theorem pay42_eq : k0_pay42 (iota .tc S8x128 32 [0] iota_S8x128_d0_w32) (k0_pay40 val vc y sk (k0_pay28 kw x) k0_pay29)
    (k0_pay41 val vc (iota .tc S8x128 32 [0] iota_S8x128_d0_w32) acc y sk (k0_pay28 kw x) k0_pay29) 3#32
      = pDsink val sk kw vc x y 2#32 3#32 acc := rfl
theorem pay43_eq : k0_pay43 kw (iota Kind.tc S128x128 32 [1] iota_S128x128_d1_w32) ds = dq kw ds := rfl
theorem pay44_eq : k0_pay44 q2 ds a = addf a (dk q2 ds) := by unfold k0_pay44; dsimp only; rw [shapeCast_self]; rfl
theorem pay45_eq : k0_pay45 d' a' = addf a' d' := by unfold k0_pay45; dsimp only; rw [shapeCast_self]
theorem pay48_eq : k0_pay48 x (iota Kind.tc S128x128 32 [1] iota_S128x128_d1_w32) k0_pay46 (k0_pay47 x) 64#32 = rows x := rfl
theorem pay55_eq : k0_pay55 val up kw x (iota Kind.tc S128x128 32 [1] iota_S128x128_d1_w32) k0_pay46 (k0_pay47 x) 64#32 hi lo
    = pProbs val (sinks up hi lo) kw x := rfl
theorem pay56_eq : k0_pay56 val up kw x (iota Kind.tc S128x128 32 [1] iota_S128x128_d1_w32) k0_pay46 (k0_pay47 x) 64#32 hi lo
    = pSprobs val (sinks up hi lo) kw x := rfl
theorem pay57_eq : k0_pay57 val up kw x (iota Kind.tc S128x128 32 [1] iota_S128x128_d1_w32) k0_pay46 (k0_pay47 x) 64#32 hi lo
    = truncf .bf16 (wide (pProbs val (sinks up hi lo) kw x)) bitsLt_bf16_f32 := rfl
theorem pay58_eq : k0_pay58 vc y = dprobs vc y := rfl
theorem pay59_eq : k0_pay59 y (truncf .bf16 (wide pr) bitsLt_bf16_f32) = dv pr y := rfl
theorem pay62_eq : k0_pay62 (iota .tc S8x128 32 [0] iota_S8x128_d0_w32) acc pr sp dp = dsink 4#32 5#32 acc sp (delta pr dp) := rfl
theorem pay63_eq : k0_pay63 kw (iota Kind.tc S128x128 32 [1] iota_S128x128_d1_w32) pr dp = dq kw (dscores pr dp) := rfl
theorem pay64_eq : k0_pay64 q2 pr dp = dk q2 (dscores pr dp) := rfl
theorem pay65_eq : k0_pay65 d a = addf a d := by unfold k0_pay65; dsimp only; rw [shapeCast_self]
theorem pay66_eq : k0_pay66 d' a' = addf a' d' := by unfold k0_pay66; dsimp only; rw [shapeCast_self]
theorem pay67_eq : k0_pay67 x = rows x := rfl
theorem pay68_eq : k0_pay68 up hi lo = sinks up hi lo := rfl
theorem pay77_eq : k0_pay77 val y sk (k0_pay69 kw x) = pDv val sk kw x y := rfl
theorem pay79_eq : k0_pay79 val vc y sk (k0_pay69 kw x) = pDs val sk kw vc x y := rfl
theorem pay82_eq : k0_pay82 (iota .tc S8x128 32 [0] iota_S8x128_d0_w32) acc (k0_pay80 val vc y sk (k0_pay69 kw x))
    (k0_pay81 val vc (iota .tc S8x128 32 [0] iota_S8x128_d0_w32) y sk (k0_pay69 kw x))
      = pDsink val sk kw vc x y 6#32 7#32 acc := rfl
theorem pay83_eq : k0_pay83 kw (iota Kind.tc S128x128 32 [1] iota_S128x128_d1_w32) ds = dq kw ds := rfl
theorem pay84_eq : k0_pay84 q2 ds a = addf a (dk q2 ds) := by unfold k0_pay84; dsimp only; rw [shapeCast_self]; rfl
theorem pay85_eq : k0_pay85 d' a' = addf a' d' := by unfold k0_pay85; dsimp only; rw [shapeCast_self]

end Cert.KernelIdeal.Gen.Tile

end
-- ==== Proof.Group.lean ====
/-
  One grid point of the backward attention kernel: the four pairs of heads put together, as functions of the blocks the
  point reads.
-/
module

public import proofs.«01_k».proof.Proof.Gen.KernelIdeal.Points
public import proofs.«01_k».proof.Proof.Payload
public import Idealize.ShloMosaic.Lib.Pointwise.Tactic

@[expose] public section

noncomputable section

namespace Cert.KernelIdeal.Gen.Tile

open Cert.KernelIdeal Cert.KernelIdeal.Facts Cert.KernelIdeal.Gen Idealize.ShloMosaic Idealize.ShloMosaic.TcCoe Idealize.SL.Sem

variable {F : FTy → Type} [FloatOps F]

/-- The sink of the `a`-th head of the point's group. -/
def sinkAt (i : grid0.Coords) (x0 : Vec F S32 .f32) (a : Fin 8) : Elt F .f32 :=
  x0 (ix1 (⟨8 * (i 0).val + a.val, by have h : (i 0).val < 4 := (i 0).isLt; have := a.isLt; omega⟩ : Fin 32))

theorem ld_sink (i : grid0.Coords) (x0 : Vec F S32 .f32) (a : Fin 8) (off : Fin 1 → ℕ) (h : ∀ b, off b + S1.size b ≤ S32.size b)
    (hf : (Rect.unit (s := S32) off S1.size h).shape.Idx) (ho : off 0 = 8 * (i 0).val + a.val) :
    View.ld x0 (Rect.unit (s := S32) off S1.size h) hf = sinkAt i x0 a := by
  unfold sinkAt
  refine congrArg x0 (funext fun b => ?_)
  fin_cases b
  refine Fin.ext ?_
  have hb : (hf 0).val < 1 := (hf 0).isLt
  show off 0 + 1 * (hf 0).val = 8 * (i 0).val + a.val
  omega

variable (i : grid0.Coords) (x0 : Vec F S32 .f32)

theorem sink0_val : BitVec.toNat (Scalar.indexCast (Scalar.addi (Scalar.muli (BitVec.ofNat 32 (i 0).val) 8#32) 0#32)) = 8 * (i 0).val + 0 := by
  have hi : (i 0).val < 4 := (i 0).isLt
  generalize (i 0).val = n at hi
  obtain rfl | rfl | rfl | rfl : n = 0 ∨ n = 1 ∨ n = 2 ∨ n = 3 := by omega
  all_goals rfl
theorem sink0_inb : ∀ b, (![BitVec.toNat (Scalar.indexCast (Scalar.addi (Scalar.muli (BitVec.ofNat 32 (i 0).val) 8#32) 0#32))] : Fin 1 → ℕ) b + (![1] : Fin 1 → ℕ) b ≤ S32.size b := by
  intro b
  fin_cases b
  have hi : (i 0).val < 4 := (i 0).isLt
  show BitVec.toNat (Scalar.indexCast (Scalar.addi (Scalar.muli (BitVec.ofNat 32 (i 0).val) 8#32) 0#32)) + 1 ≤ 32
  rw [sink0_val]; omega
/-- The sink of head 0 of the point's group, as the body loads it. -/
def sink0 : Elt F .f32 :=
  View.ld x0 (Rect.unit (s := S32) ![BitVec.toNat (Scalar.indexCast (Scalar.addi (Scalar.muli (BitVec.ofNat 32 (i 0).val) 8#32) 0#32))] ![1] (sink0_inb i)) (Shape.Idx.first Nat.one_pos)
theorem sink0_eq : sink0 i x0 = sinkAt i x0 0 :=
  ld_sink i x0 0 _ _ _ (sink0_val i)

theorem sink1_val : BitVec.toNat (Scalar.indexCast (Scalar.addi (Scalar.addi (Scalar.muli (BitVec.ofNat 32 (i 0).val) 8#32) 0#32) 1#32)) = 8 * (i 0).val + 1 := by
  have hi : (i 0).val < 4 := (i 0).isLt
  generalize (i 0).val = n at hi
  obtain rfl | rfl | rfl | rfl : n = 0 ∨ n = 1 ∨ n = 2 ∨ n = 3 := by omega
  all_goals rfl
theorem sink1_inb : ∀ b, (![BitVec.toNat (Scalar.indexCast (Scalar.addi (Scalar.addi (Scalar.muli (BitVec.ofNat 32 (i 0).val) 8#32) 0#32) 1#32))] : Fin 1 → ℕ) b + (![1] : Fin 1 → ℕ) b ≤ S32.size b := by
  intro b
  fin_cases b
  have hi : (i 0).val < 4 := (i 0).isLt
  show BitVec.toNat (Scalar.indexCast (Scalar.addi (Scalar.addi (Scalar.muli (BitVec.ofNat 32 (i 0).val) 8#32) 0#32) 1#32)) + 1 ≤ 32
  rw [sink1_val]; omega
/-- The sink of head 1 of the point's group, as the body loads it. -/
def sink1 : Elt F .f32 :=
  View.ld x0 (Rect.unit (s := S32) ![BitVec.toNat (Scalar.indexCast (Scalar.addi (Scalar.addi (Scalar.muli (BitVec.ofNat 32 (i 0).val) 8#32) 0#32) 1#32))] ![1] (sink1_inb i)) (Shape.Idx.first Nat.one_pos)
theorem sink1_eq : sink1 i x0 = sinkAt i x0 1 :=
  ld_sink i x0 1 _ _ _ (sink1_val i)

theorem sink2_val : BitVec.toNat (Scalar.indexCast (Scalar.addi (Scalar.muli (BitVec.ofNat 32 (i 0).val) 8#32) 2#32)) = 8 * (i 0).val + 2 := by
  have hi : (i 0).val < 4 := (i 0).isLt
  generalize (i 0).val = n at hi
  obtain rfl | rfl | rfl | rfl : n = 0 ∨ n = 1 ∨ n = 2 ∨ n = 3 := by omega
  all_goals rfl
theorem sink2_inb : ∀ b, (![BitVec.toNat (Scalar.indexCast (Scalar.addi (Scalar.muli (BitVec.ofNat 32 (i 0).val) 8#32) 2#32))] : Fin 1 → ℕ) b + (![1] : Fin 1 → ℕ) b ≤ S32.size b := by
  intro b
  fin_cases b
  have hi : (i 0).val < 4 := (i 0).isLt
  show BitVec.toNat (Scalar.indexCast (Scalar.addi (Scalar.muli (BitVec.ofNat 32 (i 0).val) 8#32) 2#32)) + 1 ≤ 32
  rw [sink2_val]; omega
/-- The sink of head 2 of the point's group, as the body loads it. -/
def sink2 : Elt F .f32 :=
  View.ld x0 (Rect.unit (s := S32) ![BitVec.toNat (Scalar.indexCast (Scalar.addi (Scalar.muli (BitVec.ofNat 32 (i 0).val) 8#32) 2#32))] ![1] (sink2_inb i)) (Shape.Idx.first Nat.one_pos)
theorem sink2_eq : sink2 i x0 = sinkAt i x0 2 :=
  ld_sink i x0 2 _ _ _ (sink2_val i)

theorem sink3_val : BitVec.toNat (Scalar.indexCast (Scalar.addi (Scalar.addi (Scalar.muli (BitVec.ofNat 32 (i 0).val) 8#32) 2#32) 1#32)) = 8 * (i 0).val + 3 := by
  have hi : (i 0).val < 4 := (i 0).isLt
  generalize (i 0).val = n at hi
  obtain rfl | rfl | rfl | rfl : n = 0 ∨ n = 1 ∨ n = 2 ∨ n = 3 := by omega
  all_goals rfl
theorem sink3_inb : ∀ b, (![BitVec.toNat (Scalar.indexCast (Scalar.addi (Scalar.addi (Scalar.muli (BitVec.ofNat 32 (i 0).val) 8#32) 2#32) 1#32))] : Fin 1 → ℕ) b + (![1] : Fin 1 → ℕ) b ≤ S32.size b := by
  intro b
  fin_cases b
  have hi : (i 0).val < 4 := (i 0).isLt
  show BitVec.toNat (Scalar.indexCast (Scalar.addi (Scalar.addi (Scalar.muli (BitVec.ofNat 32 (i 0).val) 8#32) 2#32) 1#32)) + 1 ≤ 32
  rw [sink3_val]; omega
/-- The sink of head 3 of the point's group, as the body loads it. -/
def sink3 : Elt F .f32 :=
  View.ld x0 (Rect.unit (s := S32) ![BitVec.toNat (Scalar.indexCast (Scalar.addi (Scalar.addi (Scalar.muli (BitVec.ofNat 32 (i 0).val) 8#32) 2#32) 1#32))] ![1] (sink3_inb i)) (Shape.Idx.first Nat.one_pos)
theorem sink3_eq : sink3 i x0 = sinkAt i x0 3 :=
  ld_sink i x0 3 _ _ _ (sink3_val i)

theorem sink4_val : BitVec.toNat (Scalar.indexCast (Scalar.addi (Scalar.muli (BitVec.ofNat 32 (i 0).val) 8#32) 4#32)) = 8 * (i 0).val + 4 := by
  have hi : (i 0).val < 4 := (i 0).isLt
  generalize (i 0).val = n at hi
  obtain rfl | rfl | rfl | rfl : n = 0 ∨ n = 1 ∨ n = 2 ∨ n = 3 := by omega
  all_goals rfl
theorem sink4_inb : ∀ b, (![BitVec.toNat (Scalar.indexCast (Scalar.addi (Scalar.muli (BitVec.ofNat 32 (i 0).val) 8#32) 4#32))] : Fin 1 → ℕ) b + (![1] : Fin 1 → ℕ) b ≤ S32.size b := by
  intro b
  fin_cases b
  have hi : (i 0).val < 4 := (i 0).isLt
  show BitVec.toNat (Scalar.indexCast (Scalar.addi (Scalar.muli (BitVec.ofNat 32 (i 0).val) 8#32) 4#32)) + 1 ≤ 32
  rw [sink4_val]; omega
/-- The sink of head 4 of the point's group, as the body loads it. -/
def sink4 : Elt F .f32 :=
  View.ld x0 (Rect.unit (s := S32) ![BitVec.toNat (Scalar.indexCast (Scalar.addi (Scalar.muli (BitVec.ofNat 32 (i 0).val) 8#32) 4#32))] ![1] (sink4_inb i)) (Shape.Idx.first Nat.one_pos)
theorem sink4_eq : sink4 i x0 = sinkAt i x0 4 :=
  ld_sink i x0 4 _ _ _ (sink4_val i)

theorem sink5_val : BitVec.toNat (Scalar.indexCast (Scalar.addi (Scalar.addi (Scalar.muli (BitVec.ofNat 32 (i 0).val) 8#32) 4#32) 1#32)) = 8 * (i 0).val + 5 := by
  have hi : (i 0).val < 4 := (i 0).isLt
  generalize (i 0).val = n at hi
  obtain rfl | rfl | rfl | rfl : n = 0 ∨ n = 1 ∨ n = 2 ∨ n = 3 := by omega
  all_goals rfl
theorem sink5_inb : ∀ b, (![BitVec.toNat (Scalar.indexCast (Scalar.addi (Scalar.addi (Scalar.muli (BitVec.ofNat 32 (i 0).val) 8#32) 4#32) 1#32))] : Fin 1 → ℕ) b + (![1] : Fin 1 → ℕ) b ≤ S32.size b := by
  intro b
  fin_cases b
  have hi : (i 0).val < 4 := (i 0).isLt
  show BitVec.toNat (Scalar.indexCast (Scalar.addi (Scalar.addi (Scalar.muli (BitVec.ofNat 32 (i 0).val) 8#32) 4#32) 1#32)) + 1 ≤ 32
  rw [sink5_val]; omega
/-- The sink of head 5 of the point's group, as the body loads it. -/
def sink5 : Elt F .f32 :=
  View.ld x0 (Rect.unit (s := S32) ![BitVec.toNat (Scalar.indexCast (Scalar.addi (Scalar.addi (Scalar.muli (BitVec.ofNat 32 (i 0).val) 8#32) 4#32) 1#32))] ![1] (sink5_inb i)) (Shape.Idx.first Nat.one_pos)
theorem sink5_eq : sink5 i x0 = sinkAt i x0 5 :=
  ld_sink i x0 5 _ _ _ (sink5_val i)

theorem sink6_val : BitVec.toNat (Scalar.indexCast (Scalar.addi (Scalar.muli (BitVec.ofNat 32 (i 0).val) 8#32) 6#32)) = 8 * (i 0).val + 6 := by
  have hi : (i 0).val < 4 := (i 0).isLt
  generalize (i 0).val = n at hi
  obtain rfl | rfl | rfl | rfl : n = 0 ∨ n = 1 ∨ n = 2 ∨ n = 3 := by omega
  all_goals rfl
theorem sink6_inb : ∀ b, (![BitVec.toNat (Scalar.indexCast (Scalar.addi (Scalar.muli (BitVec.ofNat 32 (i 0).val) 8#32) 6#32))] : Fin 1 → ℕ) b + (![1] : Fin 1 → ℕ) b ≤ S32.size b := by
  intro b
  fin_cases b
  have hi : (i 0).val < 4 := (i 0).isLt
  show BitVec.toNat (Scalar.indexCast (Scalar.addi (Scalar.muli (BitVec.ofNat 32 (i 0).val) 8#32) 6#32)) + 1 ≤ 32
  rw [sink6_val]; omega
/-- The sink of head 6 of the point's group, as the body loads it. -/
def sink6 : Elt F .f32 :=
  View.ld x0 (Rect.unit (s := S32) ![BitVec.toNat (Scalar.indexCast (Scalar.addi (Scalar.muli (BitVec.ofNat 32 (i 0).val) 8#32) 6#32))] ![1] (sink6_inb i)) (Shape.Idx.first Nat.one_pos)
theorem sink6_eq : sink6 i x0 = sinkAt i x0 6 :=
  ld_sink i x0 6 _ _ _ (sink6_val i)

theorem sink7_val : BitVec.toNat (Scalar.indexCast (Scalar.addi (Scalar.addi (Scalar.muli (BitVec.ofNat 32 (i 0).val) 8#32) 6#32) 1#32)) = 8 * (i 0).val + 7 := by
  have hi : (i 0).val < 4 := (i 0).isLt
  generalize (i 0).val = n at hi
  obtain rfl | rfl | rfl | rfl : n = 0 ∨ n = 1 ∨ n = 2 ∨ n = 3 := by omega
  all_goals rfl
theorem sink7_inb : ∀ b, (![BitVec.toNat (Scalar.indexCast (Scalar.addi (Scalar.addi (Scalar.muli (BitVec.ofNat 32 (i 0).val) 8#32) 6#32) 1#32))] : Fin 1 → ℕ) b + (![1] : Fin 1 → ℕ) b ≤ S32.size b := by
  intro b
  fin_cases b
  have hi : (i 0).val < 4 := (i 0).isLt
  show BitVec.toNat (Scalar.indexCast (Scalar.addi (Scalar.addi (Scalar.muli (BitVec.ofNat 32 (i 0).val) 8#32) 6#32) 1#32)) + 1 ≤ 32
  rw [sink7_val]; omega
/-- The sink of head 7 of the point's group, as the body loads it. -/
def sink7 : Elt F .f32 :=
  View.ld x0 (Rect.unit (s := S32) ![BitVec.toNat (Scalar.indexCast (Scalar.addi (Scalar.addi (Scalar.muli (BitVec.ofNat 32 (i 0).val) 8#32) 6#32) 1#32))] ![1] (sink7_inb i)) (Shape.Idx.first Nat.one_pos)
theorem sink7_eq : sink7 i x0 = sinkAt i x0 7 :=
  ld_sink i x0 7 _ _ _ (sink7_val i)

variable (x1 x8 : Vec F S128x512 .bf16) (x2 x3 x4 x5 x6 x7 : Vec F S128x128 .bf16)

/-- Pair 0's tile of a block of queries or of gradients. -/
def tile0 (x : Vec F S128x512 .bf16) : Vec F S128x128 .bf16 :=
  View.ld x (Rect.unit (s := S128x512) ![0, 0] S128x128.size inb_S128x512_S128x128_0_0)
/-- Pair 0's sinks. -/
def gSk0 : FVec F S256x1 .f32 := sinks k0_pay4 (sink1 i x0) (sink0 i x0)
/-- Pair 1's tile of a block of queries or of gradients. -/
def tile1 (x : Vec F S128x512 .bf16) : Vec F S128x128 .bf16 :=
  View.ld x (Rect.unit (s := S128x512) ![0, 128] S128x128.size inb_S128x512_S128x128_0_128)
/-- Pair 1's sinks. -/
def gSk1 : FVec F S256x1 .f32 := sinks k0_pay4 (sink3 i x0) (sink2 i x0)
/-- Pair 2's tile of a block of queries or of gradients. -/
def tile2 (x : Vec F S128x512 .bf16) : Vec F S128x128 .bf16 :=
  View.ld x (Rect.unit (s := S128x512) ![0, 256] S128x128.size inb_S128x512_S128x128_0_256)
/-- Pair 2's sinks. -/
def gSk2 : FVec F S256x1 .f32 := sinks k0_pay4 (sink5 i x0) (sink4 i x0)
/-- Pair 3's tile of a block of queries or of gradients. -/
def tile3 (x : Vec F S128x512 .bf16) : Vec F S128x128 .bf16 :=
  View.ld x (Rect.unit (s := S128x512) ![0, 384] S128x128.size inb_S128x512_S128x128_0_384)
/-- Pair 3's sinks. -/
def gSk3 : FVec F S256x1 .f32 := sinks k0_pay4 (sink7 i x0) (sink6 i x0)
/-- Pair 0's part. -/
def gDq0 : FVec F S128x128 .f32 := pDq (k0_pay3 i) (gSk0 i x0) (k0_pay5 x3 x2) (k0_pay6 x5 x4 x7 x6) (tile0 x1) (tile0 x8)
/-- Pair 1's part. -/
def gDq1 : FVec F S128x128 .f32 := pDq (k0_pay3 i) (gSk1 i x0) (k0_pay5 x3 x2) (k0_pay6 x5 x4 x7 x6) (tile1 x1) (tile1 x8)
/-- Pair 2's part. -/
def gDq2 : FVec F S128x128 .f32 := pDq (k0_pay3 i) (gSk2 i x0) (k0_pay5 x3 x2) (k0_pay6 x5 x4 x7 x6) (tile2 x1) (tile2 x8)
/-- Pair 3's part. -/
def gDq3 : FVec F S128x128 .f32 := pDq (k0_pay3 i) (gSk3 i x0) (k0_pay5 x3 x2) (k0_pay6 x5 x4 x7 x6) (tile3 x1) (tile3 x8)
/-- Pair 0's part. -/
def gDkPart0 : FVec F S256x128 .f32 := pDk (k0_pay3 i) (gSk0 i x0) (k0_pay5 x3 x2) (k0_pay6 x5 x4 x7 x6) (tile0 x1) (tile0 x8)
/-- Pair 1's part. -/
def gDkPart1 : FVec F S256x128 .f32 := pDk (k0_pay3 i) (gSk1 i x0) (k0_pay5 x3 x2) (k0_pay6 x5 x4 x7 x6) (tile1 x1) (tile1 x8)
/-- Pair 2's part. -/
def gDkPart2 : FVec F S256x128 .f32 := pDk (k0_pay3 i) (gSk2 i x0) (k0_pay5 x3 x2) (k0_pay6 x5 x4 x7 x6) (tile2 x1) (tile2 x8)
/-- Pair 3's part. -/
def gDkPart3 : FVec F S256x128 .f32 := pDk (k0_pay3 i) (gSk3 i x0) (k0_pay5 x3 x2) (k0_pay6 x5 x4 x7 x6) (tile3 x1) (tile3 x8)
/-- Pair 0's part. -/
def gDvPart0 : FVec F S512x128 .f32 := pDv (k0_pay3 i) (gSk0 i x0) (k0_pay5 x3 x2) (tile0 x1) (tile0 x8)
/-- Pair 1's part. -/
def gDvPart1 : FVec F S512x128 .f32 := pDv (k0_pay3 i) (gSk1 i x0) (k0_pay5 x3 x2) (tile1 x1) (tile1 x8)
/-- Pair 2's part. -/
def gDvPart2 : FVec F S512x128 .f32 := pDv (k0_pay3 i) (gSk2 i x0) (k0_pay5 x3 x2) (tile2 x1) (tile2 x8)
/-- Pair 3's part. -/
def gDvPart3 : FVec F S512x128 .f32 := pDv (k0_pay3 i) (gSk3 i x0) (k0_pay5 x3 x2) (tile3 x1) (tile3 x8)
/-- The keys' gradient of the point's window. -/
def gDk : FVec F S256x128 .f32 :=
  addf (addf (addf (gDkPart0 i x0 x1 x8 x2 x3 x4 x5 x6 x7) (gDkPart1 i x0 x1 x8 x2 x3 x4 x5 x6 x7)) (gDkPart2 i x0 x1 x8 x2 x3 x4 x5 x6 x7)) (gDkPart3 i x0 x1 x8 x2 x3 x4 x5 x6 x7)
/-- The values' gradient of the point's window, once for the even and once for the odd heads. -/
def gDv : FVec F S512x128 .f32 :=
  addf (addf (addf (gDvPart0 i x0 x1 x8 x2 x3) (gDvPart1 i x0 x1 x8 x2 x3)) (gDvPart2 i x0 x1 x8 x2 x3)) (gDvPart3 i x0 x1 x8 x2 x3)
/-- The point's part of the sinks' gradient. -/
def gDsink : FVec F S8x128 .f32 :=
  (pDsink (k0_pay3 i) (gSk3 i x0) (k0_pay5 x3 x2) (k0_pay6 x5 x4 x7 x6) (tile3 x1) (tile3 x8) 6#32 7#32
    (pDsink (k0_pay3 i) (gSk2 i x0) (k0_pay5 x3 x2) (k0_pay6 x5 x4 x7 x6) (tile2 x1) (tile2 x8) 4#32 5#32
    (pDsink (k0_pay3 i) (gSk1 i x0) (k0_pay5 x3 x2) (k0_pay6 x5 x4 x7 x6) (tile1 x1) (tile1 x8) 2#32 3#32
    (pDsink (k0_pay3 i) (gSk0 i x0) (k0_pay5 x3 x2) (k0_pay6 x5 x4 x7 x6) (tile0 x1) (tile0 x8) 0#32 1#32
    k0_pay7))))
/-- The queries' gradient of the point's block: four tiles side by side. -/
def gDq : FVec F S128x512 .f32 :=
  View.canon (Val := Elt F) (e := .f32) [⟨Rect.unit (s := S128x512) ![0, 384] S128x128.size inb_S128x512_S128x128_0_384, gDq3 i x0 x1 x8 x2 x3 x4 x5 x6 x7⟩,
    ⟨Rect.unit (s := S128x512) ![0, 256] S128x128.size inb_S128x512_S128x128_0_256, gDq2 i x0 x1 x8 x2 x3 x4 x5 x6 x7⟩,
    ⟨Rect.unit (s := S128x512) ![0, 128] S128x128.size inb_S128x512_S128x128_0_128, gDq1 i x0 x1 x8 x2 x3 x4 x5 x6 x7⟩,
    ⟨Rect.unit (s := S128x512) ![0, 0] S128x128.size inb_S128x512_S128x128_0_0, gDq0 i x0 x1 x8 x2 x3 x4 x5 x6 x7⟩]

/-- A load of a buffer whose last store filled it whole reads that store's payload. -/
theorem readCov_whole {S : Shape} {e : EltTy} {sig : RefSig} {κ : Kind} {sp : Space} (v : View sig κ sp S e) {off : Fin S.rank → ℕ}
    (h : off = fun _ => 0) (inb : ∀ a, off a + S.size a ≤ S.size a) (w : S.Idx → Elt F e) (L : List (View.Piece (Elt F) S e)) (r : Rect S) :
    v.readCov ((⟨Rect.unit off S.size inb, w⟩ : View.Piece (Elt F) S e) :: L) r.toLoadRect = View.ld w r := by
  rw [View.readCov_eq_canon_ld _ _ _ (fun y => ⟨_, List.mem_cons_self, View.mem_set_unit_zero h inb y⟩), View.canon_cons_unit_zero h]

end Cert.KernelIdeal.Gen.Tile

end
-- ==== Proof.KPt.lean ====
/-
  What one grid point of the backward attention kernel computes, over the reals: from input blocks that hold real
  numbers, each output block at an index is the row formula of `Att` summed as the block asks.
-/
module

public import proofs.«01_k».proof.Proof.Group
public import proofs.«01_k».proof.Proof.Att
public import proofs.«01_k».proof.Proof.KIn
public import Idealize.ShloMosaic.Lib.WordCmp

@[expose] public section

set_option maxRecDepth 16384

noncomputable section

namespace Cert.Proof

open Idealize.ShloMosaic Idealize.ShloMosaic.TcCoe Idealize.SL.Sem Cert.KernelIdeal Cert.KernelIdeal.Facts Cert.KernelIdeal.Gen Cert.KernelIdeal.Gen.Tile

theorem ofBool_bit (b : Bool) : BitVec.ofBool b = bit b := by cases b <;> rfl
theorem andi_bit (a b : Bool) : IntOp.andi (bit a) (bit b) = bit (a && b) := by cases a <;> cases b <;> rfl
theorem ori_bit (a b : Bool) : IntOp.ori (bit a) (bit b) = bit (a || b) := by cases a <;> cases b <;> rfl
theorem bit_congr {p q : Prop} [Decidable p] [Decidable q] (h : p ↔ q) : bit (decide p) = bit (decide q) := by
  congr 1; exact decide_eq_decide.2 h
theorem low_bits : ∀ r : Fin 256, IntOp.andi (BitVec.ofNat 32 r.val) 127#32 = BitVec.ofNat 32 (r.val % 128) := by decide

theorem small (a : Nat) (h : a < 512) : a < 2 ^ (32 - 1) := by norm_num; omega

/-- The keys a query sees: itself and the 127 before it, none before the sequence's start. -/
def vis (n : Fin 64) (i : Fin 128) (k : Fin 256) : Bool :=
  decide (i.val < k.val ∧ k.val ≤ i.val + 128 ∧ (128 ≤ k.val ∨ 0 < n.val))
/-- A block's window of keys or values: the block before and the block's own. -/
def kwin (a : Fin 8192 → Fin 256 → ℝ) (n : Fin 64) (h : Fin 4) (k : Fin 256) (d : Fin 64) : ℝ :=
  if hk : k.val < 128 then a (tok (prev n) ⟨k.val, hk⟩) (kcol h d) else a (tok n ⟨k.val - 128, by omega⟩) (kcol h d)
/-- A head of a block of queries, or of gradients. -/
def qrow (a : Fin 8192 → Fin 2048 → ℝ) (n : Fin 64) (h jp : Fin 4) (e : Fin 2) (i : Fin 128) (d : Fin 64) : ℝ :=
  a (tok n i) (qcol h jp (lane e d))
/-- A query head's place among all. -/
def head (h jp : Fin 4) (e : Fin 2) : Fin 32 := ⟨8 * h.val + (2 * jp.val + e.val), by omega⟩

/-- The mask of two heads' rows. -/
def visB (n : Fin 64) (r k : Fin 256) : Bool := vis n ⟨r.val % 128, by omega⟩ k
/-- A window of keys, in both halves of the lanes. -/
def kwinB (a : Fin 8192 → Fin 256 → ℝ) (n : Fin 64) (h : Fin 4) (k : Fin 256) (l : Fin 128) : ℝ := kwin a n h k ⟨l.val % 64, by omega⟩
/-- A window of values, first in the lower then in the upper half of the lanes. -/
def vwinB (a : Fin 8192 → Fin 256 → ℝ) (n : Fin 64) (h : Fin 4) (c : Fin 512) (l : Fin 128) : ℝ :=
  if hc : c.val < 256 then (if hl : l.val < 64 then kwin a n h ⟨c.val, hc⟩ ⟨l.val, hl⟩ else 0)
  else (if hl : 64 ≤ l.val then kwin a n h ⟨c.val - 256, by omega⟩ ⟨l.val - 64, by omega⟩ else 0)
/-- The sink of each of two heads' rows. -/
def skB (sk : Fin 32 → ℝ) (h jp : Fin 4) (r : Fin 256) : ℝ := if r.val < 128 then sk (head h jp 0) else sk (head h jp 1)

theorem visB_row (n : Fin 64) (e : Fin 2) (i : Fin 128) : visB n (rowE e i) = vis n i := by
  funext k
  unfold visB
  congr 1
  exact Fin.ext (by simp only [rowE]; omega)
theorem kwinB_lane (a : Fin 8192 → Fin 256 → ℝ) (n : Fin 64) (h : Fin 4) (k : Fin 256) (e : Fin 2) (d : Fin 64) :
    kwinB a n h k (lane e d) = kwin a n h k d := by
  unfold kwinB
  congr 1
  exact Fin.ext (by simp only [lane]; omega)
theorem vwinB_row (a : Fin 8192 → Fin 256 → ℝ) (n : Fin 64) (h : Fin 4) (e : Fin 2) (k : Fin 256) (e' : Fin 2) (d : Fin 64) :
    vwinB a n h (wrow e k) (lane e' d) = if e = e' then kwin a n h k d else 0 := by
  fin_cases e <;> fin_cases e' <;> simp [vwinB, wrow, lane]
theorem skB_row (sk : Fin 32 → ℝ) (h jp : Fin 4) (e : Fin 2) (i : Fin 128) : skB sk h jp (rowE e i) = sk (head h jp e) := by
  fin_cases e <;> simp [skB, rowE]

variable (qr gr : Fin 8192 → Fin 2048 → ℝ) (kr vr : Fin 8192 → Fin 256 → ℝ) (sk : Fin 32 → ℝ)

/-- The gradient of a score. -/
def dsAt (n : Fin 64) (h jp : Fin 4) (e : Fin 2) (i : Fin 128) (k : Fin 256) : ℝ :=
  Att.ds (qrow qr n h jp e i) (qrow gr n h jp e i) (kwin kr n h) (kwin vr n h) (vis n i) (sk (head h jp e)) k
/-- The gradient of a sink from one query, with its sign turned. -/
def sdAt (n : Fin 64) (h jp : Fin 4) (e : Fin 2) (i : Fin 128) : ℝ :=
  Att.sd (qrow qr n h jp e i) (qrow gr n h jp e i) (kwin kr n h) (kwin vr n h) (vis n i) (sk (head h jp e))
/-- The probability of a key. -/
def prAt (n : Fin 64) (h jp : Fin 4) (e : Fin 2) (i : Fin 128) (k : Fin 256) : ℝ :=
  Att.prob (qrow qr n h jp e i) (kwin kr n h) (vis n i) (sk (head h jp e)) k

/-- The gradient of a query. -/
def dqAt (n : Fin 64) (h jp : Fin 4) (e : Fin 2) (i : Fin 128) (d : Fin 64) : ℝ :=
  ∑ k, dsAt qr gr kr vr sk n h jp e i k * (1 / 8) * kwin kr n h k d
/-- The gradient of a window's key, from the even or the odd heads. -/
def dkAt (n : Fin 64) (h : Fin 4) (e : Fin 2) (k : Fin 256) (d : Fin 64) : ℝ :=
  ∑ jp, ∑ i, dsAt qr gr kr vr sk n h jp e i k * (1 / 8) * qrow qr n h jp e i d
/-- The gradient of a window's value, from the even or the odd heads. -/
def dvAt (n : Fin 64) (h : Fin 4) (e : Fin 2) (k : Fin 256) (d : Fin 64) : ℝ :=
  ∑ jp, ∑ i, prAt qr kr sk n h jp e i k * qrow gr n h jp e i d

theorem mask_val (i : grid0.Coords) (n : Fin 64) (hi : (i 1).val = n.val) (r k : Fin 256) : k0_pay3 i (ix2 r k) = bit (visB n r k) := by
  unfold k0_pay3
  pointwise
  rw [hi, low_bits]
  have e : IntOp.addi (BitVec.ofNat 32 (r.val % 128)) 128#32 = BitVec.ofNat 32 (r.val % 128 + 128) := (BitVec.ofNat_add ..).symm
  rw [e]
  unfold Scalar.cmpi
  rw [WordCmp.cmpi_sgt_ofNat (small k.val (by omega)) (small (r.val % 128) (by omega)),
    WordCmp.cmpi_sle_ofNat (small k.val (by omega)) (small (r.val % 128 + 128) (by omega)),
    WordCmp.cmpi_sge_ofNat (small k.val (by omega)) (small 128 (by omega)),
    WordCmp.cmpi_sgt_ofNat (small n.val (by omega)) (small 0 (by omega))]
  simp only [ofBool_bit, andi_bit, ori_bit, ← Bool.decide_and, ← Bool.decide_or]
  unfold visB vis
  exact bit_congr (by simp only; omega)

theorem upper_sel (r : Fin 256) (a b : EReal) : Scalar.select (IntOp.cmpi .sge (BitVec.ofNat 32 r.val) 128#32) a b = if r.val < 128 then b else a := by
  rw [WordCmp.cmpi_sge_ofNat (small r.val (by omega)) (small 128 (by omega)), ofBool_bit, select_bit]
  by_cases h : r.val < 128
  · rw [if_pos h, if_neg (by simp; omega)]
  · rw [if_neg h, if_pos (by simp; omega)]

variable (i : grid0.Coords) (x0 : Vec Ideal S32 .f32) (x1 x8 : Vec Ideal S128x512 .bf16) (x2 x3 x4 x5 x6 x7 : Vec Ideal S128x128 .bf16)
  (n : Fin 64) (h : Fin 4)

/-- The input blocks of a grid point hold the real arrays' blocks. -/
structure Reads : Prop where
  i0 : (i 0).val = h.val
  i1 : (i 1).val = n.val
  h0 : ∀ a, x0 (ix1 a) = ((sk a : ℝ) : EReal)
  h1 : ∀ r l, x1 (ix2 r l) = ((qr (tok n r) ⟨512 * h.val + l.val, by omega⟩ : ℝ) : EReal)
  h8 : ∀ r l, x8 (ix2 r l) = ((gr (tok n r) ⟨512 * h.val + l.val, by omega⟩ : ℝ) : EReal)
  h2 : ∀ r l, x2 (ix2 r l) = ((kr (tok n r) (kcol h ⟨l.val % 64, by omega⟩) : ℝ) : EReal)
  h3 : ∀ r l, x3 (ix2 r l) = ((kr (tok (prev n) r) (kcol h ⟨l.val % 64, by omega⟩) : ℝ) : EReal)
  h4 : ∀ r l, x4 (ix2 r l) = (((if hl : l.val < 64 then vr (tok n r) (kcol h ⟨l.val, hl⟩) else 0) : ℝ) : EReal)
  h5 : ∀ r l, x5 (ix2 r l) = (((if hl : l.val < 64 then vr (tok (prev n) r) (kcol h ⟨l.val, hl⟩) else 0) : ℝ) : EReal)
  h6 : ∀ r l, x6 (ix2 r l) = (((if hl : 64 ≤ l.val then vr (tok n r) (kcol h ⟨l.val - 64, by omega⟩) else 0) : ℝ) : EReal)
  h7 : ∀ r l, x7 (ix2 r l) = (((if hl : 64 ≤ l.val then vr (tok (prev n) r) (kcol h ⟨l.val - 64, by omega⟩) else 0) : ℝ) : EReal)

variable {qr gr kr vr sk i x0 x1 x8 x2 x3 x4 x5 x6 x7 n h} (R : Reads qr gr kr vr sk i x0 x1 x8 x2 x3 x4 x5 x6 x7 n h)
include R

theorem kw_val (k : Fin 256) (l : Fin 128) : k0_pay5 (F := Ideal) x3 x2 (ix2 k l) = ((kwinB kr n h k l : ℝ) : EReal) := by
  unfold k0_pay5 kwinB kwin
  pointwise
  split
  · rw [R.h3]
  · rw [R.h2]

theorem vc_val (k : Fin 512) (l : Fin 128) : k0_pay6 (F := Ideal) x5 x4 x7 x6 (ix2 k l) = ((vwinB vr n h k l : ℝ) : EReal) := by
  unfold k0_pay6 vwinB kwin
  pointwise
  simp only [R.h4, R.h5, R.h6, R.h7]
  by_cases h1 : k.val < 128
  · rw [dif_pos h1, dif_pos (show k.val < 256 by omega)]
    simp only [dif_pos h1]
  · rw [dif_neg h1]
    by_cases h2 : k.val < 256
    · rw [dif_pos (show k.val - 128 < 128 by omega), dif_pos h2]
      simp only [dif_neg h1]
    · rw [dif_neg (show ¬ k.val - 128 < 128 by omega), dif_neg h2]
      by_cases h3 : k.val < 384
      · rw [dif_pos (show k.val - 128 - 128 < 128 by omega)]
        simp only [dif_pos (show k.val - 256 < 128 by omega)]
        rfl
      · rw [dif_neg (show ¬ k.val - 128 - 128 < 128 by omega)]
        simp only [dif_neg (show ¬ k.val - 256 < 128 by omega)]
        rfl

theorem tile0_q (r l : Fin 128) : tile0 (F := Ideal) x1 (ix2 r l) = ((qr (tok n r) (qcol h 0 l) : ℝ) : EReal) := by
  unfold tile0
  rw [View.ld_unit]
  pointwise
  rw [R.h1]
  exact congrArg (fun j => ((qr (tok n r) j : ℝ) : EReal)) (Fin.ext (by simp [qcol]))
theorem tile0_g (r l : Fin 128) : tile0 (F := Ideal) x8 (ix2 r l) = ((gr (tok n r) (qcol h 0 l) : ℝ) : EReal) := by
  unfold tile0
  rw [View.ld_unit]
  pointwise
  rw [R.h8]
  exact congrArg (fun j => ((gr (tok n r) j : ℝ) : EReal)) (Fin.ext (by simp [qcol]))
theorem sk0_val (r : Fin 256) (j : Fin 1) : gSk0 (F := Ideal) i x0 (ix2 r j) = ((skB sk h 0 r : ℝ) : EReal) := by
  unfold gSk0 sinks k0_pay4 skB
  rw [sink0_eq, sink1_eq]
  unfold sinkAt
  pointwise
  simp only [R.h0]
  rw [upper_sel]
  have e0 : (⟨8 * (i 0).val + 0, by have := R.i0; omega⟩ : Fin 32) = head h 0 0 := Fin.ext (by show 8 * (i 0).val + 0 = 8 * h.val + 0; rw [R.i0])
  have e1 : (⟨8 * (i 0).val + 1, by have := R.i0; omega⟩ : Fin 32) = head h 0 1 := Fin.ext (by show 8 * (i 0).val + 1 = 8 * h.val + 1; rw [R.i0])
  rw [← e0, ← e1]
  split <;> rfl
theorem dq0_val (e : Fin 2) (r : Fin 128) (d : Fin 64) :
    gDq0 (F := Ideal) i x0 x1 x8 x2 x3 x4 x5 x6 x7 (ix2 r (lane e d)) = ((dqAt qr gr kr vr sk n h 0 e r d : ℝ) : EReal) := by
  unfold gDq0
  rw [Pair.dq_val (tile0_q R) (tile0_g R) (kw_val R) (vc_val R) (mask_val i n R.i1) (sk0_val R),
    Pair.dq_row (fun i l => qr (tok n i) (qcol h 0 l)) (fun i l => gr (tok n i) (qcol h 0 l)) (kwinB_lane kr n h) (vwinB_row vr n h) (visB_row n) (skB_row sk h 0)]
  rfl
theorem dk0_val (e : Fin 2) (k : Fin 256) (d : Fin 64) :
    gDkPart0 (F := Ideal) i x0 x1 x8 x2 x3 x4 x5 x6 x7 (ix2 k (lane e d)) = ((∑ r, dsAt qr gr kr vr sk n h 0 e r k * (1 / 8) * qrow qr n h 0 e r d : ℝ) : EReal) := by
  unfold gDkPart0
  rw [Pair.dk_val (tile0_q R) (tile0_g R) (kw_val R) (vc_val R) (mask_val i n R.i1) (sk0_val R),
    Pair.dk_row (fun i l => qr (tok n i) (qcol h 0 l)) (fun i l => gr (tok n i) (qcol h 0 l)) (kwinB_lane kr n h) (vwinB_row vr n h) (visB_row n) (skB_row sk h 0)]
  rfl
theorem dv0_val (e : Fin 2) (k : Fin 256) (d : Fin 64) :
    gDvPart0 (F := Ideal) i x0 x1 x8 x2 x3 (ix2 (wrow e k) (lane e d)) = ((∑ r, prAt qr kr sk n h 0 e r k * qrow gr n h 0 e r d : ℝ) : EReal) := by
  unfold gDvPart0
  rw [Pair.dv_val (tile0_q R) (tile0_g R) (kw_val R) (mask_val i n R.i1) (sk0_val R),
    Pair.dv_row (fun i l => qr (tok n i) (qcol h 0 l)) (fun i l => gr (tok n i) (qcol h 0 l)) (kwinB_lane kr n h) (visB_row n) (skB_row sk h 0)]
  rfl
theorem sd0_val (e : Fin 2) (r : Fin 128) :
    Pair.sd (fun i l => qr (tok n i) (qcol h 0 l)) (fun i l => gr (tok n i) (qcol h 0 l)) (kwinB kr n h) (vwinB vr n h) (visB n) (skB sk h 0) (rowE e r)
      = sdAt qr gr kr vr sk n h 0 e r :=
  Pair.sd_row (fun i l => qr (tok n i) (qcol h 0 l)) (fun i l => gr (tok n i) (qcol h 0 l)) (kwinB_lane kr n h) (vwinB_row vr n h) (visB_row n) (skB_row sk h 0) e r

theorem tile1_q (r l : Fin 128) : tile1 (F := Ideal) x1 (ix2 r l) = ((qr (tok n r) (qcol h 1 l) : ℝ) : EReal) := by
  unfold tile1
  rw [View.ld_unit]
  pointwise
  rw [R.h1]
  exact congrArg (fun j => ((qr (tok n r) j : ℝ) : EReal)) (Fin.ext (by simp [qcol]))
theorem tile1_g (r l : Fin 128) : tile1 (F := Ideal) x8 (ix2 r l) = ((gr (tok n r) (qcol h 1 l) : ℝ) : EReal) := by
  unfold tile1
  rw [View.ld_unit]
  pointwise
  rw [R.h8]
  exact congrArg (fun j => ((gr (tok n r) j : ℝ) : EReal)) (Fin.ext (by simp [qcol]))
theorem sk1_val (r : Fin 256) (j : Fin 1) : gSk1 (F := Ideal) i x0 (ix2 r j) = ((skB sk h 1 r : ℝ) : EReal) := by
  unfold gSk1 sinks k0_pay4 skB
  rw [sink2_eq, sink3_eq]
  unfold sinkAt
  pointwise
  simp only [R.h0]
  rw [upper_sel]
  have e0 : (⟨8 * (i 0).val + 2, by have := R.i0; omega⟩ : Fin 32) = head h 1 0 := Fin.ext (by show 8 * (i 0).val + 2 = 8 * h.val + 2; rw [R.i0])
  have e1 : (⟨8 * (i 0).val + 3, by have := R.i0; omega⟩ : Fin 32) = head h 1 1 := Fin.ext (by show 8 * (i 0).val + 3 = 8 * h.val + 3; rw [R.i0])
  rw [← e0, ← e1]
  split <;> rfl
theorem dq1_val (e : Fin 2) (r : Fin 128) (d : Fin 64) :
    gDq1 (F := Ideal) i x0 x1 x8 x2 x3 x4 x5 x6 x7 (ix2 r (lane e d)) = ((dqAt qr gr kr vr sk n h 1 e r d : ℝ) : EReal) := by
  unfold gDq1
  rw [Pair.dq_val (tile1_q R) (tile1_g R) (kw_val R) (vc_val R) (mask_val i n R.i1) (sk1_val R),
    Pair.dq_row (fun i l => qr (tok n i) (qcol h 1 l)) (fun i l => gr (tok n i) (qcol h 1 l)) (kwinB_lane kr n h) (vwinB_row vr n h) (visB_row n) (skB_row sk h 1)]
  rfl
theorem dk1_val (e : Fin 2) (k : Fin 256) (d : Fin 64) :
    gDkPart1 (F := Ideal) i x0 x1 x8 x2 x3 x4 x5 x6 x7 (ix2 k (lane e d)) = ((∑ r, dsAt qr gr kr vr sk n h 1 e r k * (1 / 8) * qrow qr n h 1 e r d : ℝ) : EReal) := by
  unfold gDkPart1
  rw [Pair.dk_val (tile1_q R) (tile1_g R) (kw_val R) (vc_val R) (mask_val i n R.i1) (sk1_val R),
    Pair.dk_row (fun i l => qr (tok n i) (qcol h 1 l)) (fun i l => gr (tok n i) (qcol h 1 l)) (kwinB_lane kr n h) (vwinB_row vr n h) (visB_row n) (skB_row sk h 1)]
  rfl
theorem dv1_val (e : Fin 2) (k : Fin 256) (d : Fin 64) :
    gDvPart1 (F := Ideal) i x0 x1 x8 x2 x3 (ix2 (wrow e k) (lane e d)) = ((∑ r, prAt qr kr sk n h 1 e r k * qrow gr n h 1 e r d : ℝ) : EReal) := by
  unfold gDvPart1
  rw [Pair.dv_val (tile1_q R) (tile1_g R) (kw_val R) (mask_val i n R.i1) (sk1_val R),
    Pair.dv_row (fun i l => qr (tok n i) (qcol h 1 l)) (fun i l => gr (tok n i) (qcol h 1 l)) (kwinB_lane kr n h) (visB_row n) (skB_row sk h 1)]
  rfl
theorem sd1_val (e : Fin 2) (r : Fin 128) :
    Pair.sd (fun i l => qr (tok n i) (qcol h 1 l)) (fun i l => gr (tok n i) (qcol h 1 l)) (kwinB kr n h) (vwinB vr n h) (visB n) (skB sk h 1) (rowE e r)
      = sdAt qr gr kr vr sk n h 1 e r :=
  Pair.sd_row (fun i l => qr (tok n i) (qcol h 1 l)) (fun i l => gr (tok n i) (qcol h 1 l)) (kwinB_lane kr n h) (vwinB_row vr n h) (visB_row n) (skB_row sk h 1) e r

theorem tile2_q (r l : Fin 128) : tile2 (F := Ideal) x1 (ix2 r l) = ((qr (tok n r) (qcol h 2 l) : ℝ) : EReal) := by
  unfold tile2
  rw [View.ld_unit]
  pointwise
  rw [R.h1]
  exact congrArg (fun j => ((qr (tok n r) j : ℝ) : EReal)) (Fin.ext (by simp [qcol]))
theorem tile2_g (r l : Fin 128) : tile2 (F := Ideal) x8 (ix2 r l) = ((gr (tok n r) (qcol h 2 l) : ℝ) : EReal) := by
  unfold tile2
  rw [View.ld_unit]
  pointwise
  rw [R.h8]
  exact congrArg (fun j => ((gr (tok n r) j : ℝ) : EReal)) (Fin.ext (by simp [qcol]))
theorem sk2_val (r : Fin 256) (j : Fin 1) : gSk2 (F := Ideal) i x0 (ix2 r j) = ((skB sk h 2 r : ℝ) : EReal) := by
  unfold gSk2 sinks k0_pay4 skB
  rw [sink4_eq, sink5_eq]
  unfold sinkAt
  pointwise
  simp only [R.h0]
  rw [upper_sel]
  have e0 : (⟨8 * (i 0).val + 4, by have := R.i0; omega⟩ : Fin 32) = head h 2 0 := Fin.ext (by show 8 * (i 0).val + 4 = 8 * h.val + 4; rw [R.i0])
  have e1 : (⟨8 * (i 0).val + 5, by have := R.i0; omega⟩ : Fin 32) = head h 2 1 := Fin.ext (by show 8 * (i 0).val + 5 = 8 * h.val + 5; rw [R.i0])
  rw [← e0, ← e1]
  split <;> rfl
theorem dq2_val (e : Fin 2) (r : Fin 128) (d : Fin 64) :
    gDq2 (F := Ideal) i x0 x1 x8 x2 x3 x4 x5 x6 x7 (ix2 r (lane e d)) = ((dqAt qr gr kr vr sk n h 2 e r d : ℝ) : EReal) := by
  unfold gDq2
  rw [Pair.dq_val (tile2_q R) (tile2_g R) (kw_val R) (vc_val R) (mask_val i n R.i1) (sk2_val R),
    Pair.dq_row (fun i l => qr (tok n i) (qcol h 2 l)) (fun i l => gr (tok n i) (qcol h 2 l)) (kwinB_lane kr n h) (vwinB_row vr n h) (visB_row n) (skB_row sk h 2)]
  rfl
theorem dk2_val (e : Fin 2) (k : Fin 256) (d : Fin 64) :
    gDkPart2 (F := Ideal) i x0 x1 x8 x2 x3 x4 x5 x6 x7 (ix2 k (lane e d)) = ((∑ r, dsAt qr gr kr vr sk n h 2 e r k * (1 / 8) * qrow qr n h 2 e r d : ℝ) : EReal) := by
  unfold gDkPart2
  rw [Pair.dk_val (tile2_q R) (tile2_g R) (kw_val R) (vc_val R) (mask_val i n R.i1) (sk2_val R),
    Pair.dk_row (fun i l => qr (tok n i) (qcol h 2 l)) (fun i l => gr (tok n i) (qcol h 2 l)) (kwinB_lane kr n h) (vwinB_row vr n h) (visB_row n) (skB_row sk h 2)]
  rfl
theorem dv2_val (e : Fin 2) (k : Fin 256) (d : Fin 64) :
    gDvPart2 (F := Ideal) i x0 x1 x8 x2 x3 (ix2 (wrow e k) (lane e d)) = ((∑ r, prAt qr kr sk n h 2 e r k * qrow gr n h 2 e r d : ℝ) : EReal) := by
  unfold gDvPart2
  rw [Pair.dv_val (tile2_q R) (tile2_g R) (kw_val R) (mask_val i n R.i1) (sk2_val R),
    Pair.dv_row (fun i l => qr (tok n i) (qcol h 2 l)) (fun i l => gr (tok n i) (qcol h 2 l)) (kwinB_lane kr n h) (visB_row n) (skB_row sk h 2)]
  rfl
theorem sd2_val (e : Fin 2) (r : Fin 128) :
    Pair.sd (fun i l => qr (tok n i) (qcol h 2 l)) (fun i l => gr (tok n i) (qcol h 2 l)) (kwinB kr n h) (vwinB vr n h) (visB n) (skB sk h 2) (rowE e r)
      = sdAt qr gr kr vr sk n h 2 e r :=
  Pair.sd_row (fun i l => qr (tok n i) (qcol h 2 l)) (fun i l => gr (tok n i) (qcol h 2 l)) (kwinB_lane kr n h) (vwinB_row vr n h) (visB_row n) (skB_row sk h 2) e r

theorem tile3_q (r l : Fin 128) : tile3 (F := Ideal) x1 (ix2 r l) = ((qr (tok n r) (qcol h 3 l) : ℝ) : EReal) := by
  unfold tile3
  rw [View.ld_unit]
  pointwise
  rw [R.h1]
  exact congrArg (fun j => ((qr (tok n r) j : ℝ) : EReal)) (Fin.ext (by simp [qcol]))
theorem tile3_g (r l : Fin 128) : tile3 (F := Ideal) x8 (ix2 r l) = ((gr (tok n r) (qcol h 3 l) : ℝ) : EReal) := by
  unfold tile3
  rw [View.ld_unit]
  pointwise
  rw [R.h8]
  exact congrArg (fun j => ((gr (tok n r) j : ℝ) : EReal)) (Fin.ext (by simp [qcol]))
theorem sk3_val (r : Fin 256) (j : Fin 1) : gSk3 (F := Ideal) i x0 (ix2 r j) = ((skB sk h 3 r : ℝ) : EReal) := by
  unfold gSk3 sinks k0_pay4 skB
  rw [sink6_eq, sink7_eq]
  unfold sinkAt
  pointwise
  simp only [R.h0]
  rw [upper_sel]
  have e0 : (⟨8 * (i 0).val + 6, by have := R.i0; omega⟩ : Fin 32) = head h 3 0 := Fin.ext (by show 8 * (i 0).val + 6 = 8 * h.val + 6; rw [R.i0])
  have e1 : (⟨8 * (i 0).val + 7, by have := R.i0; omega⟩ : Fin 32) = head h 3 1 := Fin.ext (by show 8 * (i 0).val + 7 = 8 * h.val + 7; rw [R.i0])
  rw [← e0, ← e1]
  split <;> rfl
theorem dq3_val (e : Fin 2) (r : Fin 128) (d : Fin 64) :
    gDq3 (F := Ideal) i x0 x1 x8 x2 x3 x4 x5 x6 x7 (ix2 r (lane e d)) = ((dqAt qr gr kr vr sk n h 3 e r d : ℝ) : EReal) := by
  unfold gDq3
  rw [Pair.dq_val (tile3_q R) (tile3_g R) (kw_val R) (vc_val R) (mask_val i n R.i1) (sk3_val R),
    Pair.dq_row (fun i l => qr (tok n i) (qcol h 3 l)) (fun i l => gr (tok n i) (qcol h 3 l)) (kwinB_lane kr n h) (vwinB_row vr n h) (visB_row n) (skB_row sk h 3)]
  rfl
theorem dk3_val (e : Fin 2) (k : Fin 256) (d : Fin 64) :
    gDkPart3 (F := Ideal) i x0 x1 x8 x2 x3 x4 x5 x6 x7 (ix2 k (lane e d)) = ((∑ r, dsAt qr gr kr vr sk n h 3 e r k * (1 / 8) * qrow qr n h 3 e r d : ℝ) : EReal) := by
  unfold gDkPart3
  rw [Pair.dk_val (tile3_q R) (tile3_g R) (kw_val R) (vc_val R) (mask_val i n R.i1) (sk3_val R),
    Pair.dk_row (fun i l => qr (tok n i) (qcol h 3 l)) (fun i l => gr (tok n i) (qcol h 3 l)) (kwinB_lane kr n h) (vwinB_row vr n h) (visB_row n) (skB_row sk h 3)]
  rfl
theorem dv3_val (e : Fin 2) (k : Fin 256) (d : Fin 64) :
    gDvPart3 (F := Ideal) i x0 x1 x8 x2 x3 (ix2 (wrow e k) (lane e d)) = ((∑ r, prAt qr kr sk n h 3 e r k * qrow gr n h 3 e r d : ℝ) : EReal) := by
  unfold gDvPart3
  rw [Pair.dv_val (tile3_q R) (tile3_g R) (kw_val R) (mask_val i n R.i1) (sk3_val R),
    Pair.dv_row (fun i l => qr (tok n i) (qcol h 3 l)) (fun i l => gr (tok n i) (qcol h 3 l)) (kwinB_lane kr n h) (visB_row n) (skB_row sk h 3)]
  rfl
theorem sd3_val (e : Fin 2) (r : Fin 128) :
    Pair.sd (fun i l => qr (tok n i) (qcol h 3 l)) (fun i l => gr (tok n i) (qcol h 3 l)) (kwinB kr n h) (vwinB vr n h) (visB n) (skB sk h 3) (rowE e r)
      = sdAt qr gr kr vr sk n h 3 e r :=
  Pair.sd_row (fun i l => qr (tok n i) (qcol h 3 l)) (fun i l => gr (tok n i) (qcol h 3 l)) (kwinB_lane kr n h) (vwinB_row vr n h) (visB_row n) (skB_row sk h 3) e r

theorem dk_val (e : Fin 2) (k : Fin 256) (d : Fin 64) :
    gDk (F := Ideal) i x0 x1 x8 x2 x3 x4 x5 x6 x7 (ix2 k (lane e d)) = ((dkAt qr gr kr vr sk n h e k d : ℝ) : EReal) := by
  unfold gDk dkAt
  pointwise
  rw [dk0_val R, dk1_val R, dk2_val R, dk3_val R, ← EReal.coe_add, ← EReal.coe_add, ← EReal.coe_add, Fin.sum_univ_four]
theorem dv_val (e : Fin 2) (k : Fin 256) (d : Fin 64) :
    gDv (F := Ideal) i x0 x1 x8 x2 x3 (ix2 (wrow e k) (lane e d)) = ((dvAt qr gr kr sk n h e k d : ℝ) : EReal) := by
  unfold gDv dvAt
  pointwise
  rw [dv0_val R, dv1_val R, dv2_val R, dv3_val R, ← EReal.coe_add, ← EReal.coe_add, ← EReal.coe_add, Fin.sum_univ_four]
theorem dq_val (jp : Fin 4) (e : Fin 2) (r : Fin 128) (d : Fin 64) :
    gDq (F := Ideal) i x0 x1 x8 x2 x3 x4 x5 x6 x7 (ix2 r ⟨128 * jp.val + (lane e d).val, by omega⟩) = ((dqAt qr gr kr vr sk n h jp e r d : ℝ) : EReal) := by
  unfold gDq
  have hl := (lane e d).isLt
  canon_tiles x hx
  · change r.val = _ at hx0
    change 128 * jp.val + (lane e d).val = _ at hx1
    have hj : jp = 3 := Fin.ext (by show jp.val = 3; omega)
    have hj' : jp.val = 3 := by rw [hj]; rfl
    rw [hj'] at hx1
    subst hj
    have ex : x = ix2 r (lane e d) := by blk_ext []
    rw [ex, dq3_val R]
  · change r.val = _ at hx0
    change 128 * jp.val + (lane e d).val = _ at hx1
    have hj : jp = 2 := Fin.ext (by show jp.val = 2; omega)
    have hj' : jp.val = 2 := by rw [hj]; rfl
    rw [hj'] at hx1
    subst hj
    have ex : x = ix2 r (lane e d) := by blk_ext []
    rw [ex, dq2_val R]
  · change r.val = _ at hx0
    change 128 * jp.val + (lane e d).val = _ at hx1
    have hj : jp = 1 := Fin.ext (by show jp.val = 1; omega)
    have hj' : jp.val = 1 := by rw [hj]; rfl
    rw [hj'] at hx1
    subst hj
    have ex : x = ix2 r (lane e d) := by blk_ext []
    rw [ex, dq1_val R]
  · change r.val = _ at hx0
    change 128 * jp.val + (lane e d).val = _ at hx1
    have hj : jp = 0 := Fin.ext (by show jp.val = 0; omega)
    have hj' : jp.val = 0 := by rw [hj]; rfl
    rw [hj'] at hx1
    subst hj
    have ex : x = ix2 r (lane e d) := by blk_ext []
    rw [ex, dq0_val R]
theorem dsink_val (jp : Fin 4) (e : Fin 2) (l : Fin 128) :
    gDsink (F := Ideal) i x0 x1 x8 x2 x3 x4 x5 x6 x7 (ix2 ⟨2 * jp.val + e.val, by omega⟩ l) = ((-∑ r, sdAt qr gr kr vr sk n h jp e r : ℝ) : EReal) := by
  have hz : (k0_pay7 : FVec Ideal S8x128 .f32) (ix2 ⟨2 * jp.val + e.val, by omega⟩ l) = ((0 : ℝ) : EReal) := by
    unfold k0_pay7
    pointwise
    simp
  unfold gDsink
  rw [Pair.dsink_val (tile3_q R) (tile3_g R) (kw_val R) (vc_val R) (mask_val i n R.i1) (sk3_val R) _ _ _ _ _ _
    (Pair.dsink_val (tile2_q R) (tile2_g R) (kw_val R) (vc_val R) (mask_val i n R.i1) (sk2_val R) _ _ _ _ _ _
    (Pair.dsink_val (tile1_q R) (tile1_g R) (kw_val R) (vc_val R) (mask_val i n R.i1) (sk1_val R) _ _ _ _ _ _
    (Pair.dsink_val (tile0_q R) (tile0_g R) (kw_val R) (vc_val R) (mask_val i n R.i1) (sk0_val R) _ _ _ _ _ _ hz)))]
  congr 1
  have a0 : ∀ i : Fin 128, (Pair.sd (fun i l => qr (tok n i) (qcol h 0 l)) (fun i l => gr (tok n i) (qcol h 0 l)) (kwinB kr n h) (vwinB vr n h) (visB n) (skB sk h 0)) ⟨i.val, by omega⟩ = sdAt qr gr kr vr sk n h 0 0 i := fun i =>
    (congrArg (Pair.sd (fun i l => qr (tok n i) (qcol h 0 l)) (fun i l => gr (tok n i) (qcol h 0 l)) (kwinB kr n h) (vwinB vr n h) (visB n) (skB sk h 0)) (Fin.ext (by simp [rowE]))).trans (sd0_val R 0 i)
  have a1 : ∀ i : Fin 128, (Pair.sd (fun i l => qr (tok n i) (qcol h 0 l)) (fun i l => gr (tok n i) (qcol h 0 l)) (kwinB kr n h) (vwinB vr n h) (visB n) (skB sk h 0)) ⟨128 + i.val, by omega⟩ = sdAt qr gr kr vr sk n h 0 1 i := fun i =>
    (congrArg (Pair.sd (fun i l => qr (tok n i) (qcol h 0 l)) (fun i l => gr (tok n i) (qcol h 0 l)) (kwinB kr n h) (vwinB vr n h) (visB n) (skB sk h 0)) (Fin.ext (by simp [rowE]))).trans (sd0_val R 1 i)
  have a2 : ∀ i : Fin 128, (Pair.sd (fun i l => qr (tok n i) (qcol h 1 l)) (fun i l => gr (tok n i) (qcol h 1 l)) (kwinB kr n h) (vwinB vr n h) (visB n) (skB sk h 1)) ⟨i.val, by omega⟩ = sdAt qr gr kr vr sk n h 1 0 i := fun i =>
    (congrArg (Pair.sd (fun i l => qr (tok n i) (qcol h 1 l)) (fun i l => gr (tok n i) (qcol h 1 l)) (kwinB kr n h) (vwinB vr n h) (visB n) (skB sk h 1)) (Fin.ext (by simp [rowE]))).trans (sd1_val R 0 i)
  have a3 : ∀ i : Fin 128, (Pair.sd (fun i l => qr (tok n i) (qcol h 1 l)) (fun i l => gr (tok n i) (qcol h 1 l)) (kwinB kr n h) (vwinB vr n h) (visB n) (skB sk h 1)) ⟨128 + i.val, by omega⟩ = sdAt qr gr kr vr sk n h 1 1 i := fun i =>
    (congrArg (Pair.sd (fun i l => qr (tok n i) (qcol h 1 l)) (fun i l => gr (tok n i) (qcol h 1 l)) (kwinB kr n h) (vwinB vr n h) (visB n) (skB sk h 1)) (Fin.ext (by simp [rowE]))).trans (sd1_val R 1 i)
  have a4 : ∀ i : Fin 128, (Pair.sd (fun i l => qr (tok n i) (qcol h 2 l)) (fun i l => gr (tok n i) (qcol h 2 l)) (kwinB kr n h) (vwinB vr n h) (visB n) (skB sk h 2)) ⟨i.val, by omega⟩ = sdAt qr gr kr vr sk n h 2 0 i := fun i =>
    (congrArg (Pair.sd (fun i l => qr (tok n i) (qcol h 2 l)) (fun i l => gr (tok n i) (qcol h 2 l)) (kwinB kr n h) (vwinB vr n h) (visB n) (skB sk h 2)) (Fin.ext (by simp [rowE]))).trans (sd2_val R 0 i)
  have a5 : ∀ i : Fin 128, (Pair.sd (fun i l => qr (tok n i) (qcol h 2 l)) (fun i l => gr (tok n i) (qcol h 2 l)) (kwinB kr n h) (vwinB vr n h) (visB n) (skB sk h 2)) ⟨128 + i.val, by omega⟩ = sdAt qr gr kr vr sk n h 2 1 i := fun i =>
    (congrArg (Pair.sd (fun i l => qr (tok n i) (qcol h 2 l)) (fun i l => gr (tok n i) (qcol h 2 l)) (kwinB kr n h) (vwinB vr n h) (visB n) (skB sk h 2)) (Fin.ext (by simp [rowE]))).trans (sd2_val R 1 i)
  have a6 : ∀ i : Fin 128, (Pair.sd (fun i l => qr (tok n i) (qcol h 3 l)) (fun i l => gr (tok n i) (qcol h 3 l)) (kwinB kr n h) (vwinB vr n h) (visB n) (skB sk h 3)) ⟨i.val, by omega⟩ = sdAt qr gr kr vr sk n h 3 0 i := fun i =>
    (congrArg (Pair.sd (fun i l => qr (tok n i) (qcol h 3 l)) (fun i l => gr (tok n i) (qcol h 3 l)) (kwinB kr n h) (vwinB vr n h) (visB n) (skB sk h 3)) (Fin.ext (by simp [rowE]))).trans (sd3_val R 0 i)
  have a7 : ∀ i : Fin 128, (Pair.sd (fun i l => qr (tok n i) (qcol h 3 l)) (fun i l => gr (tok n i) (qcol h 3 l)) (kwinB kr n h) (vwinB vr n h) (visB n) (skB sk h 3)) ⟨128 + i.val, by omega⟩ = sdAt qr gr kr vr sk n h 3 1 i := fun i =>
    (congrArg (Pair.sd (fun i l => qr (tok n i) (qcol h 3 l)) (fun i l => gr (tok n i) (qcol h 3 l)) (kwinB kr n h) (vwinB vr n h) (visB n) (skB sk h 3)) (Fin.ext (by simp [rowE]))).trans (sd3_val R 1 i)
  simp only [a0, a1, a2, a3, a4, a5, a6, a7]
  fin_cases jp <;> fin_cases e <;> simp

end Cert.Proof

end
-- ==== Proof.Pre.lean ====
/-
  The precondition and the mask at an element: finite arguments are real arrays, and the masks are the lanes' halves.
-/
module

public import proofs.«01_k».proof.Defs
public import proofs.«01_k».proof.Proof.KIn
public import proofs.«01_k».proof.Proof.Att
public import proofs.«01_k».proof.Proof.KPt
public import Idealize.ShloMosaic.Lib.ReduceAll
public import Idealize.ShloMosaic.Lib.Pointwise.Tactic

@[expose] public section

set_option maxRecDepth 16384

noncomputable section

namespace Cert.Proof

open Idealize.ShloMosaic

instance finiteFacts : Cert.Pre_finite.Facts where
  bitsLt_bf16_f32 := by decide
  bcast_S_S8192x2048 := by decide
  reducesTo_S8192x2048_S_d0_1 := by decide
  h_S_ := by decide
  bcast_S_S8192x256 := by decide
  reducesTo_S8192x256_S_d0_1 := by decide
  bcast_S_S32 := by decide
  reducesTo_S32_S_d0 := by decide

instance meaningfulFacts : Cert.On_meaningful.Facts where
  bcast_S_S8192x512 := by decide
  bcast_S_S8192x2048 := by decide
  bcast_S_S4x8x128 := by decide

instance oneIndex : Subsingleton Cert.Pre_finite.S_.Idx := ⟨fun a b => funext fun k => k.elim0⟩

/-- A conjunction that is 1 has both parts 1. -/
theorem and_one : ∀ a b : BitVec 1, IntOp.andi a b = 1#1 → a = 1#1 ∧ b = 1#1 := by decide

/-- An extended real whose absolute value is below the greatest is a real. -/
theorem real_of_abs (x : EReal) (h : FloatOps.cmpf (F := Ideal) (φ := .f32) .olt (FloatOps.absf (F := Ideal) (φ := .f32) x) (FloatOps.ofBits (F := Ideal) .f32 0x7F800000#32) = 1#1) :
    x = ((x.toReal : ℝ) : EReal) := by
  have ht : Ideal.ofBits .f32 0x7F800000#32 = ⊤ := by simp [Ideal.ofBits, Ideal.ieee]
  have h' : BitVec.ofBool (decide (max x (-x) < Ideal.ofBits .f32 0x7F800000#32)) = 1#1 := h
  rw [ht] at h'
  have hl : max x (-x) < ⊤ := by
    by_contra hn
    rw [decide_eq_false hn] at h'
    exact absurd h' (by decide)
  refine (EReal.coe_toReal (fun e => ?_) (fun e => ?_)).symm
  · rw [e] at hl; simp at hl
  · rw [e] at hl; simp at hl

variable {x0 x4 : FVec Ideal Cert.Pre_finite.S8192x2048 .bf16} {x1 x2 : FVec Ideal Cert.Pre_finite.S8192x256 .bf16} {x3 : FVec Ideal Cert.Pre_finite.S32 .f32}

/-- Arguments that pass the precondition are real at every element. -/
theorem finite_real (h : Cert.Pre_finite.fn (F := Ideal) x0 x1 x2 x3 x4 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal))
      ∧ (∀ i, x4 i = (((x4 i : EReal).toReal : ℝ) : EReal)) := by
  have h0 := congrFun h (fun k => k.elim0)
  unfold Cert.Pre_finite.fn Cert.Pre_finite.fn_part1 at h0
  obtain ⟨h0, e4⟩ := and_one _ _ h0
  obtain ⟨h0, e3⟩ := and_one _ _ h0
  obtain ⟨h0, e2⟩ := and_one _ _ h0
  obtain ⟨e0, e1⟩ := and_one _ _ h0
  exact ⟨fun i => real_of_abs _ (Host.reduce_andi_all _ _ _ _ _ e0 i), fun i => real_of_abs _ (Host.reduce_andi_all _ _ _ _ _ e1 i),
    fun i => real_of_abs _ (Host.reduce_andi_all _ _ _ _ _ e2 i), fun i => real_of_abs _ (Host.reduce_andi_all _ _ _ _ _ e3 i),
    fun i => real_of_abs _ (Host.reduce_andi_all _ _ _ _ _ e4 i)⟩

theorem low_bits_col (j : Nat) : IntOp.andi (BitVec.ofNat 32 j) 127#32 = BitVec.ofNat 32 (j % 128) := by
  apply BitVec.eq_of_toNat_eq
  show (BitVec.ofNat 32 j &&& 127#32).toNat = _
  rw [BitVec.toNat_and, BitVec.toNat_ofNat, BitVec.toNat_ofNat, BitVec.toNat_ofNat]
  have e := Nat.and_two_pow_sub_one_eq_mod (j % 2 ^ 32) 7
  norm_num at e ⊢
  omega

theorem of_bit {p : Prop} [Decidable p] (h : BitVec.ofBool (decide p) = 1#1) : p := by
  by_contra hn
  rw [decide_eq_false hn] at h
  exact absurd h (by decide)

/-- The lanes of the first half. -/
theorem lane_lo (j : Nat) (h : IntOp.cmpi .slt (IntOp.andi (BitVec.ofNat 32 j) 127#32) 64#32 = 1#1) : j % 128 < 64 := by
  rw [low_bits_col] at h
  rw [show (64#32 : BitVec 32) = BitVec.ofNat 32 64 from rfl, WordCmp.cmpi_slt_ofNat (small (j % 128) (by omega)) (small 64 (by omega))] at h
  exact of_bit h

/-- The lanes of the second half. -/
theorem lane_hi (j : Nat) (h : IntOp.cmpi .sge (IntOp.andi (BitVec.ofNat 32 j) 127#32) 64#32 = 1#1) : 64 ≤ j % 128 := by
  rw [low_bits_col] at h
  rw [show (64#32 : BitVec 32) = BitVec.ofNat 32 64 from rfl, WordCmp.cmpi_sge_ofNat (small (j % 128) (by omega)) (small 64 (by omega))] at h
  exact of_bit h

/-- Every place of an array of query heads. -/
theorem cover_q (i : (⟨2, ![8192, 2048]⟩ : Shape).Idx) :
    ∃ (n : Fin 64) (r : Fin 128) (h jp : Fin 4) (e : Fin 2) (d : Fin 64), i = ix2 (tok n r) (qcol h jp (lane e d)) := by
  have h0 : (i 0).val < 8192 := (i 0).isLt
  have h1 : (i 1).val < 2048 := (i 1).isLt
  refine ⟨⟨(i 0).val / 128, by omega⟩, ⟨(i 0).val % 128, by omega⟩, ⟨(i 1).val / 512, by omega⟩, ⟨(i 1).val % 512 / 128, by omega⟩,
    ⟨(i 1).val % 128 / 64, by omega⟩, ⟨(i 1).val % 64, by omega⟩, ?_⟩
  refine (ix2_eta i).symm.trans (congrArg₂ ix2 (Fin.ext ?_) (Fin.ext ?_))
  · simp only [tok]; omega
  · simp only [qcol, lane]; omega

/-- Every place of an array of key heads. -/
theorem cover_k (i : (⟨2, ![8192, 512]⟩ : Shape).Idx) :
    ∃ (n : Fin 64) (r : Fin 128) (h : Fin 4) (e : Fin 2) (d : Fin 64), i = ix2 (tok n r) (lcol h (lane e d)) := by
  have h0 : (i 0).val < 8192 := (i 0).isLt
  have h1 : (i 1).val < 512 := (i 1).isLt
  refine ⟨⟨(i 0).val / 128, by omega⟩, ⟨(i 0).val % 128, by omega⟩, ⟨(i 1).val / 128, by omega⟩,
    ⟨(i 1).val % 128 / 64, by omega⟩, ⟨(i 1).val % 64, by omega⟩, ?_⟩
  refine (ix2_eta i).symm.trans (congrArg₂ ix2 (Fin.ext ?_) (Fin.ext ?_))
  · simp only [tok]; omega
  · simp only [lcol, lane]; omega

/-- Every place of an array of key heads in the first half of its lanes. -/
theorem cover_lo (i : (⟨2, ![8192, 512]⟩ : Shape).Idx) (hi : (i 1).val % 128 < 64) :
    ∃ (n : Fin 64) (r : Fin 128) (h : Fin 4) (d : Fin 64), i = ix2 (tok n r) (lcol h (lane 0 d)) := by
  have h0 : (i 0).val < 8192 := (i 0).isLt
  have h1 : (i 1).val < 512 := (i 1).isLt
  refine ⟨⟨(i 0).val / 128, by omega⟩, ⟨(i 0).val % 128, by omega⟩, ⟨(i 1).val / 128, by omega⟩, ⟨(i 1).val % 64, by omega⟩, ?_⟩
  refine (ix2_eta i).symm.trans (congrArg₂ ix2 (Fin.ext ?_) (Fin.ext ?_))
  · simp only [tok]; omega
  · show (i 1).val = 128 * ((i 1).val / 128) + (64 * 0 + (i 1).val % 64); omega

/-- Every place of an array of key heads in the second half of its lanes. -/
theorem cover_hi (i : (⟨2, ![8192, 512]⟩ : Shape).Idx) (hi : 64 ≤ (i 1).val % 128) :
    ∃ (n : Fin 64) (r : Fin 128) (h : Fin 4) (d : Fin 64), i = ix2 (tok n r) (lcol h (lane 1 d)) := by
  have h0 : (i 0).val < 8192 := (i 0).isLt
  have h1 : (i 1).val < 512 := (i 1).isLt
  refine ⟨⟨(i 0).val / 128, by omega⟩, ⟨(i 0).val % 128, by omega⟩, ⟨(i 1).val / 128, by omega⟩, ⟨(i 1).val % 64, by omega⟩, ?_⟩
  refine (ix2_eta i).symm.trans (congrArg₂ ix2 (Fin.ext ?_) (Fin.ext ?_))
  · simp only [tok]; omega
  · show (i 1).val = 128 * ((i 1).val / 128) + (64 * 1 + (i 1).val % 64); omega

/-- Every place of the array of the sinks' gradients. -/
theorem cover_s (i : (⟨3, ![4, 8, 128]⟩ : Shape).Idx) :
    ∃ (h jp : Fin 4) (e : Fin 2) (l : Fin 128), i = ix3 h ⟨2 * jp.val + e.val, by omega⟩ l := by
  have h1 : (i 1).val < 8 := (i 1).isLt
  refine ⟨i 0, ⟨(i 1).val / 2, by omega⟩, ⟨(i 1).val % 2, by omega⟩, i 2, ?_⟩
  refine (ix3_eta i).symm.trans ?_
  have e : i 1 = (⟨2 * ((i 1).val / 2) + (i 1).val % 2, by show _ < 8; omega⟩ : Fin 8) := Fin.ext (by show (i 1).val = _; simp only []; omega)
  exact congrArg (fun j : Fin 8 => ix3 (i 0) j (i 2)) e

variable {i : (⟨2, ![8192, 512]⟩ : Shape).Idx}

theorem on_lo0 (h : (Cert.On_meaningful.fn (F := Ideal) x0 x1 x2 x3 x4).2.2.2.1 i = 1#1) : (i 1).val % 128 < 64 := lane_lo _ h
theorem on_lo1 (h : (Cert.On_meaningful.fn (F := Ideal) x0 x1 x2 x3 x4).2.2.2.2.1 i = 1#1) : (i 1).val % 128 < 64 := lane_lo _ h
theorem on_hi0 (h : (Cert.On_meaningful.fn (F := Ideal) x0 x1 x2 x3 x4).2.2.2.2.2.1 i = 1#1) : 64 ≤ (i 1).val % 128 := lane_hi _ h
theorem on_hi1 (h : (Cert.On_meaningful.fn (F := Ideal) x0 x1 x2 x3 x4).2.2.2.2.2.2.1 i = 1#1) : 64 ≤ (i 1).val % 128 := lane_hi _ h

end Cert.Proof
-- ==== Proof.OutA.lean ====
/-
  What the backward attention kernel's body leaves in its output blocks at a grid point that starts a key head's row of blocks.
-/
module

public import proofs.«01_k».proof.Proof.Gen.KernelIdeal.Value
public import proofs.«01_k».proof.Proof.Group

@[expose] public section

noncomputable section

namespace Cert.Proof

open Cert.KernelIdeal Cert.KernelIdeal.Facts Cert.KernelIdeal.Gen.Tile Cert.KernelIdeal.Gen Idealize.ShloMosaic Idealize.ShloMosaic.TcCoe Idealize.SL.Sem

variable {F : FTy → Type} [FloatOps F]
variable (c : Dev nD) (i : grid0.Coords)
  (arg2 : Memref sig .tc .smem S32 .f32) (harg2 : arg2.IsWhole)
  (arg3 : Memref sig .tc .vmem S128x512 .bf16) (harg3 : arg3.IsWhole)
  (arg4 : Memref sig .tc .vmem S128x128 .bf16) (harg4 : arg4.IsWhole)
  (arg5 : Memref sig .tc .vmem S128x128 .bf16) (harg5 : arg5.IsWhole)
  (arg6 : Memref sig .tc .vmem S128x128 .bf16) (harg6 : arg6.IsWhole)
  (arg7 : Memref sig .tc .vmem S128x128 .bf16) (harg7 : arg7.IsWhole)
  (arg8 : Memref sig .tc .vmem S128x128 .bf16) (harg8 : arg8.IsWhole)
  (arg9 : Memref sig .tc .vmem S128x128 .bf16) (harg9 : arg9.IsWhole)
  (arg10 : Memref sig .tc .vmem S128x512 .bf16) (harg10 : arg10.IsWhole)
  (arg11 : Memref sig .tc .vmem S128x512 .f32) (harg11 : arg11.IsWhole)
  (arg12 : Memref sig .tc .vmem S128x128 .f32) (harg12 : arg12.IsWhole)
  (arg13 : Memref sig .tc .vmem S128x128 .f32) (harg13 : arg13.IsWhole)
  (arg14 : Memref sig .tc .vmem S128x128 .f32) (harg14 : arg14.IsWhole)
  (arg15 : Memref sig .tc .vmem S128x128 .f32) (harg15 : arg15.IsWhole)
  (arg16 : Memref sig .tc .vmem S128x128 .f32) (harg16 : arg16.IsWhole)
  (arg17 : Memref sig .tc .vmem S128x128 .f32) (harg17 : arg17.IsWhole)
  (arg18 : Memref sig .tc .vmem S1x8x128 .f32) (harg18 : arg18.IsWhole)
  (arg19 : Memref sig .tc .vmem S256x128 .f32) (harg19 : arg19.IsWhole)
  (arg20 : Memref sig .tc .vmem S512x128 .f32) (harg20 : arg20.IsWhole)
  (x0 : Vec F S32 .f32) (x1 : Vec F S128x512 .bf16) (x2 x3 x4 x5 x6 x7 : Vec F S128x128 .bf16) (x8 : Vec F S128x512 .bf16)

theorem outA_9 (hc0 : cond0_0 i) (hc1 : ¬cond0_1 i) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = gDq i x0 x1 x8 x2 x3 x4 x5 x6 x7 := by
  have hz : (![0, 0] : Fin 2 → Nat) = fun _ => 0 := by funext a; fin_cases a <;> rfl
  have hz3 : (![0, 0, 0] : Fin 3 → Nat) = fun _ => 0 := by funext a; fin_cases a <;> rfl
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A; dsimp only
  sl_unfold_words
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDq, gDq0, gDq1, gDq2, gDq3, gSk0, gSk1, gSk2, gSk3, tile0, tile1, tile2, tile3, sink0, sink1, sink2, sink3, sink4, sink5, sink6, sink7, pDq, pDk, pDv, pDs, pDsink]
  try rfl

theorem outA_10 (hc0 : cond0_0 i) (hc1 : ¬cond0_1 i) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = View.ld (gDk i x0 x1 x8 x2 x3 x4 x5 x6 x7) (Rect.unit (s := S256x128) ![128, 0] S128x128.size inb_S256x128_S128x128_128_0) := by
  have hz : (![0, 0] : Fin 2 → Nat) = fun _ => 0 := by funext a; fin_cases a <;> rfl
  have hz3 : (![0, 0, 0] : Fin 3 → Nat) = fun _ => 0 := by funext a; fin_cases a <;> rfl
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDk, gDkPart0, gDkPart1, gDkPart2, gDkPart3, gSk0, gSk1, gSk2, gSk3, tile0, tile1, tile2, tile3, sink0, sink1, sink2, sink3, sink4, sink5, sink6, sink7, pDq, pDk, pDv, pDs, pDsink]
  try rfl

theorem outA_11 (hc0 : cond0_0 i) (hc1 : ¬cond0_1 i) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = View.ld (gDk i x0 x1 x8 x2 x3 x4 x5 x6 x7) (Rect.unit (s := S256x128) ![0, 0] S128x128.size inb_S256x128_S128x128_0_0) := by
  have hz : (![0, 0] : Fin 2 → Nat) = fun _ => 0 := by funext a; fin_cases a <;> rfl
  have hz3 : (![0, 0, 0] : Fin 3 → Nat) = fun _ => 0 := by funext a; fin_cases a <;> rfl
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDk, gDkPart0, gDkPart1, gDkPart2, gDkPart3, gSk0, gSk1, gSk2, gSk3, tile0, tile1, tile2, tile3, sink0, sink1, sink2, sink3, sink4, sink5, sink6, sink7, pDq, pDk, pDv, pDs, pDsink]
  try rfl

theorem outA_12 (hc0 : cond0_0 i) (hc1 : ¬cond0_1 i) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = View.ld (gDv i x0 x1 x8 x2 x3) (Rect.unit (s := S512x128) ![128, 0] S128x128.size inb_S512x128_S128x128_128_0) := by
  have hz : (![0, 0] : Fin 2 → Nat) = fun _ => 0 := by funext a; fin_cases a <;> rfl
  have hz3 : (![0, 0, 0] : Fin 3 → Nat) = fun _ => 0 := by funext a; fin_cases a <;> rfl
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDv, gDvPart0, gDvPart1, gDvPart2, gDvPart3, gSk0, gSk1, gSk2, gSk3, tile0, tile1, tile2, tile3, sink0, sink1, sink2, sink3, sink4, sink5, sink6, sink7, pDq, pDk, pDv, pDs, pDsink]
  try rfl

theorem outA_13 (hc0 : cond0_0 i) (hc1 : ¬cond0_1 i) : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = View.ld (gDv i x0 x1 x8 x2 x3) (Rect.unit (s := S512x128) ![0, 0] S128x128.size inb_S512x128_S128x128_0_0) := by
  have hz : (![0, 0] : Fin 2 → Nat) = fun _ => 0 := by funext a; fin_cases a <;> rfl
  have hz3 : (![0, 0, 0] : Fin 3 → Nat) = fun _ => 0 := by funext a; fin_cases a <;> rfl
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDv, gDvPart0, gDvPart1, gDvPart2, gDvPart3, gSk0, gSk1, gSk2, gSk3, tile0, tile1, tile2, tile3, sink0, sink1, sink2, sink3, sink4, sink5, sink6, sink7, pDq, pDk, pDv, pDs, pDsink]
  try rfl

theorem outA_14 (hc0 : cond0_0 i) (hc1 : ¬cond0_1 i) : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = View.ld (gDv i x0 x1 x8 x2 x3) (Rect.unit (s := S512x128) ![384, 0] S128x128.size inb_S512x128_S128x128_384_0) := by
  have hz : (![0, 0] : Fin 2 → Nat) = fun _ => 0 := by funext a; fin_cases a <;> rfl
  have hz3 : (![0, 0, 0] : Fin 3 → Nat) = fun _ => 0 := by funext a; fin_cases a <;> rfl
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDv, gDvPart0, gDvPart1, gDvPart2, gDvPart3, gSk0, gSk1, gSk2, gSk3, tile0, tile1, tile2, tile3, sink0, sink1, sink2, sink3, sink4, sink5, sink6, sink7, pDq, pDk, pDv, pDs, pDsink]
  try rfl

theorem outA_15 (hc0 : cond0_0 i) (hc1 : ¬cond0_1 i) : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = View.ld (gDv i x0 x1 x8 x2 x3) (Rect.unit (s := S512x128) ![256, 0] S128x128.size inb_S512x128_S128x128_256_0) := by
  have hz : (![0, 0] : Fin 2 → Nat) = fun _ => 0 := by funext a; fin_cases a <;> rfl
  have hz3 : (![0, 0, 0] : Fin 3 → Nat) = fun _ => 0 := by funext a; fin_cases a <;> rfl
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDv, gDvPart0, gDvPart1, gDvPart2, gDvPart3, gSk0, gSk1, gSk2, gSk3, tile0, tile1, tile2, tile3, sink0, sink1, sink2, sink3, sink4, sink5, sink6, sink7, pDq, pDk, pDv, pDs, pDsink]
  try rfl

theorem outA_16 (hc0 : cond0_0 i) (hc1 : ¬cond0_1 i) : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 = k0_pay1 (gDsink i x0 x1 x8 x2 x3 x4 x5 x6 x7) := by
  have hz : (![0, 0] : Fin 2 → Nat) = fun _ => 0 := by funext a; fin_cases a <;> rfl
  have hz3 : (![0, 0, 0] : Fin 3 → Nat) = fun _ => 0 := by funext a; fin_cases a <;> rfl
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8)]
  unfold kernelRun0_A; dsimp only
  sl_unfold_words
  rw [View.canon_unit_zero (S := S1x8x128) hz3]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self, harg18.read_unread, View.ld_unit_zero (S := S1x8x128) hz3]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDsink, gSk0, gSk1, gSk2, gSk3, tile0, tile1, tile2, tile3, sink0, sink1, sink2, sink3, sink4, sink5, sink6, sink7, pDq, pDk, pDv, pDs, pDsink]
  try rfl

end Cert.Proof

end
-- ==== Proof.OutB.lean ====
/-
  What the backward attention kernel's body leaves in its output blocks at a grid point that goes on with a key head's row of blocks.
-/
module

public import proofs.«01_k».proof.Proof.Gen.KernelIdeal.Value
public import proofs.«01_k».proof.Proof.Group

@[expose] public section

noncomputable section

namespace Cert.Proof

open Cert.KernelIdeal Cert.KernelIdeal.Facts Cert.KernelIdeal.Gen.Tile Cert.KernelIdeal.Gen Idealize.ShloMosaic Idealize.ShloMosaic.TcCoe Idealize.SL.Sem

variable {F : FTy → Type} [FloatOps F]
variable (c : Dev nD) (i : grid0.Coords)
  (arg2 : Memref sig .tc .smem S32 .f32) (harg2 : arg2.IsWhole)
  (arg3 : Memref sig .tc .vmem S128x512 .bf16) (harg3 : arg3.IsWhole)
  (arg4 : Memref sig .tc .vmem S128x128 .bf16) (harg4 : arg4.IsWhole)
  (arg5 : Memref sig .tc .vmem S128x128 .bf16) (harg5 : arg5.IsWhole)
  (arg6 : Memref sig .tc .vmem S128x128 .bf16) (harg6 : arg6.IsWhole)
  (arg7 : Memref sig .tc .vmem S128x128 .bf16) (harg7 : arg7.IsWhole)
  (arg8 : Memref sig .tc .vmem S128x128 .bf16) (harg8 : arg8.IsWhole)
  (arg9 : Memref sig .tc .vmem S128x128 .bf16) (harg9 : arg9.IsWhole)
  (arg10 : Memref sig .tc .vmem S128x512 .bf16) (harg10 : arg10.IsWhole)
  (arg11 : Memref sig .tc .vmem S128x512 .f32) (harg11 : arg11.IsWhole)
  (arg12 : Memref sig .tc .vmem S128x128 .f32) (harg12 : arg12.IsWhole)
  (arg13 : Memref sig .tc .vmem S128x128 .f32) (harg13 : arg13.IsWhole)
  (arg14 : Memref sig .tc .vmem S128x128 .f32) (harg14 : arg14.IsWhole)
  (arg15 : Memref sig .tc .vmem S128x128 .f32) (harg15 : arg15.IsWhole)
  (arg16 : Memref sig .tc .vmem S128x128 .f32) (harg16 : arg16.IsWhole)
  (arg17 : Memref sig .tc .vmem S128x128 .f32) (harg17 : arg17.IsWhole)
  (arg18 : Memref sig .tc .vmem S1x8x128 .f32) (harg18 : arg18.IsWhole)
  (arg19 : Memref sig .tc .vmem S256x128 .f32) (harg19 : arg19.IsWhole)
  (arg20 : Memref sig .tc .vmem S512x128 .f32) (harg20 : arg20.IsWhole)
  (x0 : Vec F S32 .f32) (x1 : Vec F S128x512 .bf16) (x2 x3 x4 x5 x6 x7 : Vec F S128x128 .bf16) (x8 : Vec F S128x512 .bf16)

theorem outB_9 (hc0 : ¬cond0_0 i) (hc1 : cond0_1 i) (xo : Vec F S1x8x128 .f32) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo = gDq i x0 x1 x8 x2 x3 x4 x5 x6 x7 := by
  have hz : (![0, 0] : Fin 2 → Nat) = fun _ => 0 := by funext a; fin_cases a <;> rfl
  have hz3 : (![0, 0, 0] : Fin 3 → Nat) = fun _ => 0 := by funext a; fin_cases a <;> rfl
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo)]
  unfold kernelRun0_B; dsimp only
  sl_unfold_words
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDq, gDq0, gDq1, gDq2, gDq3, gSk0, gSk1, gSk2, gSk3, tile0, tile1, tile2, tile3, sink0, sink1, sink2, sink3, sink4, sink5, sink6, sink7, pDq, pDk, pDv, pDs, pDsink]
  try rfl

theorem outB_10 (hc0 : ¬cond0_0 i) (hc1 : cond0_1 i) (xo : Vec F S1x8x128 .f32) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo = View.ld (gDk i x0 x1 x8 x2 x3 x4 x5 x6 x7) (Rect.unit (s := S256x128) ![128, 0] S128x128.size inb_S256x128_S128x128_128_0) := by
  have hz : (![0, 0] : Fin 2 → Nat) = fun _ => 0 := by funext a; fin_cases a <;> rfl
  have hz3 : (![0, 0, 0] : Fin 3 → Nat) = fun _ => 0 := by funext a; fin_cases a <;> rfl
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo)]
  unfold kernelRun0_B; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDk, gDkPart0, gDkPart1, gDkPart2, gDkPart3, gSk0, gSk1, gSk2, gSk3, tile0, tile1, tile2, tile3, sink0, sink1, sink2, sink3, sink4, sink5, sink6, sink7, pDq, pDk, pDv, pDs, pDsink]
  try rfl

theorem outB_11 (hc0 : ¬cond0_0 i) (hc1 : cond0_1 i) (xo : Vec F S1x8x128 .f32) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo = View.ld (gDk i x0 x1 x8 x2 x3 x4 x5 x6 x7) (Rect.unit (s := S256x128) ![0, 0] S128x128.size inb_S256x128_S128x128_0_0) := by
  have hz : (![0, 0] : Fin 2 → Nat) = fun _ => 0 := by funext a; fin_cases a <;> rfl
  have hz3 : (![0, 0, 0] : Fin 3 → Nat) = fun _ => 0 := by funext a; fin_cases a <;> rfl
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo)]
  unfold kernelRun0_B; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDk, gDkPart0, gDkPart1, gDkPart2, gDkPart3, gSk0, gSk1, gSk2, gSk3, tile0, tile1, tile2, tile3, sink0, sink1, sink2, sink3, sink4, sink5, sink6, sink7, pDq, pDk, pDv, pDs, pDsink]
  try rfl

theorem outB_12 (hc0 : ¬cond0_0 i) (hc1 : cond0_1 i) (xo : Vec F S1x8x128 .f32) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo = View.ld (gDv i x0 x1 x8 x2 x3) (Rect.unit (s := S512x128) ![128, 0] S128x128.size inb_S512x128_S128x128_128_0) := by
  have hz : (![0, 0] : Fin 2 → Nat) = fun _ => 0 := by funext a; fin_cases a <;> rfl
  have hz3 : (![0, 0, 0] : Fin 3 → Nat) = fun _ => 0 := by funext a; fin_cases a <;> rfl
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo)]
  unfold kernelRun0_B; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDv, gDvPart0, gDvPart1, gDvPart2, gDvPart3, gSk0, gSk1, gSk2, gSk3, tile0, tile1, tile2, tile3, sink0, sink1, sink2, sink3, sink4, sink5, sink6, sink7, pDq, pDk, pDv, pDs, pDsink]
  try rfl

theorem outB_13 (hc0 : ¬cond0_0 i) (hc1 : cond0_1 i) (xo : Vec F S1x8x128 .f32) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo = View.ld (gDv i x0 x1 x8 x2 x3) (Rect.unit (s := S512x128) ![0, 0] S128x128.size inb_S512x128_S128x128_0_0) := by
  have hz : (![0, 0] : Fin 2 → Nat) = fun _ => 0 := by funext a; fin_cases a <;> rfl
  have hz3 : (![0, 0, 0] : Fin 3 → Nat) = fun _ => 0 := by funext a; fin_cases a <;> rfl
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo)]
  unfold kernelRun0_B; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDv, gDvPart0, gDvPart1, gDvPart2, gDvPart3, gSk0, gSk1, gSk2, gSk3, tile0, tile1, tile2, tile3, sink0, sink1, sink2, sink3, sink4, sink5, sink6, sink7, pDq, pDk, pDv, pDs, pDsink]
  try rfl

theorem outB_14 (hc0 : ¬cond0_0 i) (hc1 : cond0_1 i) (xo : Vec F S1x8x128 .f32) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo = View.ld (gDv i x0 x1 x8 x2 x3) (Rect.unit (s := S512x128) ![384, 0] S128x128.size inb_S512x128_S128x128_384_0) := by
  have hz : (![0, 0] : Fin 2 → Nat) = fun _ => 0 := by funext a; fin_cases a <;> rfl
  have hz3 : (![0, 0, 0] : Fin 3 → Nat) = fun _ => 0 := by funext a; fin_cases a <;> rfl
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo)]
  unfold kernelRun0_B; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDv, gDvPart0, gDvPart1, gDvPart2, gDvPart3, gSk0, gSk1, gSk2, gSk3, tile0, tile1, tile2, tile3, sink0, sink1, sink2, sink3, sink4, sink5, sink6, sink7, pDq, pDk, pDv, pDs, pDsink]
  try rfl

theorem outB_15 (hc0 : ¬cond0_0 i) (hc1 : cond0_1 i) (xo : Vec F S1x8x128 .f32) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo = View.ld (gDv i x0 x1 x8 x2 x3) (Rect.unit (s := S512x128) ![256, 0] S128x128.size inb_S512x128_S128x128_256_0) := by
  have hz : (![0, 0] : Fin 2 → Nat) = fun _ => 0 := by funext a; fin_cases a <;> rfl
  have hz3 : (![0, 0, 0] : Fin 3 → Nat) = fun _ => 0 := by funext a; fin_cases a <;> rfl
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo)]
  unfold kernelRun0_B; dsimp only
  sl_unfold_words
  rw [View.canon_unit_zero (S := S128x128) hz]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDv, gDvPart0, gDvPart1, gDvPart2, gDvPart3, gSk0, gSk1, gSk2, gSk3, tile0, tile1, tile2, tile3, sink0, sink1, sink2, sink3, sink4, sink5, sink6, sink7, pDq, pDk, pDv, pDs, pDsink]
  try rfl

theorem outB_16 (hc0 : ¬cond0_0 i) (hc1 : cond0_1 i) (xo : Vec F S1x8x128 .f32) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo = k0_pay2 (gDsink i x0 x1 x8 x2 x3 x4 x5 x6 x7) xo := by
  have hz : (![0, 0] : Fin 2 → Nat) = fun _ => 0 := by funext a; fin_cases a <;> rfl
  have hz3 : (![0, 0, 0] : Fin 3 → Nat) = fun _ => 0 := by funext a; fin_cases a <;> rfl
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo)]
  unfold kernelRun0_B; dsimp only
  sl_unfold_words
  rw [View.canon_unit_zero (S := S1x8x128) hz3]
  simp only [readCov_whole (S := S256x128) _ hz, readCov_whole (S := S512x128) _ hz, View.readAt_eq_ld, harg2.read_unread, harg3.read_unread, harg4.read_unread, harg5.read_unread, harg6.read_unread, harg7.read_unread, harg8.read_unread, harg9.read_unread, harg10.read_unread, View.ld_unit_zero (S := S128x128) hz,
    View.ld_unit_zero (S := S256x128) hz, View.ld_unit_zero (S := S512x128) hz, shapeCast_self, harg18.read_unread, View.ld_unit_zero (S := S1x8x128) hz3]
  simp only [pay8_eq (F := F), pay15_eq (F := F), pay16_eq (F := F), pay17_eq (F := F), pay19_eq (F := F), pay21_eq (F := F), pay22_eq (F := F), pay23_eq (F := F), pay24_eq (F := F), pay25_eq (F := F), pay26_eq (F := F), pay27_eq (F := F), pay37_eq (F := F), pay39_eq (F := F), pay42_eq (F := F), pay43_eq (F := F), pay44_eq (F := F), pay45_eq (F := F), pay48_eq (F := F), pay55_eq (F := F), pay56_eq (F := F), pay57_eq (F := F), pay58_eq (F := F), pay59_eq (F := F), pay62_eq (F := F), pay63_eq (F := F), pay64_eq (F := F), pay65_eq (F := F), pay66_eq (F := F), pay67_eq (F := F), pay68_eq (F := F), pay77_eq (F := F), pay79_eq (F := F), pay82_eq (F := F), pay83_eq (F := F), pay84_eq (F := F), pay85_eq (F := F)]
  simp only [gDsink, gSk0, gSk1, gSk2, gSk3, tile0, tile1, tile2, tile3, sink0, sink1, sink2, sink3, sink4, sink5, sink6, sink7, pDq, pDk, pDv, pDs, pDsink]
  try rfl

end Cert.Proof

end
-- ==== Proof.KOut.lean ====
/-
  What the backward attention kernel leaves in its arrays: every meaningful element is the row formula of the token and
  the head it belongs to.
-/
module

public import proofs.«01_k».proof.Proof.OutA
public import proofs.«01_k».proof.Proof.OutB
public import proofs.«01_k».proof.Proof.KPt
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Facts Cert.KernelIdeal.Gen Cert.KernelIdeal.Gen.Tile

variable (m : (ℓ : Loc nD τ sig) → Buf (Elt Ideal) ℓ) (c : Dev nD)
variable (qr gr : Fin 8192 → Fin 2048 → ℝ) (kr vr : Fin 8192 → Fin 256 → ℝ) (sk : Fin 32 → ℝ)

/-- The kernel's arguments on a core hold real arrays. -/
structure Args : Prop where
  q : ∀ r l, (m ((c : Thread nD τ).loc main_arg0) : Vec Ideal S8192x2048 .bf16) (ix2 r l) = ((qr r l : ℝ) : EReal)
  k : ∀ r l, (m ((c : Thread nD τ).loc main_arg1) : Vec Ideal S8192x256 .bf16) (ix2 r l) = ((kr r l : ℝ) : EReal)
  v : ∀ r l, (m ((c : Thread nD τ).loc main_arg2) : Vec Ideal S8192x256 .bf16) (ix2 r l) = ((vr r l : ℝ) : EReal)
  s : ∀ a, (m ((c : Thread nD τ).loc main_arg3) : Vec Ideal S32 .f32) (ix1 a) = ((sk a : ℝ) : EReal)
  g : ∀ r l, (m ((c : Thread nD τ).loc main_arg4) : Vec Ideal S8192x2048 .bf16) (ix2 r l) = ((gr r l : ℝ) : EReal)

variable {m c qr gr kr vr sk}

theorem reads (A : Args m c qr gr kr vr sk) (t : Fin cfg0.N) :
    Reads qr gr kr vr sk (grid0.coords t) (iblk m c 0 t) (iblk m c 1 t) (iblk m c 8 t) (iblk m c 2 t) (iblk m c 3 t)
      (iblk m c 4 t) (iblk m c 5 t) (iblk m c 6 t) (iblk m c 7 t) (bk t) (hd t) where
  i0 := (gcoord t).1
  i1 := (gcoord t).2
  h0 a := (in0 m c t a).trans (A.s a)
  h1 r l := (in1 m c t r l).trans (A.q _ _)
  h8 r l := (in8 m c t r l).trans (A.g _ _)
  h2 r l := (in2 m c t r l).trans ((kk_val m c _ _ _).trans (A.k _ _))
  h3 r l := (in3 m c t r l).trans ((kk_val m c _ _ _).trans (A.k _ _))
  h4 r l := by
    refine (in4 m c t r l).trans ((vlo_val m c _ _ _).trans ?_)
    split
    · exact A.v _ _
    · rfl
  h5 r l := by
    refine (in5 m c t r l).trans ((vlo_val m c _ _ _).trans ?_)
    split
    · exact A.v _ _
    · rfl
  h6 r l := by
    refine (in6 m c t r l).trans ((vhi_val m c _ _ _).trans ?_)
    split
    · exact A.v _ _
    · rfl
  h7 r l := by
    refine (in7 m c t r l).trans ((vhi_val m c _ _ _).trans ?_)
    split
    · exact A.v _ _
    · rfl

variable (m c)
theorem outs16_A (t : Fin cfg0.N) (h0 : t.val % 64 = 0) :
    (outsAt0 m c t.val t.isLt).2.2.2.2.2.2.2 = k0_pay1 (F := Ideal) (gDsink (F := Ideal) (grid0.coords t) (iblk m c 0 t) (iblk m c 1 t) (iblk m c 8 t) (iblk m c 2 t) (iblk m c 3 t) (iblk m c 4 t) (iblk m c 5 t) (iblk m c 6 t) (iblk m c 7 t)) := by
  rw [outsAt0_A m c t h0 (by omega)]
  dsimp only
  exact outA_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => absurd ((hcond0_1 t).mp h) (by omega))
theorem outs16_B (t : Fin cfg0.N) (h0 : ¬t.val % 64 = 0) :
    (outsAt0 m c t.val t.isLt).2.2.2.2.2.2.2 = k0_pay2 (F := Ideal) (gDsink (F := Ideal) (grid0.coords t) (iblk m c 0 t) (iblk m c 1 t) (iblk m c 8 t) (iblk m c 2 t) (iblk m c 3 t) (iblk m c 4 t) (iblk m c 5 t) (iblk m c 6 t) (iblk m c 7 t))
      (outsAt0 m c (t.val - 1) (Nat.lt_of_le_of_lt (Nat.sub_le _ _) t.isLt)).2.2.2.2.2.2.2 := by
  rw [outsAt0_B m c t h0 (by omega)]
  dsimp only
  exact outB_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr (by omega)) (outsAt0 m c (t.val - 1) (Nat.lt_of_le_of_lt (Nat.sub_le _ _) t.isLt)).2.2.2.2.2.2.2
theorem after9 (t : Fin cfg0.N) : (dats m 0 c).after 9 t = gDq (F := Ideal) (grid0.coords t) (iblk m c 0 t) (iblk m c 1 t) (iblk m c 8 t) (iblk m c 2 t) (iblk m c 3 t) (iblk m c 4 t) (iblk m c 5 t) (iblk m c 6 t) (iblk m c 7 t) := by
  rw [after0_9]
  by_cases h0 : t.val % 64 = 0
  · rw [outsAt0_A m c t h0 (by omega)]
    exact outA_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => absurd ((hcond0_1 t).mp h) (by omega))
  · rw [outsAt0_B m c t h0 (by omega)]
    exact outB_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr (by omega)) (outsAt0 m c (t.val - 1) (Nat.lt_of_le_of_lt (Nat.sub_le _ _) t.isLt)).2.2.2.2.2.2.2
theorem after10 (t : Fin cfg0.N) : (dats m 0 c).after 10 t = View.ld (gDk (F := Ideal) (grid0.coords t) (iblk m c 0 t) (iblk m c 1 t) (iblk m c 8 t) (iblk m c 2 t) (iblk m c 3 t) (iblk m c 4 t) (iblk m c 5 t) (iblk m c 6 t) (iblk m c 7 t)) (Rect.unit (s := S256x128) ![128, 0] S128x128.size inb_S256x128_S128x128_128_0) := by
  rw [after0_10]
  by_cases h0 : t.val % 64 = 0
  · rw [outsAt0_A m c t h0 (by omega)]
    exact outA_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => absurd ((hcond0_1 t).mp h) (by omega))
  · rw [outsAt0_B m c t h0 (by omega)]
    exact outB_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr (by omega)) (outsAt0 m c (t.val - 1) (Nat.lt_of_le_of_lt (Nat.sub_le _ _) t.isLt)).2.2.2.2.2.2.2
theorem after11 (t : Fin cfg0.N) : (dats m 0 c).after 11 t = View.ld (gDk (F := Ideal) (grid0.coords t) (iblk m c 0 t) (iblk m c 1 t) (iblk m c 8 t) (iblk m c 2 t) (iblk m c 3 t) (iblk m c 4 t) (iblk m c 5 t) (iblk m c 6 t) (iblk m c 7 t)) (Rect.unit (s := S256x128) ![0, 0] S128x128.size inb_S256x128_S128x128_0_0) := by
  rw [after0_11]
  by_cases h0 : t.val % 64 = 0
  · rw [outsAt0_A m c t h0 (by omega)]
    exact outA_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => absurd ((hcond0_1 t).mp h) (by omega))
  · rw [outsAt0_B m c t h0 (by omega)]
    exact outB_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr (by omega)) (outsAt0 m c (t.val - 1) (Nat.lt_of_le_of_lt (Nat.sub_le _ _) t.isLt)).2.2.2.2.2.2.2
theorem after12 (t : Fin cfg0.N) : (dats m 0 c).after 12 t = View.ld (gDv (F := Ideal) (grid0.coords t) (iblk m c 0 t) (iblk m c 1 t) (iblk m c 8 t) (iblk m c 2 t) (iblk m c 3 t)) (Rect.unit (s := S512x128) ![128, 0] S128x128.size inb_S512x128_S128x128_128_0) := by
  rw [after0_12]
  by_cases h0 : t.val % 64 = 0
  · rw [outsAt0_A m c t h0 (by omega)]
    exact outA_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => absurd ((hcond0_1 t).mp h) (by omega))
  · rw [outsAt0_B m c t h0 (by omega)]
    exact outB_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr (by omega)) (outsAt0 m c (t.val - 1) (Nat.lt_of_le_of_lt (Nat.sub_le _ _) t.isLt)).2.2.2.2.2.2.2
theorem after13 (t : Fin cfg0.N) : (dats m 0 c).after 13 t = View.ld (gDv (F := Ideal) (grid0.coords t) (iblk m c 0 t) (iblk m c 1 t) (iblk m c 8 t) (iblk m c 2 t) (iblk m c 3 t)) (Rect.unit (s := S512x128) ![0, 0] S128x128.size inb_S512x128_S128x128_0_0) := by
  rw [after0_13]
  by_cases h0 : t.val % 64 = 0
  · rw [outsAt0_A m c t h0 (by omega)]
    exact outA_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => absurd ((hcond0_1 t).mp h) (by omega))
  · rw [outsAt0_B m c t h0 (by omega)]
    exact outB_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr (by omega)) (outsAt0 m c (t.val - 1) (Nat.lt_of_le_of_lt (Nat.sub_le _ _) t.isLt)).2.2.2.2.2.2.2
theorem after14 (t : Fin cfg0.N) : (dats m 0 c).after 14 t = View.ld (gDv (F := Ideal) (grid0.coords t) (iblk m c 0 t) (iblk m c 1 t) (iblk m c 8 t) (iblk m c 2 t) (iblk m c 3 t)) (Rect.unit (s := S512x128) ![384, 0] S128x128.size inb_S512x128_S128x128_384_0) := by
  rw [after0_14]
  by_cases h0 : t.val % 64 = 0
  · rw [outsAt0_A m c t h0 (by omega)]
    exact outA_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => absurd ((hcond0_1 t).mp h) (by omega))
  · rw [outsAt0_B m c t h0 (by omega)]
    exact outB_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr (by omega)) (outsAt0 m c (t.val - 1) (Nat.lt_of_le_of_lt (Nat.sub_le _ _) t.isLt)).2.2.2.2.2.2.2
theorem after15 (t : Fin cfg0.N) : (dats m 0 c).after 15 t = View.ld (gDv (F := Ideal) (grid0.coords t) (iblk m c 0 t) (iblk m c 1 t) (iblk m c 8 t) (iblk m c 2 t) (iblk m c 3 t)) (Rect.unit (s := S512x128) ![256, 0] S128x128.size inb_S512x128_S128x128_256_0) := by
  rw [after0_15]
  by_cases h0 : t.val % 64 = 0
  · rw [outsAt0_A m c t h0 (by omega)]
    exact outA_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) ((hcond0_0 t).mpr h0) (fun h => absurd ((hcond0_1 t).mp h) (by omega))
  · rw [outsAt0_B m c t h0 (by omega)]
    exact outB_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (fun h => h0 ((hcond0_0 t).mp h)) ((hcond0_1 t).mpr (by omega)) (outsAt0 m c (t.val - 1) (Nat.lt_of_le_of_lt (Nat.sub_le _ _) t.isLt)).2.2.2.2.2.2.2

end Cert.Proof

end
-- ==== Proof.KArr.lean ====
/-
  What the backward attention kernel leaves in its arrays: every meaningful element is the row formula of the token and
  the head it belongs to.
-/
module

public import proofs.«01_k».proof.Proof.KOut

@[expose] public section

set_option maxRecDepth 16384

noncomputable section

namespace Cert.Proof

open Idealize.ShloMosaic Idealize.ShloMosaic.TcCoe Idealize.SL.Sem Cert.KernelIdeal Cert.KernelIdeal.Facts Cert.KernelIdeal.Gen Cert.KernelIdeal.Gen.Tile

variable {m : (ℓ : Loc nD τ sig) → Buf (Elt Ideal) ℓ} {c : Dev nD}
variable {qr gr : Fin 8192 → Fin 2048 → ℝ} {kr vr : Fin 8192 → Fin 256 → ℝ} {sk : Fin 32 → ℝ}

/-- A row of a window: the block's own tokens come after those of the block before. -/
def ownk (r : Fin 128) : Fin 256 := ⟨128 + r.val, by omega⟩
/-- A row of the block before, in a window. -/
def prvk (r : Fin 128) : Fin 256 := ⟨r.val, by omega⟩

theorem dq_arr (A : Args m c qr gr kr vr sk) (n : Fin 64) (r : Fin 128) (h jp : Fin 4) (e : Fin 2) (d : Fin 64) :
    ((dats m 0 c).arrAt 9 cfg0.N : Vec Ideal S8192x2048 .f32) (ix2 (tok n r) (qcol h jp (lane e d))) = ((dqAt qr gr kr vr sk n h jp e r d : ℝ) : EReal) := by
  refine ((dats m 0 c).arrAt_forall_of_covers 9 (fun j v => j = ix2 (tok n r) (qcol h jp (lane e d)) → v = ((dqAt qr gr kr vr sk n h jp e r d : ℝ) : EReal))
    (by decide +kernel) (fun t hf y => ?_) (ix2 (tok n r) (qcol h jp (lane e d)))) rfl
  blk_simp [widxO t]
  rw [after9]
  intro hj
  have h0 := congrArg Fin.val (congrFun hj 0)
  have h1 := congrArg Fin.val (congrFun hj 1)
  blk_simp [widxO t] at h0 h1
  change _ = 128 * n.val + r.val at h0
  change _ = 512 * h.val + (128 * jp.val + (64 * e.val + d.val)) at h1
  have y0 : (y 0).val < 128 := (y 0).isLt
  have y1 : (y 1).val < 512 := (y 1).isLt
  have ht : t.val < 256 := t.isLt
  have hn : bk t = n := Fin.ext (by simp only [bk]; omega)
  have hh : hd t = h := Fin.ext (by simp only [hd]; omega)
  have hy : y = ix2 r ⟨128 * jp.val + (lane e d).val, by omega⟩ := by
    funext a
    fin_cases a
    · exact Fin.ext (by show (y 0).val = r.val; omega)
    · exact Fin.ext (by show (y 1).val = 128 * jp.val + (64 * e.val + d.val); omega)
  rw [hy]
  have R := reads A t
  rw [hn, hh] at R
  exact dq_val R jp e r d

theorem dkc_arr (A : Args m c qr gr kr vr sk) (n : Fin 64) (r : Fin 128) (h : Fin 4) (e : Fin 2) (d : Fin 64) :
    ((dats m 0 c).arrAt 10 cfg0.N : Vec Ideal S8192x512 .f32) (ix2 (tok n r) (lcol h (lane e d))) = ((dkAt qr gr kr vr sk n h e (ownk r) d : ℝ) : EReal) := by
  refine ((dats m 0 c).arrAt_forall_of_covers 10 (fun j v => j = ix2 (tok n r) (lcol h (lane e d)) → v = ((dkAt qr gr kr vr sk n h e (ownk r) d : ℝ) : EReal))
    (by decide +kernel) (fun t hf y => ?_) (ix2 (tok n r) (lcol h (lane e d)))) rfl
  blk_simp [widxO t]
  rw [after10]
  intro hj
  have h0 := congrArg Fin.val (congrFun hj 0)
  have h1 := congrArg Fin.val (congrFun hj 1)
  blk_simp [widxO t] at h0 h1
  change _ = 128 * n.val + r.val at h0
  change _ = 128 * h.val + (64 * e.val + d.val) at h1
  have y0 : (y 0).val < 128 := (y 0).isLt
  have y1 : (y 1).val < 128 := (y 1).isLt
  have ht : t.val < 256 := t.isLt
  have hn : bk t = n := Fin.ext (by simp only [bk]; omega)
  have hh : hd t = h := Fin.ext (by simp only [hd]; omega)
  have hy : y = ix2 r (lane e d) := by
    funext a
    fin_cases a
    · exact Fin.ext (by show (y 0).val = r.val; omega)
    · exact Fin.ext (by show (y 1).val = 64 * e.val + d.val; omega)
  rw [hy]
  have R := reads A t
  rw [hn, hh] at R
  refine Eq.trans ?_ (dk_val R e (ownk r) d)
  rw [View.ld_unit]
  pointwise
  exact congrArg (gDk (F := Ideal) _ _ _ _ _ _ _ _ _ _) (by blk_ext [ownk, ix2])

theorem dkp_arr (A : Args m c qr gr kr vr sk) (n : Fin 64) (r : Fin 128) (h : Fin 4) (e : Fin 2) (d : Fin 64) :
    ((dats m 0 c).arrAt 11 cfg0.N : Vec Ideal S8192x512 .f32) (ix2 (tok n r) (lcol h (lane e d))) = ((dkAt qr gr kr vr sk n h e (prvk r) d : ℝ) : EReal) := by
  refine ((dats m 0 c).arrAt_forall_of_covers 11 (fun j v => j = ix2 (tok n r) (lcol h (lane e d)) → v = ((dkAt qr gr kr vr sk n h e (prvk r) d : ℝ) : EReal))
    (by decide +kernel) (fun t hf y => ?_) (ix2 (tok n r) (lcol h (lane e d)))) rfl
  blk_simp [widxO t]
  rw [after11]
  intro hj
  have h0 := congrArg Fin.val (congrFun hj 0)
  have h1 := congrArg Fin.val (congrFun hj 1)
  blk_simp [widxO t] at h0 h1
  change _ = 128 * n.val + r.val at h0
  change _ = 128 * h.val + (64 * e.val + d.val) at h1
  have y0 : (y 0).val < 128 := (y 0).isLt
  have y1 : (y 1).val < 128 := (y 1).isLt
  have ht : t.val < 256 := t.isLt
  have hn : bk t = n := Fin.ext (by simp only [bk]; omega)
  have hh : hd t = h := Fin.ext (by simp only [hd]; omega)
  have hy : y = ix2 r (lane e d) := by
    funext a
    fin_cases a
    · exact Fin.ext (by show (y 0).val = r.val; omega)
    · exact Fin.ext (by show (y 1).val = 64 * e.val + d.val; omega)
  rw [hy]
  have R := reads A t
  rw [hn, hh] at R
  refine Eq.trans ?_ (dk_val R e (prvk r) d)
  rw [View.ld_unit]
  pointwise
  exact congrArg (gDk (F := Ideal) _ _ _ _ _ _ _ _ _ _) (by blk_ext [prvk, ix2])

theorem dvloc_arr (A : Args m c qr gr kr vr sk) (n : Fin 64) (r : Fin 128) (h : Fin 4) (d : Fin 64) :
    ((dats m 0 c).arrAt 12 cfg0.N : Vec Ideal S8192x512 .f32) (ix2 (tok n r) (lcol h (lane 0 d))) = ((dvAt qr gr kr sk n h 0 (ownk r) d : ℝ) : EReal) := by
  refine ((dats m 0 c).arrAt_forall_of_covers 12 (fun j v => j = ix2 (tok n r) (lcol h (lane 0 d)) → v = ((dvAt qr gr kr sk n h 0 (ownk r) d : ℝ) : EReal))
    (by decide +kernel) (fun t hf y => ?_) (ix2 (tok n r) (lcol h (lane 0 d)))) rfl
  blk_simp [widxO t]
  rw [after12]
  intro hj
  have h0 := congrArg Fin.val (congrFun hj 0)
  have h1 := congrArg Fin.val (congrFun hj 1)
  blk_simp [widxO t] at h0 h1
  change _ = 128 * n.val + r.val at h0
  change _ = 128 * h.val + (64 * 0 + d.val) at h1
  have y0 : (y 0).val < 128 := (y 0).isLt
  have y1 : (y 1).val < 128 := (y 1).isLt
  have ht : t.val < 256 := t.isLt
  have hn : bk t = n := Fin.ext (by simp only [bk]; omega)
  have hh : hd t = h := Fin.ext (by simp only [hd]; omega)
  have hy : y = ix2 r (lane 0 d) := by
    funext a
    fin_cases a
    · exact Fin.ext (by show (y 0).val = r.val; omega)
    · exact Fin.ext (by show (y 1).val = 64 * 0 + d.val; omega)
  rw [hy]
  have R := reads A t
  rw [hn, hh] at R
  refine Eq.trans ?_ (dv_val R 0 (ownk r) d)
  rw [View.ld_unit]
  pointwise
  exact congrArg (gDv (F := Ideal) _ _ _ _ _ _) (by blk_ext [ownk, wrow, ix2])

theorem dvlop_arr (A : Args m c qr gr kr vr sk) (n : Fin 64) (r : Fin 128) (h : Fin 4) (d : Fin 64) :
    ((dats m 0 c).arrAt 13 cfg0.N : Vec Ideal S8192x512 .f32) (ix2 (tok n r) (lcol h (lane 0 d))) = ((dvAt qr gr kr sk n h 0 (prvk r) d : ℝ) : EReal) := by
  refine ((dats m 0 c).arrAt_forall_of_covers 13 (fun j v => j = ix2 (tok n r) (lcol h (lane 0 d)) → v = ((dvAt qr gr kr sk n h 0 (prvk r) d : ℝ) : EReal))
    (by decide +kernel) (fun t hf y => ?_) (ix2 (tok n r) (lcol h (lane 0 d)))) rfl
  blk_simp [widxO t]
  rw [after13]
  intro hj
  have h0 := congrArg Fin.val (congrFun hj 0)
  have h1 := congrArg Fin.val (congrFun hj 1)
  blk_simp [widxO t] at h0 h1
  change _ = 128 * n.val + r.val at h0
  change _ = 128 * h.val + (64 * 0 + d.val) at h1
  have y0 : (y 0).val < 128 := (y 0).isLt
  have y1 : (y 1).val < 128 := (y 1).isLt
  have ht : t.val < 256 := t.isLt
  have hn : bk t = n := Fin.ext (by simp only [bk]; omega)
  have hh : hd t = h := Fin.ext (by simp only [hd]; omega)
  have hy : y = ix2 r (lane 0 d) := by
    funext a
    fin_cases a
    · exact Fin.ext (by show (y 0).val = r.val; omega)
    · exact Fin.ext (by show (y 1).val = 64 * 0 + d.val; omega)
  rw [hy]
  have R := reads A t
  rw [hn, hh] at R
  refine Eq.trans ?_ (dv_val R 0 (prvk r) d)
  rw [View.ld_unit]
  pointwise
  exact congrArg (gDv (F := Ideal) _ _ _ _ _ _) (by blk_ext [prvk, wrow, ix2])

theorem dvhic_arr (A : Args m c qr gr kr vr sk) (n : Fin 64) (r : Fin 128) (h : Fin 4) (d : Fin 64) :
    ((dats m 0 c).arrAt 14 cfg0.N : Vec Ideal S8192x512 .f32) (ix2 (tok n r) (lcol h (lane 1 d))) = ((dvAt qr gr kr sk n h 1 (ownk r) d : ℝ) : EReal) := by
  refine ((dats m 0 c).arrAt_forall_of_covers 14 (fun j v => j = ix2 (tok n r) (lcol h (lane 1 d)) → v = ((dvAt qr gr kr sk n h 1 (ownk r) d : ℝ) : EReal))
    (by decide +kernel) (fun t hf y => ?_) (ix2 (tok n r) (lcol h (lane 1 d)))) rfl
  blk_simp [widxO t]
  rw [after14]
  intro hj
  have h0 := congrArg Fin.val (congrFun hj 0)
  have h1 := congrArg Fin.val (congrFun hj 1)
  blk_simp [widxO t] at h0 h1
  change _ = 128 * n.val + r.val at h0
  change _ = 128 * h.val + (64 * 1 + d.val) at h1
  have y0 : (y 0).val < 128 := (y 0).isLt
  have y1 : (y 1).val < 128 := (y 1).isLt
  have ht : t.val < 256 := t.isLt
  have hn : bk t = n := Fin.ext (by simp only [bk]; omega)
  have hh : hd t = h := Fin.ext (by simp only [hd]; omega)
  have hy : y = ix2 r (lane 1 d) := by
    funext a
    fin_cases a
    · exact Fin.ext (by show (y 0).val = r.val; omega)
    · exact Fin.ext (by show (y 1).val = 64 * 1 + d.val; omega)
  rw [hy]
  have R := reads A t
  rw [hn, hh] at R
  refine Eq.trans ?_ (dv_val R 1 (ownk r) d)
  rw [View.ld_unit]
  pointwise
  exact congrArg (gDv (F := Ideal) _ _ _ _ _ _) (by blk_ext [ownk, wrow, ix2])

theorem dvhip_arr (A : Args m c qr gr kr vr sk) (n : Fin 64) (r : Fin 128) (h : Fin 4) (d : Fin 64) :
    ((dats m 0 c).arrAt 15 cfg0.N : Vec Ideal S8192x512 .f32) (ix2 (tok n r) (lcol h (lane 1 d))) = ((dvAt qr gr kr sk n h 1 (prvk r) d : ℝ) : EReal) := by
  refine ((dats m 0 c).arrAt_forall_of_covers 15 (fun j v => j = ix2 (tok n r) (lcol h (lane 1 d)) → v = ((dvAt qr gr kr sk n h 1 (prvk r) d : ℝ) : EReal))
    (by decide +kernel) (fun t hf y => ?_) (ix2 (tok n r) (lcol h (lane 1 d)))) rfl
  blk_simp [widxO t]
  rw [after15]
  intro hj
  have h0 := congrArg Fin.val (congrFun hj 0)
  have h1 := congrArg Fin.val (congrFun hj 1)
  blk_simp [widxO t] at h0 h1
  change _ = 128 * n.val + r.val at h0
  change _ = 128 * h.val + (64 * 1 + d.val) at h1
  have y0 : (y 0).val < 128 := (y 0).isLt
  have y1 : (y 1).val < 128 := (y 1).isLt
  have ht : t.val < 256 := t.isLt
  have hn : bk t = n := Fin.ext (by simp only [bk]; omega)
  have hh : hd t = h := Fin.ext (by simp only [hd]; omega)
  have hy : y = ix2 r (lane 1 d) := by
    funext a
    fin_cases a
    · exact Fin.ext (by show (y 0).val = r.val; omega)
    · exact Fin.ext (by show (y 1).val = 64 * 1 + d.val; omega)
  rw [hy]
  have R := reads A t
  rw [hn, hh] at R
  refine Eq.trans ?_ (dv_val R 1 (prvk r) d)
  rw [View.ld_unit]
  pointwise
  exact congrArg (gDv (F := Ideal) _ _ _ _ _ _) (by blk_ext [prvk, wrow, ix2])

end Cert.Proof

end
-- ==== Proof.KSink.lean ====
/-
  What the backward attention kernel leaves in the array of the sinks' gradients: the sum over all blocks and tokens.
-/
module

public import proofs.«01_k».proof.Proof.KOut

@[expose] public section

set_option maxRecDepth 16384

noncomputable section

namespace Cert.Proof

open Idealize.ShloMosaic Idealize.ShloMosaic.TcCoe Idealize.SL.Sem Cert.KernelIdeal Cert.KernelIdeal.Facts Cert.KernelIdeal.Gen Cert.KernelIdeal.Gen.Tile

variable {m : (ℓ : Loc nD τ sig) → Buf (Elt Ideal) ℓ} {c : Dev nD}
variable {qr gr : Fin 8192 → Fin 2048 → ℝ} {kr vr : Fin 8192 → Fin 256 → ℝ} {sk : Fin 32 → ℝ}

/-- The accumulated block of sinks' gradients at the last token block of a head group. -/
theorem dsink_step (A : Args m c qr gr kr vr sk) (h jp : Fin 4) (e : Fin 2) (l : Fin 128) (t : Fin cfg0.N) (hr : t.val % 64 = 63)
    (hg : t.val / 64 = h.val) (y : S1x8x128.Idx) (h1 : (y 1).val = 2 * jp.val + e.val) (h2 : (y 2).val = l.val) :
    ((outsAt0 m c t.val t.isLt).2.2.2.2.2.2.2 : Vec Ideal S1x8x128 .f32) y
      = ((-∑ n, ∑ i, sdAt qr gr kr vr sk n h jp e i : ℝ) : EReal) := by
  have step := Pipeline.eq_sum_fin_of_reset_step_apply_of_flush (N := cfg0.N) (M := EReal) (fun n hn => (outsAt0 m c n hn).2.2.2.2.2.2.2) 64 (fun _ => 0)
    (fun t y => gDsink (F := Ideal) (grid0.coords t) (iblk m c 0 t) (iblk m c 1 t) (iblk m c 8 t) (iblk m c 2 t) (iblk m c 3 t) (iblk m c 4 t) (iblk m c 5 t) (iblk m c 6 t) (iblk m c 7 t) (ix2 (y 1) (y 2)))
    (fun t h0 y => by rw [outs16_A m c t h0, zero_add]; unfold k0_pay1; pointwise)
    (fun t h0 y => by rw [outs16_B m c t h0]; unfold k0_pay2; pointwise) t hr y
  have es : ((-∑ n, ∑ i, sdAt qr gr kr vr sk n h jp e i : ℝ) : EReal) = ∑ s : Fin 64, ((-∑ i, sdAt qr gr kr vr sk s h jp e i : ℝ) : EReal) := by
    rw [← Finset.sum_neg_distrib, coe_sum]
  refine step.trans ((zero_add (M := EReal) _).trans (Eq.trans ?_ es.symm))
  refine Finset.sum_congr (M := EReal) rfl fun s _ => ?_
  have ht : t.val < 256 := t.isLt
  have R := reads A ⟨64 * (t.val / 64) + s.val, by show _ < 256; omega⟩
  have hn : bk ⟨64 * (t.val / 64) + s.val, by show _ < 256; omega⟩ = s := Fin.ext (by simp only [bk]; omega)
  have hh : hd ⟨64 * (t.val / 64) + s.val, by show _ < 256; omega⟩ = h := Fin.ext (by simp only [hd]; omega)
  rw [hn, hh] at R
  have hy : (ix2 (y 1) (y 2) : S8x128.Idx) = ix2 ⟨2 * jp.val + e.val, by omega⟩ l := by
    funext a
    fin_cases a
    · exact Fin.ext h1
    · exact Fin.ext h2
  refine (congrArg _ hy).trans ?_
  exact dsink_val R jp e l

theorem dsink_arr (A : Args m c qr gr kr vr sk) (h jp : Fin 4) (e : Fin 2) (l : Fin 128) :
    ((dats m 0 c).arrAt 16 cfg0.N : Vec Ideal S4x8x128 .f32) (ix3 h ⟨2 * jp.val + e.val, by omega⟩ l)
      = ((-∑ n, ∑ i, sdAt qr gr kr vr sk n h jp e i : ℝ) : EReal) := by
  refine ((dats m 0 c).arrAt_forall_of_covers 16 (fun j v => j = ix3 h ⟨2 * jp.val + e.val, by omega⟩ l → v = ((-∑ n, ∑ i, sdAt qr gr kr vr sk n h jp e i : ℝ) : EReal))
    (by decide +kernel) (fun t hf y => ?_) (ix3 h ⟨2 * jp.val + e.val, by omega⟩ l)) rfl
  have hr : t.val % 64 = 63 := (by decide +kernel : ∀ t : Fin cfg0.N, (cfg0.win 16).flush t = true → t.val % 64 = 63) t hf
  blk_simp [widxO t]
  rw [after0_16]
  intro hj
  have h0 := congrArg Fin.val (congrFun hj 0)
  have h1 := congrArg Fin.val (congrFun hj 1)
  have h2 := congrArg Fin.val (congrFun hj 2)
  blk_simp [widxO t] at h0 h1 h2
  exact dsink_step A h jp e l t hr h0 y h1 h2

end Cert.Proof

end
-- ==== Proof.RIn.lean ====
/-
  What the reference's attention reads: its windows of keys and of values, its heads of queries and of gradients, its
  mask and its sinks, at an index.
-/
module

public import proofs.«01_k».proof.Proof.Gen.ReferenceIdeal.Read
public import proofs.«01_k».proof.Proof.KPt

@[expose] public section

set_option maxRecDepth 16384

noncomputable section

namespace Cert.Proof

open Idealize.ShloMosaic Idealize.ShloMosaic.TcCoe Idealize.SL.Sem Cert.ReferenceIdeal Cert.ReferenceIdeal.Facts Cert.ReferenceIdeal.Gen Cert.ReferenceIdeal.Read

variable {x0 x4 : (⟨S8192x2048, .bf16⟩ : BufTy).Contents (Elt Ideal)} {x1 x2 : (⟨S8192x256, .bf16⟩ : BufTy).Contents (Elt Ideal)}
  {x3 : (⟨S32, .f32⟩ : BufTy).Contents (Elt Ideal)}
variable {qr gr : Fin 8192 → Fin 2048 → ℝ} {kr vr : Fin 8192 → Fin 256 → ℝ} {sk : Fin 32 → ℝ}

/-- The reference's window: before the sequence's start, zero. -/
def rwin (a : Fin 8192 → Fin 256 → ℝ) (n : Fin 64) (h : Fin 4) (k : Fin 256) (d : Fin 64) : ℝ :=
  if k.val < 128 ∧ n.val = 0 then 0 else kwin a n h k d

theorem rwin_zero (a : Fin 8192 → Fin 256 → ℝ) (n : Fin 64) (h : Fin 4) (k : Fin 256) (d : Fin 64) (h1 : k.val < 128) (h2 : n.val = 0) :
    rwin a n h k d = 0 := by unfold rwin; rw [if_pos ⟨h1, h2⟩]

theorem rwin_prv (a : Fin 8192 → Fin 256 → ℝ) (n : Fin 64) (h : Fin 4) (k : Fin 256) (d : Fin 64) (h1 : k.val < 128) (h2 : n.val ≠ 0) :
    rwin a n h k d = a (tok (prev n) ⟨k.val, h1⟩) (kcol h d) := by
  unfold rwin kwin; rw [if_neg (fun q => h2 q.2), dif_pos h1]

theorem rwin_own (a : Fin 8192 → Fin 256 → ℝ) (n : Fin 64) (h : Fin 4) (k : Fin 256) (d : Fin 64) (h1 : ¬ k.val < 128) :
    rwin a n h k d = a (tok n ⟨k.val - 128, by omega⟩) (kcol h d) := by
  unfold rwin kwin; rw [if_neg (fun q => h1 q.1), dif_neg h1]

theorem q_ref (hq : ∀ r l, x0 (ix2 r l) = ((qr r l : ℝ) : EReal)) (n : Fin 64) (i : Fin 128) (h jp : Fin 4) (e : Fin 2) (d : Fin 64) :
    val_main_v15 (F := Ideal) x0 (ix6 n i h jp e d) = ((qrow qr n h jp e i d : ℝ) : EReal) := by
  unfold val_main_v15 val_main_v0
  pointwise
  rw [hq]
  exact congrArg₂ (fun a b => ((qr a b : ℝ) : EReal)) (Fin.ext (by simp only [tok]; omega)) (Fin.ext (by simp only [qcol, lane]; omega))

theorem g_ref (hg : ∀ r l, x4 (ix2 r l) = ((gr r l : ℝ) : EReal)) (n : Fin 64) (i : Fin 128) (h jp : Fin 4) (e : Fin 2) (d : Fin 64) :
    val_main_v98 (F := Ideal) x4 (ix6 n i h jp e d) = ((qrow gr n h jp e i d : ℝ) : EReal) := by
  unfold val_main_v98 val_main_v97
  pointwise
  rw [hg]
  exact congrArg₂ (fun a b => ((gr a b : ℝ) : EReal)) (Fin.ext (by simp only [tok]; omega)) (Fin.ext (by simp only [qcol, lane]; omega))

theorem k_ref (hk : ∀ r l, x1 (ix2 r l) = ((kr r l : ℝ) : EReal)) (n : Fin 64) (k : Fin 256) (h : Fin 4) (e : Fin 2) (d : Fin 64) :
    val_main_v16 (F := Ideal) x1 (ix5 n k h e d) = ((rwin kr n h k d : ℝ) : EReal) := by
  unfold val_main_v16 val_main_v7 val_main_v6 val_main_v5 val_main_v3 val_main_v2 val_main_v1 val_main_cst
  pointwise
  simp only [hk]
  by_cases h1 : k.val < 128
  · rw [dif_pos h1]
    by_cases h2 : n.val < 1
    · rw [dif_pos h2, rwin_zero kr n h k d h1 (by omega)]; rfl
    · rw [dif_neg h2]
      refine Eq.trans ?_ (congrArg (fun a : ℝ => (a : EReal)) (rwin_prv kr n h k d h1 (by omega)).symm)
      exact congrArg₂ (fun a b => ((kr a b : ℝ) : EReal)) (Fin.ext (by simp only [tok, prev]; omega)) (Fin.ext (by simp only [kcol]; omega))
  · rw [dif_neg h1]
    refine Eq.trans ?_ (congrArg (fun a : ℝ => (a : EReal)) (rwin_own kr n h k d h1).symm)
    exact congrArg₂ (fun a b => ((kr a b : ℝ) : EReal)) (Fin.ext (by simp only [tok]; omega)) (Fin.ext (by simp only [kcol]; omega))

theorem v_ref (hv : ∀ r l, x2 (ix2 r l) = ((vr r l : ℝ) : EReal)) (n : Fin 64) (k : Fin 256) (h : Fin 4) (e : Fin 2) (d : Fin 64) :
    val_main_v17 (F := Ideal) x2 (ix5 n k h e d) = ((rwin vr n h k d : ℝ) : EReal) := by
  unfold val_main_v17 val_main_v14 val_main_v13 val_main_v12 val_main_v10 val_main_v9 val_main_v8 val_main_cst_0
  pointwise
  simp only [hv]
  by_cases h1 : k.val < 128
  · rw [dif_pos h1]
    by_cases h2 : n.val < 1
    · rw [dif_pos h2, rwin_zero vr n h k d h1 (by omega)]; rfl
    · rw [dif_neg h2]
      refine Eq.trans ?_ (congrArg (fun a : ℝ => (a : EReal)) (rwin_prv vr n h k d h1 (by omega)).symm)
      exact congrArg₂ (fun a b => ((vr a b : ℝ) : EReal)) (Fin.ext (by simp only [tok, prev]; omega)) (Fin.ext (by simp only [kcol]; omega))
  · rw [dif_neg h1]
    refine Eq.trans ?_ (congrArg (fun a : ℝ => (a : EReal)) (rwin_own vr n h k d h1).symm)
    exact congrArg₂ (fun a b => ((vr a b : ℝ) : EReal)) (Fin.ext (by simp only [tok]; omega)) (Fin.ext (by simp only [kcol]; omega))

theorem mask_ref (n : Fin 64) (i : Fin 128) (k : Fin 256) :
    val_main_v48 (F := Ideal) (ix3 n i k) = bit (vis n i k) := by
  unfold val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_c val_main_c_2 val_main_c_3
  pointwise
  have e : IntOp.addi (BitVec.ofNat 32 i.val) 128#32 = BitVec.ofNat 32 (i.val + 128) := (BitVec.ofNat_add ..).symm
  rw [e, WordCmp.cmpi_sgt_ofNat (small k.val (by omega)) (small i.val (by omega)),
    WordCmp.cmpi_sle_ofNat (small k.val (by omega)) (small (i.val + 128) (by omega)),
    WordCmp.cmpi_sge_ofNat (small k.val (by omega)) (small 128 (by omega)),
    WordCmp.cmpi_sgt_ofNat (small n.val (by omega)) (small 0 (by omega))]
  simp only [ofBool_bit, andi_bit, ori_bit, ← Bool.decide_and, ← Bool.decide_or]
  unfold vis
  exact bit_congr (by omega)

theorem sink_ref (hs : ∀ a, x3 (ix1 a) = ((sk a : ℝ) : EReal)) (h jp : Fin 4) (e : Fin 2) (z z' z'' : Fin 1) :
    val_main_v52 (F := Ideal) x3 (ix6 z h jp e z' z'') = ((sk (head h jp e) : ℝ) : EReal) := by
  unfold val_main_v52 val_main_v51
  pointwise
  rw [hs]
  exact congrArg (fun a => ((sk a : ℝ) : EReal)) (Fin.ext (by simp only [head]; omega))

end Cert.Proof

end
-- ==== Proof.RRed.lean ====
/-
  Sums and folds along axes of arrays of six axes, at an index.
-/
module

public import Idealize.ShloMosaic.Lib.Pointwise.Tactic
public import Idealize.ShloMosaic.Lib.Pointwise.Reduce

@[expose] public section

noncomputable section

namespace Cert.Proof

open Idealize.ShloMosaic

variable {n0 n1 n2 n3 n4 n5 : Nat}

/-- The indices of a six-axis array over an index of its first five. -/
theorem fib5 (h : (⟨6, ![n0, n1, n2, n3, n4, n5]⟩ : Shape).ReducesTo [5] ⟨5, ![n0, n1, n2, n3, n4]⟩) (a : Fin n0) (b : Fin n1) (c : Fin n2)
    (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem sum5 (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) (a : Fin n0) (b : Fin n1) (c : Fin n2) (d : Fin n3) (e : Fin n4) :
    Ideal.hostReduceAdd h v init (ix5 a b c d e) = init + ∑ k, v (ix6 a b c d e k) :=
  congrArg (init + ·) (Finset.sum_filter_eq_sum_of_fiber _ (fun k : Fin n5 => ix6 a b c d e k) (fun _ _ q => congrFun q 5) (fib5 h a b c d e) v)

theorem fold5 (h : (⟨6, ![n0, n1, n2, n3, n4, n5]⟩ : Shape).ReducesTo [5] ⟨5, ![n0, n1, n2, n3, n4]⟩)
    (op : EReal → EReal → EReal) [Std.Commutative op] [Std.Associative op]
    (v : (⟨6, ![n0, n1, n2, n3, n4, n5]⟩ : Shape).Idx → EReal) (init : EReal) (a : Fin n0) (b : Fin n1) (c : Fin n2) (d : Fin n3) (e : Fin n4) :
    (Finset.univ.filter (fun i => h.drop i = ix5 a b c d e)).fold op init v = (Finset.univ : Finset (Fin n5)).fold op init (fun k => v (ix6 a b c d e k)) :=
  Finset.fold_filter_eq_fold_of_fiber op _ (fun k : Fin n5 => ix6 a b c d e k) (fun _ _ q => congrFun q 5) (fib5 h a b c d e) init v

/-- The indices over an index of all axes but the first and the fifth. -/
theorem fib04 (h : (⟨6, ![n0, n1, n2, n3, n4, n5]⟩ : Shape).ReducesTo [0, 4] ⟨4, ![n1, n2, n3, n5]⟩) (b : Fin n1) (c : Fin n2)
    (d : Fin n3) (f : Fin n5) (i : (⟨6, ![n0, n1, n2, n3, n4, n5]⟩ : Shape).Idx) :
    h.drop i = ix4 b c d f ↔ ∃ k : Fin n0 × Fin n4, ix6 k.1 b c d k.2 f = i := by
  constructor
  · intro q
    refine ⟨(i 0, i 4), ?_⟩
    funext x; apply Fin.ext
    match x with
    | ⟨0, _⟩ => rfl
    | ⟨1, _⟩ => exact (congrArg Fin.val (congrFun q 0)).symm
    | ⟨2, _⟩ => exact (congrArg Fin.val (congrFun q 1)).symm
    | ⟨3, _⟩ => exact (congrArg Fin.val (congrFun q 2)).symm
    | ⟨4, _⟩ => rfl
    | ⟨5, _⟩ => exact (congrArg Fin.val (congrFun q 3)).symm
  · rintro ⟨k, rfl⟩
    funext x
    apply Fin.ext
    match x with
    | ⟨0, _⟩ => rfl
    | ⟨1, _⟩ => rfl
    | ⟨2, _⟩ => rfl
    | ⟨3, _⟩ => rfl

theorem sum04 (h : (⟨6, ![n0, n1, n2, n3, n4, n5]⟩ : Shape).ReducesTo [0, 4] ⟨4, ![n1, n2, n3, n5]⟩)
    (v : (⟨6, ![n0, n1, n2, n3, n4, n5]⟩ : Shape).Idx → EReal) (init : EReal) (b : Fin n1) (c : Fin n2) (d : Fin n3) (f : Fin n5) :
    Ideal.hostReduceAdd h v init (ix4 b c d f) = init + ∑ a, ∑ e, v (ix6 a b c d e f) := by
  rw [← Fintype.sum_prod_type']
  exact congrArg (init + ·) (Finset.sum_filter_eq_sum_of_fiber _ (fun k : Fin n0 × Fin n4 => ix6 k.1 b c d k.2 f)
    (fun _ _ q => Prod.ext (congrFun q 0) (congrFun q 4)) (fib04 h b c d f) v)

/-- The indices over an index of the second, third and fourth axes, the others of one element. -/
theorem fib045 (h : (⟨6, ![1, n1, n2, n3, 1, 1]⟩ : Shape).ReducesTo [0, 4, 5] ⟨3, ![n1, n2, n3]⟩) (b : Fin n1) (c : Fin n2)
    (d : Fin n3) (i : (⟨6, ![1, n1, n2, n3, 1, 1]⟩ : Shape).Idx) :
    h.drop i = ix3 b c d ↔ ∃ k : Unit, ix6 0 b c d 0 0 = i := by
  constructor
  · intro q
    refine ⟨(), ?_⟩
    funext x
    match x with
    | ⟨0, _⟩ => exact Subsingleton.elim (α := Fin 1) _ _
    | ⟨1, _⟩ => exact Fin.ext (congrArg Fin.val (congrFun q 0)).symm
    | ⟨2, _⟩ => exact Fin.ext (congrArg Fin.val (congrFun q 1)).symm
    | ⟨3, _⟩ => exact Fin.ext (congrArg Fin.val (congrFun q 2)).symm
    | ⟨4, _⟩ => exact Subsingleton.elim (α := Fin 1) _ _
    | ⟨5, _⟩ => exact Subsingleton.elim (α := Fin 1) _ _
  · rintro ⟨k, rfl⟩
    funext x
    apply Fin.ext
    match x with
    | ⟨0, _⟩ => rfl
    | ⟨1, _⟩ => rfl
    | ⟨2, _⟩ => rfl

theorem sum045 (h : (⟨6, ![1, n1, n2, n3, 1, 1]⟩ : Shape).ReducesTo [0, 4, 5] ⟨3, ![n1, n2, n3]⟩)
    (v : (⟨6, ![1, n1, n2, n3, 1, 1]⟩ : Shape).Idx → EReal) (init : EReal) (b : Fin n1) (c : Fin n2) (d : Fin n3) :
    Ideal.hostReduceAdd h v init (ix3 b c d) = init + v (ix6 0 b c d 0 0) := by
  refine congrArg (init + ·) ((Finset.sum_filter_eq_sum_of_fiber _ (fun k : Unit => (ix6 0 b c d 0 0 : (⟨6, ![1, n1, n2, n3, 1, 1]⟩ : Shape).Idx))
    (fun _ _ q => rfl) (fib045 h b c d) v).trans ?_)
  simp

end Cert.Proof

end
-- ==== Proof.RSc.lean ====
/-
  The reference's rows: its scores, its softmax with a sink, at an index, as the row formulas.
-/
module

public import proofs.«01_k».proof.Proof.RIn
public import proofs.«01_k».proof.Proof.RRed

@[expose] public section

set_option maxRecDepth 16384

noncomputable section

namespace Cert.Proof

open Idealize.ShloMosaic Idealize.ShloMosaic.TcCoe Idealize.SL.Sem Cert.ReferenceIdeal Cert.ReferenceIdeal.Facts Cert.ReferenceIdeal.Gen Cert.ReferenceIdeal.Read

variable {x0 x4 : (⟨S8192x2048, .bf16⟩ : BufTy).Contents (Elt Ideal)} {x1 x2 : (⟨S8192x256, .bf16⟩ : BufTy).Contents (Elt Ideal)}
  {x3 : (⟨S32, .f32⟩ : BufTy).Contents (Elt Ideal)}
variable {qr gr : Fin 8192 → Fin 2048 → ℝ} {kr vr : Fin 8192 → Fin 256 → ℝ} {sk : Fin 32 → ℝ}

/-- The scores of a token's query for one head. -/
def sR (qr : Fin 8192 → Fin 2048 → ℝ) (kr : Fin 8192 → Fin 256 → ℝ) (n : Fin 64) (h jp : Fin 4) (e : Fin 2) (i : Fin 128) : Fin 256 → ℝ :=
  Att.score (qrow qr n h jp e i) (rwin kr n h)
/-- The gradient of a token's probabilities for one head. -/
def dR (gr : Fin 8192 → Fin 2048 → ℝ) (vr : Fin 8192 → Fin 256 → ℝ) (n : Fin 64) (h jp : Fin 4) (e : Fin 2) (i : Fin 128) : Fin 256 → ℝ :=
  Att.dprob (qrow gr n h jp e i) (rwin vr n h)

/-- The reference's arguments hold the real arrays. -/
structure RArgs (x0 x4 : (⟨S8192x2048, .bf16⟩ : BufTy).Contents (Elt Ideal)) (x1 x2 : (⟨S8192x256, .bf16⟩ : BufTy).Contents (Elt Ideal))
    (x3 : (⟨S32, .f32⟩ : BufTy).Contents (Elt Ideal)) (qr gr : Fin 8192 → Fin 2048 → ℝ) (kr vr : Fin 8192 → Fin 256 → ℝ) (sk : Fin 32 → ℝ) : Prop where
  q : ∀ r l, x0 (ix2 r l) = ((qr r l : ℝ) : EReal)
  k : ∀ r l, x1 (ix2 r l) = ((kr r l : ℝ) : EReal)
  v : ∀ r l, x2 (ix2 r l) = ((vr r l : ℝ) : EReal)
  s : ∀ a, x3 (ix1 a) = ((sk a : ℝ) : EReal)
  g : ∀ r l, x4 (ix2 r l) = ((gr r l : ℝ) : EReal)

variable (A : RArgs x0 x4 x1 x2 x3 qr gr kr vr sk) (n : Fin 64) (h jp : Fin 4) (e : Fin 2) (i : Fin 128) (k : Fin 256) (z : Fin 1)

include A in
theorem s_ref : val_main_v21 (F := Ideal) x0 x1 (ix6 n h jp e i k) = ((sR qr kr n h jp e i k : ℝ) : EReal) := by
  unfold val_main_v21 val_main_v20 val_main_v19 val_main_v18 val_main_cst_1
  pointwise
  simp only [k_ref A.k, q_ref A.q]
  rw [ofBits_eighth]
  simp only [← EReal.coe_mul, coe_sum]
  unfold sR Att.score
  exact congrArg (fun a : ℝ => ((a * (1 / 8) : ℝ) : EReal)) (Finset.sum_congr rfl fun d _ => mul_comm _ _)

theorem m_ref : val_main_v50_1 (F := Ideal) (ix6 n h jp e i k) = bit (vis n i k) := by
  unfold val_main_v50_1 val_main_v49
  pointwise
  exact mask_ref n i k

include A in
theorem masked_ref : val_main_v50_0 (F := Ideal) x0 x1 (ix6 n h jp e i k) = Row.masked (sR qr kr n h jp e i) (vis n i) k := by
  unfold val_main_v50_0 val_main_call0_v2 val_main_call0_v0 val_main_cst_4
  pointwise
  rw [m_ref, s_ref A, select_bit]
  unfold Row.masked
  exact congrArg (fun a : EReal => if vis n i k then ((sR qr kr n h jp e i k : ℝ) : EReal) else a) ofBits_negInf

include A in
theorem max_ref : val_main_v53 (F := Ideal) x0 x1 (ix5 n h jp e i) = Finset.univ.fold max ⊥ (Row.masked (sR qr kr n h jp e i) (vis n i)) := by
  unfold val_main_v53 val_main_cst_5
  pointwise
  refine (fold5 _ max _ _ n h jp e i).trans ?_
  rw [ofBits_negInf]
  simp only [masked_ref A]

end Cert.Proof

end
-- ==== Proof.RVal.lean ====
/-
  The reference's rows: its softmax with a sink, and the gradients of both, at an index, as the row formulas.
-/
module

public import proofs.«01_k».proof.Proof.RSc

@[expose] public section

set_option maxRecDepth 16384

noncomputable section

namespace Cert.Proof

open Idealize.ShloMosaic Idealize.ShloMosaic.TcCoe Idealize.SL.Sem Cert.ReferenceIdeal Cert.ReferenceIdeal.Facts Cert.ReferenceIdeal.Gen Cert.ReferenceIdeal.Read

variable {x0 x4 : (⟨S8192x2048, .bf16⟩ : BufTy).Contents (Elt Ideal)} {x1 x2 : (⟨S8192x256, .bf16⟩ : BufTy).Contents (Elt Ideal)}
  {x3 : (⟨S32, .f32⟩ : BufTy).Contents (Elt Ideal)}
variable {qr gr : Fin 8192 → Fin 2048 → ℝ} {kr vr : Fin 8192 → Fin 256 → ℝ} {sk : Fin 32 → ℝ}

variable (A : RArgs x0 x4 x1 x2 x3 qr gr kr vr sk) (n : Fin 64) (h jp : Fin 4) (e : Fin 2) (i : Fin 128) (k : Fin 256) (z : Fin 1)

theorem pk1 : val_main_v59 (F := Ideal) x0 x1 (ix6 n h jp e i z) = val_main_v53 (F := Ideal) x0 x1 (ix5 n h jp e i) := by
  unfold val_main_v59
  pointwise

theorem pk2 : val_main_v60 (F := Ideal) x3 (ix6 n h jp e i z) = val_main_v52 (F := Ideal) x3 (ix6 0 h jp e 0 0) := by
  unfold val_main_v60
  pointwise

theorem max_at {s : Shape} (a b : FVec Ideal s .f32) (j : s.Idx) : maximumf a b j = (max (a j : EReal) (b j : EReal) : EReal) := rfl

theorem pk0 : val_main_v61 (F := Ideal) x0 x1 x3 (ix6 n h jp e i z) = (max (val_main_v59 (F := Ideal) x0 x1 (ix6 n h jp e i z) : EReal) (val_main_v60 (F := Ideal) x3 (ix6 n h jp e i z)) : EReal) := by
  unfold val_main_v61
  exact max_at _ _ _

include A in
theorem peak_ref : val_main_v61 (F := Ideal) x0 x1 x3 (ix6 n h jp e i z) = ((Row.mx (sR qr kr n h jp e i) (vis n i) (sk (head h jp e)) : ℝ) : EReal) := by
  refine (pk0 n h jp e i z).trans (Eq.trans ?_ (Row.peak_eq _ _ _))
  unfold Row.peak
  exact congrArg₂ (max : EReal → EReal → EReal) ((pk1 n h jp e i z).trans (max_ref A n h jp e i)) ((pk2 n h jp e i z).trans (sink_ref A.s h jp e 0 0 0))

include A in
theorem num_ref : val_main_v82 (F := Ideal) x0 x1 x3 (ix6 n h jp e i k) = ((Row.num (sR qr kr n h jp e i) (vis n i) (sk (head h jp e)) k : ℝ) : EReal) := by
  unfold val_main_v82 val_main_v81 val_main_v80
  pointwise
  rw [masked_ref A, peak_ref A]
  exact Row.exp_masked _ _ _ _

include A in
theorem snum_ref : val_main_v87 (F := Ideal) x0 x1 x3 (ix6 n h jp e i z) = ((Row.snum (sR qr kr n h jp e i) (vis n i) (sk (head h jp e)) : ℝ) : EReal) := by
  unfold val_main_v87 val_main_v86 val_main_v85
  pointwise
  rw [sink_ref A.s, peak_ref A]
  exact Row.exp_sink _ _ _

include A in
theorem den_ref : val_main_v88 (F := Ideal) x0 x1 x3 (ix6 n h jp e i z) = ((Row.den (sR qr kr n h jp e i) (vis n i) (sk (head h jp e)) : ℝ) : EReal) := by
  unfold val_main_v88 val_main_v84 val_main_v83 val_main_cst_13
  pointwise
  rw [snum_ref A, sum5]
  simp only [num_ref A]
  rw [zero_add]
  rw [coe_sum]
  simp only [Row.den, EReal.coe_add]

include A in
theorem prob_ref : val_main_v90 (F := Ideal) x0 x1 x3 (ix6 n h jp e i k) = ((Row.prob (sR qr kr n h jp e i) (vis n i) (sk (head h jp e)) k : ℝ) : EReal) := by
  unfold val_main_v90 val_main_v89
  pointwise
  rw [num_ref A, den_ref A, div_real _ (Row.den_ne _ _ _)]
  rfl

include A in
theorem inv_ref : val_main_v93 (F := Ideal) x0 x1 x3 (ix6 n h jp e i z) = ((1 / (Row.den (sR qr kr n h jp e i) (vis n i) (sk (head h jp e)) * Row.den (sR qr kr n h jp e i) (vis n i) (sk (head h jp e))) : ℝ) : EReal) := by
  unfold val_main_v93 val_main_v92 val_main_v91 val_main_cst_14
  pointwise
  rw [den_ref A, ← EReal.coe_mul]
  exact div_real 1 (mul_ne_zero (Row.den_ne _ _ _) (Row.den_ne _ _ _))

include A in
theorem dp_ref : val_main_v101 (F := Ideal) x2 x4 (ix6 n h jp e i k) = ((dR gr vr n h jp e i k : ℝ) : EReal) := by
  unfold val_main_v101 val_main_v100 val_main_v99
  pointwise
  simp only [g_ref A.g, v_ref A.v, ← EReal.coe_mul, coe_sum]
  rfl

include A in
theorem mean_ref : val_main_v109 (F := Ideal) x0 x1 x2 x3 x4 (ix6 n h jp e i z) = ((-(Row.delta (sR qr kr n h jp e i) (dR gr vr n h jp e i) (vis n i) (sk (head h jp e)) / Row.den (sR qr kr n h jp e i) (vis n i) (sk (head h jp e))) : ℝ) : EReal) := by
  unfold val_main_v109 val_main_v108 val_main_v107 val_main_v106 val_main_v105 val_main_v104 val_main_cst_15
  pointwise
  rw [sum5, zero_add]
  pointwise
  simp only [dp_ref A, inv_ref A, num_ref A, ← EReal.coe_mul, coe_sum]
  simp only [← EReal.coe_neg]
  refine congrArg (fun a : ℝ => ((-a : ℝ) : EReal)) ?_
  unfold Row.delta Row.prob
  rw [Finset.sum_div]
  refine Finset.sum_congr rfl fun k _ => ?_
  have hd := Row.den_ne (sR qr kr n h jp e i) (vis n i) (sk (head h jp e))
  field_simp

include A in
theorem sd_ref : val_main_v112 (F := Ideal) x0 x1 x2 x3 x4 (ix6 n h jp e i z) = ((-(Row.sprob (sR qr kr n h jp e i) (vis n i) (sk (head h jp e)) * Row.delta (sR qr kr n h jp e i) (dR gr vr n h jp e i) (vis n i) (sk (head h jp e))) : ℝ) : EReal) := by
  unfold val_main_v112
  pointwise
  rw [mean_ref A, snum_ref A, ← EReal.coe_mul]
  refine congrArg (fun a : ℝ => (a : EReal)) ?_
  unfold Row.sprob
  ring

include A in
theorem ds_ref : val_main_v119 (F := Ideal) x0 x1 x2 x3 x4 (ix6 n h jp e i k) = ((Row.dscore (sR qr kr n h jp e i) (dR gr vr n h jp e i) (vis n i) (sk (head h jp e)) k : ℝ) : EReal) := by
  unfold val_main_v119 val_main_v118 val_main_v117 val_main_v116 val_main_v111 val_main_v110 val_main_cst_17
  pointwise
  rw [sum5]
  simp only [dp_ref A, den_ref A, num_ref A, mean_ref A]
  rw [div_real _ (Row.den_ne _ _ _)]
  simp only [Finset.univ_unique, Finset.sum_singleton, zero_add, ← EReal.coe_add, ← EReal.coe_mul]
  refine congrArg (fun a : ℝ => (a : EReal)) ?_
  unfold Row.dscore Row.prob
  ring

include A in
theorem zero_ref : val_main_v123 (F := Ideal) x0 x1 x2 x3 x4 (ix6 n h jp e i z) = (0 : EReal) := by
  unfold val_main_v123 val_main_v115 val_main_v122 val_main_v121 val_main_v120 val_main_cst_18
  pointwise
  rw [sum5, zero_add]
  pointwise
  simp only [sd_ref A, ds_ref A]
  simp only [← EReal.coe_neg, coe_sum, ← EReal.coe_add]
  rw [← EReal.coe_zero]
  refine congrArg (fun a : ℝ => (a : EReal)) ?_
  have hz := Row.sum_dscore (sR qr kr n h jp e i) (dR gr vr n h jp e i) (vis n i) (sk (head h jp e))
  rw [Finset.sum_neg_distrib]
  linarith

end Cert.Proof

end
-- ==== Proof.RGrad.lean ====
/-
  The reference's gradients of queries, keys, values and sinks, at an index, as sums of the row formulas.
-/
module

public import proofs.«01_k».proof.Proof.RVal

@[expose] public section

set_option maxRecDepth 16384

noncomputable section

namespace Cert.Proof

open Idealize.ShloMosaic Idealize.ShloMosaic.TcCoe Idealize.SL.Sem Cert.ReferenceIdeal Cert.ReferenceIdeal.Facts Cert.ReferenceIdeal.Gen Cert.ReferenceIdeal.Read

variable {x0 x4 : (⟨S8192x2048, .bf16⟩ : BufTy).Contents (Elt Ideal)} {x1 x2 : (⟨S8192x256, .bf16⟩ : BufTy).Contents (Elt Ideal)}
  {x3 : (⟨S32, .f32⟩ : BufTy).Contents (Elt Ideal)}
variable {qr gr : Fin 8192 → Fin 2048 → ℝ} {kr vr : Fin 8192 → Fin 256 → ℝ} {sk : Fin 32 → ℝ}

variable (A : RArgs x0 x4 x1 x2 x3 qr gr kr vr sk) (n : Fin 64) (h jp : Fin 4) (e : Fin 2) (i : Fin 128) (k : Fin 256) (z : Fin 1) (d : Fin 64)

theorem rwin_vis (a : Fin 8192 → Fin 256 → ℝ) (n : Fin 64) (i : Fin 128) (h : Fin 4) (k : Fin 256) (hv : vis n i k = true) :
    rwin a n h k = kwin a n h k := by
  funext d
  unfold rwin
  have hv' := of_decide_eq_true hv
  rw [if_neg (by omega)]

theorem ds_win (qr gr : Fin 8192 → Fin 2048 → ℝ) (kr vr : Fin 8192 → Fin 256 → ℝ) (sk : Fin 32 → ℝ) (n : Fin 64) (h jp : Fin 4) (e : Fin 2)
    (i : Fin 128) (k : Fin 256) : Row.dscore (sR qr kr n h jp e i) (dR gr vr n h jp e i) (vis n i) (sk (head h jp e)) k = dsAt qr gr kr vr sk n h jp e i k :=
  congrFun (Att.ds_congr _ _ _ (rwin_vis kr n i h) (rwin_vis vr n i h)) k

theorem pr_win (qr : Fin 8192 → Fin 2048 → ℝ) (kr : Fin 8192 → Fin 256 → ℝ) (sk : Fin 32 → ℝ) (n : Fin 64) (h jp : Fin 4) (e : Fin 2)
    (i : Fin 128) (k : Fin 256) : Row.prob (sR qr kr n h jp e i) (vis n i) (sk (head h jp e)) k = prAt qr kr sk n h jp e i k :=
  congrFun (Att.prob_congr _ _ (rwin_vis kr n i h)) k

theorem sd_win (qr gr : Fin 8192 → Fin 2048 → ℝ) (kr vr : Fin 8192 → Fin 256 → ℝ) (sk : Fin 32 → ℝ) (n : Fin 64) (h jp : Fin 4) (e : Fin 2)
    (i : Fin 128) : Row.sprob (sR qr kr n h jp e i) (vis n i) (sk (head h jp e)) * Row.delta (sR qr kr n h jp e i) (dR gr vr n h jp e i) (vis n i) (sk (head h jp e))
      = sdAt qr gr kr vr sk n h jp e i :=
  Att.sd_congr _ _ _ (rwin_vis kr n i h) (rwin_vis vr n i h)

theorem ds_mask (qr gr : Fin 8192 → Fin 2048 → ℝ) (kr vr : Fin 8192 → Fin 256 → ℝ) (sk : Fin 32 → ℝ) (n : Fin 64) (h jp : Fin 4) (e : Fin 2)
    (i : Fin 128) (k : Fin 256) (hv : vis n i k = false) : dsAt qr gr kr vr sk n h jp e i k = 0 := Att.ds_off _ _ _ hv

/-- A quotient of zero by a sum, times a member of the sum: zero, the members not negative. -/
theorem tie_zero (f : Fin 256 → EReal) (hf : ∀ k, 0 ≤ f k) (k : Fin 256) : Ideal.div 0 (∑ j, f j) * f k = 0 := by
  by_cases h : ∑ j, f j = 0
  · rw [(Finset.sum_eq_zero_iff_of_nonneg fun j _ => hf j).1 h k (Finset.mem_univ k), mul_zero]
  · unfold Ideal.div
    rw [if_neg h, zero_mul, zero_mul]

theorem tie_nonneg : (0 : EReal) ≤ val_main_v57 (F := Ideal) x0 x1 (ix6 n h jp e i k) := by
  unfold val_main_v57
  generalize val_main_v56 (F := Ideal) x0 x1 = a
  pointwise
  show (0 : EReal) ≤ (((a (ix6 n h jp e i k)).toNat : ℝ) : EReal)
  exact_mod_cast Nat.cast_nonneg (α := ℝ) _

include A in
theorem tie_ref : val_main_v132 (F := Ideal) x0 x1 x2 x3 x4 (ix6 n h jp e i k) = (0 : EReal) := by
  unfold val_main_v132
  generalize hw : val_main_v57 (F := Ideal) x0 x1 = w
  unfold val_main_v131 val_main_v130 val_main_v129 val_main_v128 val_main_v58 val_main_cst_6 val_main_cst_20
  rw [hw]
  pointwise
  rw [sum5, sum5]
  generalize val_main_v70 (F := Ideal) x0 x1 x3 = w1
  pointwise
  simp only [zero_ref A, zero_mul, Finset.sum_const_zero, zero_add]
  exact tie_zero (fun k => w (ix6 n h jp e i k)) (fun k => hw ▸ tie_nonneg n h jp e i k) k

include A in
theorem dsw_ref : val_main_v139 (F := Ideal) x0 x1 x2 x3 x4 (ix6 n h e k i jp) = ((dsAt qr gr kr vr sk n h jp e i k * (1 / 8) : ℝ) : EReal) := by
  unfold val_main_v139 val_main_v138 val_main_v137 val_main_v136 val_main_v133 val_main_call1_v0 val_main_call1_cst val_main_cst_22
  pointwise
  rw [m_ref, ds_ref A, tie_ref A, select_bit, ofBits_eighth, add_zero, ds_win]
  cases hv : vis n i k
  · rw [ds_mask qr gr kr vr sk n h jp e i k hv]; simp
  · simp [← EReal.coe_mul]

include A in
theorem dq_ref : val_main_v141 (F := Ideal) x0 x1 x2 x3 x4 (ix6 n i h jp e d) = ((dqAt qr gr kr vr sk n h jp e i d : ℝ) : EReal) := by
  unfold val_main_v141 val_main_v140
  pointwise
  simp only [dsw_ref A, k_ref A.k, ← EReal.coe_mul, coe_sum]
  refine congrArg (fun a : ℝ => (a : EReal)) ?_
  unfold dqAt
  refine Finset.sum_congr rfl fun k _ => ?_
  cases hv : vis n i k
  · rw [ds_mask qr gr kr vr sk n h jp e i k hv]; simp
  · rw [rwin_vis kr n i h k hv]

include A in
theorem dk_ref : val_main_v143 (F := Ideal) x0 x1 x2 x3 x4 (ix5 n k h e d) = ((dkAt qr gr kr vr sk n h e k d : ℝ) : EReal) := by
  unfold val_main_v143 val_main_v142
  pointwise
  simp only [dsw_ref A, q_ref A.q, ← EReal.coe_mul, coe_sum]
  unfold dkAt
  exact congrArg (fun a : ℝ => (a : EReal)) Finset.sum_comm

include A in
theorem dv_ref : val_main_v103 (F := Ideal) x0 x1 x3 x4 (ix5 n k h e d) = ((dvAt qr gr kr sk n h e k d : ℝ) : EReal) := by
  unfold val_main_v103 val_main_v102 val_main_v99
  pointwise
  simp only [prob_ref A, g_ref A.g, ← EReal.coe_mul, coe_sum]
  unfold dvAt
  simp only [pr_win]
  exact congrArg (fun a : ℝ => (a : EReal)) (Finset.sum_congr rfl fun j _ => Finset.sum_congr rfl fun i _ => mul_comm _ _)

include A in
theorem dsink_ref : val_main_v135 (F := Ideal) x0 x1 x2 x3 x4 (ix1 (head h jp e)) = ((-∑ n, ∑ i, sdAt qr gr kr vr sk n h jp e i : ℝ) : EReal) := by
  unfold val_main_v135 val_main_v134 val_main_v127 val_main_v126 val_main_v125 val_main_v124 val_main_v114 val_main_v113 val_main_cst_21 val_main_cst_19 val_main_cst_16
  generalize val_main_v79 (F := Ideal) x0 x1 x3 = w1
  pointwise
  have hh : (ix3 ⟨(head h jp e).val / 8, by omega⟩ ⟨(head h jp e).val / 2 % 4, by omega⟩ ⟨(head h jp e).val % 2, by omega⟩ : S4x4x2.Idx) = ix3 h jp e := by
    have h0 : (⟨(head h jp e).val / 8, by omega⟩ : Fin 4) = h := Fin.ext (by simp only [head]; omega)
    have h1 : (⟨(head h jp e).val / 2 % 4, by omega⟩ : Fin 4) = jp := Fin.ext (by simp only [head]; omega)
    have h2 : (⟨(head h jp e).val % 2, by omega⟩ : Fin 2) = e := Fin.ext (by simp only [head]; omega)
    rw [h0, h1, h2]
  refine (congrArg _ hh).trans ((sum045 _ _ _ h jp e).trans ?_)
  pointwise
  rw [sum04, sum04]
  pointwise
  simp only [sd_ref A, zero_ref A, sd_win, zero_mul, Finset.sum_const_zero, add_zero, zero_add, coe_sum, Finset.sum_neg_distrib]

end Cert.Proof

end
-- ==== Proof.ROut.lean ====
/-
  The reference's results at an element of the kernel's layout.
-/
module

public import proofs.«01_k».proof.Proof.RGrad
public import proofs.«01_k».proof.Proof.KArr

@[expose] public section

set_option maxRecDepth 16384

noncomputable section

namespace Cert.Proof

open Idealize.ShloMosaic Idealize.ShloMosaic.TcCoe Idealize.SL.Sem Cert.ReferenceIdeal Cert.ReferenceIdeal.Facts Cert.ReferenceIdeal.Gen Cert.ReferenceIdeal.Read

variable {x0 x4 : (⟨S8192x2048, .bf16⟩ : BufTy).Contents (Elt Ideal)} {x1 x2 : (⟨S8192x256, .bf16⟩ : BufTy).Contents (Elt Ideal)}
  {x3 : (⟨S32, .f32⟩ : BufTy).Contents (Elt Ideal)}
variable {qr gr : Fin 8192 → Fin 2048 → ℝ} {kr vr : Fin 8192 → Fin 256 → ℝ} {sk : Fin 32 → ℝ}

variable (A : RArgs x0 x4 x1 x2 x3 qr gr kr vr sk) (n : Fin 64) (h jp : Fin 4) (e : Fin 2) (i : Fin 128) (k : Fin 256) (z : Fin 1) (d : Fin 64) (r : Fin 128) (l : Fin 128)

theorem ix6_ext {n0 n1 n2 n3 n4 n5 : Nat} {a a' : Fin n0} {b b' : Fin n1} {c c' : Fin n2} {x x' : Fin n3} {y y' : Fin n4} {z z' : Fin n5}
    (h0 : a.val = a'.val) (h1 : b.val = b'.val) (h2 : c.val = c'.val) (h3 : x.val = x'.val) (h4 : y.val = y'.val) (h5 : z.val = z'.val) :
    ix6 a b c x y z = ix6 a' b' c' x' y' z' := by
  rw [Fin.ext h0, Fin.ext h1, Fin.ext h2, Fin.ext h3, Fin.ext h4, Fin.ext h5]

theorem ix5_ext {n0 n1 n2 n3 n4 : Nat} {a a' : Fin n0} {b b' : Fin n1} {c c' : Fin n2} {x x' : Fin n3} {y y' : Fin n4}
    (h0 : a.val = a'.val) (h1 : b.val = b'.val) (h2 : c.val = c'.val) (h3 : x.val = x'.val) (h4 : y.val = y'.val) :
    ix5 a b c x y = ix5 a' b' c' x' y' := by
  rw [Fin.ext h0, Fin.ext h1, Fin.ext h2, Fin.ext h3, Fin.ext h4]

include A in
theorem dq_out : val_main_v148 (F := Ideal) x0 x1 x2 x3 x4 (ix2 (tok n r) (qcol h jp (lane e d))) = ((dqAt qr gr kr vr sk n h jp e r d : ℝ) : EReal) := by
  unfold val_main_v148
  pointwise
  exact (congrArg (val_main_v141 (F := Ideal) x0 x1 x2 x3 x4) (ix6_ext (by simp only [tok, qcol, lcol, lane, ownk, prvk]; omega) (by simp only [tok, qcol, lcol, lane, ownk, prvk]; omega) (by simp only [tok, qcol, lcol, lane, ownk, prvk]; omega) (by simp only [tok, qcol, lcol, lane, ownk, prvk]; omega) (by simp only [tok, qcol, lcol, lane, ownk, prvk]; omega) (by simp only [tok, qcol, lcol, lane, ownk, prvk]; omega))).trans (dq_ref A n h jp e r d)

include A in
theorem dkc_out : val_main_v149 (F := Ideal) x0 x1 x2 x3 x4 (ix2 (tok n r) (lcol h (lane e d))) = ((dkAt qr gr kr vr sk n h e (ownk r) d : ℝ) : EReal) := by
  unfold val_main_v149 val_main_v147
  pointwise
  exact (congrArg (val_main_v143 (F := Ideal) x0 x1 x2 x3 x4) (ix5_ext (by simp only [tok, qcol, lcol, lane, ownk, prvk]; omega) (by simp only [tok, qcol, lcol, lane, ownk, prvk]; omega) (by simp only [tok, qcol, lcol, lane, ownk, prvk]; omega) (by simp only [tok, qcol, lcol, lane, ownk, prvk]; omega) (by simp only [tok, qcol, lcol, lane, ownk, prvk]; omega))).trans (dk_ref A n h e (ownk r) d)

include A in
theorem dkp_out : val_main_v150 (F := Ideal) x0 x1 x2 x3 x4 (ix2 (tok n r) (lcol h (lane e d))) = ((dkAt qr gr kr vr sk n h e (prvk r) d : ℝ) : EReal) := by
  unfold val_main_v150 val_main_v146
  pointwise
  exact (congrArg (val_main_v143 (F := Ideal) x0 x1 x2 x3 x4) (ix5_ext (by simp only [tok, qcol, lcol, lane, ownk, prvk]; omega) (by simp only [tok, qcol, lcol, lane, ownk, prvk]; omega) (by simp only [tok, qcol, lcol, lane, ownk, prvk]; omega) (by simp only [tok, qcol, lcol, lane, ownk, prvk]; omega) (by simp only [tok, qcol, lcol, lane, ownk, prvk]; omega))).trans (dk_ref A n h e (prvk r) d)

include A in
theorem dvloc_out : val_main_v157 (F := Ideal) x0 x1 x3 x4 (ix2 (tok n r) (lcol h (lane 0 d))) = ((dvAt qr gr kr sk n h 0 (ownk r) d : ℝ) : EReal) := by
  unfold val_main_v157 val_main_v156 val_main_v155 val_main_v154 val_main_v153 val_main_v145
  pointwise
  rw [dif_pos (by show (128 * h.val + (64 * 0 + d.val)) % 128 < 64; omega)]
  exact (congrArg (val_main_v103 (F := Ideal) x0 x1 x3 x4) (ix5_ext (by simp only [tok, qcol, lcol, lane, ownk, prvk]; omega) (by simp only [tok, qcol, lcol, lane, ownk, prvk]; omega) (by simp only [tok, qcol, lcol, lane, ownk, prvk]; omega) rfl (by show (128 * h.val + (64 * 0 + d.val)) % 128 = d.val; omega))).trans (dv_ref A n h 0 (ownk r) d)

include A in
theorem dvlop_out : val_main_v164 (F := Ideal) x0 x1 x3 x4 (ix2 (tok n r) (lcol h (lane 0 d))) = ((dvAt qr gr kr sk n h 0 (prvk r) d : ℝ) : EReal) := by
  unfold val_main_v164 val_main_v163 val_main_v162 val_main_v161 val_main_v160 val_main_v144
  pointwise
  rw [dif_pos (by show (128 * h.val + (64 * 0 + d.val)) % 128 < 64; omega)]
  exact (congrArg (val_main_v103 (F := Ideal) x0 x1 x3 x4) (ix5_ext (by simp only [tok, qcol, lcol, lane, ownk, prvk]; omega) (by simp only [tok, qcol, lcol, lane, ownk, prvk]; omega) (by simp only [tok, qcol, lcol, lane, ownk, prvk]; omega) rfl (by show (128 * h.val + (64 * 0 + d.val)) % 128 = d.val; omega))).trans (dv_ref A n h 0 (prvk r) d)

include A in
theorem dvhic_out : val_main_v171 (F := Ideal) x0 x1 x3 x4 (ix2 (tok n r) (lcol h (lane 1 d))) = ((dvAt qr gr kr sk n h 1 (ownk r) d : ℝ) : EReal) := by
  unfold val_main_v171 val_main_v170 val_main_v169 val_main_v168 val_main_v167 val_main_v145
  pointwise
  rw [dif_neg (by show ¬ (128 * h.val + (64 * 1 + d.val)) % 128 < 64; omega)]
  exact (congrArg (val_main_v103 (F := Ideal) x0 x1 x3 x4) (ix5_ext (by simp only [tok, qcol, lcol, lane, ownk, prvk]; omega) (by simp only [tok, qcol, lcol, lane, ownk, prvk]; omega) (by simp only [tok, qcol, lcol, lane, ownk, prvk]; omega) rfl (by show (128 * h.val + (64 * 1 + d.val)) % 128 - 64 = d.val; omega))).trans (dv_ref A n h 1 (ownk r) d)

include A in
theorem dvhip_out : val_main_v178 (F := Ideal) x0 x1 x3 x4 (ix2 (tok n r) (lcol h (lane 1 d))) = ((dvAt qr gr kr sk n h 1 (prvk r) d : ℝ) : EReal) := by
  unfold val_main_v178 val_main_v177 val_main_v176 val_main_v175 val_main_v174 val_main_v144
  pointwise
  rw [dif_neg (by show ¬ (128 * h.val + (64 * 1 + d.val)) % 128 < 64; omega)]
  exact (congrArg (val_main_v103 (F := Ideal) x0 x1 x3 x4) (ix5_ext (by simp only [tok, qcol, lcol, lane, ownk, prvk]; omega) (by simp only [tok, qcol, lcol, lane, ownk, prvk]; omega) (by simp only [tok, qcol, lcol, lane, ownk, prvk]; omega) rfl (by show (128 * h.val + (64 * 1 + d.val)) % 128 - 64 = d.val; omega))).trans (dv_ref A n h 1 (prvk r) d)

include A in
theorem dsink_out : val_main_v180 (F := Ideal) x0 x1 x2 x3 x4 (ix3 h ⟨2 * jp.val + e.val, by omega⟩ l) = ((-∑ n, ∑ i, sdAt qr gr kr vr sk n h jp e i : ℝ) : EReal) := by
  unfold val_main_v180 val_main_v179
  pointwise
  exact (congrArg (fun j : Fin 32 => val_main_v135 (F := Ideal) x0 x1 x2 x3 x4 (ix1 j)) (Fin.ext (by simp only [head]; omega))).trans (dsink_ref A h jp e)

end Cert.Proof

end
-- ==== Proof.Final.lean ====
/-
  The kernel's results and the reference's, element by element where the results mean something.
-/
module

public import proofs.«01_k».proof.Proof.Pre
public import proofs.«01_k».proof.Proof.KArr
public import proofs.«01_k».proof.Proof.KSink
public import proofs.«01_k».proof.Proof.ROut
public import proofs.«01_k».proof.Proof.Gen.ReferenceIdeal.Run
public import proofs.«01_k».proof.Proof.Gen.ReferenceIdeal.Read
public import proofs.«01_k».proof.Proof.Gen.KernelIdeal.Value

@[expose] public section

set_option maxRecDepth 16384

noncomputable section

namespace Cert.Proof

open Idealize.ShloMosaic Idealize.ShloMosaic.TcCoe Idealize.SL.Sem Cert.KernelIdeal Cert.KernelIdeal.Gen

variable {m : (ℓ : Loc nD τ sig) → Buf (Elt Ideal) ℓ} {c : Dev nD}
variable {x0 x4 : FVec Ideal Cert.Pre_finite.S8192x2048 .bf16} {x1 x2 : FVec Ideal Cert.Pre_finite.S8192x256 .bf16} {x3 : FVec Ideal Cert.Pre_finite.S32 .f32}
variable {qr gr : Fin 8192 → Fin 2048 → ℝ} {kr vr : Fin 8192 → Fin 256 → ℝ} {sk : Fin 32 → ℝ}

/-- Finite arguments hold real arrays. -/
theorem args_of (h : Cert.Pre_KernelIdeal_finite m) (c : Dev nD) :
    ∃ (qr gr : Fin 8192 → Fin 2048 → ℝ) (kr vr : Fin 8192 → Fin 256 → ℝ) (sk : Fin 32 → ℝ), Args m c qr gr kr vr sk := by
  obtain ⟨h0, h1, h2, h3, h4⟩ := finite_real (h c)
  exact ⟨_, _, _, _, _, ⟨fun r l => h0 (ix2 r l), fun r l => h1 (ix2 r l), fun r l => h2 (ix2 r l), fun a => h3 (ix1 a), fun r l => h4 (ix2 r l)⟩⟩

/-- The reference's arguments hold the arrays the kernel's do. -/
theorem rargs_of (A : Args m c qr gr kr vr sk) (e0 : x0 = m ((c : Thread nD τ).loc main_arg0)) (e1 : x1 = m ((c : Thread nD τ).loc main_arg1))
    (e2 : x2 = m ((c : Thread nD τ).loc main_arg2)) (e3 : x3 = m ((c : Thread nD τ).loc main_arg3)) (e4 : x4 = m ((c : Thread nD τ).loc main_arg4)) :
    RArgs x0 x4 x1 x2 x3 qr gr kr vr sk :=
  ⟨fun r l => (congrFun e0 _).trans (A.q r l), fun r l => (congrFun e1 _).trans (A.k r l), fun r l => (congrFun e2 _).trans (A.v r l),
    fun a => (congrFun e3 _).trans (A.s a), fun r l => (congrFun e4 _).trans (A.g r l)⟩

variable (A : Args m c qr gr kr vr sk) (B : RArgs x0 x4 x1 x2 x3 qr gr kr vr sk)

include A B in
theorem dq_eq (i : (⟨2, ![8192, 2048]⟩ : Shape).Idx) : Cert.ReferenceIdeal.Read.val_main_v148 (F := Ideal) x0 x1 x2 x3 x4 i = ((dats m 0 c).arrAt 9 cfg0.N : Vec Ideal S8192x2048 .f32) i := by
  obtain ⟨n, r, h, jp, e, d, rfl⟩ := cover_q i
  exact (dq_out (A := B) (n := n) (r := r) (h := h) (jp := jp) (e := e) (d := d)).trans (dq_arr A n r h jp e d).symm

include A B in
theorem dkc_eq (i : (⟨2, ![8192, 512]⟩ : Shape).Idx) : Cert.ReferenceIdeal.Read.val_main_v149 (F := Ideal) x0 x1 x2 x3 x4 i = ((dats m 0 c).arrAt 10 cfg0.N : Vec Ideal S8192x512 .f32) i := by
  obtain ⟨n, r, h, e, d, rfl⟩ := cover_k i
  exact (dkc_out (A := B) (n := n) (r := r) (h := h) (e := e) (d := d)).trans (dkc_arr A n r h e d).symm

include A B in
theorem dkp_eq (i : (⟨2, ![8192, 512]⟩ : Shape).Idx) : Cert.ReferenceIdeal.Read.val_main_v150 (F := Ideal) x0 x1 x2 x3 x4 i = ((dats m 0 c).arrAt 11 cfg0.N : Vec Ideal S8192x512 .f32) i := by
  obtain ⟨n, r, h, e, d, rfl⟩ := cover_k i
  exact (dkp_out (A := B) (n := n) (r := r) (h := h) (e := e) (d := d)).trans (dkp_arr A n r h e d).symm

include A B in
theorem dvloc_eq (i : (⟨2, ![8192, 512]⟩ : Shape).Idx) (hi : (i 1).val % 128 < 64): Cert.ReferenceIdeal.Read.val_main_v157 (F := Ideal) x0 x1 x3 x4 i = ((dats m 0 c).arrAt 12 cfg0.N : Vec Ideal S8192x512 .f32) i := by
  obtain ⟨n, r, h, d, rfl⟩ := cover_lo i hi
  exact (dvloc_out (A := B) (n := n) (r := r) (h := h) (d := d)).trans (dvloc_arr A n r h d).symm

include A B in
theorem dvlop_eq (i : (⟨2, ![8192, 512]⟩ : Shape).Idx) (hi : (i 1).val % 128 < 64): Cert.ReferenceIdeal.Read.val_main_v164 (F := Ideal) x0 x1 x3 x4 i = ((dats m 0 c).arrAt 13 cfg0.N : Vec Ideal S8192x512 .f32) i := by
  obtain ⟨n, r, h, d, rfl⟩ := cover_lo i hi
  exact (dvlop_out (A := B) (n := n) (r := r) (h := h) (d := d)).trans (dvlop_arr A n r h d).symm

include A B in
theorem dvhic_eq (i : (⟨2, ![8192, 512]⟩ : Shape).Idx) (hi : 64 ≤ (i 1).val % 128): Cert.ReferenceIdeal.Read.val_main_v171 (F := Ideal) x0 x1 x3 x4 i = ((dats m 0 c).arrAt 14 cfg0.N : Vec Ideal S8192x512 .f32) i := by
  obtain ⟨n, r, h, d, rfl⟩ := cover_hi i hi
  exact (dvhic_out (A := B) (n := n) (r := r) (h := h) (d := d)).trans (dvhic_arr A n r h d).symm

include A B in
theorem dvhip_eq (i : (⟨2, ![8192, 512]⟩ : Shape).Idx) (hi : 64 ≤ (i 1).val % 128): Cert.ReferenceIdeal.Read.val_main_v178 (F := Ideal) x0 x1 x3 x4 i = ((dats m 0 c).arrAt 15 cfg0.N : Vec Ideal S8192x512 .f32) i := by
  obtain ⟨n, r, h, d, rfl⟩ := cover_hi i hi
  exact (dvhip_out (A := B) (n := n) (r := r) (h := h) (d := d)).trans (dvhip_arr A n r h d).symm

include A B in
theorem dsink_eq (i : (⟨3, ![4, 8, 128]⟩ : Shape).Idx) : Cert.ReferenceIdeal.Read.val_main_v180 (F := Ideal) x0 x1 x2 x3 x4 i = ((dats m 0 c).arrAt 16 cfg0.N : Vec Ideal S4x8x128 .f32) i := by
  obtain ⟨h, jp, e, l, rfl⟩ := cover_s i
  exact (dsink_out (A := B) (h := h) (jp := jp) (e := e) (l := l)).trans (dsink_arr A h jp e l).symm

end Cert.Proof
-- ==== Proof.ColsDwVal.lean ====
/-
  The gradient of a weight whose columns lie in four shards: the kernel's sum over the token blocks is the reference's
  product of the transposed activations with the gradient.
-/
module

public import proofs.«01_k».proof.Proof.Gen.ColsDwIdeal
public import proofs.«01_k».proof.Proof.Gen.ColsDwIdeal.Frame
public import proofs.«01_k».proof.Proof.Gen.ColsDwIdeal.Value
public import proofs.«01_k».proof.Proof.Gen.ColsDwReferenceIdeal.Run
public import proofs.«01_k».proof.Proof.Gen.ColsDwReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.ColsDw

open Idealize.ShloMosaic Idealize.ShloMosaic.TcCoe Idealize.SL.Sem Cert.ColsDwIdeal Cert.ColsDwIdeal.Facts Cert.ColsDwIdeal.Gen

/-- Shard `i 0` of the gradient, at row `i 1` and column `i 2`. -/
def grad (h : Vec Ideal S8192x2048 .bf16) (g : Vec Ideal S8192x5632 .bf16) (i : S4x2048x1408.Idx) : EReal :=
  ∑ k : Fin 8192, (h (ix2 k (i 1)) : EReal) * g (ix2 k (⟨1408 * (i 0).val + (i 2).val, by have h0 : (i 0).val < 4 := (i 0).isLt; have h2 : (i 2).val < 1408 := (i 2).isLt; omega⟩ : Fin 5632))

theorem widx : ∀ t : Fin cfg0.N, win0_0.index t = ![t.val % 4, t.val / 16] ∧ win0_1.index t = ![t.val % 4, t.val / 4 % 4]
    ∧ win0_2.index t = ![t.val / 4 % 4, t.val / 16, 0] :=
  (by decide +kernel : ∀ t : Fin grid0.N, _)

variable (m : (ℓ : Loc nD τ sig) → Buf (Elt Ideal) ℓ) (c : Dev nD)

/-- The part of a block's sum that one point of its run adds. -/
def part (t : Fin cfg0.N) (a : Fin 1024) (b : Fin 1408) : EReal :=
  ∑ k : Fin 2048, (show EReal from (iblk m c 0 t : Vec Ideal S2048x1024 .bf16) (ix2 k a)) * (show EReal from (iblk m c 1 t : Vec Ideal S2048x1408 .bf16) (ix2 k b))

theorem sc_A (t : Fin cfg0.N) (h : t.val % 4 = 0) (a : Fin 1024) (b : Fin 1408) :
    (outsAt0 m c t.val t.isLt).2 (ix2 a b) = part m c t a b := by
  rw [outsAt0_A m c t h (by omega) (by omega)]; frame_out
  pointwise [k0_pay2, k0_pay1, part]

theorem sc_B (t : Fin cfg0.N) (h : 1 ≤ t.val % 4 ∧ t.val % 4 ≤ 2) (a : Fin 1024) (b : Fin 1408) :
    (outsAt0 m c t.val t.isLt).2 (ix2 a b)
      = (outsAt0 m c (t.val - 1) (Nat.lt_of_le_of_lt (Nat.sub_le _ _) t.isLt)).2 (ix2 a b) + part m c t a b := by
  rw [outsAt0_B m c t (by omega) h (by omega)]; frame_out
  pointwise [k0_pay3, k0_pay1, part]
  rw [read_unread_whole]

theorem out_C (t : Fin cfg0.N) (h : t.val % 4 = 3) (z : Fin 1) (a : Fin 1024) (b : Fin 1408) :
    (outsAt0 m c t.val t.isLt).1 (ix3 z a b)
      = (outsAt0 m c (t.val - 1) (Nat.lt_of_le_of_lt (Nat.sub_le _ _) t.isLt)).2 (ix2 a b) + part m c t a b := by
  rw [outsAt0_C m c t (by omega) (by omega) h]; frame_out
  pointwise [k0_pay4, k0_pay1, part]
  rw [read_unread_whole]

/-- One term of the sum, at a token. -/
def term (t : Fin cfg0.N) (a : Fin 1024) (b : Fin 1408) (l : Fin 8192) : EReal :=
  (show EReal from (m ((c : Thread nD τ).loc main_arg0) : Vec Ideal S8192x2048 .bf16) (ix2 l (⟨1024 * (t.val / 16) + a.val, by have ht : t.val < 32 := t.isLt; omega⟩ : Fin 2048)))
    * (show EReal from (m ((c : Thread nD τ).loc main_arg1) : Vec Ideal S8192x5632 .bf16) (ix2 l (⟨1408 * (t.val / 4 % 4) + b.val, by omega⟩ : Fin 5632)))

theorem part_eq (t t' : Fin cfg0.N) (a : Fin 1024) (b : Fin 1408) (q : ℕ) (hq : q < 4) (h : t'.val % 4 = q) (hd : t'.val / 4 = t.val / 4) :
    part m c t' a b = ∑ k : Fin 2048, term m c t a b ⟨q * 2048 + k.val, by omega⟩ := by
  unfold part
  refine Finset.sum_congr rfl fun k _ => ?_
  have ht : t.val < 32 := t.isLt
  have h16 : t'.val / 16 = t.val / 16 := by omega
  unfold term
  congr 1 <;> blk_ext [iblk, V, widx t', h, h16, hd]

theorem out_eq (t : Fin cfg0.N) (h : t.val % 4 = 3) (z : Fin 1) (a : Fin 1024) (b : Fin 1408) :
    (outsAt0 m c t.val t.isLt).1 (ix3 z a b) = ∑ l : Fin 8192, term m c t a b l := by
  have ht : t.val < 32 := t.isLt
  have hN : cfg0.N = 32 := N_0
  rw [out_C m c t h z a b,
    sc_B m c ⟨t.val - 1, by omega⟩ (by dsimp only; omega) a b,
    sc_B m c ⟨t.val - 1 - 1, by omega⟩ (by dsimp only; omega) a b,
    sc_A m c ⟨t.val - 1 - 1 - 1, by omega⟩ (by dsimp only; omega) a b,
    part_eq m c t t a b 3 (by omega) h rfl,
    part_eq m c t ⟨t.val - 1, by omega⟩ _ _ 2 (by omega) (by dsimp only; omega) (by dsimp only; omega),
    part_eq m c t ⟨t.val - 1 - 1, by omega⟩ _ _ 1 (by omega) (by dsimp only; omega) (by dsimp only; omega),
    part_eq m c t ⟨t.val - 1 - 1 - 1, by omega⟩ _ _ 0 (by omega) (by dsimp only; omega) (by dsimp only; omega),
    ← Fin.sum_mul_add_fin (L := 8192) 4 2048 (fun l => term m c t a b l), Fin.sum_univ_four]
  rfl

/-- What the kernel leaves in its result. -/
theorem arr (j : S4x2048x1408.Idx) : ((dats m 0 c).arrAt 2 cfg0.N : Vec Ideal S4x2048x1408 .bf16) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have hr : t.val % 4 = 3 := (by decide +kernel : ∀ t : Fin cfg0.N, (cfg0.win 2).flush t = true → t.val % 4 = 3) t hf
  blk_simp [widx t]
  rw [after0_2]
  obtain ⟨z, a, b, rfl⟩ : ∃ (z : Fin 1) (a : Fin 1024) (b : Fin 1408), y = ix3 z a b :=
    ⟨y 0, y 1, y 2, by funext i; fin_cases i <;> rfl⟩
  refine (out_eq m c t hr z a b).trans ?_
  unfold grad
  refine Finset.sum_congr rfl fun l _ => ?_
  unfold term
  congr 1 <;> blk_ext [widx t]

/-- What the reference leaves in its result. -/
theorem ref (h : Vec Ideal S8192x2048 .bf16) (g : Vec Ideal S8192x5632 .bf16) (j : S4x2048x1408.Idx) :
    Cert.ColsDwReferenceIdeal.Read.val_main_v8 (F := Ideal) h g j = grad h g j := by
  open Cert.ColsDwReferenceIdeal.Read in
  rw [val_main_v8_apply, val_main_v7_apply, val_main_v6_apply, val_main_v5_apply]
  refine (val_main_v4_apply h g _).trans ?_
  unfold grad
  refine Finset.sum_congr rfl fun l _ => ?_
  refine (mul_comm (G := EReal) _ _).trans ?_
  congr 1 <;> blk_ext []

end Cert.Proof.ColsDw

end
-- ==== Proof.ColsDxVal.lean ====
/-
  The gradient of the input of a product whose weight lies in four shards of columns: the kernel sums two shards
  at a time, the reference over all the columns.
-/
module

public import proofs.«01_k».proof.Proof.Gen.ColsDxIdeal
public import proofs.«01_k».proof.Proof.Gen.ColsDxIdeal.Frame
public import proofs.«01_k».proof.Proof.Gen.ColsDxIdeal.Value
public import proofs.«01_k».proof.Proof.Gen.ColsDxReferenceIdeal.Run
public import proofs.«01_k».proof.Proof.Gen.ColsDxReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.ColsDx

open Idealize.ShloMosaic Idealize.ShloMosaic.TcCoe Idealize.SL.Sem Cert.ColsDxIdeal Cert.ColsDxIdeal.Facts Cert.ColsDxIdeal.Gen

/-- The result at token `i 0` and feature `i 1`. -/
def grad (g : Vec Ideal S8192x5632 .bf16) (w : Vec Ideal S4x2048x1408 .bf16) (i : S8192x2048.Idx) : EReal :=
  (∑ k : Fin 5632, (g (ix2 (i 0) k) : EReal) * w (ix3 (⟨k.val / 1408, by omega⟩ : Fin 4) (i 1) (⟨k.val % 1408, by omega⟩ : Fin 1408)))

theorem widx : ∀ t : Fin cfg0.N, win0_0.index t = ![t.val / 4, t.val % 2] ∧ win0_1.index t = ![t.val % 2, t.val / 2 % 2, 0]
    ∧ win0_2.index t = ![t.val / 4, t.val / 2 % 2] :=
  (by decide +kernel : ∀ t : Fin grid0.N, _)

variable (m : (ℓ : Loc nD τ sig) → Buf (Elt Ideal) ℓ) (c : Dev nD)

/-- The part of a block's sum that one shard of a point adds. -/
def half (t : Fin cfg0.N) (e : Fin 2) (a : Fin 1024) (b : Fin 1024) : EReal :=
  ∑ k : Fin 1408, (show EReal from (iblk m c 0 t : Vec Ideal S1024x2816 .bf16) (ix2 a (⟨1408 * e.val + k.val, by omega⟩ : Fin 2816)))
    * (show EReal from (iblk m c 1 t : Vec Ideal S2x1024x1408 .bf16) (ix3 e b k))

/-- The product of two shards at once. -/
theorem pay (v0 : Vec Ideal S1024x1408 .bf16) (v1 : Vec Ideal S1x1024x1408 .bf16) (v4 : Vec Ideal S1024x1408 .bf16) (v5 : Vec Ideal S1x1024x1408 .bf16) (a b : Fin 1024) :
    k0_pay1 v0 v1 v4 v5 (ix2 a b) = (∑ k : Fin 1408, (show EReal from v0 (ix2 a k)) * (show EReal from v1 (ix3 (0 : Fin 1) b k)))
      + ∑ k : Fin 1408, (show EReal from v4 (ix2 a k)) * (show EReal from v5 (ix3 (0 : Fin 1) b k)) := by
  pointwise [k0_pay1]

theorem pay_half (t : Fin cfg0.N) (a b : Fin 1024) :
    k0_pay1 (View.ld (iblk m c 0 t) (Rect.unit (s := S1024x2816) ![0, 0] S1024x1408.size inb_S1024x2816_S1024x1408_0_0))
      (View.ld (iblk m c 1 t) (Rect.unit (s := S2x1024x1408) ![0, 0, 0] S1x1024x1408.size inb_S2x1024x1408_S1x1024x1408_0_0_0))
      (View.ld (iblk m c 0 t) (Rect.unit (s := S1024x2816) ![0, 1408] S1024x1408.size inb_S1024x2816_S1024x1408_0_1408))
      (View.ld (iblk m c 1 t) (Rect.unit (s := S2x1024x1408) ![1, 0, 0] S1x1024x1408.size inb_S2x1024x1408_S1x1024x1408_1_0_0)) (ix2 a b)
      = half m c t 0 a b + half m c t 1 a b := by
  refine (pay _ _ _ _ a b).trans ?_
  unfold half
  generalize iblk m c 0 t = x
  generalize iblk m c 1 t = w
  refine congrArg₂ (fun e e' : EReal => e + e') (Finset.sum_congr rfl fun k _ => ?_) (Finset.sum_congr rfl fun k _ => ?_)
  · refine congrArg₂ (fun e e' : EReal => e * e') (congrArg x ?_) (congrArg w ?_) <;> blk_ext [] <;> refine (LoadRect.idx_apply _ _ _).trans ?_ <;> simp
  · refine congrArg₂ (fun e e' : EReal => e * e') (congrArg x ?_) (congrArg w ?_) <;> blk_ext [] <;> refine (LoadRect.idx_apply _ _ _).trans ?_ <;> simp

theorem sc_A (t : Fin cfg0.N) (h : t.val % 2 = 0) (a : Fin 1024) (b : Fin 1024) :
    (outsAt0 m c t.val t.isLt).2 (ix2 a b) = half m c t 0 a b + half m c t 1 a b := by
  rw [outsAt0_A m c t h (by omega)]; frame_out
  rw [← pay_half]
  pointwise [k0_pay2]
  rfl

theorem out_B (t : Fin cfg0.N) (h : t.val % 2 = 1) (a : Fin 1024) (b : Fin 1024) :
    (outsAt0 m c t.val t.isLt).1 (ix2 a b)
      = (outsAt0 m c (t.val - 1) (Nat.lt_of_le_of_lt (Nat.sub_le _ _) t.isLt)).2 (ix2 a b) + (half m c t 0 a b + half m c t 1 a b) := by
  rw [outsAt0_B m c t (by omega) h]; frame_out
  rw [← pay_half]
  pointwise [k0_pay4]
  rw [read_unread_whole]
  rfl

/-- One term of the sum, at a column of the weight. -/
def term (t : Fin cfg0.N) (a : Fin 1024) (b : Fin 1024) (l : Fin 5632) : EReal :=
  (show EReal from (m ((c : Thread nD τ).loc main_arg0) : Vec Ideal S8192x5632 .bf16) (ix2 (⟨1024 * (t.val / 4) + a.val, by have ht : t.val < 32 := t.isLt; omega⟩ : Fin 8192) l))
    * (show EReal from (m ((c : Thread nD τ).loc main_arg1) : Vec Ideal S4x2048x1408 .bf16) (ix3 (⟨l.val / 1408, by omega⟩ : Fin 4)
      (⟨1024 * (t.val / 2 % 2) + b.val, by omega⟩ : Fin 2048) (⟨l.val % 1408, by omega⟩ : Fin 1408)))

theorem half_eq (t t' : Fin cfg0.N) (e : Fin 2) (a : Fin 1024) (b : Fin 1024) (q : ℕ) (hq : q < 4) (h : 2 * (t'.val % 2) + e.val = q) (hd : t'.val / 2 = t.val / 2) :
    half m c t' e a b = ∑ k : Fin 1408, term m c t a b ⟨q * 1408 + k.val, by omega⟩ := by
  unfold half
  refine Finset.sum_congr rfl fun k _ => ?_
  have ht : t.val < 32 := t.isLt
  have h4 : t'.val / 4 = t.val / 4 := by omega
  unfold term
  congr 1 <;> blk_ext [iblk, V, widx t', h4, hd]

theorem out_eq (t : Fin cfg0.N) (h : t.val % 2 = 1) (a : Fin 1024) (b : Fin 1024) :
    (outsAt0 m c t.val t.isLt).1 (ix2 a b) = (∑ l : Fin 5632, term m c t a b l) := by
  have ht : t.val < 32 := t.isLt
  have hN : cfg0.N = 32 := N_0
  rw [out_B m c t h a b, sc_A m c ⟨t.val - 1, by omega⟩ (by dsimp only; omega) a b,
    half_eq m c t t 0 a b 2 (by omega) (by simp [h]) rfl,
    half_eq m c t t 1 a b 3 (by omega) (by simp [h]) rfl,
    half_eq m c t ⟨t.val - 1, by omega⟩ 0 _ _ 0 (by omega) (by simp; omega) (by dsimp only; omega),
    half_eq m c t ⟨t.val - 1, by omega⟩ 1 _ _ 1 (by omega) (by simp; omega) (by dsimp only; omega),
    ← Fin.sum_mul_add_fin (L := 5632) 4 1408 (fun l => term m c t a b l), Fin.sum_univ_four, ← add_assoc]
  rfl

/-- What the kernel leaves in its result. -/
theorem arr (j : S8192x2048.Idx) : ((dats m 0 c).arrAt 2 cfg0.N : Vec Ideal S8192x2048 .f32) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have hr : t.val % 2 = 1 := (by decide +kernel : ∀ t : Fin cfg0.N, (cfg0.win 2).flush t = true → t.val % 2 = 1) t hf
  have ht : t.val < 32 := t.isLt
  blk_simp [widx t]
  rw [after0_2]
  obtain ⟨a, b, rfl⟩ : ∃ (a : Fin 1024) (b : Fin 1024), y = ix2 a b := ⟨y 0, y 1, by funext i; fin_cases i <;> rfl⟩
  refine (out_eq m c t hr a b).trans ?_
  unfold grad
  refine Finset.sum_congr rfl fun l _ => ?_
  unfold term
  congr 1 <;> blk_ext [widx t]

/-- What the reference leaves in its result. -/
theorem ref (g : Vec Ideal S8192x5632 .bf16) (w : Vec Ideal S4x2048x1408 .bf16) (j : S8192x2048.Idx) :
    Cert.ColsDxReferenceIdeal.Read.val_main_v6 (F := Ideal) g w j = grad g w j := by
  open Cert.ColsDxReferenceIdeal.Read in
  rw [val_main_v6_apply]
  unfold grad
  refine Finset.sum_congr rfl fun l _ => ?_
  rw [val_main_v3_apply, val_main_v2_apply]
  have h1 : (j 1).val < 2048 := (j 1).isLt
  congr 1 <;> blk_ext []

end Cert.Proof.ColsDx

end
-- ==== Proof.ColsDxAddVal.lean ====
/-
  The gradient of the input of a product whose weight lies in four shards of columns, on top of another gradient: the kernel sums two shards
  at a time, the reference over all the columns.
-/
module

public import proofs.«01_k».proof.Proof.Gen.ColsDxAddIdeal
public import proofs.«01_k».proof.Proof.Gen.ColsDxAddIdeal.Frame
public import proofs.«01_k».proof.Proof.Gen.ColsDxAddIdeal.Value
public import proofs.«01_k».proof.Proof.Gen.ColsDxAddReferenceIdeal.Run
public import proofs.«01_k».proof.Proof.Gen.ColsDxAddReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.ColsDxAdd

open Idealize.ShloMosaic Idealize.ShloMosaic.TcCoe Idealize.SL.Sem Cert.ColsDxAddIdeal Cert.ColsDxAddIdeal.Facts Cert.ColsDxAddIdeal.Gen

/-- The result at token `i 0` and feature `i 1`. -/
def grad (g : Vec Ideal S8192x5632 .bf16) (w : Vec Ideal S4x2048x1408 .bf16) (x : Vec Ideal S8192x2048 .f32) (i : S8192x2048.Idx) : EReal :=
  (∑ k : Fin 5632, (g (ix2 (i 0) k) : EReal) * w (ix3 (⟨k.val / 1408, by omega⟩ : Fin 4) (i 1) (⟨k.val % 1408, by omega⟩ : Fin 1408))) + (x i : EReal)

theorem widx : ∀ t : Fin cfg0.N, win0_0.index t = ![t.val / 4, t.val % 2] ∧ win0_1.index t = ![t.val % 2, t.val / 2 % 2, 0]
    ∧ win0_2.index t = ![t.val / 4, t.val / 2 % 2] ∧ win0_3.index t = ![t.val / 4, t.val / 2 % 2] :=
  (by decide +kernel : ∀ t : Fin grid0.N, _)

variable (m : (ℓ : Loc nD τ sig) → Buf (Elt Ideal) ℓ) (c : Dev nD)

/-- The part of a block's sum that one shard of a point adds. -/
def half (t : Fin cfg0.N) (e : Fin 2) (a : Fin 1024) (b : Fin 1024) : EReal :=
  ∑ k : Fin 1408, (show EReal from (iblk m c 0 t : Vec Ideal S1024x2816 .bf16) (ix2 a (⟨1408 * e.val + k.val, by omega⟩ : Fin 2816)))
    * (show EReal from (iblk m c 1 t : Vec Ideal S2x1024x1408 .bf16) (ix3 e b k))

/-- The product of two shards at once. -/
theorem pay (v0 : Vec Ideal S1024x1408 .bf16) (v1 : Vec Ideal S1x1024x1408 .bf16) (v4 : Vec Ideal S1024x1408 .bf16) (v5 : Vec Ideal S1x1024x1408 .bf16) (a b : Fin 1024) :
    k0_pay1 v0 v1 v4 v5 (ix2 a b) = (∑ k : Fin 1408, (show EReal from v0 (ix2 a k)) * (show EReal from v1 (ix3 (0 : Fin 1) b k)))
      + ∑ k : Fin 1408, (show EReal from v4 (ix2 a k)) * (show EReal from v5 (ix3 (0 : Fin 1) b k)) := by
  pointwise [k0_pay1]

theorem pay_half (t : Fin cfg0.N) (a b : Fin 1024) :
    k0_pay1 (View.ld (iblk m c 0 t) (Rect.unit (s := S1024x2816) ![0, 0] S1024x1408.size inb_S1024x2816_S1024x1408_0_0))
      (View.ld (iblk m c 1 t) (Rect.unit (s := S2x1024x1408) ![0, 0, 0] S1x1024x1408.size inb_S2x1024x1408_S1x1024x1408_0_0_0))
      (View.ld (iblk m c 0 t) (Rect.unit (s := S1024x2816) ![0, 1408] S1024x1408.size inb_S1024x2816_S1024x1408_0_1408))
      (View.ld (iblk m c 1 t) (Rect.unit (s := S2x1024x1408) ![1, 0, 0] S1x1024x1408.size inb_S2x1024x1408_S1x1024x1408_1_0_0)) (ix2 a b)
      = half m c t 0 a b + half m c t 1 a b := by
  refine (pay _ _ _ _ a b).trans ?_
  unfold half
  generalize iblk m c 0 t = x
  generalize iblk m c 1 t = w
  refine congrArg₂ (fun e e' : EReal => e + e') (Finset.sum_congr rfl fun k _ => ?_) (Finset.sum_congr rfl fun k _ => ?_)
  · refine congrArg₂ (fun e e' : EReal => e * e') (congrArg x ?_) (congrArg w ?_) <;> blk_ext [] <;> refine (LoadRect.idx_apply _ _ _).trans ?_ <;> simp
  · refine congrArg₂ (fun e e' : EReal => e * e') (congrArg x ?_) (congrArg w ?_) <;> blk_ext [] <;> refine (LoadRect.idx_apply _ _ _).trans ?_ <;> simp

theorem sc_A (t : Fin cfg0.N) (h : t.val % 2 = 0) (a : Fin 1024) (b : Fin 1024) :
    (outsAt0 m c t.val t.isLt).2 (ix2 a b) = half m c t 0 a b + half m c t 1 a b := by
  rw [outsAt0_A m c t h (by omega)]; frame_out
  rw [← pay_half]
  pointwise [k0_pay2]
  rfl

theorem out_B (t : Fin cfg0.N) (h : t.val % 2 = 1) (a : Fin 1024) (b : Fin 1024) :
    (outsAt0 m c t.val t.isLt).1 (ix2 a b)
      = (outsAt0 m c (t.val - 1) (Nat.lt_of_le_of_lt (Nat.sub_le _ _) t.isLt)).2 (ix2 a b) + (half m c t 0 a b + half m c t 1 a b)
        + (show EReal from (iblk m c 2 t : Vec Ideal S1024x1024 .f32) (ix2 a b)) := by
  rw [outsAt0_B m c t (by omega) h]; frame_out
  rw [← pay_half]
  pointwise [k0_pay4]
  rw [read_unread_whole]
  rfl

/-- One term of the sum, at a column of the weight. -/
def term (t : Fin cfg0.N) (a : Fin 1024) (b : Fin 1024) (l : Fin 5632) : EReal :=
  (show EReal from (m ((c : Thread nD τ).loc main_arg0) : Vec Ideal S8192x5632 .bf16) (ix2 (⟨1024 * (t.val / 4) + a.val, by have ht : t.val < 32 := t.isLt; omega⟩ : Fin 8192) l))
    * (show EReal from (m ((c : Thread nD τ).loc main_arg1) : Vec Ideal S4x2048x1408 .bf16) (ix3 (⟨l.val / 1408, by omega⟩ : Fin 4)
      (⟨1024 * (t.val / 2 % 2) + b.val, by omega⟩ : Fin 2048) (⟨l.val % 1408, by omega⟩ : Fin 1408)))

theorem half_eq (t t' : Fin cfg0.N) (e : Fin 2) (a : Fin 1024) (b : Fin 1024) (q : ℕ) (hq : q < 4) (h : 2 * (t'.val % 2) + e.val = q) (hd : t'.val / 2 = t.val / 2) :
    half m c t' e a b = ∑ k : Fin 1408, term m c t a b ⟨q * 1408 + k.val, by omega⟩ := by
  unfold half
  refine Finset.sum_congr rfl fun k _ => ?_
  have ht : t.val < 32 := t.isLt
  have h4 : t'.val / 4 = t.val / 4 := by omega
  unfold term
  congr 1 <;> blk_ext [iblk, V, widx t', h4, hd]

theorem out_eq (t : Fin cfg0.N) (h : t.val % 2 = 1) (a : Fin 1024) (b : Fin 1024) :
    (outsAt0 m c t.val t.isLt).1 (ix2 a b) = (∑ l : Fin 5632, term m c t a b l) + (show EReal from (iblk m c 2 t : Vec Ideal S1024x1024 .f32) (ix2 a b)) := by
  have ht : t.val < 32 := t.isLt
  have hN : cfg0.N = 32 := N_0
  rw [out_B m c t h a b, sc_A m c ⟨t.val - 1, by omega⟩ (by dsimp only; omega) a b,
    half_eq m c t t 0 a b 2 (by omega) (by simp [h]) rfl,
    half_eq m c t t 1 a b 3 (by omega) (by simp [h]) rfl,
    half_eq m c t ⟨t.val - 1, by omega⟩ 0 _ _ 0 (by omega) (by simp; omega) (by dsimp only; omega),
    half_eq m c t ⟨t.val - 1, by omega⟩ 1 _ _ 1 (by omega) (by simp; omega) (by dsimp only; omega),
    ← Fin.sum_mul_add_fin (L := 5632) 4 1408 (fun l => term m c t a b l), Fin.sum_univ_four, ← add_assoc]
  rfl

/-- What the kernel leaves in its result. -/
theorem arr (j : S8192x2048.Idx) : ((dats m 0 c).arrAt 3 cfg0.N : Vec Ideal S8192x2048 .f32) j
    = grad (m ((c : Thread nD τ).loc main_arg0)) (m ((c : Thread nD τ).loc main_arg1)) (m ((c : Thread nD τ).loc main_arg2)) j := by
  refine (dats m 0 c).arrAt_forall_of_covers 3 (fun j v => v = grad (m ((c : Thread nD τ).loc main_arg0)) (m ((c : Thread nD τ).loc main_arg1)) (m ((c : Thread nD τ).loc main_arg2)) j)
    (by decide +kernel) (fun t hf y => ?_) j
  have hr : t.val % 2 = 1 := (by decide +kernel : ∀ t : Fin cfg0.N, (cfg0.win 3).flush t = true → t.val % 2 = 1) t hf
  have ht : t.val < 32 := t.isLt
  blk_simp [widx t]
  rw [after0_3]
  obtain ⟨a, b, rfl⟩ : ∃ (a : Fin 1024) (b : Fin 1024), y = ix2 a b := ⟨y 0, y 1, by funext i; fin_cases i <;> rfl⟩
  refine (out_eq m c t hr a b).trans ?_
  unfold grad
  congr 1
  refine Finset.sum_congr rfl fun l _ => ?_
  unfold term
  congr 1 <;> blk_ext [widx t]

/-- What the reference leaves in its result. -/
theorem ref (g : Vec Ideal S8192x5632 .bf16) (w : Vec Ideal S4x2048x1408 .bf16) (x : Vec Ideal S8192x2048 .f32) (j : S8192x2048.Idx) :
    Cert.ColsDxAddReferenceIdeal.Read.val_main_v7 (F := Ideal) g w x j = grad g w x j := by
  open Cert.ColsDxAddReferenceIdeal.Read in
  rw [val_main_v7_apply, val_main_v6_apply]
  unfold grad
  refine congrArg (fun e : EReal => e + (x j : EReal)) (Finset.sum_congr rfl fun l _ => ?_)
  rw [val_main_v3_apply, val_main_v2_apply]
  have h1 : (j 1).val < 2048 := (j 1).isLt
  congr 1 <;> blk_ext []

end Cert.Proof.ColsDxAdd

end
-- ==== Proof.DownDwVal.lean ====
/-
  The gradient of the down projection's weight: the kernel's sum over the token blocks is the reference's product of the
  transposed activations with the gradient.
-/
module

public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwReferenceIdeal.Run
public import proofs.«01_k».proof.Proof.Gen.DownDwReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.DownDw

open Idealize.ShloMosaic Idealize.ShloMosaic.TcCoe Idealize.SL.Sem Cert.DownDwIdeal Cert.DownDwIdeal.Facts Cert.DownDwIdeal.Gen

/-- The gradient at row `i 0` and column `i 1`. -/
def grad (h : Vec Ideal S8192x5632 .bf16) (g : Vec Ideal S8192x2048 .bf16) (i : S5632x2048.Idx) : EReal :=
  ∑ k : Fin 8192, (h (ix2 k (i 0)) : EReal) * g (ix2 k (i 1))

theorem widx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ) (c : Dev nD)

/-- The part of a block's sum that one point of its run adds. -/
def part (t : Fin cfg0.N) (a : Fin 1408) (b : Fin 1024) : EReal :=
  ∑ k : Fin 2048, (show EReal from (iblk m c 0 t : Vec Ideal S2048x1408 .bf16) (ix2 k a)) * (show EReal from (iblk m c 1 t : Vec Ideal S2048x1024 .bf16) (ix2 k b))

theorem sc_A (t : Fin cfg0.N) (h : t.val % 4 = 0) (a : Fin 1408) (b : Fin 1024) :
    (outsAt0 m c t.val t.isLt).2 (ix2 a b) = part m c t a b := by
  rw [outsAt0_A m c t h (by omega) (by omega)]; frame_out
  pointwise [k0_pay2, k0_pay1, part]

theorem sc_B (t : Fin cfg0.N) (h : 1 ≤ t.val % 4 ∧ t.val % 4 ≤ 2) (a : Fin 1408) (b : Fin 1024) :
    (outsAt0 m c t.val t.isLt).2 (ix2 a b)
      = (outsAt0 m c (t.val - 1) (Nat.lt_of_le_of_lt (Nat.sub_le _ _) t.isLt)).2 (ix2 a b) + part m c t a b := by
  rw [outsAt0_B m c t (by omega) h (by omega)]; frame_out
  pointwise [k0_pay3, k0_pay1, part]
  rw [read_unread_whole]

theorem out_C (t : Fin cfg0.N) (h : t.val % 4 = 3) (a : Fin 1408) (b : Fin 1024) :
    (outsAt0 m c t.val t.isLt).1 (ix2 a b)
      = (outsAt0 m c (t.val - 1) (Nat.lt_of_le_of_lt (Nat.sub_le _ _) t.isLt)).2 (ix2 a b) + part m c t a b := by
  rw [outsAt0_C m c t (by omega) (by omega) h]; frame_out
  pointwise [k0_pay4, k0_pay1, part]
  rw [read_unread_whole]

/-- One term of the sum, at a token. -/
def term (t : Fin cfg0.N) (a : Fin 1408) (b : Fin 1024) (l : Fin 8192) : EReal :=
  (show EReal from (m ((c : Thread nD τ).loc main_arg0) : Vec Ideal S8192x5632 .bf16) (ix2 l (⟨1408 * (t.val / 8) + a.val, by have ht : t.val < 32 := t.isLt; omega⟩ : Fin 5632)))
    * (show EReal from (m ((c : Thread nD τ).loc main_arg1) : Vec Ideal S8192x2048 .bf16) (ix2 l (⟨1024 * (t.val / 4 % 2) + b.val, by omega⟩ : Fin 2048)))

theorem part_eq (t t' : Fin cfg0.N) (a : Fin 1408) (b : Fin 1024) (q : ℕ) (hq : q < 4) (h : t'.val % 4 = q) (hd : t'.val / 4 = t.val / 4) :
    part m c t' a b = ∑ k : Fin 2048, term m c t a b ⟨q * 2048 + k.val, by omega⟩ := by
  unfold part
  refine Finset.sum_congr rfl fun k _ => ?_
  have ht : t.val < 32 := t.isLt
  have h8 : t'.val / 8 = t.val / 8 := by omega
  unfold term
  congr 1 <;> blk_ext [iblk, V, widx t', h, h8, hd]

theorem out_eq (t : Fin cfg0.N) (h : t.val % 4 = 3) (a : Fin 1408) (b : Fin 1024) :
    (outsAt0 m c t.val t.isLt).1 (ix2 a b) = ∑ l : Fin 8192, term m c t a b l := by
  have ht : t.val < 32 := t.isLt
  have hN : cfg0.N = 32 := N_0
  rw [out_C m c t h a b,
    sc_B m c ⟨t.val - 1, by omega⟩ (by dsimp only; omega) a b,
    sc_B m c ⟨t.val - 1 - 1, by omega⟩ (by dsimp only; omega) a b,
    sc_A m c ⟨t.val - 1 - 1 - 1, by omega⟩ (by dsimp only; omega) a b,
    part_eq m c t t a b 3 (by omega) h rfl,
    part_eq m c t ⟨t.val - 1, by omega⟩ _ _ 2 (by omega) (by dsimp only; omega) (by dsimp only; omega),
    part_eq m c t ⟨t.val - 1 - 1, by omega⟩ _ _ 1 (by omega) (by dsimp only; omega) (by dsimp only; omega),
    part_eq m c t ⟨t.val - 1 - 1 - 1, by omega⟩ _ _ 0 (by omega) (by dsimp only; omega) (by dsimp only; omega),
    ← Fin.sum_mul_add_fin (L := 8192) 4 2048 (fun l => term m c t a b l), Fin.sum_univ_four]
  rfl

/-- What the kernel leaves in its result. -/
theorem arr (j : S5632x2048.Idx) : ((dats m 0 c).arrAt 2 cfg0.N : Vec Ideal S5632x2048 .bf16) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have hr : t.val % 4 = 3 := (by decide +kernel : ∀ t : Fin cfg0.N, (cfg0.win 2).flush t = true → t.val % 4 = 3) t hf
  blk_simp [widx t]
  rw [after0_2]
  obtain ⟨a, b, rfl⟩ : ∃ (a : Fin 1408) (b : Fin 1024), y = ix2 a b :=
    ⟨y 0, y 1, by funext i; fin_cases i <;> rfl⟩
  refine (out_eq m c t hr a b).trans ?_
  unfold grad
  refine Finset.sum_congr rfl fun l _ => ?_
  unfold term
  congr 1 <;> blk_ext [widx t]

/-- What the reference leaves in its result. -/
theorem ref (h : Vec Ideal S8192x5632 .bf16) (g : Vec Ideal S8192x2048 .bf16) (j : S5632x2048.Idx) :
    Cert.DownDwReferenceIdeal.Read.val_main_v6 (F := Ideal) h g j = grad h g j := by
  open Cert.DownDwReferenceIdeal.Read in
  rw [val_main_v6_apply, val_main_v5_apply]
  refine (val_main_v4_apply h g _).trans ?_
  unfold grad
  refine Finset.sum_congr rfl fun l _ => ?_
  refine (mul_comm (G := EReal) _ _).trans ?_
  congr 1 <;> blk_ext []

end Cert.Proof.DownDw

end
-- ==== Proof.Sig.lean ====
/-
  The logistic function two ways: half the hyperbolic tangent of half the argument plus a half, and the quotient by one
  plus the exponential of the negated argument. They agree at every extended real.
-/
module

public import Idealize.ShloMosaic.Lib.Pointwise

@[expose] public section

noncomputable section

namespace Cert.Proof.Sig

open Idealize.ShloMosaic

theorem half : (Ideal.ofBits .f32 0x3F000000#32 : EReal) = ((1 / 2 : ℝ) : EReal) := by
  simp [Ideal.ofBits, Ideal.ieee]
  rw [← EReal.coe_mul]
  norm_num

theorem one : (Ideal.ofBits .f32 0x3F800000#32 : EReal) = ((1 : ℝ) : EReal) := by
  simp [Ideal.ofBits, Ideal.ieee]
  rw [← EReal.coe_mul]
  norm_num

/-- The quotient form. -/
def sg (x : EReal) : EReal := Ideal.div (Ideal.ofBits .f32 0x3F800000#32) (Ideal.ofBits .f32 0x3F800000#32 + Ideal.exp (-x))

theorem real_tanh (x : ℝ) : 1 / 2 * Real.tanh (1 / 2 * x) + 1 / 2 = 1 / (1 + Real.exp (-x)) := by
  have e : Real.exp (-x) = Real.exp (-(1 / 2 * x)) / Real.exp (1 / 2 * x) := by
    rw [← Real.exp_sub]; congr 1; ring
  have p := Real.exp_pos (1 / 2 * x)
  have n := Real.exp_pos (-(1 / 2 * x))
  rw [e, Real.tanh_eq_sinh_div_cosh, Real.sinh_eq, Real.cosh_eq]
  field_simp
  ring

/-- The quotient form at a real. -/
theorem sg_real (x : ℝ) : sg (x : EReal) = ((1 / (1 + Real.exp (-x)) : ℝ) : EReal) := by
  have p := Real.exp_pos (-x)
  have h : Ideal.exp (-(x : EReal)) = ((Real.exp (-x) : ℝ) : EReal) := by rw [← EReal.coe_neg]; rfl
  unfold sg Ideal.div
  rw [h, one, ← EReal.coe_add, if_neg (by exact_mod_cast (by positivity : (1 + Real.exp (-x) : ℝ) ≠ 0)), ← EReal.coe_inv,
    ← EReal.coe_mul, one_div, one_mul]

/-- The two forms agree. -/
theorem tanh_sg (x : EReal) : Ideal.ofBits .f32 0x3F000000#32 * Ideal.tanh (Ideal.ofBits .f32 0x3F000000#32 * x) + Ideal.ofBits .f32 0x3F000000#32 = sg x := by
  induction x using EReal.rec with
  | bot =>
    rw [half, EReal.coe_mul_bot_of_pos (by norm_num)]
    show ((1 / 2 : ℝ) : EReal) * (-1) + ((1 / 2 : ℝ) : EReal) = sg ⊥
    unfold sg Ideal.div
    rw [EReal.neg_bot, one]
    show _ = if ((1 : ℝ) : EReal) + ⊤ = 0 then _ else ((1 : ℝ) : EReal) * (((1 : ℝ) : EReal) + ⊤)⁻¹
    rw [EReal.coe_add_top, if_neg (by decide), EReal.inv_top, mul_zero]
    rw [show (-1 : EReal) = ((-1 : ℝ) : EReal) by norm_num, ← EReal.coe_mul, ← EReal.coe_add]
    norm_num
  | top =>
    rw [half, EReal.coe_mul_top_of_pos (by norm_num)]
    show ((1 / 2 : ℝ) : EReal) * 1 + ((1 / 2 : ℝ) : EReal) = sg ⊤
    unfold sg Ideal.div
    rw [EReal.neg_top, one]
    show _ = if ((1 : ℝ) : EReal) + 0 = 0 then _ else ((1 : ℝ) : EReal) * (((1 : ℝ) : EReal) + 0)⁻¹
    rw [add_zero, mul_one, if_neg (by norm_num), ← EReal.coe_inv, ← EReal.coe_mul, ← EReal.coe_add]
    norm_num
  | coe x =>
    rw [half, ← EReal.coe_mul, sg_real, ← real_tanh]
    show _ * ((Real.tanh _ : ℝ) : EReal) + _ = _
    rw [← EReal.coe_mul, ← EReal.coe_add]

end Cert.Proof.Sig

end
-- ==== Proof.DownDxVal.lean ====
/-
  The gradient of the down projection's input, carried back through the SwiGLU activation: each block of the kernel's
  results is one product over the whole depth, and the kernel's closed form of the activation's gradient is the chain
  rule's where the arguments are finite.
-/
module

public import proofs.«01_k».proof.Proof.Sig
public import proofs.«01_k».proof.Proof.Pre
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxReferenceIdeal.Run
public import proofs.«01_k».proof.Proof.Gen.DownDxReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.DownDx

open Idealize.ShloMosaic Idealize.ShloMosaic.TcCoe Idealize.SL.Sem Cert.DownDxIdeal Cert.DownDxIdeal.Facts Cert.DownDxIdeal.Gen

/-- The gradient of the activation at token `i 0` and feature `i 1`. -/
def proj (d : Vec Ideal S8192x2048 .bf16) (w : Vec Ideal S5632x2048 .bf16) (i : S8192x5632.Idx) : EReal :=
  ∑ k : Fin 2048, (d (ix2 (i 0) k) : EReal) * w (ix2 (i 1) k)

/-- The gradient of the gate, the kernel's way. -/
def dg (p g u : EReal) : EReal :=
  p * u * Sig.sg g * (Ideal.ofBits .f32 0x3F800000#32 + g * (Ideal.ofBits .f32 0x3F800000#32 - Sig.sg g))

/-- The gradient of the other factor, the kernel's way. -/
def du (p g : EReal) : EReal := p * (g * Sig.sg g)

theorem widx : ∀ t : Fin cfg0.N, win0_0.index t = ![t.val / 4, 0] ∧ win0_1.index t = ![t.val % 4, 0]
    ∧ win0_2.index t = ![t.val / 4, t.val % 4] ∧ win0_3.index t = ![t.val / 4, t.val % 4]
    ∧ win0_4.index t = ![t.val / 4, t.val % 4] ∧ win0_5.index t = ![t.val / 4, t.val % 4] :=
  (by decide +kernel : ∀ t : Fin grid0.N, _)

variable (m : (ℓ : Loc nD τ sig) → Buf (Elt Ideal) ℓ) (c : Dev nD)

/-- A block's product. -/
def prod (t : Fin cfg0.N) (a : Fin 1024) (b : Fin 1408) : EReal :=
  ∑ k : Fin 2048, (show EReal from (iblk m c 0 t : Vec Ideal S1024x2048 .bf16) (ix2 a k)) * (show EReal from (iblk m c 1 t : Vec Ideal S1408x2048 .bf16) (ix2 b k))

theorem out_g (t : Fin cfg0.N) (a : Fin 1024) (b : Fin 1408) : (outsAt0 m c t).1 (ix2 a b)
    = dg (prod m c t a b) (show EReal from (iblk m c 2 t : Vec Ideal S1024x1408 .bf16) (ix2 a b)) (show EReal from (iblk m c 3 t : Vec Ideal S1024x1408 .bf16) (ix2 a b)) := by
  unfold outsAt0; frame_out
  unfold dg
  rw [← Sig.tanh_sg]
  pointwise [k0_pay4, k0_pay3, k0_pay2, k0_pay1, prod]

theorem out_u (t : Fin cfg0.N) (a : Fin 1024) (b : Fin 1408) : (outsAt0 m c t).2 (ix2 a b)
    = du (prod m c t a b) (show EReal from (iblk m c 2 t : Vec Ideal S1024x1408 .bf16) (ix2 a b)) := by
  unfold outsAt0; frame_out
  unfold du
  rw [← Sig.tanh_sg]
  pointwise [k0_pay5, k0_pay3, k0_pay2, k0_pay1, prod]

theorem prod_eq (t : Fin cfg0.N) (a : Fin 1024) (b : Fin 1408) (j : S8192x5632.Idx) (h0 : (j 0).val = t.val / 4 * 1024 + a.val) (h1 : (j 1).val = t.val % 4 * 1408 + b.val) :
    prod m c t a b = proj (m ((c : Thread nD τ).loc main_arg0)) (m ((c : Thread nD τ).loc main_arg1)) j := by
  have ht : t.val < 32 := t.isLt
  unfold proj prod
  refine Finset.sum_congr rfl fun l _ => ?_
  congr 1 <;> blk_ext [iblk, V, widx t, h0, h1]

/-- What the kernel leaves in its first result, from its arguments. -/
def gOf (d : Vec Ideal S8192x2048 .bf16) (w : Vec Ideal S5632x2048 .bf16) (g u : Vec Ideal S8192x5632 .bf16) (j : S8192x5632.Idx) : EReal :=
  dg (proj d w j) (g j) (u j)

/-- What the kernel leaves in its second result, from its arguments. -/
def uOf (d : Vec Ideal S8192x2048 .bf16) (w : Vec Ideal S5632x2048 .bf16) (g : Vec Ideal S8192x5632 .bf16) (j : S8192x5632.Idx) : EReal :=
  du (proj d w j) (g j)

theorem arr_g (j : S8192x5632.Idx) : ((dats m 0 c).arrAt 4 cfg0.N : Vec Ideal S8192x5632 .bf16) j
    = gOf (m ((c : Thread nD τ).loc main_arg0)) (m ((c : Thread nD τ).loc main_arg1)) (m ((c : Thread nD τ).loc main_arg2)) (m ((c : Thread nD τ).loc main_arg3)) j := by
  refine (dats m 0 c).arrAt_forall_of_covers 4 (fun j v => v = gOf (m ((c : Thread nD τ).loc main_arg0)) (m ((c : Thread nD τ).loc main_arg1)) (m ((c : Thread nD τ).loc main_arg2)) (m ((c : Thread nD τ).loc main_arg3)) j)
    (by decide +kernel) (fun t hf y => ?_) j
  blk_simp [widx t]
  rw [after0_4]
  obtain ⟨a, b, rfl⟩ : ∃ (a : Fin 1024) (b : Fin 1408), y = ix2 a b := ⟨y 0, y 1, by funext i; fin_cases i <;> rfl⟩
  refine (out_g m c t a b).trans ?_
  unfold gOf
  rw [← prod_eq m c t a b _ (by blk_ext [widx t]) (by blk_ext [widx t])]
  rfl

theorem arr_u (j : S8192x5632.Idx) : ((dats m 0 c).arrAt 5 cfg0.N : Vec Ideal S8192x5632 .bf16) j
    = uOf (m ((c : Thread nD τ).loc main_arg0)) (m ((c : Thread nD τ).loc main_arg1)) (m ((c : Thread nD τ).loc main_arg2)) j := by
  refine (dats m 0 c).arrAt_forall_of_covers 5 (fun j v => v = uOf (m ((c : Thread nD τ).loc main_arg0)) (m ((c : Thread nD τ).loc main_arg1)) (m ((c : Thread nD τ).loc main_arg2)) j)
    (by decide +kernel) (fun t hf y => ?_) j
  blk_simp [widx t]
  rw [after0_5]
  obtain ⟨a, b, rfl⟩ : ∃ (a : Fin 1024) (b : Fin 1408), y = ix2 a b := ⟨y 0, y 1, by funext i; fin_cases i <;> rfl⟩
  refine (out_u m c t a b).trans ?_
  unfold uOf
  rw [← prod_eq m c t a b _ (by blk_ext [widx t]) (by blk_ext [widx t])]
  rfl

/-- The reference's gradient of the activation. -/
theorem ref_p (d : Vec Ideal S8192x2048 .bf16) (w : Vec Ideal S5632x2048 .bf16) (j : S8192x5632.Idx) :
    Cert.DownDxReferenceIdeal.Read.val_main_v7 (F := Ideal) d w j = proj d w j := by
  open Cert.DownDxReferenceIdeal.Read in
  refine (val_main_v7_apply d w _).trans ?_
  unfold proj
  refine Finset.sum_congr rfl fun l _ => ?_
  congr 1 <;> blk_ext []

/-- What the reference leaves in its second result. -/
theorem ref_u (d : Vec Ideal S8192x2048 .bf16) (w : Vec Ideal S5632x2048 .bf16) (g : Vec Ideal S8192x5632 .bf16) (j : S8192x5632.Idx) :
    Cert.DownDxReferenceIdeal.Read.val_main_v12 (F := Ideal) d w g j = uOf d w g j := by
  open Cert.DownDxReferenceIdeal.Read in
  rw [val_main_v12_apply, val_main_v8_apply]
  show _ * Cert.DownDxReferenceIdeal.Read.val_main_v7 (F := Ideal) d w j = _
  rw [ref_p]
  exact mul_comm (G := EReal) _ _

/-- The chain rule's gradient of the gate at reals. -/
theorem chain (p g u : ℝ) : ((p : EReal) * u) * Sig.sg g
      + ((g : EReal) * ((p : EReal) * u)) * (Sig.sg g * (Ideal.ofBits .f32 0x3F800000#32 - Sig.sg g)) = dg p g u := by
  unfold dg
  rw [Sig.one, Sig.sg_real]
  generalize 1 / (1 + Real.exp (-g)) = s
  norm_cast
  ring

/-- What the reference leaves in its first result, where everything is finite. -/
theorem ref_g (d : Vec Ideal S8192x2048 .bf16) (w : Vec Ideal S5632x2048 .bf16) (g u : Vec Ideal S8192x5632 .bf16) (j : S8192x5632.Idx)
    (hp : proj d w j = (((proj d w j).toReal : ℝ) : EReal)) (hg : (g j : EReal) = (((g j : EReal).toReal : ℝ) : EReal)) (hu : (u j : EReal) = (((u j : EReal).toReal : ℝ) : EReal)) :
    Cert.DownDxReferenceIdeal.Read.val_main_v11 (F := Ideal) d w g u j = gOf d w g u j := by
  have e : Cert.DownDxReferenceIdeal.Read.val_main_v11 (F := Ideal) d w g u j = (Cert.DownDxReferenceIdeal.Read.val_main_v7 (F := Ideal) d w j * (u j : EReal)) * Sig.sg (g j)
      + ((g j : EReal) * (Cert.DownDxReferenceIdeal.Read.val_main_v7 (F := Ideal) d w j * (u j : EReal))) * (Sig.sg (g j) * (Ideal.ofBits .f32 0x3F800000#32 - Sig.sg (g j))) := rfl
  rw [e, ref_p]
  unfold gOf
  rw [hp, hg, hu]
  exact chain _ _ _

instance finiteFacts : Cert.Pre_finite_ffn.Facts where
  bitsLt_bf16_f32 := by decide
  bcast_S_S8192x2048 := by decide
  reducesTo_S8192x2048_S_d0_1 := by decide
  h_S_ := by decide
  bcast_S_S5632x2048 := by decide
  reducesTo_S5632x2048_S_d0_1 := by decide
  bcast_S_S8192x5632 := by decide
  reducesTo_S8192x5632_S_d0_1 := by decide

instance oneIndex : Subsingleton Cert.Pre_finite_ffn.S_.Idx := ⟨fun a b => funext fun k => k.elim0⟩

/-- Arguments that pass the precondition are real at every element. -/
theorem finite_real {x0 : FVec Ideal Cert.Pre_finite_ffn.S8192x2048 .bf16} {x1 : FVec Ideal Cert.Pre_finite_ffn.S5632x2048 .bf16} {x2 x3 : FVec Ideal Cert.Pre_finite_ffn.S8192x5632 .bf16}
    (h : Cert.Pre_finite_ffn.fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal)) := by
  have h0 := congrFun h (fun k => k.elim0)
  unfold Cert.Pre_finite_ffn.fn Cert.Pre_finite_ffn.fn_part1 at h0
  obtain ⟨h0, e3⟩ := and_one _ _ h0
  obtain ⟨h0, e2⟩ := and_one _ _ h0
  obtain ⟨e0, e1⟩ := and_one _ _ h0
  exact ⟨fun i => real_of_abs _ (Host.reduce_andi_all _ _ _ _ _ e0 i), fun i => real_of_abs _ (Host.reduce_andi_all _ _ _ _ _ e1 i),
    fun i => real_of_abs _ (Host.reduce_andi_all _ _ _ _ _ e2 i), fun i => real_of_abs _ (Host.reduce_andi_all _ _ _ _ _ e3 i)⟩

/-- The gradient of the activation is real where its factors are. -/
theorem proj_real {d : Vec Ideal S8192x2048 .bf16} {w : Vec Ideal S5632x2048 .bf16} (hd : ∀ i, (d i : EReal) = (((d i : EReal).toReal : ℝ) : EReal))
    (hw : ∀ i, (w i : EReal) = (((w i : EReal).toReal : ℝ) : EReal)) (j : S8192x5632.Idx) : proj d w j = (((proj d w j).toReal : ℝ) : EReal) := by
  have e : proj d w j = ((∑ k : Fin 2048, (d (ix2 (j 0) k) : EReal).toReal * (w (ix2 (j 1) k) : EReal).toReal : ℝ) : EReal) := by
    unfold proj
    exact sum_real _ fun k => by rw [EReal.coe_mul, ← hd, ← hw]
  rw [e, EReal.toReal_coe]

/-- The reference's first result is the kernel's wherever the precondition holds. -/
theorem ref_g_of {d : Vec Ideal S8192x2048 .bf16} {w : Vec Ideal S5632x2048 .bf16} {g u : Vec Ideal S8192x5632 .bf16}
    (h : Cert.Pre_finite_ffn.fn (F := Ideal) d w g u = fun _ => 1#1) (j : S8192x5632.Idx) :
    Cert.DownDxReferenceIdeal.Read.val_main_v11 (F := Ideal) d w g u j = gOf d w g u j := by
  obtain ⟨hd, hw, hg, hu⟩ := finite_real h
  exact ref_g d w g u j (proj_real hd hw j) (hg j) (hu j)

end Cert.Proof.DownDx

end
-- ==== Proof.GateVal.lean ====
/-
  The gate projection, its weight in four shards of columns: each block of the kernel's result is one product over the
  whole depth.
-/
module

public import proofs.«01_k».proof.Proof.Gen.GateIdeal
public import proofs.«01_k».proof.Proof.Gen.GateIdeal.Frame
public import proofs.«01_k».proof.Proof.Gen.GateIdeal.Value
public import proofs.«01_k».proof.Proof.Gen.GateReferenceIdeal.Run
public import proofs.«01_k».proof.Proof.Gen.GateReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Gate

open Idealize.ShloMosaic Idealize.ShloMosaic.TcCoe Idealize.SL.Sem Cert.GateIdeal Cert.GateIdeal.Facts Cert.GateIdeal.Gen

/-- The result at token `i 0` and feature `i 1`. -/
def grad (h : Vec Ideal S8192x2048 .bf16) (w : Vec Ideal S4x2048x1408 .bf16) (i : S8192x5632.Idx) : EReal :=
  ∑ k : Fin 2048, (h (ix2 (i 0) k) : EReal) * w (ix3 (⟨(i 1).val / 1408, by have h1 : (i 1).val < 5632 := (i 1).isLt; omega⟩ : Fin 4) k
    (⟨(i 1).val % 1408, by omega⟩ : Fin 1408))

theorem widx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

variable (m : (ℓ : Loc nD τ sig) → Buf (Elt Ideal) ℓ) (c : Dev nD)

theorem out_eq (t : Fin cfg0.N) (a : Fin 1024) (b : Fin 1408) :
    (outsAt0 m c t) (ix2 a b) = ∑ k : Fin 2048, (show EReal from (iblk m c 0 t : Vec Ideal S1024x2048 .bf16) (ix2 a k))
      * (show EReal from (iblk m c 1 t : Vec Ideal S1x2048x1408 .bf16) (ix3 (0 : Fin 1) k b)) := by
  unfold outsAt0; frame_out
  pointwise [k0_pay1]

/-- What the kernel leaves in its result. -/
theorem arr (j : S8192x5632.Idx) : ((dats m 0 c).arrAt 2 cfg0.N : Vec Ideal S8192x5632 .bf16) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have ht : t.val < 32 := t.isLt
  blk_simp [widx t]
  rw [after0_2]
  obtain ⟨a, b, rfl⟩ : ∃ (a : Fin 1024) (b : Fin 1408), y = ix2 a b := ⟨y 0, y 1, by funext i; fin_cases i <;> rfl⟩
  refine (out_eq m c t a b).trans ?_
  unfold grad
  refine Finset.sum_congr rfl fun l _ => ?_
  congr 1 <;> blk_ext [iblk, V, widx t]

/-- What the reference leaves in its result. -/
theorem ref (h : Vec Ideal S8192x2048 .bf16) (w : Vec Ideal S4x2048x1408 .bf16) (j : S8192x5632.Idx) :
    Cert.GateReferenceIdeal.Read.val_main_v5 (F := Ideal) h w j = grad h w j := by
  open Cert.GateReferenceIdeal.Read in
  rw [val_main_v5_apply]
  refine (val_main_v4_apply h w _).trans ?_
  unfold grad
  refine Finset.sum_congr rfl fun l _ => ?_
  rw [val_main_v3_apply, val_main_v2_apply]
  have h1 : (j 1).val < 5632 := (j 1).isLt
  congr 1 <;> blk_ext []

end Cert.Proof.Gate

end
-- ==== Proof.UpVal.lean ====
/-
  The up projection, its weight in four shards of columns, with the SwiGLU activation on its block: each block of the
  kernel's results is one product over the whole depth, and its logistic function is the reference's.
-/
module

public import proofs.«01_k».proof.Proof.Sig
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal.Run
public import proofs.«01_k».proof.Proof.Gen.UpReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Up

open Idealize.ShloMosaic Idealize.ShloMosaic.TcCoe Idealize.SL.Sem Cert.UpIdeal Cert.UpIdeal.Facts Cert.UpIdeal.Gen

/-- The projection at token `i 0` and feature `i 1`. -/
def proj (h : Vec Ideal S8192x2048 .bf16) (w : Vec Ideal S4x2048x1408 .bf16) (i : S8192x5632.Idx) : EReal :=
  ∑ k : Fin 2048, (h (ix2 (i 0) k) : EReal) * w (ix3 (⟨(i 1).val / 1408, by have h1 : (i 1).val < 5632 := (i 1).isLt; omega⟩ : Fin 4) k
    (⟨(i 1).val % 1408, by omega⟩ : Fin 1408))

/-- The activation there. -/
def act (h : Vec Ideal S8192x2048 .bf16) (w : Vec Ideal S4x2048x1408 .bf16) (g : Vec Ideal S8192x5632 .bf16) (i : S8192x5632.Idx) : EReal :=
  (g i : EReal) * Sig.sg (g i) * proj h w i

theorem widx : ∀ t : Fin cfg0.N, win0_0.index t = ![t.val / 4, 0] ∧ win0_1.index t = ![t.val % 4, 0, 0]
    ∧ win0_2.index t = ![t.val / 4, t.val % 4] ∧ win0_3.index t = ![t.val / 4, t.val % 4] ∧ win0_4.index t = ![t.val / 4, t.val % 4] :=
  (by decide +kernel : ∀ t : Fin grid0.N, _)

variable (m : (ℓ : Loc nD τ sig) → Buf (Elt Ideal) ℓ) (c : Dev nD)

/-- A block's product. -/
def prod (t : Fin cfg0.N) (a : Fin 1024) (b : Fin 1408) : EReal :=
  ∑ k : Fin 2048, (show EReal from (iblk m c 0 t : Vec Ideal S1024x2048 .bf16) (ix2 a k)) * (show EReal from (iblk m c 1 t : Vec Ideal S1x2048x1408 .bf16) (ix3 (0 : Fin 1) k b))

theorem out_u (t : Fin cfg0.N) (a : Fin 1024) (b : Fin 1408) : (outsAt0 m c t).1 (ix2 a b) = prod m c t a b := by
  unfold outsAt0; frame_out
  pointwise [k0_pay2, k0_pay1, prod]

theorem out_a (t : Fin cfg0.N) (a : Fin 1024) (b : Fin 1408) : (outsAt0 m c t).2 (ix2 a b)
    = (show EReal from (iblk m c 2 t : Vec Ideal S1024x1408 .bf16) (ix2 a b)) * Sig.sg (show EReal from (iblk m c 2 t : Vec Ideal S1024x1408 .bf16) (ix2 a b)) * prod m c t a b := by
  unfold outsAt0; frame_out
  rw [← Sig.tanh_sg]
  pointwise [k0_pay3, k0_pay1, prod]

theorem prod_eq (t : Fin cfg0.N) (a : Fin 1024) (b : Fin 1408) (j : S8192x5632.Idx) (h0 : (j 0).val = t.val / 4 * 1024 + a.val) (h1 : (j 1).val = t.val % 4 * 1408 + b.val) :
    prod m c t a b = proj (m ((c : Thread nD τ).loc main_arg0)) (m ((c : Thread nD τ).loc main_arg1)) j := by
  have ht : t.val < 32 := t.isLt
  unfold proj prod
  refine Finset.sum_congr rfl fun l _ => ?_
  congr 1 <;> blk_ext [iblk, V, widx t, h0, h1]

/-- What the kernel leaves in its first result. -/
theorem arr_u (j : S8192x5632.Idx) : ((dats m 0 c).arrAt 3 cfg0.N : Vec Ideal S8192x5632 .bf16) j
    = proj (m ((c : Thread nD τ).loc main_arg0)) (m ((c : Thread nD τ).loc main_arg1)) j := by
  refine (dats m 0 c).arrAt_forall_of_covers 3 (fun j v => v = proj (m ((c : Thread nD τ).loc main_arg0)) (m ((c : Thread nD τ).loc main_arg1)) j)
    (by decide +kernel) (fun t hf y => ?_) j
  blk_simp [widx t]
  rw [after0_3]
  obtain ⟨a, b, rfl⟩ : ∃ (a : Fin 1024) (b : Fin 1408), y = ix2 a b := ⟨y 0, y 1, by funext i; fin_cases i <;> rfl⟩
  exact (out_u m c t a b).trans (prod_eq m c t a b _ (by blk_ext [widx t]) (by blk_ext [widx t]))

/-- What the kernel leaves in its second result. -/
theorem arr_a (j : S8192x5632.Idx) : ((dats m 0 c).arrAt 4 cfg0.N : Vec Ideal S8192x5632 .bf16) j
    = act (m ((c : Thread nD τ).loc main_arg0)) (m ((c : Thread nD τ).loc main_arg1)) (m ((c : Thread nD τ).loc main_arg2)) j := by
  refine (dats m 0 c).arrAt_forall_of_covers 4 (fun j v => v = act (m ((c : Thread nD τ).loc main_arg0)) (m ((c : Thread nD τ).loc main_arg1)) (m ((c : Thread nD τ).loc main_arg2)) j)
    (by decide +kernel) (fun t hf y => ?_) j
  blk_simp [widx t]
  rw [after0_4]
  obtain ⟨a, b, rfl⟩ : ∃ (a : Fin 1024) (b : Fin 1408), y = ix2 a b := ⟨y 0, y 1, by funext i; fin_cases i <;> rfl⟩
  refine (out_a m c t a b).trans ?_
  unfold act
  rw [← prod_eq m c t a b _ (by blk_ext [widx t]) (by blk_ext [widx t])]
  rfl

/-- What the reference leaves in its results. -/
theorem ref_u (h : Vec Ideal S8192x2048 .bf16) (w : Vec Ideal S4x2048x1408 .bf16) (j : S8192x5632.Idx) :
    Cert.UpReferenceIdeal.Read.val_main_v5 (F := Ideal) h w j = proj h w j := by
  open Cert.UpReferenceIdeal.Read in
  refine (val_main_v5_apply h w _).trans ?_
  unfold proj
  refine Finset.sum_congr rfl fun l _ => ?_
  rw [val_main_v4_apply, val_main_v3_apply]
  have h1 : (j 1).val < 5632 := (j 1).isLt
  congr 1 <;> blk_ext []

theorem ref_a (h : Vec Ideal S8192x2048 .bf16) (w : Vec Ideal S4x2048x1408 .bf16) (g : Vec Ideal S8192x5632 .bf16) (j : S8192x5632.Idx) :
    Cert.UpReferenceIdeal.Read.val_main_v9 (F := Ideal) h w g j = act h w g j := by
  open Cert.UpReferenceIdeal.Read in
  rw [val_main_v9_apply, val_main_v8_apply, val_main_v7_apply]
  show _ * Cert.UpReferenceIdeal.Read.val_main_v5 (F := Ideal) h w j = _
  rw [ref_u]
  rfl

end Cert.Proof.Up

end
-- ==== Proof.DownVal.lean ====
/-
  The down projection on top of the residual: the kernel's sum over the two halves of the depth is the reference's
  product.
-/
module

public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal.Run
public import proofs.«01_k».proof.Proof.Gen.DownReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Down

open Idealize.ShloMosaic Idealize.ShloMosaic.TcCoe Idealize.SL.Sem Cert.DownIdeal Cert.DownIdeal.Facts Cert.DownIdeal.Gen

/-- The result at token `i 0` and feature `i 1`. -/
def grad (a : Vec Ideal S8192x5632 .bf16) (w : Vec Ideal S5632x2048 .bf16) (x : Vec Ideal S8192x2048 .f32) (i : S8192x2048.Idx) : EReal :=
  (∑ k : Fin 5632, (a (ix2 (i 0) k) : EReal) * w (ix2 k (i 1))) + (x i : EReal)

theorem widx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

variable (m : (ℓ : Loc nD τ sig) → Buf (Elt Ideal) ℓ) (c : Dev nD)

/-- The part of a block's sum that one point of its run adds. -/
def part (t : Fin cfg0.N) (a : Fin 1024) (b : Fin 1024) : EReal :=
  ∑ k : Fin 2816, (show EReal from (iblk m c 0 t : Vec Ideal S1024x2816 .bf16) (ix2 a k)) * (show EReal from (iblk m c 1 t : Vec Ideal S2816x1024 .bf16) (ix2 k b))

theorem sc_A (t : Fin cfg0.N) (h : t.val % 2 = 0) (a : Fin 1024) (b : Fin 1024) :
    (outsAt0 m c t.val t.isLt).2 (ix2 a b) = part m c t a b := by
  rw [outsAt0_A m c t h (by omega)]; frame_out
  pointwise [k0_pay2, k0_pay1, part]

theorem out_B (t : Fin cfg0.N) (h : t.val % 2 = 1) (a : Fin 1024) (b : Fin 1024) :
    (outsAt0 m c t.val t.isLt).1 (ix2 a b)
      = (outsAt0 m c (t.val - 1) (Nat.lt_of_le_of_lt (Nat.sub_le _ _) t.isLt)).2 (ix2 a b) + part m c t a b
        + (show EReal from (iblk m c 2 t : Vec Ideal S1024x1024 .f32) (ix2 a b)) := by
  rw [outsAt0_B m c t (by omega) h]; frame_out
  pointwise [k0_pay4, k0_pay1, part]
  rw [read_unread_whole]

/-- One term of the sum, at a feature of the depth. -/
def term (t : Fin cfg0.N) (a : Fin 1024) (b : Fin 1024) (l : Fin 5632) : EReal :=
  (show EReal from (m ((c : Thread nD τ).loc main_arg0) : Vec Ideal S8192x5632 .bf16) (ix2 (⟨1024 * (t.val / 4) + a.val, by have ht : t.val < 32 := t.isLt; omega⟩ : Fin 8192) l))
    * (show EReal from (m ((c : Thread nD τ).loc main_arg1) : Vec Ideal S5632x2048 .bf16) (ix2 l (⟨1024 * (t.val / 2 % 2) + b.val, by omega⟩ : Fin 2048)))

theorem part_eq (t t' : Fin cfg0.N) (a : Fin 1024) (b : Fin 1024) (q : ℕ) (hq : q < 2) (h : t'.val % 2 = q) (hd : t'.val / 2 = t.val / 2) :
    part m c t' a b = ∑ k : Fin 2816, term m c t a b ⟨q * 2816 + k.val, by omega⟩ := by
  unfold part
  refine Finset.sum_congr rfl fun k _ => ?_
  have ht : t.val < 32 := t.isLt
  have h4 : t'.val / 4 = t.val / 4 := by omega
  unfold term
  congr 1 <;> blk_ext [iblk, V, widx t', h, h4, hd]

theorem out_eq (t : Fin cfg0.N) (h : t.val % 2 = 1) (a : Fin 1024) (b : Fin 1024) :
    (outsAt0 m c t.val t.isLt).1 (ix2 a b)
      = (∑ l : Fin 5632, term m c t a b l) + (show EReal from (iblk m c 2 t : Vec Ideal S1024x1024 .f32) (ix2 a b)) := by
  have ht : t.val < 32 := t.isLt
  have hN : cfg0.N = 32 := N_0
  rw [out_B m c t h a b, sc_A m c ⟨t.val - 1, by omega⟩ (by dsimp only; omega) a b,
    part_eq m c t t a b 1 (by omega) h rfl,
    part_eq m c t ⟨t.val - 1, by omega⟩ _ _ 0 (by omega) (by dsimp only; omega) (by dsimp only; omega),
    ← Fin.sum_mul_add_fin (L := 5632) 2 2816 (fun l => term m c t a b l), Fin.sum_univ_two]
  rfl

/-- What the kernel leaves in its result. -/
theorem arr (j : S8192x2048.Idx) : ((dats m 0 c).arrAt 3 cfg0.N : Vec Ideal S8192x2048 .f32) j
    = grad (m ((c : Thread nD τ).loc main_arg0)) (m ((c : Thread nD τ).loc main_arg1)) (m ((c : Thread nD τ).loc main_arg2)) j := by
  refine (dats m 0 c).arrAt_forall_of_covers 3 (fun j v => v = grad (m ((c : Thread nD τ).loc main_arg0)) (m ((c : Thread nD τ).loc main_arg1)) (m ((c : Thread nD τ).loc main_arg2)) j)
    (by decide +kernel) (fun t hf y => ?_) j
  have hr : t.val % 2 = 1 := (by decide +kernel : ∀ t : Fin cfg0.N, (cfg0.win 3).flush t = true → t.val % 2 = 1) t hf
  have ht : t.val < 32 := t.isLt
  blk_simp [widx t]
  rw [after0_3]
  obtain ⟨a, b, rfl⟩ : ∃ (a : Fin 1024) (b : Fin 1024), y = ix2 a b := ⟨y 0, y 1, by funext i; fin_cases i <;> rfl⟩
  refine (out_eq m c t hr a b).trans ?_
  unfold grad
  congr 1
  refine Finset.sum_congr rfl fun l _ => ?_
  unfold term
  congr 1 <;> blk_ext [widx t]

/-- What the reference leaves in its result. -/
theorem ref (a : Vec Ideal S8192x5632 .bf16) (w : Vec Ideal S5632x2048 .bf16) (x : Vec Ideal S8192x2048 .f32) (j : S8192x2048.Idx) :
    Cert.DownReferenceIdeal.Read.val_main_v3 (F := Ideal) a w x j = grad a w x j := by
  open Cert.DownReferenceIdeal.Read in
  rw [val_main_v3_apply, val_main_v2_apply]
  unfold grad
  refine congrArg (fun e : EReal => e + (x j : EReal)) (Finset.sum_congr rfl fun l _ => ?_)
  congr 1 <;> blk_ext []

end Cert.Proof.Down

end
-- ==== Proof.Ffn.lean ====
/-
  The products: each of them, its idealization and its reference run, keep their arguments and leave every counter at
  zero; and each idealized product's results are its reference's.
-/
module

public import proofs.«01_k».proof.Defs
public import proofs.«01_k».proof.Proof.Gen.ColsDw
public import proofs.«01_k».proof.Proof.Gen.ColsDw.Frame
public import proofs.«01_k».proof.Proof.Gen.ColsDwIdeal
public import proofs.«01_k».proof.Proof.Gen.ColsDwIdeal.Frame
public import proofs.«01_k».proof.Proof.Gen.ColsDwIdeal.Value
public import proofs.«01_k».proof.Proof.Gen.ColsDwReferenceIdeal.Run
public import proofs.«01_k».proof.Proof.Gen.ColsDwReferenceIdeal.Read
public import proofs.«01_k».proof.Proof.ColsDwVal
public import proofs.«01_k».proof.Proof.Gen.ColsDx
public import proofs.«01_k».proof.Proof.Gen.ColsDx.Frame
public import proofs.«01_k».proof.Proof.Gen.ColsDxIdeal
public import proofs.«01_k».proof.Proof.Gen.ColsDxIdeal.Frame
public import proofs.«01_k».proof.Proof.Gen.ColsDxIdeal.Value
public import proofs.«01_k».proof.Proof.Gen.ColsDxReferenceIdeal.Run
public import proofs.«01_k».proof.Proof.Gen.ColsDxReferenceIdeal.Read
public import proofs.«01_k».proof.Proof.ColsDxVal
public import proofs.«01_k».proof.Proof.Gen.ColsDxAdd
public import proofs.«01_k».proof.Proof.Gen.ColsDxAdd.Frame
public import proofs.«01_k».proof.Proof.Gen.ColsDxAddIdeal
public import proofs.«01_k».proof.Proof.Gen.ColsDxAddIdeal.Frame
public import proofs.«01_k».proof.Proof.Gen.ColsDxAddIdeal.Value
public import proofs.«01_k».proof.Proof.Gen.ColsDxAddReferenceIdeal.Run
public import proofs.«01_k».proof.Proof.Gen.ColsDxAddReferenceIdeal.Read
public import proofs.«01_k».proof.Proof.ColsDxAddVal
public import proofs.«01_k».proof.Proof.Gen.DownDw
public import proofs.«01_k».proof.Proof.Gen.DownDw.Frame
public import proofs.«01_k».proof.Proof.Gen.DownDwIdeal
public import proofs.«01_k».proof.Proof.Gen.DownDwIdeal.Frame
public import proofs.«01_k».proof.Proof.Gen.DownDwIdeal.Value
public import proofs.«01_k».proof.Proof.Gen.DownDwReferenceIdeal.Run
public import proofs.«01_k».proof.Proof.Gen.DownDwReferenceIdeal.Read
public import proofs.«01_k».proof.Proof.DownDwVal
public import proofs.«01_k».proof.Proof.Gen.DownDx
public import proofs.«01_k».proof.Proof.Gen.DownDx.Frame
public import proofs.«01_k».proof.Proof.Gen.DownDxIdeal
public import proofs.«01_k».proof.Proof.Gen.DownDxIdeal.Frame
public import proofs.«01_k».proof.Proof.Gen.DownDxIdeal.Value
public import proofs.«01_k».proof.Proof.Gen.DownDxReferenceIdeal.Run
public import proofs.«01_k».proof.Proof.Gen.DownDxReferenceIdeal.Read
public import proofs.«01_k».proof.Proof.DownDxVal
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateReferenceIdeal.Run
public import proofs.«01_k».proof.Proof.Gen.GateReferenceIdeal.Read
public import proofs.«01_k».proof.Proof.GateVal
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal.Run
public import proofs.«01_k».proof.Proof.Gen.UpReferenceIdeal.Read
public import proofs.«01_k».proof.Proof.UpVal
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.DownVal
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

namespace Cert.Proof.ColsDw

theorem frame_kernel : Cert.quiescent_ColsDw := fun m g _ => Cert.ColsDw.Gen.frame m g

theorem frame_ideal : Cert.quiescent_ColsDwIdeal := fun m g _ => Cert.ColsDwIdeal.Gen.frame m g

theorem frame_reference : Cert.quiescent_ColsDwReferenceIdeal := fun m g _ =>
  (θ_run Cert.ColsDwReferenceIdeal.defs _ _).mono
    (fun r h => ⟨fun c => (h c).2, sem_eq_zero_of_no_sems (by decide) r.2⟩)
    (Cert.ColsDwReferenceIdeal.Value.run m g)

theorem values : Cert.algebraic_ColsDwIdeal_ColsDwReferenceIdeal := by
  intro m g m' g' _ hargs
  refine ⟨fun c => (Cert.ColsDwIdeal.Gen.dats m 0 c).arrAt 2 Cert.ColsDwIdeal.cfg0.N, ?_, ?_⟩
  · exact (θ_run Cert.ColsDwIdeal.defs _ _).mono (fun r h c => h c) (Cert.ColsDwIdeal.Value.run_blocks m g)
  · refine (θ_run Cert.ColsDwReferenceIdeal.defs _ _).mono (fun r h c => ?_) (Cert.ColsDwReferenceIdeal.Value.run m' g')
    obtain ⟨r0, ra⟩ := h c
    obtain ⟨e0, e1⟩ := hargs c
    have s0 := r0.trans (Cert.ColsDwReferenceIdeal.Read.val_main_v8_eq (F := Ideal) _ _ ).symm
    rw [e0, e1] at s0
    exact ⟨s0.trans (funext fun i => (ref _ _ i).trans (arr m c i).symm), ra⟩

end Cert.Proof.ColsDw

namespace Cert.Proof.ColsDx

theorem frame_kernel : Cert.quiescent_ColsDx := fun m g _ => Cert.ColsDx.Gen.frame m g

theorem frame_ideal : Cert.quiescent_ColsDxIdeal := fun m g _ => Cert.ColsDxIdeal.Gen.frame m g

theorem frame_reference : Cert.quiescent_ColsDxReferenceIdeal := fun m g _ =>
  (θ_run Cert.ColsDxReferenceIdeal.defs _ _).mono
    (fun r h => ⟨fun c => (h c).2, sem_eq_zero_of_no_sems (by decide) r.2⟩)
    (Cert.ColsDxReferenceIdeal.Value.run m g)

theorem values : Cert.algebraic_ColsDxIdeal_ColsDxReferenceIdeal := by
  intro m g m' g' _ hargs
  refine ⟨fun c => (Cert.ColsDxIdeal.Gen.dats m 0 c).arrAt 2 Cert.ColsDxIdeal.cfg0.N, ?_, ?_⟩
  · exact (θ_run Cert.ColsDxIdeal.defs _ _).mono (fun r h c => h c) (Cert.ColsDxIdeal.Value.run_blocks m g)
  · refine (θ_run Cert.ColsDxReferenceIdeal.defs _ _).mono (fun r h c => ?_) (Cert.ColsDxReferenceIdeal.Value.run m' g')
    obtain ⟨r0, ra⟩ := h c
    obtain ⟨e0, e1⟩ := hargs c
    have s0 := r0.trans (Cert.ColsDxReferenceIdeal.Read.val_main_v6_eq (F := Ideal) _ _ ).symm
    rw [e0, e1] at s0
    exact ⟨s0.trans (funext fun i => (ref _ _ i).trans (arr m c i).symm), ra⟩

end Cert.Proof.ColsDx

namespace Cert.Proof.ColsDxAdd

theorem frame_kernel : Cert.quiescent_ColsDxAdd := fun m g _ => Cert.ColsDxAdd.Gen.frame m g

theorem frame_ideal : Cert.quiescent_ColsDxAddIdeal := fun m g _ => Cert.ColsDxAddIdeal.Gen.frame m g

theorem frame_reference : Cert.quiescent_ColsDxAddReferenceIdeal := fun m g _ =>
  (θ_run Cert.ColsDxAddReferenceIdeal.defs _ _).mono
    (fun r h => ⟨fun c => (h c).2, sem_eq_zero_of_no_sems (by decide) r.2⟩)
    (Cert.ColsDxAddReferenceIdeal.Value.run m g)

theorem values : Cert.algebraic_ColsDxAddIdeal_ColsDxAddReferenceIdeal := by
  intro m g m' g' _ hargs
  refine ⟨fun c => (Cert.ColsDxAddIdeal.Gen.dats m 0 c).arrAt 3 Cert.ColsDxAddIdeal.cfg0.N, ?_, ?_⟩
  · exact (θ_run Cert.ColsDxAddIdeal.defs _ _).mono (fun r h c => h c) (Cert.ColsDxAddIdeal.Value.run_blocks m g)
  · refine (θ_run Cert.ColsDxAddReferenceIdeal.defs _ _).mono (fun r h c => ?_) (Cert.ColsDxAddReferenceIdeal.Value.run m' g')
    obtain ⟨r0, ra⟩ := h c
    obtain ⟨e0, e1, e2⟩ := hargs c
    have s0 := r0.trans (Cert.ColsDxAddReferenceIdeal.Read.val_main_v7_eq (F := Ideal) _ _ _ ).symm
    rw [e0, e1, e2] at s0
    exact ⟨s0.trans (funext fun i => (ref _ _ _ i).trans (arr m c i).symm), ra⟩

end Cert.Proof.ColsDxAdd

namespace Cert.Proof.DownDw

theorem frame_kernel : Cert.quiescent_DownDw := fun m g _ => Cert.DownDw.Gen.frame m g

theorem frame_ideal : Cert.quiescent_DownDwIdeal := fun m g _ => Cert.DownDwIdeal.Gen.frame m g

theorem frame_reference : Cert.quiescent_DownDwReferenceIdeal := fun m g _ =>
  (θ_run Cert.DownDwReferenceIdeal.defs _ _).mono
    (fun r h => ⟨fun c => (h c).2, sem_eq_zero_of_no_sems (by decide) r.2⟩)
    (Cert.DownDwReferenceIdeal.Value.run m g)

theorem values : Cert.algebraic_DownDwIdeal_DownDwReferenceIdeal := by
  intro m g m' g' _ hargs
  refine ⟨fun c => (Cert.DownDwIdeal.Gen.dats m 0 c).arrAt 2 Cert.DownDwIdeal.cfg0.N, ?_, ?_⟩
  · exact (θ_run Cert.DownDwIdeal.defs _ _).mono (fun r h c => h c) (Cert.DownDwIdeal.Value.run_blocks m g)
  · refine (θ_run Cert.DownDwReferenceIdeal.defs _ _).mono (fun r h c => ?_) (Cert.DownDwReferenceIdeal.Value.run m' g')
    obtain ⟨r0, ra⟩ := h c
    obtain ⟨e0, e1⟩ := hargs c
    have s0 := r0.trans (Cert.DownDwReferenceIdeal.Read.val_main_v6_eq (F := Ideal) _ _ ).symm
    rw [e0, e1] at s0
    exact ⟨s0.trans (funext fun i => (ref _ _ i).trans (arr m c i).symm), ra⟩

end Cert.Proof.DownDw

namespace Cert.Proof.DownDx

theorem frame_kernel : Cert.quiescent_DownDx := fun m g _ => Cert.DownDx.Gen.frame m g

theorem frame_ideal : Cert.quiescent_DownDxIdeal := fun m g _ => Cert.DownDxIdeal.Gen.frame m g

theorem frame_reference : Cert.quiescent_DownDxReferenceIdeal := fun m g _ =>
  (θ_run Cert.DownDxReferenceIdeal.defs _ _).mono
    (fun r h => ⟨fun c => (h c).2.2, sem_eq_zero_of_no_sems (by decide) r.2⟩)
    (Cert.DownDxReferenceIdeal.Value.run m g)

theorem values : Cert.algebraic_DownDxIdeal_DownDxReferenceIdeal_pre_finite_ffn := by
  intro m g m' g' hm hargs
  refine ⟨fun c => (Cert.DownDxIdeal.Gen.dats m 0 c).arrAt 4 Cert.DownDxIdeal.cfg0.N, fun c => (Cert.DownDxIdeal.Gen.dats m 0 c).arrAt 5 Cert.DownDxIdeal.cfg0.N, ?_, ?_⟩
  · exact (θ_run Cert.DownDxIdeal.defs _ _).mono (fun r h c => h c) (Cert.DownDxIdeal.Value.run_blocks m g)
  · refine (θ_run Cert.DownDxReferenceIdeal.defs _ _).mono (fun r h c => ?_) (Cert.DownDxReferenceIdeal.Value.run m' g')
    obtain ⟨r0, r1, ra⟩ := h c
    obtain ⟨e0, e1, e2, e3⟩ := hargs c
    have s0 := r0.trans (Cert.DownDxReferenceIdeal.Read.val_main_v11_eq (F := Ideal) _ _ _ _ ).symm
    rw [e0, e1, e2, e3] at s0
    have s1 := r1.trans (Cert.DownDxReferenceIdeal.Read.val_main_v12_eq (F := Ideal) _ _ _ ).symm
    rw [e0, e1, e2] at s1
    exact ⟨s0.trans (funext fun i => (ref_g_of (hm c) i).trans (arr_g m c i).symm),
      s1.trans (funext fun i => (ref_u _ _ _ i).trans (arr_u m c i).symm), ra⟩

end Cert.Proof.DownDx

namespace Cert.Proof.Gate

theorem frame_kernel : Cert.quiescent_Gate := fun m g _ => Cert.Gate.Gen.frame m g

theorem frame_ideal : Cert.quiescent_GateIdeal := fun m g _ => Cert.GateIdeal.Gen.frame m g

theorem frame_reference : Cert.quiescent_GateReferenceIdeal := fun m g _ =>
  (θ_run Cert.GateReferenceIdeal.defs _ _).mono
    (fun r h => ⟨fun c => (h c).2, sem_eq_zero_of_no_sems (by decide) r.2⟩)
    (Cert.GateReferenceIdeal.Value.run m g)

theorem values : Cert.algebraic_GateIdeal_GateReferenceIdeal := by
  intro m g m' g' _ hargs
  refine ⟨fun c => (Cert.GateIdeal.Gen.dats m 0 c).arrAt 2 Cert.GateIdeal.cfg0.N, ?_, ?_⟩
  · exact (θ_run Cert.GateIdeal.defs _ _).mono (fun r h c => h c) (Cert.GateIdeal.Value.run_blocks m g)
  · refine (θ_run Cert.GateReferenceIdeal.defs _ _).mono (fun r h c => ?_) (Cert.GateReferenceIdeal.Value.run m' g')
    obtain ⟨r0, ra⟩ := h c
    obtain ⟨e0, e1⟩ := hargs c
    have s0 := r0.trans (Cert.GateReferenceIdeal.Read.val_main_v5_eq (F := Ideal) _ _ ).symm
    rw [e0, e1] at s0
    exact ⟨s0.trans (funext fun i => (ref _ _ i).trans (arr m c i).symm), ra⟩

end Cert.Proof.Gate

namespace Cert.Proof.Up

theorem frame_kernel : Cert.quiescent_Up := fun m g _ => Cert.Up.Gen.frame m g

theorem frame_ideal : Cert.quiescent_UpIdeal := fun m g _ => Cert.UpIdeal.Gen.frame m g

theorem frame_reference : Cert.quiescent_UpReferenceIdeal := fun m g _ =>
  (θ_run Cert.UpReferenceIdeal.defs _ _).mono
    (fun r h => ⟨fun c => (h c).2.2, sem_eq_zero_of_no_sems (by decide) r.2⟩)
    (Cert.UpReferenceIdeal.Value.run m g)

theorem values : Cert.algebraic_UpIdeal_UpReferenceIdeal := by
  intro m g m' g' _ hargs
  refine ⟨fun c => (Cert.UpIdeal.Gen.dats m 0 c).arrAt 3 Cert.UpIdeal.cfg0.N, fun c => (Cert.UpIdeal.Gen.dats m 0 c).arrAt 4 Cert.UpIdeal.cfg0.N, ?_, ?_⟩
  · exact (θ_run Cert.UpIdeal.defs _ _).mono (fun r h c => h c) (Cert.UpIdeal.Value.run_blocks m g)
  · refine (θ_run Cert.UpReferenceIdeal.defs _ _).mono (fun r h c => ?_) (Cert.UpReferenceIdeal.Value.run m' g')
    obtain ⟨r0, r1, ra⟩ := h c
    obtain ⟨e0, e1, e2⟩ := hargs c
    have s0 := r0.trans (Cert.UpReferenceIdeal.Read.val_main_v6_eq (F := Ideal) _ _ ).symm
    rw [e0, e1] at s0
    have s1 := r1.trans (Cert.UpReferenceIdeal.Read.val_main_v9_eq (F := Ideal) _ _ _ ).symm
    rw [e0, e1, e2] at s1
    exact ⟨s0.trans (funext fun i => (Cert.UpReferenceIdeal.Read.val_main_v6_apply _ _ i).trans ((ref_u _ _ i).trans (arr_u m c i).symm)),
      s1.trans (funext fun i => (ref_a _ _ _ i).trans (arr_a m c i).symm), ra⟩

end Cert.Proof.Up

namespace Cert.Proof.Down

theorem frame_kernel : Cert.quiescent_Down := fun m g _ => Cert.Down.Gen.frame m g

theorem frame_ideal : Cert.quiescent_DownIdeal := fun m g _ => Cert.DownIdeal.Gen.frame m g

theorem frame_reference : Cert.quiescent_DownReferenceIdeal := fun m g _ =>
  (θ_run Cert.DownReferenceIdeal.defs _ _).mono
    (fun r h => ⟨fun c => (h c).2, sem_eq_zero_of_no_sems (by decide) r.2⟩)
    (Cert.DownReferenceIdeal.Value.run m g)

theorem values : Cert.algebraic_DownIdeal_DownReferenceIdeal := by
  intro m g m' g' _ hargs
  refine ⟨fun c => (Cert.DownIdeal.Gen.dats m 0 c).arrAt 3 Cert.DownIdeal.cfg0.N, ?_, ?_⟩
  · exact (θ_run Cert.DownIdeal.defs _ _).mono (fun r h c => h c) (Cert.DownIdeal.Value.run_blocks m g)
  · refine (θ_run Cert.DownReferenceIdeal.defs _ _).mono (fun r h c => ?_) (Cert.DownReferenceIdeal.Value.run m' g')
    obtain ⟨r0, ra⟩ := h c
    obtain ⟨e0, e1, e2⟩ := hargs c
    have s0 := r0.trans (Cert.DownReferenceIdeal.Read.val_main_v3_eq (F := Ideal) _ _ _ ).symm
    rw [e0, e1, e2] at s0
    exact ⟨s0.trans (funext fun i => (ref _ _ _ i).trans (arr m c i).symm), ra⟩

end Cert.Proof.Down

end
-- ==== Proof.SsmInDwVal.lean ====
/-
  The gradient of the weight of the mixer's input product: the kernel's sum over the token blocks is the reference's
  product of the transposed activations with the gradient.
-/
module

public import proofs.«01_k».proof.Proof.Gen.SsmInDwIdeal
public import proofs.«01_k».proof.Proof.Gen.SsmInDwIdeal.Frame
public import proofs.«01_k».proof.Proof.Gen.SsmInDwIdeal.Value
public import proofs.«01_k».proof.Proof.Gen.SsmInDwReferenceIdeal.Run
public import proofs.«01_k».proof.Proof.Gen.SsmInDwReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SsmInDw

open Idealize.ShloMosaic Idealize.ShloMosaic.TcCoe Idealize.SL.Sem Cert.SsmInDwIdeal Cert.SsmInDwIdeal.Facts Cert.SsmInDwIdeal.Gen

/-- The gradient at row `i 0` and column `i 1`. -/
def grad (h : Vec Ideal S8192x2048 .bf16) (g : Vec Ideal S8192x10368 .bf16) (i : S2048x10368.Idx) : EReal :=
  ∑ k : Fin 8192, (h (ix2 k (i 0)) : EReal) * g (ix2 k (i 1))

theorem widx : ∀ t : Fin cfg0.N, win0_0.index t = ![t.val % 4, t.val / 36] ∧ win0_1.index t = ![t.val % 4, t.val / 4 % 9]
    ∧ win0_2.index t = ![t.val / 36, t.val / 4 % 9] :=
  (by decide +kernel : ∀ t : Fin grid0.N, _)

variable (m : (ℓ : Loc nD τ sig) → Buf (Elt Ideal) ℓ) (c : Dev nD)

/-- The part of a block's sum that one point of its run adds. -/
def part (t : Fin cfg0.N) (a : Fin 1024) (b : Fin 1152) : EReal :=
  ∑ k : Fin 2048, (show EReal from (iblk m c 0 t : Vec Ideal S2048x1024 .bf16) (ix2 k a)) * (show EReal from (iblk m c 1 t : Vec Ideal S2048x1152 .bf16) (ix2 k b))

theorem sc_A (t : Fin cfg0.N) (h : t.val % 4 = 0) (a : Fin 1024) (b : Fin 1152) :
    (outsAt0 m c t.val t.isLt).2 (ix2 a b) = part m c t a b := by
  rw [outsAt0_A m c t h (by omega) (by omega)]; frame_out
  pointwise [k0_pay2, k0_pay1, part]

theorem sc_B (t : Fin cfg0.N) (h : 1 ≤ t.val % 4 ∧ t.val % 4 ≤ 2) (a : Fin 1024) (b : Fin 1152) :
    (outsAt0 m c t.val t.isLt).2 (ix2 a b)
      = (outsAt0 m c (t.val - 1) (Nat.lt_of_le_of_lt (Nat.sub_le _ _) t.isLt)).2 (ix2 a b) + part m c t a b := by
  rw [outsAt0_B m c t (by omega) h (by omega)]; frame_out
  pointwise [k0_pay3, k0_pay1, part]
  rw [read_unread_whole]

theorem out_C (t : Fin cfg0.N) (h : t.val % 4 = 3) (a : Fin 1024) (b : Fin 1152) :
    (outsAt0 m c t.val t.isLt).1 (ix2 a b)
      = (outsAt0 m c (t.val - 1) (Nat.lt_of_le_of_lt (Nat.sub_le _ _) t.isLt)).2 (ix2 a b) + part m c t a b := by
  rw [outsAt0_C m c t (by omega) (by omega) h]; frame_out
  pointwise [k0_pay4, k0_pay1, part]
  rw [read_unread_whole]

/-- One term of the sum, at a token. -/
def term (t : Fin cfg0.N) (a : Fin 1024) (b : Fin 1152) (l : Fin 8192) : EReal :=
  (show EReal from (m ((c : Thread nD τ).loc main_arg0) : Vec Ideal S8192x2048 .bf16) (ix2 l (⟨1024 * (t.val / 36) + a.val, by have ht : t.val < 72 := t.isLt; omega⟩ : Fin 2048)))
    * (show EReal from (m ((c : Thread nD τ).loc main_arg1) : Vec Ideal S8192x10368 .bf16) (ix2 l (⟨1152 * (t.val / 4 % 9) + b.val, by omega⟩ : Fin 10368)))

theorem part_eq (t t' : Fin cfg0.N) (a : Fin 1024) (b : Fin 1152) (q : ℕ) (hq : q < 4) (h : t'.val % 4 = q) (hd : t'.val / 4 = t.val / 4) :
    part m c t' a b = ∑ k : Fin 2048, term m c t a b ⟨q * 2048 + k.val, by omega⟩ := by
  unfold part
  refine Finset.sum_congr rfl fun k _ => ?_
  have ht : t.val < 72 := t.isLt
  have h8 : t'.val / 36 = t.val / 36 := by omega
  unfold term
  congr 1 <;> blk_ext [iblk, V, widx t', h, h8, hd]

theorem out_eq (t : Fin cfg0.N) (h : t.val % 4 = 3) (a : Fin 1024) (b : Fin 1152) :
    (outsAt0 m c t.val t.isLt).1 (ix2 a b) = ∑ l : Fin 8192, term m c t a b l := by
  have ht : t.val < 72 := t.isLt
  have hN : cfg0.N = 72 := N_0
  rw [out_C m c t h a b,
    sc_B m c ⟨t.val - 1, by omega⟩ (by dsimp only; omega) a b,
    sc_B m c ⟨t.val - 1 - 1, by omega⟩ (by dsimp only; omega) a b,
    sc_A m c ⟨t.val - 1 - 1 - 1, by omega⟩ (by dsimp only; omega) a b,
    part_eq m c t t a b 3 (by omega) h rfl,
    part_eq m c t ⟨t.val - 1, by omega⟩ _ _ 2 (by omega) (by dsimp only; omega) (by dsimp only; omega),
    part_eq m c t ⟨t.val - 1 - 1, by omega⟩ _ _ 1 (by omega) (by dsimp only; omega) (by dsimp only; omega),
    part_eq m c t ⟨t.val - 1 - 1 - 1, by omega⟩ _ _ 0 (by omega) (by dsimp only; omega) (by dsimp only; omega),
    ← Fin.sum_mul_add_fin (L := 8192) 4 2048 (fun l => term m c t a b l), Fin.sum_univ_four]
  rfl

/-- What the kernel leaves in its result. -/
theorem arr (j : S2048x10368.Idx) : ((dats m 0 c).arrAt 2 cfg0.N : Vec Ideal S2048x10368 .bf16) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have hr : t.val % 4 = 3 := (by decide +kernel : ∀ t : Fin cfg0.N, (cfg0.win 2).flush t = true → t.val % 4 = 3) t hf
  blk_simp [widx t]
  rw [after0_2]
  obtain ⟨a, b, rfl⟩ : ∃ (a : Fin 1024) (b : Fin 1152), y = ix2 a b :=
    ⟨y 0, y 1, by funext i; fin_cases i <;> rfl⟩
  refine (out_eq m c t hr a b).trans ?_
  unfold grad
  refine Finset.sum_congr rfl fun l _ => ?_
  unfold term
  congr 1 <;> blk_ext [widx t]

/-- What the reference leaves in its result. -/
theorem ref (h : Vec Ideal S8192x2048 .bf16) (g : Vec Ideal S8192x10368 .bf16) (j : S2048x10368.Idx) :
    Cert.SsmInDwReferenceIdeal.Read.val_main_v6 (F := Ideal) h g j = grad h g j := by
  open Cert.SsmInDwReferenceIdeal.Read in
  rw [val_main_v6_apply, val_main_v5_apply]
  refine (val_main_v4_apply h g _).trans ?_
  unfold grad
  refine Finset.sum_congr rfl fun l _ => ?_
  refine (mul_comm (G := EReal) _ _).trans ?_
  congr 1 <;> blk_ext []

end Cert.Proof.SsmInDw

end
-- ==== Proof.SsmInDxVal.lean ====
/-
  The gradient of the mixer's input: the kernel's sum over the three parts of the depth is the reference's product of the
  gradient with the transposed weight.
-/
module

public import proofs.«01_k».proof.Proof.Gen.SsmInDxIdeal
public import proofs.«01_k».proof.Proof.Gen.SsmInDxIdeal.Frame
public import proofs.«01_k».proof.Proof.Gen.SsmInDxIdeal.Value
public import proofs.«01_k».proof.Proof.Gen.SsmInDxReferenceIdeal.Run
public import proofs.«01_k».proof.Proof.Gen.SsmInDxReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SsmInDx

open Idealize.ShloMosaic Idealize.ShloMosaic.TcCoe Idealize.SL.Sem Cert.SsmInDxIdeal Cert.SsmInDxIdeal.Facts Cert.SsmInDxIdeal.Gen

/-- The gradient at token `i 0` and feature `i 1`. -/
def grad (d : Vec Ideal S8192x10368 .bf16) (w : Vec Ideal S2048x10368 .bf16) (i : S8192x2048.Idx) : EReal :=
  ∑ k : Fin 10368, (d (ix2 (i 0) k) : EReal) * w (ix2 (i 1) k)

theorem widx : ∀ t : Fin cfg0.N, win0_0.index t = ![t.val / 6, t.val % 3] ∧ win0_1.index t = ![t.val / 3 % 2, t.val % 3]
    ∧ win0_2.index t = ![t.val / 6, t.val / 3 % 2] :=
  (by decide +kernel : ∀ t : Fin grid0.N, _)

variable (m : (ℓ : Loc nD τ sig) → Buf (Elt Ideal) ℓ) (c : Dev nD)

/-- The part of a block's sum that one point of its run adds. -/
def part (t : Fin cfg0.N) (a : Fin 1024) (b : Fin 1024) : EReal :=
  ∑ k : Fin 3456, (show EReal from (iblk m c 0 t : Vec Ideal S1024x3456 .bf16) (ix2 a k)) * (show EReal from (iblk m c 1 t : Vec Ideal S1024x3456 .bf16) (ix2 b k))

theorem sc_A (t : Fin cfg0.N) (h : t.val % 3 = 0) (a : Fin 1024) (b : Fin 1024) :
    (outsAt0 m c t.val t.isLt).2 (ix2 a b) = part m c t a b := by
  rw [outsAt0_A m c t h (by omega) (by omega)]; frame_out
  pointwise [k0_pay2, k0_pay1, part]

theorem sc_B (t : Fin cfg0.N) (h : t.val % 3 = 1) (a : Fin 1024) (b : Fin 1024) :
    (outsAt0 m c t.val t.isLt).2 (ix2 a b)
      = (outsAt0 m c (t.val - 1) (Nat.lt_of_le_of_lt (Nat.sub_le _ _) t.isLt)).2 (ix2 a b) + part m c t a b := by
  rw [outsAt0_B m c t (by omega) h (by omega)]; frame_out
  pointwise [k0_pay3, k0_pay1, part]
  rw [read_unread_whole]

theorem out_C (t : Fin cfg0.N) (h : t.val % 3 = 2) (a : Fin 1024) (b : Fin 1024) :
    (outsAt0 m c t.val t.isLt).1 (ix2 a b)
      = (outsAt0 m c (t.val - 1) (Nat.lt_of_le_of_lt (Nat.sub_le _ _) t.isLt)).2 (ix2 a b) + part m c t a b := by
  rw [outsAt0_C m c t (by omega) (by omega) h]; frame_out
  pointwise [k0_pay4, k0_pay1, part]
  rw [read_unread_whole]

/-- One term of the sum, at a column of the weight. -/
def term (t : Fin cfg0.N) (a : Fin 1024) (b : Fin 1024) (l : Fin 10368) : EReal :=
  (show EReal from (m ((c : Thread nD τ).loc main_arg0) : Vec Ideal S8192x10368 .bf16) (ix2 (⟨1024 * (t.val / 6) + a.val, by have ht : t.val < 48 := t.isLt; omega⟩ : Fin 8192) l))
    * (show EReal from (m ((c : Thread nD τ).loc main_arg1) : Vec Ideal S2048x10368 .bf16) (ix2 (⟨1024 * (t.val / 3 % 2) + b.val, by omega⟩ : Fin 2048) l))

theorem part_eq (t t' : Fin cfg0.N) (a : Fin 1024) (b : Fin 1024) (q : ℕ) (hq : q < 3) (h : t'.val % 3 = q) (hd : t'.val / 3 = t.val / 3) :
    part m c t' a b = ∑ k : Fin 3456, term m c t a b ⟨q * 3456 + k.val, by omega⟩ := by
  unfold part
  refine Finset.sum_congr rfl fun k _ => ?_
  have ht : t.val < 48 := t.isLt
  have h6 : t'.val / 6 = t.val / 6 := by omega
  unfold term
  congr 1 <;> blk_ext [iblk, V, widx t', h, h6, hd]

theorem out_eq (t : Fin cfg0.N) (h : t.val % 3 = 2) (a : Fin 1024) (b : Fin 1024) :
    (outsAt0 m c t.val t.isLt).1 (ix2 a b) = ∑ l : Fin 10368, term m c t a b l := by
  have ht : t.val < 48 := t.isLt
  have hN : cfg0.N = 48 := N_0
  rw [out_C m c t h a b,
    sc_B m c ⟨t.val - 1, by omega⟩ (by dsimp only; omega) a b,
    sc_A m c ⟨t.val - 1 - 1, by omega⟩ (by dsimp only; omega) a b,
    part_eq m c t t a b 2 (by omega) h rfl,
    part_eq m c t ⟨t.val - 1, by omega⟩ _ _ 1 (by omega) (by dsimp only; omega) (by dsimp only; omega),
    part_eq m c t ⟨t.val - 1 - 1, by omega⟩ _ _ 0 (by omega) (by dsimp only; omega) (by dsimp only; omega),
    ← Fin.sum_mul_add_fin (L := 10368) 3 3456 (fun l => term m c t a b l), Fin.sum_univ_three]
  rfl

/-- What the kernel leaves in its result. -/
theorem arr (j : S8192x2048.Idx) : ((dats m 0 c).arrAt 2 cfg0.N : Vec Ideal S8192x2048 .f32) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have hr : t.val % 3 = 2 := (by decide +kernel : ∀ t : Fin cfg0.N, (cfg0.win 2).flush t = true → t.val % 3 = 2) t hf
  blk_simp [widx t]
  rw [after0_2]
  obtain ⟨a, b, rfl⟩ : ∃ (a : Fin 1024) (b : Fin 1024), y = ix2 a b :=
    ⟨y 0, y 1, by funext i; fin_cases i <;> rfl⟩
  refine (out_eq m c t hr a b).trans ?_
  unfold grad
  refine Finset.sum_congr rfl fun l _ => ?_
  unfold term
  congr 1 <;> blk_ext [widx t]

/-- What the reference leaves in its result. -/
theorem ref (d : Vec Ideal S8192x10368 .bf16) (w : Vec Ideal S2048x10368 .bf16) (j : S8192x2048.Idx) :
    Cert.SsmInDxReferenceIdeal.Read.val_main_v4 (F := Ideal) d w j = grad d w j := by
  open Cert.SsmInDxReferenceIdeal.Read in
  refine (val_main_v4_apply d w _).trans ?_
  unfold grad
  refine Finset.sum_congr rfl fun l _ => ?_
  congr 1 <;> blk_ext []

end Cert.Proof.SsmInDx

end
-- ==== Proof.SsmInVal.lean ====
/-
  The mixer's input product: each block of the kernel's result is one product over the whole depth.
-/
module

public import proofs.«01_k».proof.Proof.Gen.SsmInIdeal
public import proofs.«01_k».proof.Proof.Gen.SsmInIdeal.Frame
public import proofs.«01_k».proof.Proof.Gen.SsmInIdeal.Value
public import proofs.«01_k».proof.Proof.Gen.SsmInReferenceIdeal.Run
public import proofs.«01_k».proof.Proof.Gen.SsmInReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SsmIn

open Idealize.ShloMosaic Idealize.ShloMosaic.TcCoe Idealize.SL.Sem Cert.SsmInIdeal Cert.SsmInIdeal.Facts Cert.SsmInIdeal.Gen

/-- The product at token `i 0` and column `i 1`. -/
def proj (h : Vec Ideal S8192x2048 .bf16) (w : Vec Ideal S2048x10368 .bf16) (i : S8192x10368.Idx) : EReal :=
  ∑ k : Fin 2048, (h (ix2 (i 0) k) : EReal) * w (ix2 k (i 1))

theorem widx : ∀ t : Fin cfg0.N, win0_0.index t = ![t.val / 9, 0] ∧ win0_1.index t = ![0, t.val % 9]
    ∧ win0_2.index t = ![t.val / 9, t.val % 9] :=
  (by decide +kernel : ∀ t : Fin grid0.N, _)

variable (m : (ℓ : Loc nD τ sig) → Buf (Elt Ideal) ℓ) (c : Dev nD)

/-- A block's product. -/
def prod (t : Fin cfg0.N) (a : Fin 1024) (b : Fin 1152) : EReal :=
  ∑ k : Fin 2048, (show EReal from (iblk m c 0 t : Vec Ideal S1024x2048 .bf16) (ix2 a k)) * (show EReal from (iblk m c 1 t : Vec Ideal S2048x1152 .bf16) (ix2 k b))

theorem out (t : Fin cfg0.N) (a : Fin 1024) (b : Fin 1152) : (outsAt0 m c t) (ix2 a b) = prod m c t a b := by
  unfold outsAt0; frame_out
  pointwise [k0_pay1, prod]

theorem prod_eq (t : Fin cfg0.N) (a : Fin 1024) (b : Fin 1152) (j : S8192x10368.Idx) (h0 : (j 0).val = t.val / 9 * 1024 + a.val) (h1 : (j 1).val = t.val % 9 * 1152 + b.val) :
    prod m c t a b = proj (m ((c : Thread nD τ).loc main_arg0)) (m ((c : Thread nD τ).loc main_arg1)) j := by
  have ht : t.val < 72 := t.isLt
  unfold proj prod
  refine Finset.sum_congr rfl fun l _ => ?_
  congr 1 <;> blk_ext [iblk, V, widx t, h0, h1]

/-- What the kernel leaves in its result. -/
theorem arr (j : S8192x10368.Idx) : ((dats m 0 c).arrAt 2 cfg0.N : Vec Ideal S8192x10368 .f32) j
    = proj (m ((c : Thread nD τ).loc main_arg0)) (m ((c : Thread nD τ).loc main_arg1)) j := by
  refine (dats m 0 c).arrAt_forall_of_covers 2 (fun j v => v = proj (m ((c : Thread nD τ).loc main_arg0)) (m ((c : Thread nD τ).loc main_arg1)) j)
    (by decide +kernel) (fun t hf y => ?_) j
  blk_simp [widx t]
  rw [after0_2]
  obtain ⟨a, b, rfl⟩ : ∃ (a : Fin 1024) (b : Fin 1152), y = ix2 a b := ⟨y 0, y 1, by funext i; fin_cases i <;> rfl⟩
  refine (out m c t a b).trans ?_
  rw [← prod_eq m c t a b _ (by blk_ext [widx t]) (by blk_ext [widx t])]

/-- What the reference leaves in its result. -/
theorem ref (h : Vec Ideal S8192x2048 .bf16) (w : Vec Ideal S2048x10368 .bf16) (j : S8192x10368.Idx) :
    Cert.SsmInReferenceIdeal.Read.val_main_v2 (F := Ideal) h w j = proj h w j := by
  open Cert.SsmInReferenceIdeal.Read in
  refine (val_main_v2_apply h w _).trans ?_
  unfold proj
  refine Finset.sum_congr rfl fun l _ => ?_
  congr 1 <;> blk_ext []

end Cert.Proof.SsmIn

end
-- ==== Proof.Ssm.lean ====
/-
  The products with the weight of the Mamba-2 mixer's input: each of them, its idealization and its reference run, keep
  their arguments and leave every counter at zero; and each idealized product's result is its reference's.
-/
module

public import proofs.«01_k».proof.Defs
public import proofs.«01_k».proof.Proof.Gen.SsmInDw
public import proofs.«01_k».proof.Proof.Gen.SsmInDw.Frame
public import proofs.«01_k».proof.Proof.Gen.SsmInDwIdeal
public import proofs.«01_k».proof.Proof.Gen.SsmInDwIdeal.Frame
public import proofs.«01_k».proof.Proof.Gen.SsmInDwIdeal.Value
public import proofs.«01_k».proof.Proof.Gen.SsmInDwReferenceIdeal.Run
public import proofs.«01_k».proof.Proof.Gen.SsmInDwReferenceIdeal.Read
public import proofs.«01_k».proof.Proof.SsmInDwVal
public import proofs.«01_k».proof.Proof.Gen.SsmInDx
public import proofs.«01_k».proof.Proof.Gen.SsmInDx.Frame
public import proofs.«01_k».proof.Proof.Gen.SsmInDxIdeal
public import proofs.«01_k».proof.Proof.Gen.SsmInDxIdeal.Frame
public import proofs.«01_k».proof.Proof.Gen.SsmInDxIdeal.Value
public import proofs.«01_k».proof.Proof.Gen.SsmInDxReferenceIdeal.Run
public import proofs.«01_k».proof.Proof.Gen.SsmInDxReferenceIdeal.Read
public import proofs.«01_k».proof.Proof.SsmInDxVal
public import proofs.«01_k».proof.Proof.Gen.SsmIn
public import proofs.«01_k».proof.Proof.Gen.SsmIn.Frame
public import proofs.«01_k».proof.Proof.Gen.SsmInIdeal
public import proofs.«01_k».proof.Proof.Gen.SsmInIdeal.Frame
public import proofs.«01_k».proof.Proof.Gen.SsmInIdeal.Value
public import proofs.«01_k».proof.Proof.Gen.SsmInReferenceIdeal.Run
public import proofs.«01_k».proof.Proof.Gen.SsmInReferenceIdeal.Read
public import proofs.«01_k».proof.Proof.SsmInVal
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

namespace Cert.Proof.SsmInDw

theorem frame_kernel : Cert.quiescent_SsmInDw := fun m g _ => Cert.SsmInDw.Gen.frame m g

theorem frame_ideal : Cert.quiescent_SsmInDwIdeal := fun m g _ => Cert.SsmInDwIdeal.Gen.frame m g

theorem frame_reference : Cert.quiescent_SsmInDwReferenceIdeal := fun m g _ =>
  (θ_run Cert.SsmInDwReferenceIdeal.defs _ _).mono
    (fun r h => ⟨fun c => (h c).2, sem_eq_zero_of_no_sems (by decide) r.2⟩)
    (Cert.SsmInDwReferenceIdeal.Value.run m g)

theorem values : Cert.algebraic_SsmInDwIdeal_SsmInDwReferenceIdeal := by
  intro m g m' g' _ hargs
  refine ⟨fun c => (Cert.SsmInDwIdeal.Gen.dats m 0 c).arrAt 2 Cert.SsmInDwIdeal.cfg0.N, ?_, ?_⟩
  · exact (θ_run Cert.SsmInDwIdeal.defs _ _).mono (fun r h c => h c) (Cert.SsmInDwIdeal.Value.run_blocks m g)
  · refine (θ_run Cert.SsmInDwReferenceIdeal.defs _ _).mono (fun r h c => ?_) (Cert.SsmInDwReferenceIdeal.Value.run m' g')
    obtain ⟨r0, ra⟩ := h c
    obtain ⟨e0, e1⟩ := hargs c
    have s0 := r0.trans (Cert.SsmInDwReferenceIdeal.Read.val_main_v6_eq (F := Ideal) _ _ ).symm
    rw [e0, e1] at s0
    exact ⟨s0.trans (funext fun i => (ref _ _ i).trans (arr m c i).symm), ra⟩

end Cert.Proof.SsmInDw

namespace Cert.Proof.SsmInDx

theorem frame_kernel : Cert.quiescent_SsmInDx := fun m g _ => Cert.SsmInDx.Gen.frame m g

theorem frame_ideal : Cert.quiescent_SsmInDxIdeal := fun m g _ => Cert.SsmInDxIdeal.Gen.frame m g

theorem frame_reference : Cert.quiescent_SsmInDxReferenceIdeal := fun m g _ =>
  (θ_run Cert.SsmInDxReferenceIdeal.defs _ _).mono
    (fun r h => ⟨fun c => (h c).2, sem_eq_zero_of_no_sems (by decide) r.2⟩)
    (Cert.SsmInDxReferenceIdeal.Value.run m g)

theorem values : Cert.algebraic_SsmInDxIdeal_SsmInDxReferenceIdeal := by
  intro m g m' g' _ hargs
  refine ⟨fun c => (Cert.SsmInDxIdeal.Gen.dats m 0 c).arrAt 2 Cert.SsmInDxIdeal.cfg0.N, ?_, ?_⟩
  · exact (θ_run Cert.SsmInDxIdeal.defs _ _).mono (fun r h c => h c) (Cert.SsmInDxIdeal.Value.run_blocks m g)
  · refine (θ_run Cert.SsmInDxReferenceIdeal.defs _ _).mono (fun r h c => ?_) (Cert.SsmInDxReferenceIdeal.Value.run m' g')
    obtain ⟨r0, ra⟩ := h c
    obtain ⟨e0, e1⟩ := hargs c
    have s0 := r0.trans (Cert.SsmInDxReferenceIdeal.Read.val_main_v4_eq (F := Ideal) _ _ ).symm
    rw [e0, e1] at s0
    exact ⟨s0.trans (funext fun i => (ref _ _ i).trans (arr m c i).symm), ra⟩

end Cert.Proof.SsmInDx

namespace Cert.Proof.SsmIn

theorem frame_kernel : Cert.quiescent_SsmIn := fun m g _ => Cert.SsmIn.Gen.frame m g

theorem frame_ideal : Cert.quiescent_SsmInIdeal := fun m g _ => Cert.SsmInIdeal.Gen.frame m g

theorem frame_reference : Cert.quiescent_SsmInReferenceIdeal := fun m g _ =>
  (θ_run Cert.SsmInReferenceIdeal.defs _ _).mono
    (fun r h => ⟨fun c => (h c).2, sem_eq_zero_of_no_sems (by decide) r.2⟩)
    (Cert.SsmInReferenceIdeal.Value.run m g)

theorem values : Cert.algebraic_SsmInIdeal_SsmInReferenceIdeal := by
  intro m g m' g' _ hargs
  refine ⟨fun c => (Cert.SsmInIdeal.Gen.dats m 0 c).arrAt 2 Cert.SsmInIdeal.cfg0.N, ?_, ?_⟩
  · exact (θ_run Cert.SsmInIdeal.defs _ _).mono (fun r h c => h c) (Cert.SsmInIdeal.Value.run_blocks m g)
  · refine (θ_run Cert.SsmInReferenceIdeal.defs _ _).mono (fun r h c => ?_) (Cert.SsmInReferenceIdeal.Value.run m' g')
    obtain ⟨r0, ra⟩ := h c
    obtain ⟨e0, e1⟩ := hargs c
    have s0 := r0.trans (Cert.SsmInReferenceIdeal.Read.val_main_v2_eq (F := Ideal) _ _ ).symm
    rw [e0, e1] at s0
    exact ⟨s0.trans (funext fun i => (ref _ _ i).trans (arr m c i).symm), ra⟩

end Cert.Proof.SsmIn

end
-- ==== Proof.SsmOutDwVal.lean ====
/-
  The gradient of the weight of the mixer's output product: the kernel's sum over the token blocks is the reference's
  product of the transposed activations with the gradient.
-/
module

public import proofs.«01_k».proof.Proof.Gen.SsmOutDwIdeal
public import proofs.«01_k».proof.Proof.Gen.SsmOutDwIdeal.Frame
public import proofs.«01_k».proof.Proof.Gen.SsmOutDwIdeal.Value
public import proofs.«01_k».proof.Proof.Gen.SsmOutDwReferenceIdeal.Run
public import proofs.«01_k».proof.Proof.Gen.SsmOutDwReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SsmOutDw

open Idealize.ShloMosaic Idealize.ShloMosaic.TcCoe Idealize.SL.Sem Cert.SsmOutDwIdeal Cert.SsmOutDwIdeal.Facts Cert.SsmOutDwIdeal.Gen

/-- The gradient at row `i 0` and column `i 1`. -/
def grad (h : Vec Ideal S8192x4096 .bf16) (g : Vec Ideal S8192x2048 .bf16) (i : S4096x2048.Idx) : EReal :=
  ∑ k : Fin 8192, (h (ix2 k (i 0)) : EReal) * g (ix2 k (i 1))

theorem widx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ) (c : Dev nD)

/-- The part of a block's sum that one point of its run adds. -/
def part (t : Fin cfg0.N) (a : Fin 1024) (b : Fin 1024) : EReal :=
  ∑ k : Fin 2048, (show EReal from (iblk m c 0 t : Vec Ideal S2048x1024 .bf16) (ix2 k a)) * (show EReal from (iblk m c 1 t : Vec Ideal S2048x1024 .bf16) (ix2 k b))

theorem sc_A (t : Fin cfg0.N) (h : t.val % 4 = 0) (a : Fin 1024) (b : Fin 1024) :
    (outsAt0 m c t.val t.isLt).2 (ix2 a b) = part m c t a b := by
  rw [outsAt0_A m c t h (by omega) (by omega)]; frame_out
  pointwise [k0_pay2, k0_pay1, part]

theorem sc_B (t : Fin cfg0.N) (h : 1 ≤ t.val % 4 ∧ t.val % 4 ≤ 2) (a : Fin 1024) (b : Fin 1024) :
    (outsAt0 m c t.val t.isLt).2 (ix2 a b)
      = (outsAt0 m c (t.val - 1) (Nat.lt_of_le_of_lt (Nat.sub_le _ _) t.isLt)).2 (ix2 a b) + part m c t a b := by
  rw [outsAt0_B m c t (by omega) h (by omega)]; frame_out
  pointwise [k0_pay3, k0_pay1, part]
  rw [read_unread_whole]

theorem out_C (t : Fin cfg0.N) (h : t.val % 4 = 3) (a : Fin 1024) (b : Fin 1024) :
    (outsAt0 m c t.val t.isLt).1 (ix2 a b)
      = (outsAt0 m c (t.val - 1) (Nat.lt_of_le_of_lt (Nat.sub_le _ _) t.isLt)).2 (ix2 a b) + part m c t a b := by
  rw [outsAt0_C m c t (by omega) (by omega) h]; frame_out
  pointwise [k0_pay4, k0_pay1, part]
  rw [read_unread_whole]

/-- One term of the sum, at a token. -/
def term (t : Fin cfg0.N) (a : Fin 1024) (b : Fin 1024) (l : Fin 8192) : EReal :=
  (show EReal from (m ((c : Thread nD τ).loc main_arg0) : Vec Ideal S8192x4096 .bf16) (ix2 l (⟨1024 * (t.val / 8) + a.val, by have ht : t.val < 32 := t.isLt; omega⟩ : Fin 4096)))
    * (show EReal from (m ((c : Thread nD τ).loc main_arg1) : Vec Ideal S8192x2048 .bf16) (ix2 l (⟨1024 * (t.val / 4 % 2) + b.val, by omega⟩ : Fin 2048)))

theorem part_eq (t t' : Fin cfg0.N) (a : Fin 1024) (b : Fin 1024) (q : ℕ) (hq : q < 4) (h : t'.val % 4 = q) (hd : t'.val / 4 = t.val / 4) :
    part m c t' a b = ∑ k : Fin 2048, term m c t a b ⟨q * 2048 + k.val, by omega⟩ := by
  unfold part
  refine Finset.sum_congr rfl fun k _ => ?_
  have ht : t.val < 32 := t.isLt
  have h8 : t'.val / 8 = t.val / 8 := by omega
  unfold term
  congr 1 <;> blk_ext [iblk, V, widx t', h, h8, hd]

theorem out_eq (t : Fin cfg0.N) (h : t.val % 4 = 3) (a : Fin 1024) (b : Fin 1024) :
    (outsAt0 m c t.val t.isLt).1 (ix2 a b) = ∑ l : Fin 8192, term m c t a b l := by
  have ht : t.val < 32 := t.isLt
  have hN : cfg0.N = 32 := N_0
  rw [out_C m c t h a b,
    sc_B m c ⟨t.val - 1, by omega⟩ (by dsimp only; omega) a b,
    sc_B m c ⟨t.val - 1 - 1, by omega⟩ (by dsimp only; omega) a b,
    sc_A m c ⟨t.val - 1 - 1 - 1, by omega⟩ (by dsimp only; omega) a b,
    part_eq m c t t a b 3 (by omega) h rfl,
    part_eq m c t ⟨t.val - 1, by omega⟩ _ _ 2 (by omega) (by dsimp only; omega) (by dsimp only; omega),
    part_eq m c t ⟨t.val - 1 - 1, by omega⟩ _ _ 1 (by omega) (by dsimp only; omega) (by dsimp only; omega),
    part_eq m c t ⟨t.val - 1 - 1 - 1, by omega⟩ _ _ 0 (by omega) (by dsimp only; omega) (by dsimp only; omega),
    ← Fin.sum_mul_add_fin (L := 8192) 4 2048 (fun l => term m c t a b l), Fin.sum_univ_four]
  rfl

/-- What the kernel leaves in its result. -/
theorem arr (j : S4096x2048.Idx) : ((dats m 0 c).arrAt 2 cfg0.N : Vec Ideal S4096x2048 .bf16) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have hr : t.val % 4 = 3 := (by decide +kernel : ∀ t : Fin cfg0.N, (cfg0.win 2).flush t = true → t.val % 4 = 3) t hf
  blk_simp [widx t]
  rw [after0_2]
  obtain ⟨a, b, rfl⟩ : ∃ (a : Fin 1024) (b : Fin 1024), y = ix2 a b :=
    ⟨y 0, y 1, by funext i; fin_cases i <;> rfl⟩
  refine (out_eq m c t hr a b).trans ?_
  unfold grad
  refine Finset.sum_congr rfl fun l _ => ?_
  unfold term
  congr 1 <;> blk_ext [widx t]

/-- What the reference leaves in its result. -/
theorem ref (h : Vec Ideal S8192x4096 .bf16) (g : Vec Ideal S8192x2048 .bf16) (j : S4096x2048.Idx) :
    Cert.SsmOutDwReferenceIdeal.Read.val_main_v6 (F := Ideal) h g j = grad h g j := by
  open Cert.SsmOutDwReferenceIdeal.Read in
  rw [val_main_v6_apply, val_main_v5_apply]
  refine (val_main_v4_apply h g _).trans ?_
  unfold grad
  refine Finset.sum_congr rfl fun l _ => ?_
  refine (mul_comm (G := EReal) _ _).trans ?_
  congr 1 <;> blk_ext []

end Cert.Proof.SsmOutDw

end
-- ==== Proof.SsmOutDxVal.lean ====
/-
  The gradient of the mixer's output: each block of the kernel's result is one product over the whole depth.
-/
module

public import proofs.«01_k».proof.Proof.Gen.SsmOutDxIdeal
public import proofs.«01_k».proof.Proof.Gen.SsmOutDxIdeal.Frame
public import proofs.«01_k».proof.Proof.Gen.SsmOutDxIdeal.Value
public import proofs.«01_k».proof.Proof.Gen.SsmOutDxReferenceIdeal.Run
public import proofs.«01_k».proof.Proof.Gen.SsmOutDxReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SsmOutDx

open Idealize.ShloMosaic Idealize.ShloMosaic.TcCoe Idealize.SL.Sem Cert.SsmOutDxIdeal Cert.SsmOutDxIdeal.Facts Cert.SsmOutDxIdeal.Gen

/-- The gradient at token `i 0` and feature `i 1`. -/
def proj (h : Vec Ideal S8192x2048 .bf16) (w : Vec Ideal S4096x2048 .bf16) (i : S8192x4096.Idx) : EReal :=
  ∑ k : Fin 2048, (h (ix2 (i 0) k) : EReal) * w (ix2 (i 1) k)

theorem widx : ∀ t : Fin cfg0.N, win0_0.index t = ![t.val / 4, 0] ∧ win0_1.index t = ![t.val % 4, 0]
    ∧ win0_2.index t = ![t.val / 4, t.val % 4] :=
  (by decide +kernel : ∀ t : Fin grid0.N, _)

variable (m : (ℓ : Loc nD τ sig) → Buf (Elt Ideal) ℓ) (c : Dev nD)

/-- A block's product. -/
def prod (t : Fin cfg0.N) (a : Fin 1024) (b : Fin 1024) : EReal :=
  ∑ k : Fin 2048, (show EReal from (iblk m c 0 t : Vec Ideal S1024x2048 .bf16) (ix2 a k)) * (show EReal from (iblk m c 1 t : Vec Ideal S1024x2048 .bf16) (ix2 b k))

theorem out (t : Fin cfg0.N) (a : Fin 1024) (b : Fin 1024) : (outsAt0 m c t) (ix2 a b) = prod m c t a b := by
  unfold outsAt0; frame_out
  pointwise [k0_pay1, prod]

theorem prod_eq (t : Fin cfg0.N) (a : Fin 1024) (b : Fin 1024) (j : S8192x4096.Idx) (h0 : (j 0).val = t.val / 4 * 1024 + a.val) (h1 : (j 1).val = t.val % 4 * 1024 + b.val) :
    prod m c t a b = proj (m ((c : Thread nD τ).loc main_arg0)) (m ((c : Thread nD τ).loc main_arg1)) j := by
  have ht : t.val < 32 := t.isLt
  unfold proj prod
  refine Finset.sum_congr rfl fun l _ => ?_
  congr 1 <;> blk_ext [iblk, V, widx t, h0, h1]

/-- What the kernel leaves in its result. -/
theorem arr (j : S8192x4096.Idx) : ((dats m 0 c).arrAt 2 cfg0.N : Vec Ideal S8192x4096 .f32) j
    = proj (m ((c : Thread nD τ).loc main_arg0)) (m ((c : Thread nD τ).loc main_arg1)) j := by
  refine (dats m 0 c).arrAt_forall_of_covers 2 (fun j v => v = proj (m ((c : Thread nD τ).loc main_arg0)) (m ((c : Thread nD τ).loc main_arg1)) j)
    (by decide +kernel) (fun t hf y => ?_) j
  blk_simp [widx t]
  rw [after0_2]
  obtain ⟨a, b, rfl⟩ : ∃ (a : Fin 1024) (b : Fin 1024), y = ix2 a b := ⟨y 0, y 1, by funext i; fin_cases i <;> rfl⟩
  refine (out m c t a b).trans ?_
  rw [← prod_eq m c t a b _ (by blk_ext [widx t]) (by blk_ext [widx t])]

/-- What the reference leaves in its result. -/
theorem ref (h : Vec Ideal S8192x2048 .bf16) (w : Vec Ideal S4096x2048 .bf16) (j : S8192x4096.Idx) :
    Cert.SsmOutDxReferenceIdeal.Read.val_main_v4 (F := Ideal) h w j = proj h w j := by
  open Cert.SsmOutDxReferenceIdeal.Read in
  refine (val_main_v4_apply h w _).trans ?_
  unfold proj
  refine Finset.sum_congr rfl fun l _ => ?_
  congr 1 <;> blk_ext []

end Cert.Proof.SsmOutDx

end
-- ==== Proof.SsmOutVal.lean ====
/-
  The mixer's output product on top of the residual: the kernel's sum over the two halves of the depth is the
  reference's product.
-/
module

public import proofs.«01_k».proof.Proof.Gen.SsmOutIdeal
public import proofs.«01_k».proof.Proof.Gen.SsmOutIdeal.Frame
public import proofs.«01_k».proof.Proof.Gen.SsmOutIdeal.Value
public import proofs.«01_k».proof.Proof.Gen.SsmOutReferenceIdeal.Run
public import proofs.«01_k».proof.Proof.Gen.SsmOutReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.SsmOut

open Idealize.ShloMosaic Idealize.ShloMosaic.TcCoe Idealize.SL.Sem Cert.SsmOutIdeal Cert.SsmOutIdeal.Facts Cert.SsmOutIdeal.Gen

/-- The result at token `i 0` and feature `i 1`. -/
def grad (a : Vec Ideal S8192x4096 .bf16) (w : Vec Ideal S4096x2048 .bf16) (x : Vec Ideal S8192x2048 .f32) (i : S8192x2048.Idx) : EReal :=
  (∑ k : Fin 4096, (a (ix2 (i 0) k) : EReal) * w (ix2 k (i 1))) + (x i : EReal)

theorem widx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

variable (m : (ℓ : Loc nD τ sig) → Buf (Elt Ideal) ℓ) (c : Dev nD)

/-- The part of a block's sum that one point of its run adds. -/
def part (t : Fin cfg0.N) (a : Fin 1024) (b : Fin 1024) : EReal :=
  ∑ k : Fin 2048, (show EReal from (iblk m c 0 t : Vec Ideal S1024x2048 .bf16) (ix2 a k)) * (show EReal from (iblk m c 1 t : Vec Ideal S2048x1024 .bf16) (ix2 k b))

theorem sc_A (t : Fin cfg0.N) (h : t.val % 2 = 0) (a : Fin 1024) (b : Fin 1024) :
    (outsAt0 m c t.val t.isLt).2 (ix2 a b) = part m c t a b := by
  rw [outsAt0_A m c t h (by omega)]; frame_out
  pointwise [k0_pay2, k0_pay1, part]

theorem out_B (t : Fin cfg0.N) (h : t.val % 2 = 1) (a : Fin 1024) (b : Fin 1024) :
    (outsAt0 m c t.val t.isLt).1 (ix2 a b)
      = (outsAt0 m c (t.val - 1) (Nat.lt_of_le_of_lt (Nat.sub_le _ _) t.isLt)).2 (ix2 a b) + part m c t a b
        + (show EReal from (iblk m c 2 t : Vec Ideal S1024x1024 .f32) (ix2 a b)) := by
  rw [outsAt0_B m c t (by omega) h]; frame_out
  pointwise [k0_pay4, k0_pay1, part]
  rw [read_unread_whole]

/-- One term of the sum, at a feature of the depth. -/
def term (t : Fin cfg0.N) (a : Fin 1024) (b : Fin 1024) (l : Fin 4096) : EReal :=
  (show EReal from (m ((c : Thread nD τ).loc main_arg0) : Vec Ideal S8192x4096 .bf16) (ix2 (⟨1024 * (t.val / 4) + a.val, by have ht : t.val < 32 := t.isLt; omega⟩ : Fin 8192) l))
    * (show EReal from (m ((c : Thread nD τ).loc main_arg1) : Vec Ideal S4096x2048 .bf16) (ix2 l (⟨1024 * (t.val / 2 % 2) + b.val, by omega⟩ : Fin 2048)))

theorem part_eq (t t' : Fin cfg0.N) (a : Fin 1024) (b : Fin 1024) (q : ℕ) (hq : q < 2) (h : t'.val % 2 = q) (hd : t'.val / 2 = t.val / 2) :
    part m c t' a b = ∑ k : Fin 2048, term m c t a b ⟨q * 2048 + k.val, by omega⟩ := by
  unfold part
  refine Finset.sum_congr rfl fun k _ => ?_
  have ht : t.val < 32 := t.isLt
  have h4 : t'.val / 4 = t.val / 4 := by omega
  unfold term
  congr 1 <;> blk_ext [iblk, V, widx t', h, h4, hd]

theorem out_eq (t : Fin cfg0.N) (h : t.val % 2 = 1) (a : Fin 1024) (b : Fin 1024) :
    (outsAt0 m c t.val t.isLt).1 (ix2 a b)
      = (∑ l : Fin 4096, term m c t a b l) + (show EReal from (iblk m c 2 t : Vec Ideal S1024x1024 .f32) (ix2 a b)) := by
  have ht : t.val < 32 := t.isLt
  have hN : cfg0.N = 32 := N_0
  rw [out_B m c t h a b, sc_A m c ⟨t.val - 1, by omega⟩ (by dsimp only; omega) a b,
    part_eq m c t t a b 1 (by omega) h rfl,
    part_eq m c t ⟨t.val - 1, by omega⟩ _ _ 0 (by omega) (by dsimp only; omega) (by dsimp only; omega),
    ← Fin.sum_mul_add_fin (L := 4096) 2 2048 (fun l => term m c t a b l), Fin.sum_univ_two]
  rfl

/-- What the kernel leaves in its result. -/
theorem arr (j : S8192x2048.Idx) : ((dats m 0 c).arrAt 3 cfg0.N : Vec Ideal S8192x2048 .f32) j
    = grad (m ((c : Thread nD τ).loc main_arg0)) (m ((c : Thread nD τ).loc main_arg1)) (m ((c : Thread nD τ).loc main_arg2)) j := by
  refine (dats m 0 c).arrAt_forall_of_covers 3 (fun j v => v = grad (m ((c : Thread nD τ).loc main_arg0)) (m ((c : Thread nD τ).loc main_arg1)) (m ((c : Thread nD τ).loc main_arg2)) j)
    (by decide +kernel) (fun t hf y => ?_) j
  have hr : t.val % 2 = 1 := (by decide +kernel : ∀ t : Fin cfg0.N, (cfg0.win 3).flush t = true → t.val % 2 = 1) t hf
  have ht : t.val < 32 := t.isLt
  blk_simp [widx t]
  rw [after0_3]
  obtain ⟨a, b, rfl⟩ : ∃ (a : Fin 1024) (b : Fin 1024), y = ix2 a b := ⟨y 0, y 1, by funext i; fin_cases i <;> rfl⟩
  refine (out_eq m c t hr a b).trans ?_
  unfold grad
  congr 1
  refine Finset.sum_congr rfl fun l _ => ?_
  unfold term
  congr 1 <;> blk_ext [widx t]

/-- What the reference leaves in its result. -/
theorem ref (a : Vec Ideal S8192x4096 .bf16) (w : Vec Ideal S4096x2048 .bf16) (x : Vec Ideal S8192x2048 .f32) (j : S8192x2048.Idx) :
    Cert.SsmOutReferenceIdeal.Read.val_main_v3 (F := Ideal) a w x j = grad a w x j := by
  open Cert.SsmOutReferenceIdeal.Read in
  rw [val_main_v3_apply, val_main_v2_apply]
  unfold grad
  refine congrArg (fun e : EReal => e + (x j : EReal)) (Finset.sum_congr rfl fun l _ => ?_)
  congr 1 <;> blk_ext []

end Cert.Proof.SsmOut

end
-- ==== Proof.QkvDwVal.lean ====
/-
  The gradient of the weight of the attention's first product, cut into four shards of columns: the kernel's sum over the
  token blocks is the reference's product of the transposed activations with the gradient.
-/
module

public import proofs.«01_k».proof.Proof.Gen.QkvDwIdeal
public import proofs.«01_k».proof.Proof.Gen.QkvDwIdeal.Frame
public import proofs.«01_k».proof.Proof.Gen.QkvDwIdeal.Value
public import proofs.«01_k».proof.Proof.Gen.QkvDwReferenceIdeal.Run
public import proofs.«01_k».proof.Proof.Gen.QkvDwReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.QkvDw

open Idealize.ShloMosaic Idealize.ShloMosaic.TcCoe Idealize.SL.Sem Cert.QkvDwIdeal Cert.QkvDwIdeal.Facts Cert.QkvDwIdeal.Gen

/-- Shard `i 0` of the gradient, at row `i 1` and column `i 2`. -/
def grad (h : Vec Ideal S8192x2048 .bf16) (g : Vec Ideal S8192x2560 .bf16) (i : S4x2048x640.Idx) : EReal :=
  ∑ k : Fin 8192, (h (ix2 k (i 1)) : EReal) * g (ix2 k (⟨640 * (i 0).val + (i 2).val, by have h0 : (i 0).val < 4 := (i 0).isLt; have h2 : (i 2).val < 640 := (i 2).isLt; omega⟩ : Fin 2560))

theorem widx : ∀ t : Fin cfg0.N, win0_0.index t = ![t.val % 4, t.val / 16] ∧ win0_1.index t = ![t.val % 4, t.val / 4 % 4]
    ∧ win0_2.index t = ![t.val / 4 % 4, t.val / 16, 0] :=
  (by decide +kernel : ∀ t : Fin grid0.N, _)

variable (m : (ℓ : Loc nD τ sig) → Buf (Elt Ideal) ℓ) (c : Dev nD)

/-- The part of a block's sum that one point of its run adds. -/
def part (t : Fin cfg0.N) (a : Fin 1024) (b : Fin 640) : EReal :=
  ∑ k : Fin 2048, (show EReal from (iblk m c 0 t : Vec Ideal S2048x1024 .bf16) (ix2 k a)) * (show EReal from (iblk m c 1 t : Vec Ideal S2048x640 .bf16) (ix2 k b))

theorem sc_A (t : Fin cfg0.N) (h : t.val % 4 = 0) (a : Fin 1024) (b : Fin 640) :
    (outsAt0 m c t.val t.isLt).2 (ix2 a b) = part m c t a b := by
  rw [outsAt0_A m c t h (by omega) (by omega)]; frame_out
  pointwise [k0_pay2, k0_pay1, part]

theorem sc_B (t : Fin cfg0.N) (h : 1 ≤ t.val % 4 ∧ t.val % 4 ≤ 2) (a : Fin 1024) (b : Fin 640) :
    (outsAt0 m c t.val t.isLt).2 (ix2 a b)
      = (outsAt0 m c (t.val - 1) (Nat.lt_of_le_of_lt (Nat.sub_le _ _) t.isLt)).2 (ix2 a b) + part m c t a b := by
  rw [outsAt0_B m c t (by omega) h (by omega)]; frame_out
  pointwise [k0_pay3, k0_pay1, part]
  rw [read_unread_whole]

theorem out_C (t : Fin cfg0.N) (h : t.val % 4 = 3) (z : Fin 1) (a : Fin 1024) (b : Fin 640) :
    (outsAt0 m c t.val t.isLt).1 (ix3 z a b)
      = (outsAt0 m c (t.val - 1) (Nat.lt_of_le_of_lt (Nat.sub_le _ _) t.isLt)).2 (ix2 a b) + part m c t a b := by
  rw [outsAt0_C m c t (by omega) (by omega) h]; frame_out
  pointwise [k0_pay4, k0_pay1, part]
  rw [read_unread_whole]

/-- One term of the sum, at a token. -/
def term (t : Fin cfg0.N) (a : Fin 1024) (b : Fin 640) (l : Fin 8192) : EReal :=
  (show EReal from (m ((c : Thread nD τ).loc main_arg0) : Vec Ideal S8192x2048 .bf16) (ix2 l (⟨1024 * (t.val / 16) + a.val, by have ht : t.val < 32 := t.isLt; omega⟩ : Fin 2048)))
    * (show EReal from (m ((c : Thread nD τ).loc main_arg1) : Vec Ideal S8192x2560 .bf16) (ix2 l (⟨640 * (t.val / 4 % 4) + b.val, by omega⟩ : Fin 2560)))

theorem part_eq (t t' : Fin cfg0.N) (a : Fin 1024) (b : Fin 640) (q : ℕ) (hq : q < 4) (h : t'.val % 4 = q) (hd : t'.val / 4 = t.val / 4) :
    part m c t' a b = ∑ k : Fin 2048, term m c t a b ⟨q * 2048 + k.val, by omega⟩ := by
  unfold part
  refine Finset.sum_congr rfl fun k _ => ?_
  have ht : t.val < 32 := t.isLt
  have h16 : t'.val / 16 = t.val / 16 := by omega
  unfold term
  congr 1 <;> blk_ext [iblk, V, widx t', h, h16, hd]

theorem out_eq (t : Fin cfg0.N) (h : t.val % 4 = 3) (z : Fin 1) (a : Fin 1024) (b : Fin 640) :
    (outsAt0 m c t.val t.isLt).1 (ix3 z a b) = ∑ l : Fin 8192, term m c t a b l := by
  have ht : t.val < 32 := t.isLt
  have hN : cfg0.N = 32 := N_0
  rw [out_C m c t h z a b,
    sc_B m c ⟨t.val - 1, by omega⟩ (by dsimp only; omega) a b,
    sc_B m c ⟨t.val - 1 - 1, by omega⟩ (by dsimp only; omega) a b,
    sc_A m c ⟨t.val - 1 - 1 - 1, by omega⟩ (by dsimp only; omega) a b,
    part_eq m c t t a b 3 (by omega) h rfl,
    part_eq m c t ⟨t.val - 1, by omega⟩ _ _ 2 (by omega) (by dsimp only; omega) (by dsimp only; omega),
    part_eq m c t ⟨t.val - 1 - 1, by omega⟩ _ _ 1 (by omega) (by dsimp only; omega) (by dsimp only; omega),
    part_eq m c t ⟨t.val - 1 - 1 - 1, by omega⟩ _ _ 0 (by omega) (by dsimp only; omega) (by dsimp only; omega),
    ← Fin.sum_mul_add_fin (L := 8192) 4 2048 (fun l => term m c t a b l), Fin.sum_univ_four]
  rfl

/-- What the kernel leaves in its result. -/
theorem arr (j : S4x2048x640.Idx) : ((dats m 0 c).arrAt 2 cfg0.N : Vec Ideal S4x2048x640 .bf16) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have hr : t.val % 4 = 3 := (by decide +kernel : ∀ t : Fin cfg0.N, (cfg0.win 2).flush t = true → t.val % 4 = 3) t hf
  blk_simp [widx t]
  rw [after0_2]
  obtain ⟨z, a, b, rfl⟩ : ∃ (z : Fin 1) (a : Fin 1024) (b : Fin 640), y = ix3 z a b :=
    ⟨y 0, y 1, y 2, by funext i; fin_cases i <;> rfl⟩
  refine (out_eq m c t hr z a b).trans ?_
  unfold grad
  refine Finset.sum_congr rfl fun l _ => ?_
  unfold term
  congr 1 <;> blk_ext [widx t]

/-- What the reference leaves in its result. -/
theorem ref (h : Vec Ideal S8192x2048 .bf16) (g : Vec Ideal S8192x2560 .bf16) (j : S4x2048x640.Idx) :
    Cert.QkvDwReferenceIdeal.Read.val_main_v8 (F := Ideal) h g j = grad h g j := by
  open Cert.QkvDwReferenceIdeal.Read in
  rw [val_main_v8_apply, val_main_v7_apply, val_main_v6_apply, val_main_v5_apply]
  refine (val_main_v4_apply h g _).trans ?_
  unfold grad
  refine Finset.sum_congr rfl fun l _ => ?_
  refine (mul_comm (G := EReal) _ _).trans ?_
  congr 1 <;> blk_ext []

end Cert.Proof.QkvDw

end
-- ==== Proof.QkvDxVal.lean ====
/-
  The gradient of the attention's input, by a weight that lies in four shards of columns: the kernel sums two shards at a
  time, the reference over all the columns.
-/
module

public import proofs.«01_k».proof.Proof.Gen.QkvDxIdeal
public import proofs.«01_k».proof.Proof.Gen.QkvDxIdeal.Frame
public import proofs.«01_k».proof.Proof.Gen.QkvDxIdeal.Value
public import proofs.«01_k».proof.Proof.Gen.QkvDxReferenceIdeal.Run
public import proofs.«01_k».proof.Proof.Gen.QkvDxReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.QkvDx

open Idealize.ShloMosaic Idealize.ShloMosaic.TcCoe Idealize.SL.Sem Cert.QkvDxIdeal Cert.QkvDxIdeal.Facts Cert.QkvDxIdeal.Gen

/-- The result at token `i 0` and feature `i 1`. -/
def grad (g : Vec Ideal S8192x2560 .bf16) (w : Vec Ideal S4x2048x640 .bf16) (i : S8192x2048.Idx) : EReal :=
  (∑ k : Fin 2560, (g (ix2 (i 0) k) : EReal) * w (ix3 (⟨k.val / 640, by omega⟩ : Fin 4) (i 1) (⟨k.val % 640, by omega⟩ : Fin 640)))

theorem widx : ∀ t : Fin cfg0.N, win0_0.index t = ![t.val / 4, t.val % 2] ∧ win0_1.index t = ![t.val % 2, t.val / 2 % 2, 0]
    ∧ win0_2.index t = ![t.val / 4, t.val / 2 % 2] :=
  (by decide +kernel : ∀ t : Fin grid0.N, _)

variable (m : (ℓ : Loc nD τ sig) → Buf (Elt Ideal) ℓ) (c : Dev nD)

/-- The part of a block's sum that one shard of a point adds. -/
def half (t : Fin cfg0.N) (e : Fin 2) (a : Fin 1024) (b : Fin 1024) : EReal :=
  ∑ k : Fin 640, (show EReal from (iblk m c 0 t : Vec Ideal S1024x1280 .bf16) (ix2 a (⟨640 * e.val + k.val, by omega⟩ : Fin 1280)))
    * (show EReal from (iblk m c 1 t : Vec Ideal S2x1024x640 .bf16) (ix3 e b k))

/-- The product of two shards at once. -/
theorem pay (v0 : Vec Ideal S1024x640 .bf16) (v1 : Vec Ideal S1x1024x640 .bf16) (v4 : Vec Ideal S1024x640 .bf16) (v5 : Vec Ideal S1x1024x640 .bf16) (a b : Fin 1024) :
    k0_pay1 v0 v1 v4 v5 (ix2 a b) = (∑ k : Fin 640, (show EReal from v0 (ix2 a k)) * (show EReal from v1 (ix3 (0 : Fin 1) b k)))
      + ∑ k : Fin 640, (show EReal from v4 (ix2 a k)) * (show EReal from v5 (ix3 (0 : Fin 1) b k)) := by
  pointwise [k0_pay1]

theorem pay_half (t : Fin cfg0.N) (a b : Fin 1024) :
    k0_pay1 (View.ld (iblk m c 0 t) (Rect.unit (s := S1024x1280) ![0, 0] S1024x640.size inb_S1024x1280_S1024x640_0_0))
      (View.ld (iblk m c 1 t) (Rect.unit (s := S2x1024x640) ![0, 0, 0] S1x1024x640.size inb_S2x1024x640_S1x1024x640_0_0_0))
      (View.ld (iblk m c 0 t) (Rect.unit (s := S1024x1280) ![0, 640] S1024x640.size inb_S1024x1280_S1024x640_0_640))
      (View.ld (iblk m c 1 t) (Rect.unit (s := S2x1024x640) ![1, 0, 0] S1x1024x640.size inb_S2x1024x640_S1x1024x640_1_0_0)) (ix2 a b)
      = half m c t 0 a b + half m c t 1 a b := by
  refine (pay _ _ _ _ a b).trans ?_
  unfold half
  generalize iblk m c 0 t = x
  generalize iblk m c 1 t = w
  refine congrArg₂ (fun e e' : EReal => e + e') (Finset.sum_congr rfl fun k _ => ?_) (Finset.sum_congr rfl fun k _ => ?_)
  · refine congrArg₂ (fun e e' : EReal => e * e') (congrArg x ?_) (congrArg w ?_) <;> blk_ext [] <;> refine (LoadRect.idx_apply _ _ _).trans ?_ <;> simp
  · refine congrArg₂ (fun e e' : EReal => e * e') (congrArg x ?_) (congrArg w ?_) <;> blk_ext [] <;> refine (LoadRect.idx_apply _ _ _).trans ?_ <;> simp

theorem sc_A (t : Fin cfg0.N) (h : t.val % 2 = 0) (a : Fin 1024) (b : Fin 1024) :
    (outsAt0 m c t.val t.isLt).2 (ix2 a b) = half m c t 0 a b + half m c t 1 a b := by
  rw [outsAt0_A m c t h (by omega)]; frame_out
  rw [← pay_half]
  pointwise [k0_pay2]
  rfl

theorem out_B (t : Fin cfg0.N) (h : t.val % 2 = 1) (a : Fin 1024) (b : Fin 1024) :
    (outsAt0 m c t.val t.isLt).1 (ix2 a b)
      = (outsAt0 m c (t.val - 1) (Nat.lt_of_le_of_lt (Nat.sub_le _ _) t.isLt)).2 (ix2 a b) + (half m c t 0 a b + half m c t 1 a b) := by
  rw [outsAt0_B m c t (by omega) h]; frame_out
  rw [← pay_half]
  pointwise [k0_pay4]
  rw [read_unread_whole]
  rfl

/-- One term of the sum, at a column of the weight. -/
def term (t : Fin cfg0.N) (a : Fin 1024) (b : Fin 1024) (l : Fin 2560) : EReal :=
  (show EReal from (m ((c : Thread nD τ).loc main_arg0) : Vec Ideal S8192x2560 .bf16) (ix2 (⟨1024 * (t.val / 4) + a.val, by have ht : t.val < 32 := t.isLt; omega⟩ : Fin 8192) l))
    * (show EReal from (m ((c : Thread nD τ).loc main_arg1) : Vec Ideal S4x2048x640 .bf16) (ix3 (⟨l.val / 640, by omega⟩ : Fin 4)
      (⟨1024 * (t.val / 2 % 2) + b.val, by omega⟩ : Fin 2048) (⟨l.val % 640, by omega⟩ : Fin 640)))

theorem half_eq (t t' : Fin cfg0.N) (e : Fin 2) (a : Fin 1024) (b : Fin 1024) (q : ℕ) (hq : q < 4) (h : 2 * (t'.val % 2) + e.val = q) (hd : t'.val / 2 = t.val / 2) :
    half m c t' e a b = ∑ k : Fin 640, term m c t a b ⟨q * 640 + k.val, by omega⟩ := by
  unfold half
  refine Finset.sum_congr rfl fun k _ => ?_
  have ht : t.val < 32 := t.isLt
  have h4 : t'.val / 4 = t.val / 4 := by omega
  unfold term
  congr 1 <;> blk_ext [iblk, V, widx t', h4, hd]

theorem out_eq (t : Fin cfg0.N) (h : t.val % 2 = 1) (a : Fin 1024) (b : Fin 1024) :
    (outsAt0 m c t.val t.isLt).1 (ix2 a b) = (∑ l : Fin 2560, term m c t a b l) := by
  have ht : t.val < 32 := t.isLt
  have hN : cfg0.N = 32 := N_0
  rw [out_B m c t h a b, sc_A m c ⟨t.val - 1, by omega⟩ (by dsimp only; omega) a b,
    half_eq m c t t 0 a b 2 (by omega) (by simp [h]) rfl,
    half_eq m c t t 1 a b 3 (by omega) (by simp [h]) rfl,
    half_eq m c t ⟨t.val - 1, by omega⟩ 0 _ _ 0 (by omega) (by simp; omega) (by dsimp only; omega),
    half_eq m c t ⟨t.val - 1, by omega⟩ 1 _ _ 1 (by omega) (by simp; omega) (by dsimp only; omega),
    ← Fin.sum_mul_add_fin (L := 2560) 4 640 (fun l => term m c t a b l), Fin.sum_univ_four, ← add_assoc]
  rfl

/-- What the kernel leaves in its result. -/
theorem arr (j : S8192x2048.Idx) : ((dats m 0 c).arrAt 2 cfg0.N : Vec Ideal S8192x2048 .f32) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have hr : t.val % 2 = 1 := (by decide +kernel : ∀ t : Fin cfg0.N, (cfg0.win 2).flush t = true → t.val % 2 = 1) t hf
  have ht : t.val < 32 := t.isLt
  blk_simp [widx t]
  rw [after0_2]
  obtain ⟨a, b, rfl⟩ : ∃ (a : Fin 1024) (b : Fin 1024), y = ix2 a b := ⟨y 0, y 1, by funext i; fin_cases i <;> rfl⟩
  refine (out_eq m c t hr a b).trans ?_
  unfold grad
  refine Finset.sum_congr rfl fun l _ => ?_
  unfold term
  congr 1 <;> blk_ext [widx t]

/-- What the reference leaves in its result. -/
theorem ref (g : Vec Ideal S8192x2560 .bf16) (w : Vec Ideal S4x2048x640 .bf16) (j : S8192x2048.Idx) :
    Cert.QkvDxReferenceIdeal.Read.val_main_v6 (F := Ideal) g w j = grad g w j := by
  open Cert.QkvDxReferenceIdeal.Read in
  rw [val_main_v6_apply]
  unfold grad
  refine Finset.sum_congr rfl fun l _ => ?_
  rw [val_main_v3_apply, val_main_v2_apply]
  have h1 : (j 1).val < 2048 := (j 1).isLt
  congr 1 <;> blk_ext []

end Cert.Proof.QkvDx

end
-- ==== Proof.QkvVal.lean ====
/-
  The attention's first product, by a weight that lies in four shards of columns: each block of the kernel's result is
  one product over the whole depth.
-/
module

public import proofs.«01_k».proof.Proof.Gen.QkvIdeal
public import proofs.«01_k».proof.Proof.Gen.QkvIdeal.Frame
public import proofs.«01_k».proof.Proof.Gen.QkvIdeal.Value
public import proofs.«01_k».proof.Proof.Gen.QkvReferenceIdeal.Run
public import proofs.«01_k».proof.Proof.Gen.QkvReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Qkv

open Idealize.ShloMosaic Idealize.ShloMosaic.TcCoe Idealize.SL.Sem Cert.QkvIdeal Cert.QkvIdeal.Facts Cert.QkvIdeal.Gen

/-- The result at token `i 0` and feature `i 1`. -/
def grad (h : Vec Ideal S8192x2048 .bf16) (w : Vec Ideal S4x2048x640 .bf16) (i : S8192x2560.Idx) : EReal :=
  ∑ k : Fin 2048, (h (ix2 (i 0) k) : EReal) * w (ix3 (⟨(i 1).val / 640, by have h1 : (i 1).val < 2560 := (i 1).isLt; omega⟩ : Fin 4) k
    (⟨(i 1).val % 640, by omega⟩ : Fin 640))

theorem widx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

variable (m : (ℓ : Loc nD τ sig) → Buf (Elt Ideal) ℓ) (c : Dev nD)

theorem out_eq (t : Fin cfg0.N) (a : Fin 1024) (b : Fin 640) :
    (outsAt0 m c t) (ix2 a b) = ∑ k : Fin 2048, (show EReal from (iblk m c 0 t : Vec Ideal S1024x2048 .bf16) (ix2 a k))
      * (show EReal from (iblk m c 1 t : Vec Ideal S1x2048x640 .bf16) (ix3 (0 : Fin 1) k b)) := by
  unfold outsAt0; frame_out
  pointwise [k0_pay1]

/-- What the kernel leaves in its result. -/
theorem arr (j : S8192x2560.Idx) : ((dats m 0 c).arrAt 2 cfg0.N : Vec Ideal S8192x2560 .f32) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have ht : t.val < 32 := t.isLt
  blk_simp [widx t]
  rw [after0_2]
  obtain ⟨a, b, rfl⟩ : ∃ (a : Fin 1024) (b : Fin 640), y = ix2 a b := ⟨y 0, y 1, by funext i; fin_cases i <;> rfl⟩
  refine (out_eq m c t a b).trans ?_
  unfold grad
  refine Finset.sum_congr rfl fun l _ => ?_
  congr 1 <;> blk_ext [iblk, V, widx t]

/-- What the reference leaves in its result. -/
theorem ref (h : Vec Ideal S8192x2048 .bf16) (w : Vec Ideal S4x2048x640 .bf16) (j : S8192x2560.Idx) :
    Cert.QkvReferenceIdeal.Read.val_main_v4 (F := Ideal) h w j = grad h w j := by
  open Cert.QkvReferenceIdeal.Read in
  refine (val_main_v4_apply h w _).trans ?_
  unfold grad
  refine Finset.sum_congr rfl fun l _ => ?_
  rw [val_main_v3_apply, val_main_v2_apply]
  have h1 : (j 1).val < 2560 := (j 1).isLt
  congr 1 <;> blk_ext []

end Cert.Proof.Qkv

end
-- ==== Proof.AttnOutDwVal.lean ====
/-
  The gradient of the weight of the attention's output product: the kernel's sum over the token blocks is the
  reference's product of the transposed activations with the gradient.
-/
module

public import proofs.«01_k».proof.Proof.Gen.AttnOutDwIdeal
public import proofs.«01_k».proof.Proof.Gen.AttnOutDwIdeal.Frame
public import proofs.«01_k».proof.Proof.Gen.AttnOutDwIdeal.Value
public import proofs.«01_k».proof.Proof.Gen.AttnOutDwReferenceIdeal.Run
public import proofs.«01_k».proof.Proof.Gen.AttnOutDwReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AttnOutDw

open Idealize.ShloMosaic Idealize.ShloMosaic.TcCoe Idealize.SL.Sem Cert.AttnOutDwIdeal Cert.AttnOutDwIdeal.Facts Cert.AttnOutDwIdeal.Gen

/-- The gradient at row `i 0` and column `i 1`. -/
def grad (h : Vec Ideal S8192x2048 .bf16) (g : Vec Ideal S8192x2048 .bf16) (i : S2048x2048.Idx) : EReal :=
  ∑ k : Fin 8192, (h (ix2 k (i 0)) : EReal) * g (ix2 k (i 1))

theorem widx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

variable (m : (ℓ : Loc nD τ sig) → Buf (Elt Ideal) ℓ) (c : Dev nD)

/-- The part of a block's sum that one point of its run adds. -/
def part (t : Fin cfg0.N) (a : Fin 1024) (b : Fin 1024) : EReal :=
  ∑ k : Fin 2048, (show EReal from (iblk m c 0 t : Vec Ideal S2048x1024 .bf16) (ix2 k a)) * (show EReal from (iblk m c 1 t : Vec Ideal S2048x1024 .bf16) (ix2 k b))

theorem sc_A (t : Fin cfg0.N) (h : t.val % 4 = 0) (a : Fin 1024) (b : Fin 1024) :
    (outsAt0 m c t.val t.isLt).2 (ix2 a b) = part m c t a b := by
  rw [outsAt0_A m c t h (by omega) (by omega)]; frame_out
  pointwise [k0_pay2, k0_pay1, part]

theorem sc_B (t : Fin cfg0.N) (h : 1 ≤ t.val % 4 ∧ t.val % 4 ≤ 2) (a : Fin 1024) (b : Fin 1024) :
    (outsAt0 m c t.val t.isLt).2 (ix2 a b)
      = (outsAt0 m c (t.val - 1) (Nat.lt_of_le_of_lt (Nat.sub_le _ _) t.isLt)).2 (ix2 a b) + part m c t a b := by
  rw [outsAt0_B m c t (by omega) h (by omega)]; frame_out
  pointwise [k0_pay3, k0_pay1, part]
  rw [read_unread_whole]

theorem out_C (t : Fin cfg0.N) (h : t.val % 4 = 3) (a : Fin 1024) (b : Fin 1024) :
    (outsAt0 m c t.val t.isLt).1 (ix2 a b)
      = (outsAt0 m c (t.val - 1) (Nat.lt_of_le_of_lt (Nat.sub_le _ _) t.isLt)).2 (ix2 a b) + part m c t a b := by
  rw [outsAt0_C m c t (by omega) (by omega) h]; frame_out
  pointwise [k0_pay4, k0_pay1, part]
  rw [read_unread_whole]

/-- One term of the sum, at a token. -/
def term (t : Fin cfg0.N) (a : Fin 1024) (b : Fin 1024) (l : Fin 8192) : EReal :=
  (show EReal from (m ((c : Thread nD τ).loc main_arg0) : Vec Ideal S8192x2048 .bf16) (ix2 l (⟨1024 * (t.val / 8) + a.val, by have ht : t.val < 16 := t.isLt; omega⟩ : Fin 2048)))
    * (show EReal from (m ((c : Thread nD τ).loc main_arg1) : Vec Ideal S8192x2048 .bf16) (ix2 l (⟨1024 * (t.val / 4 % 2) + b.val, by omega⟩ : Fin 2048)))

theorem part_eq (t t' : Fin cfg0.N) (a : Fin 1024) (b : Fin 1024) (q : ℕ) (hq : q < 4) (h : t'.val % 4 = q) (hd : t'.val / 4 = t.val / 4) :
    part m c t' a b = ∑ k : Fin 2048, term m c t a b ⟨q * 2048 + k.val, by omega⟩ := by
  unfold part
  refine Finset.sum_congr rfl fun k _ => ?_
  have ht : t.val < 16 := t.isLt
  have h8 : t'.val / 8 = t.val / 8 := by omega
  unfold term
  congr 1 <;> blk_ext [iblk, V, widx t', h, h8, hd]

theorem out_eq (t : Fin cfg0.N) (h : t.val % 4 = 3) (a : Fin 1024) (b : Fin 1024) :
    (outsAt0 m c t.val t.isLt).1 (ix2 a b) = ∑ l : Fin 8192, term m c t a b l := by
  have ht : t.val < 16 := t.isLt
  have hN : cfg0.N = 16 := N_0
  rw [out_C m c t h a b,
    sc_B m c ⟨t.val - 1, by omega⟩ (by dsimp only; omega) a b,
    sc_B m c ⟨t.val - 1 - 1, by omega⟩ (by dsimp only; omega) a b,
    sc_A m c ⟨t.val - 1 - 1 - 1, by omega⟩ (by dsimp only; omega) a b,
    part_eq m c t t a b 3 (by omega) h rfl,
    part_eq m c t ⟨t.val - 1, by omega⟩ _ _ 2 (by omega) (by dsimp only; omega) (by dsimp only; omega),
    part_eq m c t ⟨t.val - 1 - 1, by omega⟩ _ _ 1 (by omega) (by dsimp only; omega) (by dsimp only; omega),
    part_eq m c t ⟨t.val - 1 - 1 - 1, by omega⟩ _ _ 0 (by omega) (by dsimp only; omega) (by dsimp only; omega),
    ← Fin.sum_mul_add_fin (L := 8192) 4 2048 (fun l => term m c t a b l), Fin.sum_univ_four]
  rfl

/-- What the kernel leaves in its result. -/
theorem arr (j : S2048x2048.Idx) : ((dats m 0 c).arrAt 2 cfg0.N : Vec Ideal S2048x2048 .bf16) j
    = grad (m ((c : Thread nD τ).loc main_arg0)) (m ((c : Thread nD τ).loc main_arg1)) j := by
  refine (dats m 0 c).arrAt_forall_of_covers 2 (fun j v => v = grad (m ((c : Thread nD τ).loc main_arg0)) (m ((c : Thread nD τ).loc main_arg1)) j)
    (by decide +kernel) (fun t hf y => ?_) j
  have hr : t.val % 4 = 3 := (by decide +kernel : ∀ t : Fin cfg0.N, (cfg0.win 2).flush t = true → t.val % 4 = 3) t hf
  blk_simp [widx t]
  rw [after0_2]
  obtain ⟨a, b, rfl⟩ : ∃ (a : Fin 1024) (b : Fin 1024), y = ix2 a b :=
    ⟨y 0, y 1, by funext i; fin_cases i <;> rfl⟩
  refine (out_eq m c t hr a b).trans ?_
  unfold grad
  refine Finset.sum_congr rfl fun l _ => ?_
  unfold term
  congr 1 <;> blk_ext [widx t]

/-- What the reference leaves in its result. -/
theorem ref (h : Vec Ideal S8192x2048 .bf16) (g : Vec Ideal S8192x2048 .bf16) (j : S2048x2048.Idx) :
    Cert.AttnOutDwReferenceIdeal.Read.val_main_v6 (F := Ideal) h g j = grad h g j := by
  open Cert.AttnOutDwReferenceIdeal.Read in
  rw [val_main_v6_apply, val_main_v5_apply]
  refine (val_main_v4_apply h g _).trans ?_
  unfold grad
  refine Finset.sum_congr rfl fun l _ => ?_
  refine (mul_comm (G := EReal) _ _).trans ?_
  congr 1 <;> blk_ext []

end Cert.Proof.AttnOutDw

end
-- ==== Proof.AttnOutDxVal.lean ====
/-
  The gradient of the attention's output: each block of the kernel's result is one product over the whole depth.
-/
module

public import proofs.«01_k».proof.Proof.Gen.AttnOutDxIdeal
public import proofs.«01_k».proof.Proof.Gen.AttnOutDxIdeal.Frame
public import proofs.«01_k».proof.Proof.Gen.AttnOutDxIdeal.Value
public import proofs.«01_k».proof.Proof.Gen.AttnOutDxReferenceIdeal.Run
public import proofs.«01_k».proof.Proof.Gen.AttnOutDxReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AttnOutDx

open Idealize.ShloMosaic Idealize.ShloMosaic.TcCoe Idealize.SL.Sem Cert.AttnOutDxIdeal Cert.AttnOutDxIdeal.Facts Cert.AttnOutDxIdeal.Gen

/-- The gradient at token `i 0` and feature `i 1`. -/
def proj (h : Vec Ideal S8192x2048 .bf16) (w : Vec Ideal S2048x2048 .bf16) (i : S8192x2048.Idx) : EReal :=
  ∑ k : Fin 2048, (h (ix2 (i 0) k) : EReal) * w (ix2 (i 1) k)

theorem widx : ∀ t : Fin cfg0.N, win0_0.index t = ![t.val / 2, 0] ∧ win0_1.index t = ![t.val % 2, 0]
    ∧ win0_2.index t = ![t.val / 2, t.val % 2] :=
  (by decide +kernel : ∀ t : Fin grid0.N, _)

variable (m : (ℓ : Loc nD τ sig) → Buf (Elt Ideal) ℓ) (c : Dev nD)

/-- A block's product. -/
def prod (t : Fin cfg0.N) (a : Fin 1024) (b : Fin 1024) : EReal :=
  ∑ k : Fin 2048, (show EReal from (iblk m c 0 t : Vec Ideal S1024x2048 .bf16) (ix2 a k)) * (show EReal from (iblk m c 1 t : Vec Ideal S1024x2048 .bf16) (ix2 b k))

theorem out (t : Fin cfg0.N) (a : Fin 1024) (b : Fin 1024) : (outsAt0 m c t) (ix2 a b) = prod m c t a b := by
  unfold outsAt0; frame_out
  pointwise [k0_pay1, prod]

theorem prod_eq (t : Fin cfg0.N) (a : Fin 1024) (b : Fin 1024) (j : S8192x2048.Idx) (h0 : (j 0).val = t.val / 2 * 1024 + a.val) (h1 : (j 1).val = t.val % 2 * 1024 + b.val) :
    prod m c t a b = proj (m ((c : Thread nD τ).loc main_arg0)) (m ((c : Thread nD τ).loc main_arg1)) j := by
  have ht : t.val < 16 := t.isLt
  unfold proj prod
  refine Finset.sum_congr rfl fun l _ => ?_
  congr 1 <;> blk_ext [iblk, V, widx t, h0, h1]

/-- What the kernel leaves in its result. -/
theorem arr (j : S8192x2048.Idx) : ((dats m 0 c).arrAt 2 cfg0.N : Vec Ideal S8192x2048 .bf16) j
    = proj (m ((c : Thread nD τ).loc main_arg0)) (m ((c : Thread nD τ).loc main_arg1)) j := by
  refine (dats m 0 c).arrAt_forall_of_covers 2 (fun j v => v = proj (m ((c : Thread nD τ).loc main_arg0)) (m ((c : Thread nD τ).loc main_arg1)) j)
    (by decide +kernel) (fun t hf y => ?_) j
  blk_simp [widx t]
  rw [after0_2]
  obtain ⟨a, b, rfl⟩ : ∃ (a : Fin 1024) (b : Fin 1024), y = ix2 a b := ⟨y 0, y 1, by funext i; fin_cases i <;> rfl⟩
  refine (out m c t a b).trans ?_
  rw [← prod_eq m c t a b _ (by blk_ext [widx t]) (by blk_ext [widx t])]

/-- What the reference leaves in its result. -/
theorem ref (h : Vec Ideal S8192x2048 .bf16) (w : Vec Ideal S2048x2048 .bf16) (j : S8192x2048.Idx) :
    Cert.AttnOutDxReferenceIdeal.Read.val_main_v5 (F := Ideal) h w j = proj h w j := by
  open Cert.AttnOutDxReferenceIdeal.Read in
  rw [val_main_v5_apply]
  refine (val_main_v4_apply h w _).trans ?_
  unfold proj
  refine Finset.sum_congr rfl fun l _ => ?_
  congr 1 <;> blk_ext []

end Cert.Proof.AttnOutDx

end
-- ==== Proof.AttnOutVal.lean ====
/-
  The attention's output product on top of the residual: each block of the kernel's result is one product over the whole
  depth.
-/
module

public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutReferenceIdeal.Run
public import proofs.«01_k».proof.Proof.Gen.AttnOutReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.AttnOut

open Idealize.ShloMosaic Idealize.ShloMosaic.TcCoe Idealize.SL.Sem Cert.AttnOutIdeal Cert.AttnOutIdeal.Facts Cert.AttnOutIdeal.Gen

/-- The product at token `i 0` and feature `i 1`. -/
def proj (h : Vec Ideal S8192x2048 .bf16) (w : Vec Ideal S2048x2048 .bf16) (i : S8192x2048.Idx) : EReal :=
  ∑ k : Fin 2048, (h (ix2 (i 0) k) : EReal) * w (ix2 k (i 1))

theorem widx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

variable (m : (ℓ : Loc nD τ sig) → Buf (Elt Ideal) ℓ) (c : Dev nD)

/-- A block's product. -/
def prod (t : Fin cfg0.N) (a : Fin 1024) (b : Fin 1024) : EReal :=
  ∑ k : Fin 2048, (show EReal from (iblk m c 0 t : Vec Ideal S1024x2048 .bf16) (ix2 a k)) * (show EReal from (iblk m c 1 t : Vec Ideal S2048x1024 .bf16) (ix2 k b))

theorem out (t : Fin cfg0.N) (a : Fin 1024) (b : Fin 1024) : (outsAt0 m c t) (ix2 a b)
    = prod m c t a b + (show EReal from (iblk m c 2 t : Vec Ideal S1024x1024 .f32) (ix2 a b)) := by
  unfold outsAt0; frame_out
  pointwise [k0_pay1, prod]

theorem prod_eq (t : Fin cfg0.N) (a : Fin 1024) (b : Fin 1024) (j : S8192x2048.Idx) (h0 : (j 0).val = t.val / 2 * 1024 + a.val) (h1 : (j 1).val = t.val % 2 * 1024 + b.val) :
    prod m c t a b = proj (m ((c : Thread nD τ).loc main_arg0)) (m ((c : Thread nD τ).loc main_arg1)) j := by
  have ht : t.val < 16 := t.isLt
  unfold proj prod
  refine Finset.sum_congr rfl fun l _ => ?_
  congr 1 <;> blk_ext [iblk, V, widx t, h0, h1]

/-- What the kernel leaves in its result, from its arguments. -/
def grad (h : Vec Ideal S8192x2048 .bf16) (w : Vec Ideal S2048x2048 .bf16) (x : Vec Ideal S8192x2048 .f32) (j : S8192x2048.Idx) : EReal :=
  proj h w j + (x j : EReal)

theorem arr (j : S8192x2048.Idx) : ((dats m 0 c).arrAt 3 cfg0.N : Vec Ideal S8192x2048 .f32) j
    = grad (m ((c : Thread nD τ).loc main_arg0)) (m ((c : Thread nD τ).loc main_arg1)) (m ((c : Thread nD τ).loc main_arg2)) j := by
  refine (dats m 0 c).arrAt_forall_of_covers 3 (fun j v => v = grad (m ((c : Thread nD τ).loc main_arg0)) (m ((c : Thread nD τ).loc main_arg1)) (m ((c : Thread nD τ).loc main_arg2)) j)
    (by decide +kernel) (fun t hf y => ?_) j
  blk_simp [widx t]
  rw [after0_3]
  obtain ⟨a, b, rfl⟩ : ∃ (a : Fin 1024) (b : Fin 1024), y = ix2 a b := ⟨y 0, y 1, by funext i; fin_cases i <;> rfl⟩
  refine (out m c t a b).trans ?_
  unfold grad
  rw [← prod_eq m c t a b _ (by blk_ext [widx t]) (by blk_ext [widx t])]
  rfl

/-- What the reference leaves in its result. -/
theorem ref (h : Vec Ideal S8192x2048 .bf16) (w : Vec Ideal S2048x2048 .bf16) (x : Vec Ideal S8192x2048 .f32) (j : S8192x2048.Idx) :
    Cert.AttnOutReferenceIdeal.Read.val_main_v3 (F := Ideal) h w x j = grad h w x j := by
  open Cert.AttnOutReferenceIdeal.Read in
  rw [val_main_v3_apply, val_main_v2_apply]
  unfold grad proj
  refine congrArg (fun e : EReal => e + (x j : EReal)) (Finset.sum_congr rfl fun l _ => ?_)
  congr 1 <;> blk_ext []

end Cert.Proof.AttnOut

end
-- ==== Proof.Outer.lean ====
/-
  The products with the weights of the mixer's output, of the attention's queries, keys and values, and of its output:
  each of them, its idealization and its reference run, keep their arguments and leave every counter at zero; and each
  idealized product's result is its reference's.
-/
module

public import proofs.«01_k».proof.Defs
public import proofs.«01_k».proof.Proof.Gen.SsmOutDw
public import proofs.«01_k».proof.Proof.Gen.SsmOutDw.Frame
public import proofs.«01_k».proof.Proof.Gen.SsmOutDwIdeal
public import proofs.«01_k».proof.Proof.Gen.SsmOutDwIdeal.Frame
public import proofs.«01_k».proof.Proof.Gen.SsmOutDwIdeal.Value
public import proofs.«01_k».proof.Proof.Gen.SsmOutDwReferenceIdeal.Run
public import proofs.«01_k».proof.Proof.Gen.SsmOutDwReferenceIdeal.Read
public import proofs.«01_k».proof.Proof.SsmOutDwVal
public import proofs.«01_k».proof.Proof.Gen.SsmOutDx
public import proofs.«01_k».proof.Proof.Gen.SsmOutDx.Frame
public import proofs.«01_k».proof.Proof.Gen.SsmOutDxIdeal
public import proofs.«01_k».proof.Proof.Gen.SsmOutDxIdeal.Frame
public import proofs.«01_k».proof.Proof.Gen.SsmOutDxIdeal.Value
public import proofs.«01_k».proof.Proof.Gen.SsmOutDxReferenceIdeal.Run
public import proofs.«01_k».proof.Proof.Gen.SsmOutDxReferenceIdeal.Read
public import proofs.«01_k».proof.Proof.SsmOutDxVal
public import proofs.«01_k».proof.Proof.Gen.SsmOut
public import proofs.«01_k».proof.Proof.Gen.SsmOut.Frame
public import proofs.«01_k».proof.Proof.Gen.SsmOutIdeal
public import proofs.«01_k».proof.Proof.Gen.SsmOutIdeal.Frame
public import proofs.«01_k».proof.Proof.Gen.SsmOutIdeal.Value
public import proofs.«01_k».proof.Proof.Gen.SsmOutReferenceIdeal.Run
public import proofs.«01_k».proof.Proof.Gen.SsmOutReferenceIdeal.Read
public import proofs.«01_k».proof.Proof.SsmOutVal
public import proofs.«01_k».proof.Proof.Gen.QkvDw
public import proofs.«01_k».proof.Proof.Gen.QkvDw.Frame
public import proofs.«01_k».proof.Proof.Gen.QkvDwIdeal
public import proofs.«01_k».proof.Proof.Gen.QkvDwIdeal.Frame
public import proofs.«01_k».proof.Proof.Gen.QkvDwIdeal.Value
public import proofs.«01_k».proof.Proof.Gen.QkvDwReferenceIdeal.Run
public import proofs.«01_k».proof.Proof.Gen.QkvDwReferenceIdeal.Read
public import proofs.«01_k».proof.Proof.QkvDwVal
public import proofs.«01_k».proof.Proof.Gen.QkvDx
public import proofs.«01_k».proof.Proof.Gen.QkvDx.Frame
public import proofs.«01_k».proof.Proof.Gen.QkvDxIdeal
public import proofs.«01_k».proof.Proof.Gen.QkvDxIdeal.Frame
public import proofs.«01_k».proof.Proof.Gen.QkvDxIdeal.Value
public import proofs.«01_k».proof.Proof.Gen.QkvDxReferenceIdeal.Run
public import proofs.«01_k».proof.Proof.Gen.QkvDxReferenceIdeal.Read
public import proofs.«01_k».proof.Proof.QkvDxVal
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvIdeal.Value
public import proofs.«01_k».proof.Proof.Gen.QkvReferenceIdeal.Run
public import proofs.«01_k».proof.Proof.Gen.QkvReferenceIdeal.Read
public import proofs.«01_k».proof.Proof.QkvVal
public import proofs.«01_k».proof.Proof.Gen.AttnOutDw
public import proofs.«01_k».proof.Proof.Gen.AttnOutDw.Frame
public import proofs.«01_k».proof.Proof.Gen.AttnOutDwIdeal
public import proofs.«01_k».proof.Proof.Gen.AttnOutDwIdeal.Frame
public import proofs.«01_k».proof.Proof.Gen.AttnOutDwIdeal.Value
public import proofs.«01_k».proof.Proof.Gen.AttnOutDwReferenceIdeal.Run
public import proofs.«01_k».proof.Proof.Gen.AttnOutDwReferenceIdeal.Read
public import proofs.«01_k».proof.Proof.AttnOutDwVal
public import proofs.«01_k».proof.Proof.Gen.AttnOutDx
public import proofs.«01_k».proof.Proof.Gen.AttnOutDx.Frame
public import proofs.«01_k».proof.Proof.Gen.AttnOutDxIdeal
public import proofs.«01_k».proof.Proof.Gen.AttnOutDxIdeal.Frame
public import proofs.«01_k».proof.Proof.Gen.AttnOutDxIdeal.Value
public import proofs.«01_k».proof.Proof.Gen.AttnOutDxReferenceIdeal.Run
public import proofs.«01_k».proof.Proof.Gen.AttnOutDxReferenceIdeal.Read
public import proofs.«01_k».proof.Proof.AttnOutDxVal
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutReferenceIdeal.Run
public import proofs.«01_k».proof.Proof.Gen.AttnOutReferenceIdeal.Read
public import proofs.«01_k».proof.Proof.AttnOutVal
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem Idealize.ShloMosaic.StableHlo

namespace Cert.Proof.SsmOutDw

theorem frame_kernel : Cert.quiescent_SsmOutDw := fun m g _ => Cert.SsmOutDw.Gen.frame m g

theorem frame_ideal : Cert.quiescent_SsmOutDwIdeal := fun m g _ => Cert.SsmOutDwIdeal.Gen.frame m g

theorem frame_reference : Cert.quiescent_SsmOutDwReferenceIdeal := fun m g _ =>
  (θ_run Cert.SsmOutDwReferenceIdeal.defs _ _).mono
    (fun r h => ⟨fun c => (h c).2, sem_eq_zero_of_no_sems (by decide) r.2⟩)
    (Cert.SsmOutDwReferenceIdeal.Value.run m g)

theorem values : Cert.algebraic_SsmOutDwIdeal_SsmOutDwReferenceIdeal := by
  intro m g m' g' _ hargs
  refine ⟨fun c => (Cert.SsmOutDwIdeal.Gen.dats m 0 c).arrAt 2 Cert.SsmOutDwIdeal.cfg0.N, ?_, ?_⟩
  · exact (θ_run Cert.SsmOutDwIdeal.defs _ _).mono (fun r h c => h c) (Cert.SsmOutDwIdeal.Value.run_blocks m g)
  · refine (θ_run Cert.SsmOutDwReferenceIdeal.defs _ _).mono (fun r h c => ?_) (Cert.SsmOutDwReferenceIdeal.Value.run m' g')
    obtain ⟨r0, ra⟩ := h c
    obtain ⟨e0, e1⟩ := hargs c
    have s0 := r0.trans (Cert.SsmOutDwReferenceIdeal.Read.val_main_v6_eq (F := Ideal) _ _ ).symm
    rw [e0, e1] at s0
    exact ⟨s0.trans (funext fun i => (ref _ _ i).trans (arr m c i).symm), ra⟩

end Cert.Proof.SsmOutDw

namespace Cert.Proof.SsmOutDx

theorem frame_kernel : Cert.quiescent_SsmOutDx := fun m g _ => Cert.SsmOutDx.Gen.frame m g

theorem frame_ideal : Cert.quiescent_SsmOutDxIdeal := fun m g _ => Cert.SsmOutDxIdeal.Gen.frame m g

theorem frame_reference : Cert.quiescent_SsmOutDxReferenceIdeal := fun m g _ =>
  (θ_run Cert.SsmOutDxReferenceIdeal.defs _ _).mono
    (fun r h => ⟨fun c => (h c).2, sem_eq_zero_of_no_sems (by decide) r.2⟩)
    (Cert.SsmOutDxReferenceIdeal.Value.run m g)

theorem values : Cert.algebraic_SsmOutDxIdeal_SsmOutDxReferenceIdeal := by
  intro m g m' g' _ hargs
  refine ⟨fun c => (Cert.SsmOutDxIdeal.Gen.dats m 0 c).arrAt 2 Cert.SsmOutDxIdeal.cfg0.N, ?_, ?_⟩
  · exact (θ_run Cert.SsmOutDxIdeal.defs _ _).mono (fun r h c => h c) (Cert.SsmOutDxIdeal.Value.run_blocks m g)
  · refine (θ_run Cert.SsmOutDxReferenceIdeal.defs _ _).mono (fun r h c => ?_) (Cert.SsmOutDxReferenceIdeal.Value.run m' g')
    obtain ⟨r0, ra⟩ := h c
    obtain ⟨e0, e1⟩ := hargs c
    have s0 := r0.trans (Cert.SsmOutDxReferenceIdeal.Read.val_main_v4_eq (F := Ideal) _ _ ).symm
    rw [e0, e1] at s0
    exact ⟨s0.trans (funext fun i => (ref _ _ i).trans (arr m c i).symm), ra⟩

end Cert.Proof.SsmOutDx

namespace Cert.Proof.SsmOut

theorem frame_kernel : Cert.quiescent_SsmOut := fun m g _ => Cert.SsmOut.Gen.frame m g

theorem frame_ideal : Cert.quiescent_SsmOutIdeal := fun m g _ => Cert.SsmOutIdeal.Gen.frame m g

theorem frame_reference : Cert.quiescent_SsmOutReferenceIdeal := fun m g _ =>
  (θ_run Cert.SsmOutReferenceIdeal.defs _ _).mono
    (fun r h => ⟨fun c => (h c).2, sem_eq_zero_of_no_sems (by decide) r.2⟩)
    (Cert.SsmOutReferenceIdeal.Value.run m g)

theorem values : Cert.algebraic_SsmOutIdeal_SsmOutReferenceIdeal := by
  intro m g m' g' _ hargs
  refine ⟨fun c => (Cert.SsmOutIdeal.Gen.dats m 0 c).arrAt 3 Cert.SsmOutIdeal.cfg0.N, ?_, ?_⟩
  · exact (θ_run Cert.SsmOutIdeal.defs _ _).mono (fun r h c => h c) (Cert.SsmOutIdeal.Value.run_blocks m g)
  · refine (θ_run Cert.SsmOutReferenceIdeal.defs _ _).mono (fun r h c => ?_) (Cert.SsmOutReferenceIdeal.Value.run m' g')
    obtain ⟨r0, ra⟩ := h c
    obtain ⟨e0, e1, e2⟩ := hargs c
    have s0 := r0.trans (Cert.SsmOutReferenceIdeal.Read.val_main_v3_eq (F := Ideal) _ _ _ ).symm
    rw [e0, e1, e2] at s0
    exact ⟨s0.trans (funext fun i => (ref _ _ _ i).trans (arr m c i).symm), ra⟩

end Cert.Proof.SsmOut

namespace Cert.Proof.QkvDw

theorem frame_kernel : Cert.quiescent_QkvDw := fun m g _ => Cert.QkvDw.Gen.frame m g

theorem frame_ideal : Cert.quiescent_QkvDwIdeal := fun m g _ => Cert.QkvDwIdeal.Gen.frame m g

theorem frame_reference : Cert.quiescent_QkvDwReferenceIdeal := fun m g _ =>
  (θ_run Cert.QkvDwReferenceIdeal.defs _ _).mono
    (fun r h => ⟨fun c => (h c).2, sem_eq_zero_of_no_sems (by decide) r.2⟩)
    (Cert.QkvDwReferenceIdeal.Value.run m g)

theorem values : Cert.algebraic_QkvDwIdeal_QkvDwReferenceIdeal := by
  intro m g m' g' _ hargs
  refine ⟨fun c => (Cert.QkvDwIdeal.Gen.dats m 0 c).arrAt 2 Cert.QkvDwIdeal.cfg0.N, ?_, ?_⟩
  · exact (θ_run Cert.QkvDwIdeal.defs _ _).mono (fun r h c => h c) (Cert.QkvDwIdeal.Value.run_blocks m g)
  · refine (θ_run Cert.QkvDwReferenceIdeal.defs _ _).mono (fun r h c => ?_) (Cert.QkvDwReferenceIdeal.Value.run m' g')
    obtain ⟨r0, ra⟩ := h c
    obtain ⟨e0, e1⟩ := hargs c
    have s0 := r0.trans (Cert.QkvDwReferenceIdeal.Read.val_main_v8_eq (F := Ideal) _ _ ).symm
    rw [e0, e1] at s0
    exact ⟨s0.trans (funext fun i => (ref _ _ i).trans (arr m c i).symm), ra⟩

end Cert.Proof.QkvDw

namespace Cert.Proof.QkvDx

theorem frame_kernel : Cert.quiescent_QkvDx := fun m g _ => Cert.QkvDx.Gen.frame m g

theorem frame_ideal : Cert.quiescent_QkvDxIdeal := fun m g _ => Cert.QkvDxIdeal.Gen.frame m g

theorem frame_reference : Cert.quiescent_QkvDxReferenceIdeal := fun m g _ =>
  (θ_run Cert.QkvDxReferenceIdeal.defs _ _).mono
    (fun r h => ⟨fun c => (h c).2, sem_eq_zero_of_no_sems (by decide) r.2⟩)
    (Cert.QkvDxReferenceIdeal.Value.run m g)

theorem values : Cert.algebraic_QkvDxIdeal_QkvDxReferenceIdeal := by
  intro m g m' g' _ hargs
  refine ⟨fun c => (Cert.QkvDxIdeal.Gen.dats m 0 c).arrAt 2 Cert.QkvDxIdeal.cfg0.N, ?_, ?_⟩
  · exact (θ_run Cert.QkvDxIdeal.defs _ _).mono (fun r h c => h c) (Cert.QkvDxIdeal.Value.run_blocks m g)
  · refine (θ_run Cert.QkvDxReferenceIdeal.defs _ _).mono (fun r h c => ?_) (Cert.QkvDxReferenceIdeal.Value.run m' g')
    obtain ⟨r0, ra⟩ := h c
    obtain ⟨e0, e1⟩ := hargs c
    have s0 := r0.trans (Cert.QkvDxReferenceIdeal.Read.val_main_v6_eq (F := Ideal) _ _ ).symm
    rw [e0, e1] at s0
    exact ⟨s0.trans (funext fun i => (ref _ _ i).trans (arr m c i).symm), ra⟩

end Cert.Proof.QkvDx

namespace Cert.Proof.Qkv

theorem frame_kernel : Cert.quiescent_Qkv := fun m g _ => Cert.Qkv.Gen.frame m g

theorem frame_ideal : Cert.quiescent_QkvIdeal := fun m g _ => Cert.QkvIdeal.Gen.frame m g

theorem frame_reference : Cert.quiescent_QkvReferenceIdeal := fun m g _ =>
  (θ_run Cert.QkvReferenceIdeal.defs _ _).mono
    (fun r h => ⟨fun c => (h c).2, sem_eq_zero_of_no_sems (by decide) r.2⟩)
    (Cert.QkvReferenceIdeal.Value.run m g)

theorem values : Cert.algebraic_QkvIdeal_QkvReferenceIdeal := by
  intro m g m' g' _ hargs
  refine ⟨fun c => (Cert.QkvIdeal.Gen.dats m 0 c).arrAt 2 Cert.QkvIdeal.cfg0.N, ?_, ?_⟩
  · exact (θ_run Cert.QkvIdeal.defs _ _).mono (fun r h c => h c) (Cert.QkvIdeal.Value.run_blocks m g)
  · refine (θ_run Cert.QkvReferenceIdeal.defs _ _).mono (fun r h c => ?_) (Cert.QkvReferenceIdeal.Value.run m' g')
    obtain ⟨r0, ra⟩ := h c
    obtain ⟨e0, e1⟩ := hargs c
    have s0 := r0.trans (Cert.QkvReferenceIdeal.Read.val_main_v4_eq (F := Ideal) _ _ ).symm
    rw [e0, e1] at s0
    exact ⟨s0.trans (funext fun i => (ref _ _ i).trans (arr m c i).symm), ra⟩

end Cert.Proof.Qkv

namespace Cert.Proof.AttnOutDw

theorem frame_kernel : Cert.quiescent_AttnOutDw := fun m g _ => Cert.AttnOutDw.Gen.frame m g

theorem frame_ideal : Cert.quiescent_AttnOutDwIdeal := fun m g _ => Cert.AttnOutDwIdeal.Gen.frame m g

theorem frame_reference : Cert.quiescent_AttnOutDwReferenceIdeal := fun m g _ =>
  (θ_run Cert.AttnOutDwReferenceIdeal.defs _ _).mono
    (fun r h => ⟨fun c => (h c).2, sem_eq_zero_of_no_sems (by decide) r.2⟩)
    (Cert.AttnOutDwReferenceIdeal.Value.run m g)

theorem values : Cert.algebraic_AttnOutDwIdeal_AttnOutDwReferenceIdeal := by
  intro m g m' g' _ hargs
  refine ⟨fun c => (Cert.AttnOutDwIdeal.Gen.dats m 0 c).arrAt 2 Cert.AttnOutDwIdeal.cfg0.N, ?_, ?_⟩
  · exact (θ_run Cert.AttnOutDwIdeal.defs _ _).mono (fun r h c => h c) (Cert.AttnOutDwIdeal.Value.run_blocks m g)
  · refine (θ_run Cert.AttnOutDwReferenceIdeal.defs _ _).mono (fun r h c => ?_) (Cert.AttnOutDwReferenceIdeal.Value.run m' g')
    obtain ⟨r0, ra⟩ := h c
    obtain ⟨e0, e1⟩ := hargs c
    have s0 := r0.trans (Cert.AttnOutDwReferenceIdeal.Read.val_main_v6_eq (F := Ideal) _ _ ).symm
    rw [e0, e1] at s0
    exact ⟨s0.trans (funext fun i => (ref _ _ i).trans (arr m c i).symm), ra⟩

end Cert.Proof.AttnOutDw

namespace Cert.Proof.AttnOutDx

theorem frame_kernel : Cert.quiescent_AttnOutDx := fun m g _ => Cert.AttnOutDx.Gen.frame m g

theorem frame_ideal : Cert.quiescent_AttnOutDxIdeal := fun m g _ => Cert.AttnOutDxIdeal.Gen.frame m g

theorem frame_reference : Cert.quiescent_AttnOutDxReferenceIdeal := fun m g _ =>
  (θ_run Cert.AttnOutDxReferenceIdeal.defs _ _).mono
    (fun r h => ⟨fun c => (h c).2, sem_eq_zero_of_no_sems (by decide) r.2⟩)
    (Cert.AttnOutDxReferenceIdeal.Value.run m g)

theorem values : Cert.algebraic_AttnOutDxIdeal_AttnOutDxReferenceIdeal := by
  intro m g m' g' _ hargs
  refine ⟨fun c => (Cert.AttnOutDxIdeal.Gen.dats m 0 c).arrAt 2 Cert.AttnOutDxIdeal.cfg0.N, ?_, ?_⟩
  · exact (θ_run Cert.AttnOutDxIdeal.defs _ _).mono (fun r h c => h c) (Cert.AttnOutDxIdeal.Value.run_blocks m g)
  · refine (θ_run Cert.AttnOutDxReferenceIdeal.defs _ _).mono (fun r h c => ?_) (Cert.AttnOutDxReferenceIdeal.Value.run m' g')
    obtain ⟨r0, ra⟩ := h c
    obtain ⟨e0, e1⟩ := hargs c
    have s0 := r0.trans (Cert.AttnOutDxReferenceIdeal.Read.val_main_v5_eq (F := Ideal) _ _ ).symm
    rw [e0, e1] at s0
    exact ⟨s0.trans (funext fun i => (ref _ _ i).trans (arr m c i).symm), ra⟩

end Cert.Proof.AttnOutDx

namespace Cert.Proof.AttnOut

theorem frame_kernel : Cert.quiescent_AttnOut := fun m g _ => Cert.AttnOut.Gen.frame m g

theorem frame_ideal : Cert.quiescent_AttnOutIdeal := fun m g _ => Cert.AttnOutIdeal.Gen.frame m g

theorem frame_reference : Cert.quiescent_AttnOutReferenceIdeal := fun m g _ =>
  (θ_run Cert.AttnOutReferenceIdeal.defs _ _).mono
    (fun r h => ⟨fun c => (h c).2, sem_eq_zero_of_no_sems (by decide) r.2⟩)
    (Cert.AttnOutReferenceIdeal.Value.run m g)

theorem values : Cert.algebraic_AttnOutIdeal_AttnOutReferenceIdeal := by
  intro m g m' g' _ hargs
  refine ⟨fun c => (Cert.AttnOutIdeal.Gen.dats m 0 c).arrAt 3 Cert.AttnOutIdeal.cfg0.N, ?_, ?_⟩
  · exact (θ_run Cert.AttnOutIdeal.defs _ _).mono (fun r h c => h c) (Cert.AttnOutIdeal.Value.run_blocks m g)
  · refine (θ_run Cert.AttnOutReferenceIdeal.defs _ _).mono (fun r h c => ?_) (Cert.AttnOutReferenceIdeal.Value.run m' g')
    obtain ⟨r0, ra⟩ := h c
    obtain ⟨e0, e1, e2⟩ := hargs c
    have s0 := r0.trans (Cert.AttnOutReferenceIdeal.Read.val_main_v3_eq (F := Ideal) _ _ _ ).symm
    rw [e0, e1, e2] at s0
    exact ⟨s0.trans (funext fun i => (ref _ _ _ i).trans (arr m c i).symm), ra⟩

end Cert.Proof.AttnOut

end
-- ==== Proof.lean ====
/-
  The certificate: the kernel, its idealization and the reference run, keep their arguments and leave every counter at
  zero; and on finite arguments the idealized kernel's results are the reference's wherever they mean something.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.Ffn
public import proofs.«01_k».proof.Proof.Ssm
public import proofs.«01_k».proof.Proof.Outer
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem Idealize.ShloMosaic.StableHlo

/-- The kernel runs, keeps its arguments and ends quiet. -/
theorem frame_kernel : Cert.quiescent_Kernel := fun m g _ => Cert.Kernel.Gen.frame m g

/-- The idealized kernel runs, keeps its arguments and ends quiet. -/
theorem frame_ideal : Cert.quiescent_KernelIdeal := fun m g _ => Cert.KernelIdeal.Gen.frame m g

/-- The reference runs, keeps its arguments and ends quiet. -/
theorem frame_reference : Cert.quiescent_ReferenceIdeal := fun m g _ =>
  (θ_run Cert.ReferenceIdeal.defs _ _).mono
    (fun r h => ⟨fun c => (h c).2.2.2.2.2.2.2.2, sem_eq_zero_of_no_sems (by decide) r.2⟩)
    (Cert.ReferenceIdeal.Value.run m g)

/-- The idealized kernel computes the reference's results. -/
theorem values : Cert.algebraic_KernelIdeal_ReferenceIdeal_on_meaningful_pre_finite := by
  intro m g m' g' hm hargs
  refine ⟨fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N, ?_, ?_⟩
  · refine (θ_run Cert.KernelIdeal.defs _ _).mono (fun r h c => ?_) (Cert.KernelIdeal.Value.run_blocks m g)
    obtain ⟨k0, k1, k2, k3, k4, k5, k6, k7, ka⟩ := h c
    exact ⟨fun i _ => congrFun k0 i, fun i _ => congrFun k1 i, fun i _ => congrFun k2 i, fun i _ => congrFun k3 i, fun i _ => congrFun k4 i, fun i _ => congrFun k5 i, fun i _ => congrFun k6 i, fun i _ => congrFun k7 i, ka⟩
  · refine (θ_run Cert.ReferenceIdeal.defs _ _).mono (fun r h c => ?_) (Cert.ReferenceIdeal.Value.run m' g')
    obtain ⟨r0, r1, r2, r3, r4, r5, r6, r7, ra⟩ := h c
    obtain ⟨qr, gr, kr, vr, sk, A⟩ := args_of hm c
    obtain ⟨e0, e1, e2, e3, e4⟩ := hargs c
    have B := rargs_of A e0 e1 e2 e3 e4
    exact ⟨fun i hi => (congrFun (r0.trans (Cert.ReferenceIdeal.Read.val_main_v148_eq (launchContents m' c))) i).trans (dq_eq A B i),
      fun i hi => (congrFun (r1.trans (Cert.ReferenceIdeal.Read.val_main_v149_eq (launchContents m' c))) i).trans (dkc_eq A B i),
      fun i hi => (congrFun (r2.trans (Cert.ReferenceIdeal.Read.val_main_v150_eq (launchContents m' c))) i).trans (dkp_eq A B i),
      fun i hi => (congrFun (r3.trans (Cert.ReferenceIdeal.Read.val_main_v157_eq (launchContents m' c))) i).trans (dvloc_eq A B i (on_lo0 hi)),
      fun i hi => (congrFun (r4.trans (Cert.ReferenceIdeal.Read.val_main_v164_eq (launchContents m' c))) i).trans (dvlop_eq A B i (on_lo1 hi)),
      fun i hi => (congrFun (r5.trans (Cert.ReferenceIdeal.Read.val_main_v171_eq (launchContents m' c))) i).trans (dvhic_eq A B i (on_hi0 hi)),
      fun i hi => (congrFun (r6.trans (Cert.ReferenceIdeal.Read.val_main_v178_eq (launchContents m' c))) i).trans (dvhip_eq A B i (on_hi1 hi)),
      fun i hi => (congrFun (r7.trans (Cert.ReferenceIdeal.Read.val_main_v180_eq (launchContents m' c))) i).trans (dsink_eq A B i), ra⟩

theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    frame_kernel, frame_ideal, fun m g _ => frame_ideal m g trivial, frame_reference, fun m g _ => frame_reference m g trivial,
    ColsDw.frame_kernel, ColsDw.frame_ideal, ColsDw.frame_reference,
    ColsDx.frame_kernel, ColsDx.frame_ideal, ColsDx.frame_reference,
    ColsDxAdd.frame_kernel, ColsDxAdd.frame_ideal, ColsDxAdd.frame_reference,
    DownDw.frame_kernel, DownDw.frame_ideal, DownDw.frame_reference,
    DownDx.frame_kernel, DownDx.frame_ideal, fun m g _ => DownDx.frame_ideal m g trivial, DownDx.frame_reference, fun m g _ => DownDx.frame_reference m g trivial,
    Gate.frame_kernel, Gate.frame_ideal, Gate.frame_reference,
    Up.frame_kernel, Up.frame_ideal, Up.frame_reference,
    Down.frame_kernel, Down.frame_ideal, Down.frame_reference,
    SsmInDw.frame_kernel, SsmInDw.frame_ideal, SsmInDw.frame_reference,
    SsmInDx.frame_kernel, SsmInDx.frame_ideal, SsmInDx.frame_reference,
    SsmIn.frame_kernel, SsmIn.frame_ideal, SsmIn.frame_reference,
    SsmOutDw.frame_kernel, SsmOutDw.frame_ideal, SsmOutDw.frame_reference,
    SsmOutDx.frame_kernel, SsmOutDx.frame_ideal, SsmOutDx.frame_reference,
    SsmOut.frame_kernel, SsmOut.frame_ideal, SsmOut.frame_reference,
    QkvDw.frame_kernel, QkvDw.frame_ideal, QkvDw.frame_reference,
    QkvDx.frame_kernel, QkvDx.frame_ideal, QkvDx.frame_reference,
    Qkv.frame_kernel, Qkv.frame_ideal, Qkv.frame_reference,
    AttnOutDw.frame_kernel, AttnOutDw.frame_ideal, AttnOutDw.frame_reference,
    AttnOutDx.frame_kernel, AttnOutDx.frame_ideal, AttnOutDx.frame_reference,
    AttnOut.frame_kernel, AttnOut.frame_ideal, AttnOut.frame_reference,
    trivial, values, trivial, ColsDw.values, trivial, ColsDx.values, trivial, ColsDxAdd.values, trivial, DownDw.values, trivial, DownDx.values, trivial, Gate.values, trivial, Up.values, trivial, Down.values, trivial, SsmInDw.values, trivial, SsmInDx.values, trivial, SsmIn.values, trivial, SsmOutDw.values, trivial, SsmOutDx.values, trivial, SsmOut.values, trivial, QkvDw.values, trivial, QkvDx.values, trivial, Qkv.values, trivial, AttnOutDw.values, trivial, AttnOutDx.values, trivial, AttnOut.values⟩

end Cert.Proof
